-- ==== Defs.lean ====
def Pre_KernelIdeal (m : (ℓ : Loc Cert.KernelIdeal.nD Cert.KernelIdeal.τ Cert.KernelIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OddX (m : (ℓ : Loc Cert.OddX.nD Cert.OddX.τ Cert.OddX.sig) → Buf (Elt Bits) ℓ) : Prop :=
  True

def Pre_OddXIdeal (m : (ℓ : Loc Cert.OddXIdeal.nD Cert.OddXIdeal.τ Cert.OddXIdeal.sig) → Buf (Elt Ideal) ℓ) : Prop :=
  True

def Pre_OddXRefIdeal (m : (ℓ : Loc Cert.OddXRefIdeal.nD Cert.OddXRefIdeal.τ Cert.OddXRefIdeal.sig) → Buf (Elt Ideal) ℓ) : Prop :=
  True

def Pre_OddW (m : (ℓ : Loc Cert.OddW.nD Cert.OddW.τ Cert.OddW.sig) → Buf (Elt Bits) ℓ) : Prop :=
  True

def Pre_OddWIdeal (m : (ℓ : Loc Cert.OddWIdeal.nD Cert.OddWIdeal.τ Cert.OddWIdeal.sig) → Buf (Elt Ideal) ℓ) : Prop :=
  True

def Pre_OddWRefIdeal (m : (ℓ : Loc Cert.OddWRefIdeal.nD Cert.OddWRefIdeal.τ Cert.OddWRefIdeal.sig) → Buf (Elt Ideal) ℓ) : Prop :=
  True

def Pre_EvenX (m : (ℓ : Loc Cert.EvenX.nD Cert.EvenX.τ Cert.EvenX.sig) → Buf (Elt Bits) ℓ) : Prop :=
  True

def Pre_EvenXIdeal (m : (ℓ : Loc Cert.EvenXIdeal.nD Cert.EvenXIdeal.τ Cert.EvenXIdeal.sig) → Buf (Elt Ideal) ℓ) : Prop :=
  True

def Pre_EvenXRefIdeal (m : (ℓ : Loc Cert.EvenXRefIdeal.nD Cert.EvenXRefIdeal.τ Cert.EvenXRefIdeal.sig) → Buf (Elt Ideal) ℓ) : Prop :=
  True

def Pre_EvenW (m : (ℓ : Loc Cert.EvenW.nD Cert.EvenW.τ Cert.EvenW.sig) → Buf (Elt Bits) ℓ) : Prop :=
  True

def Pre_EvenWIdeal (m : (ℓ : Loc Cert.EvenWIdeal.nD Cert.EvenWIdeal.τ Cert.EvenWIdeal.sig) → Buf (Elt Ideal) ℓ) : Prop :=
  True

def Pre_EvenWRefIdeal (m : (ℓ : Loc Cert.EvenWRefIdeal.nD Cert.EvenWRefIdeal.τ Cert.EvenWRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInRefIdeal (m : (ℓ : Loc Cert.AdamEvenInRefIdeal.nD Cert.AdamEvenInRefIdeal.τ Cert.AdamEvenInRefIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInRefIdeal (m : (ℓ : Loc Cert.AdamOddInRefIdeal.nD Cert.AdamOddInRefIdeal.τ Cert.AdamOddInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumEvenIn (m : (ℓ : Loc Cert.SumEvenIn.nD Cert.SumEvenIn.τ Cert.SumEvenIn.sig) → Buf (Elt Bits) ℓ) : Prop :=
  True

def Pre_SumEvenInIdeal (m : (ℓ : Loc Cert.SumEvenInIdeal.nD Cert.SumEvenInIdeal.τ Cert.SumEvenInIdeal.sig) → Buf (Elt Ideal) ℓ) : Prop :=
  True

def Pre_SumEvenInRefIdeal (m : (ℓ : Loc Cert.SumEvenInRefIdeal.nD Cert.SumEvenInRefIdeal.τ Cert.SumEvenInRefIdeal.sig) → Buf (Elt Ideal) ℓ) : Prop :=
  True

def Pre_SumOddIn (m : (ℓ : Loc Cert.SumOddIn.nD Cert.SumOddIn.τ Cert.SumOddIn.sig) → Buf (Elt Bits) ℓ) : Prop :=
  True

def Pre_SumOddInIdeal (m : (ℓ : Loc Cert.SumOddInIdeal.nD Cert.SumOddInIdeal.τ Cert.SumOddInIdeal.sig) → Buf (Elt Ideal) ℓ) : Prop :=
  True

def Pre_SumOddInRefIdeal (m : (ℓ : Loc Cert.SumOddInRefIdeal.nD Cert.SumOddInRefIdeal.τ Cert.SumOddInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_OddX [hOddX : Cert.OddX.Facts] : Prop :=
  ∀ (m : (ℓ : Loc Cert.OddX.nD Cert.OddX.τ Cert.OddX.sig) → Buf (Elt Bits) ℓ) (g : Dev Cert.OddX.nD → PrngReg), Pre_OddX m →
    θ_run (Cert.OddX.defs (F := Bits)) (onTc (τ := Cert.OddX.τ) (Cert.OddX.main (F := Bits))) ⟨m, fun _ => 0, g⟩ (fun r => (∀ c : Dev Cert.OddX.nD,
      r.2.mem ((c.tc : Thread Cert.OddX.nD Cert.OddX.τ).loc Cert.OddX.main_arg0) = m ((c.tc : Thread Cert.OddX.nD Cert.OddX.τ).loc Cert.OddX.main_arg0)
      ∧ r.2.mem ((c.tc : Thread Cert.OddX.nD Cert.OddX.τ).loc Cert.OddX.main_arg1) = m ((c.tc : Thread Cert.OddX.nD Cert.OddX.τ).loc Cert.OddX.main_arg1))
      ∧ r.2.sem = fun _ => 0)

def quiescent_OddXIdeal [hOddXIdeal : Cert.OddXIdeal.Facts] : Prop :=
  ∀ (m : (ℓ : Loc Cert.OddXIdeal.nD Cert.OddXIdeal.τ Cert.OddXIdeal.sig) → Buf (Elt Ideal) ℓ) (g : Dev Cert.OddXIdeal.nD → PrngReg), Pre_OddXIdeal m →
    θ_run (Cert.OddXIdeal.defs (F := Ideal)) (onTc (τ := Cert.OddXIdeal.τ) (Cert.OddXIdeal.main (F := Ideal))) ⟨m, fun _ => 0, g⟩ (fun r => (∀ c : Dev Cert.OddXIdeal.nD,
      r.2.mem ((c.tc : Thread Cert.OddXIdeal.nD Cert.OddXIdeal.τ).loc Cert.OddXIdeal.main_arg0) = m ((c.tc : Thread Cert.OddXIdeal.nD Cert.OddXIdeal.τ).loc Cert.OddXIdeal.main_arg0)
      ∧ r.2.mem ((c.tc : Thread Cert.OddXIdeal.nD Cert.OddXIdeal.τ).loc Cert.OddXIdeal.main_arg1) = m ((c.tc : Thread Cert.OddXIdeal.nD Cert.OddXIdeal.τ).loc Cert.OddXIdeal.main_arg1))
      ∧ r.2.sem = fun _ => 0)

def quiescent_OddXRefIdeal [hOddXRefIdeal : Cert.OddXRefIdeal.Facts] : Prop :=
  ∀ (m : (ℓ : Loc Cert.OddXRefIdeal.nD Cert.OddXRefIdeal.τ Cert.OddXRefIdeal.sig) → Buf (Elt Ideal) ℓ) (g : Dev Cert.OddXRefIdeal.nD → PrngReg), Pre_OddXRefIdeal m →
    θ_run (Cert.OddXRefIdeal.defs (F := Ideal)) (onTc (τ := Cert.OddXRefIdeal.τ) (Cert.OddXRefIdeal.main (F := Ideal))) ⟨m, fun _ => 0, g⟩ (fun r => (∀ c : Dev Cert.OddXRefIdeal.nD,
      r.2.mem ((c.tc : Thread Cert.OddXRefIdeal.nD Cert.OddXRefIdeal.τ).loc Cert.OddXRefIdeal.main_arg0) = m ((c.tc : Thread Cert.OddXRefIdeal.nD Cert.OddXRefIdeal.τ).loc Cert.OddXRefIdeal.main_arg0)
      ∧ r.2.mem ((c.tc : Thread Cert.OddXRefIdeal.nD Cert.OddXRefIdeal.τ).loc Cert.OddXRefIdeal.main_arg1) = m ((c.tc : Thread Cert.OddXRefIdeal.nD Cert.OddXRefIdeal.τ).loc Cert.OddXRefIdeal.main_arg1))
      ∧ r.2.sem = fun _ => 0)

def quiescent_OddW [hOddW : Cert.OddW.Facts] : Prop :=
  ∀ (m : (ℓ : Loc Cert.OddW.nD Cert.OddW.τ Cert.OddW.sig) → Buf (Elt Bits) ℓ) (g : Dev Cert.OddW.nD → PrngReg), Pre_OddW m →
    θ_run (Cert.OddW.defs (F := Bits)) (onTc (τ := Cert.OddW.τ) (Cert.OddW.main (F := Bits))) ⟨m, fun _ => 0, g⟩ (fun r => (∀ c : Dev Cert.OddW.nD,
      r.2.mem ((c.tc : Thread Cert.OddW.nD Cert.OddW.τ).loc Cert.OddW.main_arg0) = m ((c.tc : Thread Cert.OddW.nD Cert.OddW.τ).loc Cert.OddW.main_arg0)
      ∧ r.2.mem ((c.tc : Thread Cert.OddW.nD Cert.OddW.τ).loc Cert.OddW.main_arg1) = m ((c.tc : Thread Cert.OddW.nD Cert.OddW.τ).loc Cert.OddW.main_arg1))
      ∧ r.2.sem = fun _ => 0)

def quiescent_OddWIdeal [hOddWIdeal : Cert.OddWIdeal.Facts] : Prop :=
  ∀ (m : (ℓ : Loc Cert.OddWIdeal.nD Cert.OddWIdeal.τ Cert.OddWIdeal.sig) → Buf (Elt Ideal) ℓ) (g : Dev Cert.OddWIdeal.nD → PrngReg), Pre_OddWIdeal m →
    θ_run (Cert.OddWIdeal.defs (F := Ideal)) (onTc (τ := Cert.OddWIdeal.τ) (Cert.OddWIdeal.main (F := Ideal))) ⟨m, fun _ => 0, g⟩ (fun r => (∀ c : Dev Cert.OddWIdeal.nD,
      r.2.mem ((c.tc : Thread Cert.OddWIdeal.nD Cert.OddWIdeal.τ).loc Cert.OddWIdeal.main_arg0) = m ((c.tc : Thread Cert.OddWIdeal.nD Cert.OddWIdeal.τ).loc Cert.OddWIdeal.main_arg0)
      ∧ r.2.mem ((c.tc : Thread Cert.OddWIdeal.nD Cert.OddWIdeal.τ).loc Cert.OddWIdeal.main_arg1) = m ((c.tc : Thread Cert.OddWIdeal.nD Cert.OddWIdeal.τ).loc Cert.OddWIdeal.main_arg1))
      ∧ r.2.sem = fun _ => 0)

def quiescent_OddWRefIdeal [hOddWRefIdeal : Cert.OddWRefIdeal.Facts] : Prop :=
  ∀ (m : (ℓ : Loc Cert.OddWRefIdeal.nD Cert.OddWRefIdeal.τ Cert.OddWRefIdeal.sig) → Buf (Elt Ideal) ℓ) (g : Dev Cert.OddWRefIdeal.nD → PrngReg), Pre_OddWRefIdeal m →
    θ_run (Cert.OddWRefIdeal.defs (F := Ideal)) (onTc (τ := Cert.OddWRefIdeal.τ) (Cert.OddWRefIdeal.main (F := Ideal))) ⟨m, fun _ => 0, g⟩ (fun r => (∀ c : Dev Cert.OddWRefIdeal.nD,
      r.2.mem ((c.tc : Thread Cert.OddWRefIdeal.nD Cert.OddWRefIdeal.τ).loc Cert.OddWRefIdeal.main_arg0) = m ((c.tc : Thread Cert.OddWRefIdeal.nD Cert.OddWRefIdeal.τ).loc Cert.OddWRefIdeal.main_arg0)
      ∧ r.2.mem ((c.tc : Thread Cert.OddWRefIdeal.nD Cert.OddWRefIdeal.τ).loc Cert.OddWRefIdeal.main_arg1) = m ((c.tc : Thread Cert.OddWRefIdeal.nD Cert.OddWRefIdeal.τ).loc Cert.OddWRefIdeal.main_arg1))
      ∧ r.2.sem = fun _ => 0)

def quiescent_EvenX [hEvenX : Cert.EvenX.Facts] : Prop :=
  ∀ (m : (ℓ : Loc Cert.EvenX.nD Cert.EvenX.τ Cert.EvenX.sig) → Buf (Elt Bits) ℓ) (g : Dev Cert.EvenX.nD → PrngReg), Pre_EvenX m →
    θ_run (Cert.EvenX.defs (F := Bits)) (onTc (τ := Cert.EvenX.τ) (Cert.EvenX.main (F := Bits))) ⟨m, fun _ => 0, g⟩ (fun r => (∀ c : Dev Cert.EvenX.nD,
      r.2.mem ((c.tc : Thread Cert.EvenX.nD Cert.EvenX.τ).loc Cert.EvenX.main_arg0) = m ((c.tc : Thread Cert.EvenX.nD Cert.EvenX.τ).loc Cert.EvenX.main_arg0)
      ∧ r.2.mem ((c.tc : Thread Cert.EvenX.nD Cert.EvenX.τ).loc Cert.EvenX.main_arg1) = m ((c.tc : Thread Cert.EvenX.nD Cert.EvenX.τ).loc Cert.EvenX.main_arg1))
      ∧ r.2.sem = fun _ => 0)

def quiescent_EvenXIdeal [hEvenXIdeal : Cert.EvenXIdeal.Facts] : Prop :=
  ∀ (m : (ℓ : Loc Cert.EvenXIdeal.nD Cert.EvenXIdeal.τ Cert.EvenXIdeal.sig) → Buf (Elt Ideal) ℓ) (g : Dev Cert.EvenXIdeal.nD → PrngReg), Pre_EvenXIdeal m →
    θ_run (Cert.EvenXIdeal.defs (F := Ideal)) (onTc (τ := Cert.EvenXIdeal.τ) (Cert.EvenXIdeal.main (F := Ideal))) ⟨m, fun _ => 0, g⟩ (fun r => (∀ c : Dev Cert.EvenXIdeal.nD,
      r.2.mem ((c.tc : Thread Cert.EvenXIdeal.nD Cert.EvenXIdeal.τ).loc Cert.EvenXIdeal.main_arg0) = m ((c.tc : Thread Cert.EvenXIdeal.nD Cert.EvenXIdeal.τ).loc Cert.EvenXIdeal.main_arg0)
      ∧ r.2.mem ((c.tc : Thread Cert.EvenXIdeal.nD Cert.EvenXIdeal.τ).loc Cert.EvenXIdeal.main_arg1) = m ((c.tc : Thread Cert.EvenXIdeal.nD Cert.EvenXIdeal.τ).loc Cert.EvenXIdeal.main_arg1))
      ∧ r.2.sem = fun _ => 0)

def quiescent_EvenXRefIdeal [hEvenXRefIdeal : Cert.EvenXRefIdeal.Facts] : Prop :=
  ∀ (m : (ℓ : Loc Cert.EvenXRefIdeal.nD Cert.EvenXRefIdeal.τ Cert.EvenXRefIdeal.sig) → Buf (Elt Ideal) ℓ) (g : Dev Cert.EvenXRefIdeal.nD → PrngReg), Pre_EvenXRefIdeal m →
    θ_run (Cert.EvenXRefIdeal.defs (F := Ideal)) (onTc (τ := Cert.EvenXRefIdeal.τ) (Cert.EvenXRefIdeal.main (F := Ideal))) ⟨m, fun _ => 0, g⟩ (fun r => (∀ c : Dev Cert.EvenXRefIdeal.nD,
      r.2.mem ((c.tc : Thread Cert.EvenXRefIdeal.nD Cert.EvenXRefIdeal.τ).loc Cert.EvenXRefIdeal.main_arg0) = m ((c.tc : Thread Cert.EvenXRefIdeal.nD Cert.EvenXRefIdeal.τ).loc Cert.EvenXRefIdeal.main_arg0)
      ∧ r.2.mem ((c.tc : Thread Cert.EvenXRefIdeal.nD Cert.EvenXRefIdeal.τ).loc Cert.EvenXRefIdeal.main_arg1) = m ((c.tc : Thread Cert.EvenXRefIdeal.nD Cert.EvenXRefIdeal.τ).loc Cert.EvenXRefIdeal.main_arg1))
      ∧ r.2.sem = fun _ => 0)

def quiescent_EvenW [hEvenW : Cert.EvenW.Facts] : Prop :=
  ∀ (m : (ℓ : Loc Cert.EvenW.nD Cert.EvenW.τ Cert.EvenW.sig) → Buf (Elt Bits) ℓ) (g : Dev Cert.EvenW.nD → PrngReg), Pre_EvenW m →
    θ_run (Cert.EvenW.defs (F := Bits)) (onTc (τ := Cert.EvenW.τ) (Cert.EvenW.main (F := Bits))) ⟨m, fun _ => 0, g⟩ (fun r => (∀ c : Dev Cert.EvenW.nD,
      r.2.mem ((c.tc : Thread Cert.EvenW.nD Cert.EvenW.τ).loc Cert.EvenW.main_arg0) = m ((c.tc : Thread Cert.EvenW.nD Cert.EvenW.τ).loc Cert.EvenW.main_arg0)
      ∧ r.2.mem ((c.tc : Thread Cert.EvenW.nD Cert.EvenW.τ).loc Cert.EvenW.main_arg1) = m ((c.tc : Thread Cert.EvenW.nD Cert.EvenW.τ).loc Cert.EvenW.main_arg1))
      ∧ r.2.sem = fun _ => 0)

def quiescent_EvenWIdeal [hEvenWIdeal : Cert.EvenWIdeal.Facts] : Prop :=
  ∀ (m : (ℓ : Loc Cert.EvenWIdeal.nD Cert.EvenWIdeal.τ Cert.EvenWIdeal.sig) → Buf (Elt Ideal) ℓ) (g : Dev Cert.EvenWIdeal.nD → PrngReg), Pre_EvenWIdeal m →
    θ_run (Cert.EvenWIdeal.defs (F := Ideal)) (onTc (τ := Cert.EvenWIdeal.τ) (Cert.EvenWIdeal.main (F := Ideal))) ⟨m, fun _ => 0, g⟩ (fun r => (∀ c : Dev Cert.EvenWIdeal.nD,
      r.2.mem ((c.tc : Thread Cert.EvenWIdeal.nD Cert.EvenWIdeal.τ).loc Cert.EvenWIdeal.main_arg0) = m ((c.tc : Thread Cert.EvenWIdeal.nD Cert.EvenWIdeal.τ).loc Cert.EvenWIdeal.main_arg0)
      ∧ r.2.mem ((c.tc : Thread Cert.EvenWIdeal.nD Cert.EvenWIdeal.τ).loc Cert.EvenWIdeal.main_arg1) = m ((c.tc : Thread Cert.EvenWIdeal.nD Cert.EvenWIdeal.τ).loc Cert.EvenWIdeal.main_arg1))
      ∧ r.2.sem = fun _ => 0)

def quiescent_EvenWRefIdeal [hEvenWRefIdeal : Cert.EvenWRefIdeal.Facts] : Prop :=
  ∀ (m : (ℓ : Loc Cert.EvenWRefIdeal.nD Cert.EvenWRefIdeal.τ Cert.EvenWRefIdeal.sig) → Buf (Elt Ideal) ℓ) (g : Dev Cert.EvenWRefIdeal.nD → PrngReg), Pre_EvenWRefIdeal m →
    θ_run (Cert.EvenWRefIdeal.defs (F := Ideal)) (onTc (τ := Cert.EvenWRefIdeal.τ) (Cert.EvenWRefIdeal.main (F := Ideal))) ⟨m, fun _ => 0, g⟩ (fun r => (∀ c : Dev Cert.EvenWRefIdeal.nD,
      r.2.mem ((c.tc : Thread Cert.EvenWRefIdeal.nD Cert.EvenWRefIdeal.τ).loc Cert.EvenWRefIdeal.main_arg0) = m ((c.tc : Thread Cert.EvenWRefIdeal.nD Cert.EvenWRefIdeal.τ).loc Cert.EvenWRefIdeal.main_arg0)
      ∧ r.2.mem ((c.tc : Thread Cert.EvenWRefIdeal.nD Cert.EvenWRefIdeal.τ).loc Cert.EvenWRefIdeal.main_arg1) = m ((c.tc : Thread Cert.EvenWRefIdeal.nD Cert.EvenWRefIdeal.τ).loc Cert.EvenWRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInRefIdeal [hAdamEvenInRefIdeal : Cert.AdamEvenInRefIdeal.Facts] : Prop :=
  ∀ (m : (ℓ : Loc Cert.AdamEvenInRefIdeal.nD Cert.AdamEvenInRefIdeal.τ Cert.AdamEvenInRefIdeal.sig) → Buf (Elt Ideal) ℓ) (g : Dev Cert.AdamEvenInRefIdeal.nD → PrngReg), Pre_AdamEvenInRefIdeal m →
    θ_run (Cert.AdamEvenInRefIdeal.defs (F := Ideal)) (onTc (τ := Cert.AdamEvenInRefIdeal.τ) (Cert.AdamEvenInRefIdeal.main (F := Ideal))) ⟨m, fun _ => 0, g⟩ (fun r => (∀ c : Dev Cert.AdamEvenInRefIdeal.nD,
      r.2.mem ((c.tc : Thread Cert.AdamEvenInRefIdeal.nD Cert.AdamEvenInRefIdeal.τ).loc Cert.AdamEvenInRefIdeal.main_arg0) = m ((c.tc : Thread Cert.AdamEvenInRefIdeal.nD Cert.AdamEvenInRefIdeal.τ).loc Cert.AdamEvenInRefIdeal.main_arg0)
      ∧ r.2.mem ((c.tc : Thread Cert.AdamEvenInRefIdeal.nD Cert.AdamEvenInRefIdeal.τ).loc Cert.AdamEvenInRefIdeal.main_arg1) = m ((c.tc : Thread Cert.AdamEvenInRefIdeal.nD Cert.AdamEvenInRefIdeal.τ).loc Cert.AdamEvenInRefIdeal.main_arg1)
      ∧ r.2.mem ((c.tc : Thread Cert.AdamEvenInRefIdeal.nD Cert.AdamEvenInRefIdeal.τ).loc Cert.AdamEvenInRefIdeal.main_arg2) = m ((c.tc : Thread Cert.AdamEvenInRefIdeal.nD Cert.AdamEvenInRefIdeal.τ).loc Cert.AdamEvenInRefIdeal.main_arg2)
      ∧ r.2.mem ((c.tc : Thread Cert.AdamEvenInRefIdeal.nD Cert.AdamEvenInRefIdeal.τ).loc Cert.AdamEvenInRefIdeal.main_arg3) = m ((c.tc : Thread Cert.AdamEvenInRefIdeal.nD Cert.AdamEvenInRefIdeal.τ).loc Cert.AdamEvenInRefIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInRefIdeal [hAdamOddInRefIdeal : Cert.AdamOddInRefIdeal.Facts] : Prop :=
  ∀ (m : (ℓ : Loc Cert.AdamOddInRefIdeal.nD Cert.AdamOddInRefIdeal.τ Cert.AdamOddInRefIdeal.sig) → Buf (Elt Ideal) ℓ) (g : Dev Cert.AdamOddInRefIdeal.nD → PrngReg), Pre_AdamOddInRefIdeal m →
    θ_run (Cert.AdamOddInRefIdeal.defs (F := Ideal)) (onTc (τ := Cert.AdamOddInRefIdeal.τ) (Cert.AdamOddInRefIdeal.main (F := Ideal))) ⟨m, fun _ => 0, g⟩ (fun r => (∀ c : Dev Cert.AdamOddInRefIdeal.nD,
      r.2.mem ((c.tc : Thread Cert.AdamOddInRefIdeal.nD Cert.AdamOddInRefIdeal.τ).loc Cert.AdamOddInRefIdeal.main_arg0) = m ((c.tc : Thread Cert.AdamOddInRefIdeal.nD Cert.AdamOddInRefIdeal.τ).loc Cert.AdamOddInRefIdeal.main_arg0)
      ∧ r.2.mem ((c.tc : Thread Cert.AdamOddInRefIdeal.nD Cert.AdamOddInRefIdeal.τ).loc Cert.AdamOddInRefIdeal.main_arg1) = m ((c.tc : Thread Cert.AdamOddInRefIdeal.nD Cert.AdamOddInRefIdeal.τ).loc Cert.AdamOddInRefIdeal.main_arg1)
      ∧ r.2.mem ((c.tc : Thread Cert.AdamOddInRefIdeal.nD Cert.AdamOddInRefIdeal.τ).loc Cert.AdamOddInRefIdeal.main_arg2) = m ((c.tc : Thread Cert.AdamOddInRefIdeal.nD Cert.AdamOddInRefIdeal.τ).loc Cert.AdamOddInRefIdeal.main_arg2)
      ∧ r.2.mem ((c.tc : Thread Cert.AdamOddInRefIdeal.nD Cert.AdamOddInRefIdeal.τ).loc Cert.AdamOddInRefIdeal.main_arg3) = m ((c.tc : Thread Cert.AdamOddInRefIdeal.nD Cert.AdamOddInRefIdeal.τ).loc Cert.AdamOddInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_SumEvenIn [hSumEvenIn : Cert.SumEvenIn.Facts] : Prop :=
  ∀ (m : (ℓ : Loc Cert.SumEvenIn.nD Cert.SumEvenIn.τ Cert.SumEvenIn.sig) → Buf (Elt Bits) ℓ) (g : Dev Cert.SumEvenIn.nD → PrngReg), Pre_SumEvenIn m →
    θ_run (Cert.SumEvenIn.defs (F := Bits)) (onTc (τ := Cert.SumEvenIn.τ) (Cert.SumEvenIn.main (F := Bits))) ⟨m, fun _ => 0, g⟩ (fun r => (∀ c : Dev Cert.SumEvenIn.nD,
      r.2.mem ((c.tc : Thread Cert.SumEvenIn.nD Cert.SumEvenIn.τ).loc Cert.SumEvenIn.main_arg0) = m ((c.tc : Thread Cert.SumEvenIn.nD Cert.SumEvenIn.τ).loc Cert.SumEvenIn.main_arg0))
      ∧ r.2.sem = fun _ => 0)

def quiescent_SumEvenInIdeal [hSumEvenInIdeal : Cert.SumEvenInIdeal.Facts] : Prop :=
  ∀ (m : (ℓ : Loc Cert.SumEvenInIdeal.nD Cert.SumEvenInIdeal.τ Cert.SumEvenInIdeal.sig) → Buf (Elt Ideal) ℓ) (g : Dev Cert.SumEvenInIdeal.nD → PrngReg), Pre_SumEvenInIdeal m →
    θ_run (Cert.SumEvenInIdeal.defs (F := Ideal)) (onTc (τ := Cert.SumEvenInIdeal.τ) (Cert.SumEvenInIdeal.main (F := Ideal))) ⟨m, fun _ => 0, g⟩ (fun r => (∀ c : Dev Cert.SumEvenInIdeal.nD,
      r.2.mem ((c.tc : Thread Cert.SumEvenInIdeal.nD Cert.SumEvenInIdeal.τ).loc Cert.SumEvenInIdeal.main_arg0) = m ((c.tc : Thread Cert.SumEvenInIdeal.nD Cert.SumEvenInIdeal.τ).loc Cert.SumEvenInIdeal.main_arg0))
      ∧ r.2.sem = fun _ => 0)

def quiescent_SumEvenInRefIdeal [hSumEvenInRefIdeal : Cert.SumEvenInRefIdeal.Facts] : Prop :=
  ∀ (m : (ℓ : Loc Cert.SumEvenInRefIdeal.nD Cert.SumEvenInRefIdeal.τ Cert.SumEvenInRefIdeal.sig) → Buf (Elt Ideal) ℓ) (g : Dev Cert.SumEvenInRefIdeal.nD → PrngReg), Pre_SumEvenInRefIdeal m →
    θ_run (Cert.SumEvenInRefIdeal.defs (F := Ideal)) (onTc (τ := Cert.SumEvenInRefIdeal.τ) (Cert.SumEvenInRefIdeal.main (F := Ideal))) ⟨m, fun _ => 0, g⟩ (fun r => (∀ c : Dev Cert.SumEvenInRefIdeal.nD,
      r.2.mem ((c.tc : Thread Cert.SumEvenInRefIdeal.nD Cert.SumEvenInRefIdeal.τ).loc Cert.SumEvenInRefIdeal.main_arg0) = m ((c.tc : Thread Cert.SumEvenInRefIdeal.nD Cert.SumEvenInRefIdeal.τ).loc Cert.SumEvenInRefIdeal.main_arg0))
      ∧ r.2.sem = fun _ => 0)

def quiescent_SumOddIn [hSumOddIn : Cert.SumOddIn.Facts] : Prop :=
  ∀ (m : (ℓ : Loc Cert.SumOddIn.nD Cert.SumOddIn.τ Cert.SumOddIn.sig) → Buf (Elt Bits) ℓ) (g : Dev Cert.SumOddIn.nD → PrngReg), Pre_SumOddIn m →
    θ_run (Cert.SumOddIn.defs (F := Bits)) (onTc (τ := Cert.SumOddIn.τ) (Cert.SumOddIn.main (F := Bits))) ⟨m, fun _ => 0, g⟩ (fun r => (∀ c : Dev Cert.SumOddIn.nD,
      r.2.mem ((c.tc : Thread Cert.SumOddIn.nD Cert.SumOddIn.τ).loc Cert.SumOddIn.main_arg0) = m ((c.tc : Thread Cert.SumOddIn.nD Cert.SumOddIn.τ).loc Cert.SumOddIn.main_arg0))
      ∧ r.2.sem = fun _ => 0)

def quiescent_SumOddInIdeal [hSumOddInIdeal : Cert.SumOddInIdeal.Facts] : Prop :=
  ∀ (m : (ℓ : Loc Cert.SumOddInIdeal.nD Cert.SumOddInIdeal.τ Cert.SumOddInIdeal.sig) → Buf (Elt Ideal) ℓ) (g : Dev Cert.SumOddInIdeal.nD → PrngReg), Pre_SumOddInIdeal m →
    θ_run (Cert.SumOddInIdeal.defs (F := Ideal)) (onTc (τ := Cert.SumOddInIdeal.τ) (Cert.SumOddInIdeal.main (F := Ideal))) ⟨m, fun _ => 0, g⟩ (fun r => (∀ c : Dev Cert.SumOddInIdeal.nD,
      r.2.mem ((c.tc : Thread Cert.SumOddInIdeal.nD Cert.SumOddInIdeal.τ).loc Cert.SumOddInIdeal.main_arg0) = m ((c.tc : Thread Cert.SumOddInIdeal.nD Cert.SumOddInIdeal.τ).loc Cert.SumOddInIdeal.main_arg0))
      ∧ r.2.sem = fun _ => 0)

def quiescent_SumOddInRefIdeal [hSumOddInRefIdeal : Cert.SumOddInRefIdeal.Facts] : Prop :=
  ∀ (m : (ℓ : Loc Cert.SumOddInRefIdeal.nD Cert.SumOddInRefIdeal.τ Cert.SumOddInRefIdeal.sig) → Buf (Elt Ideal) ℓ) (g : Dev Cert.SumOddInRefIdeal.nD → PrngReg), Pre_SumOddInRefIdeal m →
    θ_run (Cert.SumOddInRefIdeal.defs (F := Ideal)) (onTc (τ := Cert.SumOddInRefIdeal.τ) (Cert.SumOddInRefIdeal.main (F := Ideal))) ⟨m, fun _ => 0, g⟩ (fun r => (∀ c : Dev Cert.SumOddInRefIdeal.nD,
      r.2.mem ((c.tc : Thread Cert.SumOddInRefIdeal.nD Cert.SumOddInRefIdeal.τ).loc Cert.SumOddInRefIdeal.main_arg0) = m ((c.tc : Thread Cert.SumOddInRefIdeal.nD Cert.SumOddInRefIdeal.τ).loc Cert.SumOddInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v1)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v1) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v2) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v1)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v1) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v3) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_OddX_OddXIdeal : Prop :=
  True

def algebraic_OddXIdeal_OddXRefIdeal [hOddXIdeal : Cert.OddXIdeal.Facts] [hOddXRefIdeal : Cert.OddXRefIdeal.Facts] : Prop :=
  ∀ (m : (ℓ : Loc Cert.OddXIdeal.nD Cert.OddXIdeal.τ Cert.OddXIdeal.sig) → Buf (Elt Ideal) ℓ) (g : Dev Cert.OddXIdeal.nD → PrngReg)
    (m' : (ℓ : Loc Cert.OddXRefIdeal.nD Cert.OddXRefIdeal.τ Cert.OddXRefIdeal.sig) → Buf (Elt Ideal) ℓ) (g' : Dev Cert.OddXRefIdeal.nD → PrngReg), Pre_OddXIdeal m →
    (∀ c : Dev Cert.OddXIdeal.nD,
      m' ((c.tc : Thread Cert.OddXRefIdeal.nD Cert.OddXRefIdeal.τ).loc Cert.OddXRefIdeal.main_arg0) = m ((c.tc : Thread Cert.OddXIdeal.nD Cert.OddXIdeal.τ).loc Cert.OddXIdeal.main_arg0)
      ∧ m' ((c.tc : Thread Cert.OddXRefIdeal.nD Cert.OddXRefIdeal.τ).loc Cert.OddXRefIdeal.main_arg1) = m ((c.tc : Thread Cert.OddXIdeal.nD Cert.OddXIdeal.τ).loc Cert.OddXIdeal.main_arg1)) →
    ∃ (v0 : (c : Dev Cert.OddXIdeal.nD) → Buf (Elt Ideal) ((c.tc : Thread Cert.OddXIdeal.nD Cert.OddXIdeal.τ).loc Cert.OddXIdeal.main_v3)),
      θ_run (Cert.OddXIdeal.defs (F := Ideal)) (onTc (τ := Cert.OddXIdeal.τ) (Cert.OddXIdeal.main (F := Ideal))) ⟨m, fun _ => 0, g⟩ (fun r => ∀ c : Dev Cert.OddXIdeal.nD,
          r.2.mem ((c.tc : Thread Cert.OddXIdeal.nD Cert.OddXIdeal.τ).loc Cert.OddXIdeal.main_v3) = v0 c
          ∧ r.2.mem ((c.tc : Thread Cert.OddXIdeal.nD Cert.OddXIdeal.τ).loc Cert.OddXIdeal.main_arg0) = m ((c.tc : Thread Cert.OddXIdeal.nD Cert.OddXIdeal.τ).loc Cert.OddXIdeal.main_arg0)
          ∧ r.2.mem ((c.tc : Thread Cert.OddXIdeal.nD Cert.OddXIdeal.τ).loc Cert.OddXIdeal.main_arg1) = m ((c.tc : Thread Cert.OddXIdeal.nD Cert.OddXIdeal.τ).loc Cert.OddXIdeal.main_arg1))
      ∧ θ_run (Cert.OddXRefIdeal.defs (F := Ideal)) (onTc (τ := Cert.OddXRefIdeal.τ) (Cert.OddXRefIdeal.main (F := Ideal))) ⟨m', fun _ => 0, g'⟩ (fun r => ∀ c : Dev Cert.OddXRefIdeal.nD,
          r.2.mem ((c.tc : Thread Cert.OddXRefIdeal.nD Cert.OddXRefIdeal.τ).loc Cert.OddXRefIdeal.main_v2) = v0 c
          ∧ r.2.mem ((c.tc : Thread Cert.OddXRefIdeal.nD Cert.OddXRefIdeal.τ).loc Cert.OddXRefIdeal.main_arg0) = m' ((c.tc : Thread Cert.OddXRefIdeal.nD Cert.OddXRefIdeal.τ).loc Cert.OddXRefIdeal.main_arg0)
          ∧ r.2.mem ((c.tc : Thread Cert.OddXRefIdeal.nD Cert.OddXRefIdeal.τ).loc Cert.OddXRefIdeal.main_arg1) = m' ((c.tc : Thread Cert.OddXRefIdeal.nD Cert.OddXRefIdeal.τ).loc Cert.OddXRefIdeal.main_arg1))

def preserves_OddW_OddWIdeal : Prop :=
  True

def algebraic_OddWIdeal_OddWRefIdeal [hOddWIdeal : Cert.OddWIdeal.Facts] [hOddWRefIdeal : Cert.OddWRefIdeal.Facts] : Prop :=
  ∀ (m : (ℓ : Loc Cert.OddWIdeal.nD Cert.OddWIdeal.τ Cert.OddWIdeal.sig) → Buf (Elt Ideal) ℓ) (g : Dev Cert.OddWIdeal.nD → PrngReg)
    (m' : (ℓ : Loc Cert.OddWRefIdeal.nD Cert.OddWRefIdeal.τ Cert.OddWRefIdeal.sig) → Buf (Elt Ideal) ℓ) (g' : Dev Cert.OddWRefIdeal.nD → PrngReg), Pre_OddWIdeal m →
    (∀ c : Dev Cert.OddWIdeal.nD,
      m' ((c.tc : Thread Cert.OddWRefIdeal.nD Cert.OddWRefIdeal.τ).loc Cert.OddWRefIdeal.main_arg0) = m ((c.tc : Thread Cert.OddWIdeal.nD Cert.OddWIdeal.τ).loc Cert.OddWIdeal.main_arg0)
      ∧ m' ((c.tc : Thread Cert.OddWRefIdeal.nD Cert.OddWRefIdeal.τ).loc Cert.OddWRefIdeal.main_arg1) = m ((c.tc : Thread Cert.OddWIdeal.nD Cert.OddWIdeal.τ).loc Cert.OddWIdeal.main_arg1)) →
    ∃ (v0 : (c : Dev Cert.OddWIdeal.nD) → Buf (Elt Ideal) ((c.tc : Thread Cert.OddWIdeal.nD Cert.OddWIdeal.τ).loc Cert.OddWIdeal.main_v2)),
      θ_run (Cert.OddWIdeal.defs (F := Ideal)) (onTc (τ := Cert.OddWIdeal.τ) (Cert.OddWIdeal.main (F := Ideal))) ⟨m, fun _ => 0, g⟩ (fun r => ∀ c : Dev Cert.OddWIdeal.nD,
          r.2.mem ((c.tc : Thread Cert.OddWIdeal.nD Cert.OddWIdeal.τ).loc Cert.OddWIdeal.main_v2) = v0 c
          ∧ r.2.mem ((c.tc : Thread Cert.OddWIdeal.nD Cert.OddWIdeal.τ).loc Cert.OddWIdeal.main_arg0) = m ((c.tc : Thread Cert.OddWIdeal.nD Cert.OddWIdeal.τ).loc Cert.OddWIdeal.main_arg0)
          ∧ r.2.mem ((c.tc : Thread Cert.OddWIdeal.nD Cert.OddWIdeal.τ).loc Cert.OddWIdeal.main_arg1) = m ((c.tc : Thread Cert.OddWIdeal.nD Cert.OddWIdeal.τ).loc Cert.OddWIdeal.main_arg1))
      ∧ θ_run (Cert.OddWRefIdeal.defs (F := Ideal)) (onTc (τ := Cert.OddWRefIdeal.τ) (Cert.OddWRefIdeal.main (F := Ideal))) ⟨m', fun _ => 0, g'⟩ (fun r => ∀ c : Dev Cert.OddWRefIdeal.nD,
          r.2.mem ((c.tc : Thread Cert.OddWRefIdeal.nD Cert.OddWRefIdeal.τ).loc Cert.OddWRefIdeal.main_v4) = v0 c
          ∧ r.2.mem ((c.tc : Thread Cert.OddWRefIdeal.nD Cert.OddWRefIdeal.τ).loc Cert.OddWRefIdeal.main_arg0) = m' ((c.tc : Thread Cert.OddWRefIdeal.nD Cert.OddWRefIdeal.τ).loc Cert.OddWRefIdeal.main_arg0)
          ∧ r.2.mem ((c.tc : Thread Cert.OddWRefIdeal.nD Cert.OddWRefIdeal.τ).loc Cert.OddWRefIdeal.main_arg1) = m' ((c.tc : Thread Cert.OddWRefIdeal.nD Cert.OddWRefIdeal.τ).loc Cert.OddWRefIdeal.main_arg1))

def preserves_EvenX_EvenXIdeal : Prop :=
  True

def algebraic_EvenXIdeal_EvenXRefIdeal [hEvenXIdeal : Cert.EvenXIdeal.Facts] [hEvenXRefIdeal : Cert.EvenXRefIdeal.Facts] : Prop :=
  ∀ (m : (ℓ : Loc Cert.EvenXIdeal.nD Cert.EvenXIdeal.τ Cert.EvenXIdeal.sig) → Buf (Elt Ideal) ℓ) (g : Dev Cert.EvenXIdeal.nD → PrngReg)
    (m' : (ℓ : Loc Cert.EvenXRefIdeal.nD Cert.EvenXRefIdeal.τ Cert.EvenXRefIdeal.sig) → Buf (Elt Ideal) ℓ) (g' : Dev Cert.EvenXRefIdeal.nD → PrngReg), Pre_EvenXIdeal m →
    (∀ c : Dev Cert.EvenXIdeal.nD,
      m' ((c.tc : Thread Cert.EvenXRefIdeal.nD Cert.EvenXRefIdeal.τ).loc Cert.EvenXRefIdeal.main_arg0) = m ((c.tc : Thread Cert.EvenXIdeal.nD Cert.EvenXIdeal.τ).loc Cert.EvenXIdeal.main_arg0)
      ∧ m' ((c.tc : Thread Cert.EvenXRefIdeal.nD Cert.EvenXRefIdeal.τ).loc Cert.EvenXRefIdeal.main_arg1) = m ((c.tc : Thread Cert.EvenXIdeal.nD Cert.EvenXIdeal.τ).loc Cert.EvenXIdeal.main_arg1)) →
    ∃ (v0 : (c : Dev Cert.EvenXIdeal.nD) → Buf (Elt Ideal) ((c.tc : Thread Cert.EvenXIdeal.nD Cert.EvenXIdeal.τ).loc Cert.EvenXIdeal.main_v3)),
      θ_run (Cert.EvenXIdeal.defs (F := Ideal)) (onTc (τ := Cert.EvenXIdeal.τ) (Cert.EvenXIdeal.main (F := Ideal))) ⟨m, fun _ => 0, g⟩ (fun r => ∀ c : Dev Cert.EvenXIdeal.nD,
          r.2.mem ((c.tc : Thread Cert.EvenXIdeal.nD Cert.EvenXIdeal.τ).loc Cert.EvenXIdeal.main_v3) = v0 c
          ∧ r.2.mem ((c.tc : Thread Cert.EvenXIdeal.nD Cert.EvenXIdeal.τ).loc Cert.EvenXIdeal.main_arg0) = m ((c.tc : Thread Cert.EvenXIdeal.nD Cert.EvenXIdeal.τ).loc Cert.EvenXIdeal.main_arg0)
          ∧ r.2.mem ((c.tc : Thread Cert.EvenXIdeal.nD Cert.EvenXIdeal.τ).loc Cert.EvenXIdeal.main_arg1) = m ((c.tc : Thread Cert.EvenXIdeal.nD Cert.EvenXIdeal.τ).loc Cert.EvenXIdeal.main_arg1))
      ∧ θ_run (Cert.EvenXRefIdeal.defs (F := Ideal)) (onTc (τ := Cert.EvenXRefIdeal.τ) (Cert.EvenXRefIdeal.main (F := Ideal))) ⟨m', fun _ => 0, g'⟩ (fun r => ∀ c : Dev Cert.EvenXRefIdeal.nD,
          r.2.mem ((c.tc : Thread Cert.EvenXRefIdeal.nD Cert.EvenXRefIdeal.τ).loc Cert.EvenXRefIdeal.main_v2) = v0 c
          ∧ r.2.mem ((c.tc : Thread Cert.EvenXRefIdeal.nD Cert.EvenXRefIdeal.τ).loc Cert.EvenXRefIdeal.main_arg0) = m' ((c.tc : Thread Cert.EvenXRefIdeal.nD Cert.EvenXRefIdeal.τ).loc Cert.EvenXRefIdeal.main_arg0)
          ∧ r.2.mem ((c.tc : Thread Cert.EvenXRefIdeal.nD Cert.EvenXRefIdeal.τ).loc Cert.EvenXRefIdeal.main_arg1) = m' ((c.tc : Thread Cert.EvenXRefIdeal.nD Cert.EvenXRefIdeal.τ).loc Cert.EvenXRefIdeal.main_arg1))

def preserves_EvenW_EvenWIdeal : Prop :=
  True

def algebraic_EvenWIdeal_EvenWRefIdeal [hEvenWIdeal : Cert.EvenWIdeal.Facts] [hEvenWRefIdeal : Cert.EvenWRefIdeal.Facts] : Prop :=
  ∀ (m : (ℓ : Loc Cert.EvenWIdeal.nD Cert.EvenWIdeal.τ Cert.EvenWIdeal.sig) → Buf (Elt Ideal) ℓ) (g : Dev Cert.EvenWIdeal.nD → PrngReg)
    (m' : (ℓ : Loc Cert.EvenWRefIdeal.nD Cert.EvenWRefIdeal.τ Cert.EvenWRefIdeal.sig) → Buf (Elt Ideal) ℓ) (g' : Dev Cert.EvenWRefIdeal.nD → PrngReg), Pre_EvenWIdeal m →
    (∀ c : Dev Cert.EvenWIdeal.nD,
      m' ((c.tc : Thread Cert.EvenWRefIdeal.nD Cert.EvenWRefIdeal.τ).loc Cert.EvenWRefIdeal.main_arg0) = m ((c.tc : Thread Cert.EvenWIdeal.nD Cert.EvenWIdeal.τ).loc Cert.EvenWIdeal.main_arg0)
      ∧ m' ((c.tc : Thread Cert.EvenWRefIdeal.nD Cert.EvenWRefIdeal.τ).loc Cert.EvenWRefIdeal.main_arg1) = m ((c.tc : Thread Cert.EvenWIdeal.nD Cert.EvenWIdeal.τ).loc Cert.EvenWIdeal.main_arg1)) →
    ∃ (v0 : (c : Dev Cert.EvenWIdeal.nD) → Buf (Elt Ideal) ((c.tc : Thread Cert.EvenWIdeal.nD Cert.EvenWIdeal.τ).loc Cert.EvenWIdeal.main_v2)),
      θ_run (Cert.EvenWIdeal.defs (F := Ideal)) (onTc (τ := Cert.EvenWIdeal.τ) (Cert.EvenWIdeal.main (F := Ideal))) ⟨m, fun _ => 0, g⟩ (fun r => ∀ c : Dev Cert.EvenWIdeal.nD,
          r.2.mem ((c.tc : Thread Cert.EvenWIdeal.nD Cert.EvenWIdeal.τ).loc Cert.EvenWIdeal.main_v2) = v0 c
          ∧ r.2.mem ((c.tc : Thread Cert.EvenWIdeal.nD Cert.EvenWIdeal.τ).loc Cert.EvenWIdeal.main_arg0) = m ((c.tc : Thread Cert.EvenWIdeal.nD Cert.EvenWIdeal.τ).loc Cert.EvenWIdeal.main_arg0)
          ∧ r.2.mem ((c.tc : Thread Cert.EvenWIdeal.nD Cert.EvenWIdeal.τ).loc Cert.EvenWIdeal.main_arg1) = m ((c.tc : Thread Cert.EvenWIdeal.nD Cert.EvenWIdeal.τ).loc Cert.EvenWIdeal.main_arg1))
      ∧ θ_run (Cert.EvenWRefIdeal.defs (F := Ideal)) (onTc (τ := Cert.EvenWRefIdeal.τ) (Cert.EvenWRefIdeal.main (F := Ideal))) ⟨m', fun _ => 0, g'⟩ (fun r => ∀ c : Dev Cert.EvenWRefIdeal.nD,
          r.2.mem ((c.tc : Thread Cert.EvenWRefIdeal.nD Cert.EvenWRefIdeal.τ).loc Cert.EvenWRefIdeal.main_v5) = v0 c
          ∧ r.2.mem ((c.tc : Thread Cert.EvenWRefIdeal.nD Cert.EvenWRefIdeal.τ).loc Cert.EvenWRefIdeal.main_arg0) = m' ((c.tc : Thread Cert.EvenWRefIdeal.nD Cert.EvenWRefIdeal.τ).loc Cert.EvenWRefIdeal.main_arg0)
          ∧ r.2.mem ((c.tc : Thread Cert.EvenWRefIdeal.nD Cert.EvenWRefIdeal.τ).loc Cert.EvenWRefIdeal.main_arg1) = m' ((c.tc : Thread Cert.EvenWRefIdeal.nD Cert.EvenWRefIdeal.τ).loc Cert.EvenWRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v3) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v0) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v0) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_AdamEvenIn_AdamEvenInIdeal : Prop :=
  True

def algebraic_AdamEvenInIdeal_AdamEvenInRefIdeal [hAdamEvenInIdeal : Cert.AdamEvenInIdeal.Facts] [hAdamEvenInRefIdeal : Cert.AdamEvenInRefIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInRefIdeal.nD Cert.AdamEvenInRefIdeal.τ Cert.AdamEvenInRefIdeal.sig) → Buf (Elt Ideal) ℓ) (g' : Dev Cert.AdamEvenInRefIdeal.nD → PrngReg), Pre_AdamEvenInIdeal m →
    (∀ c : Dev Cert.AdamEvenInIdeal.nD,
      m' ((c.tc : Thread Cert.AdamEvenInRefIdeal.nD Cert.AdamEvenInRefIdeal.τ).loc Cert.AdamEvenInRefIdeal.main_arg0) = m ((c.tc : Thread Cert.AdamEvenInIdeal.nD Cert.AdamEvenInIdeal.τ).loc Cert.AdamEvenInIdeal.main_arg0)
      ∧ m' ((c.tc : Thread Cert.AdamEvenInRefIdeal.nD Cert.AdamEvenInRefIdeal.τ).loc Cert.AdamEvenInRefIdeal.main_arg1) = m ((c.tc : Thread Cert.AdamEvenInIdeal.nD Cert.AdamEvenInIdeal.τ).loc Cert.AdamEvenInIdeal.main_arg1)
      ∧ m' ((c.tc : Thread Cert.AdamEvenInRefIdeal.nD Cert.AdamEvenInRefIdeal.τ).loc Cert.AdamEvenInRefIdeal.main_arg2) = m ((c.tc : Thread Cert.AdamEvenInIdeal.nD Cert.AdamEvenInIdeal.τ).loc Cert.AdamEvenInIdeal.main_arg2)
      ∧ m' ((c.tc : Thread Cert.AdamEvenInRefIdeal.nD Cert.AdamEvenInRefIdeal.τ).loc Cert.AdamEvenInRefIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v0_0)) (v1 : (c : Dev Cert.AdamEvenInIdeal.nD) → Buf (Elt Ideal) ((c.tc : Thread Cert.AdamEvenInIdeal.nD Cert.AdamEvenInIdeal.τ).loc Cert.AdamEvenInIdeal.main_v0_1)) (v2 : (c : Dev Cert.AdamEvenInIdeal.nD) → Buf (Elt Ideal) ((c.tc : Thread Cert.AdamEvenInIdeal.nD Cert.AdamEvenInIdeal.τ).loc Cert.AdamEvenInIdeal.main_v0_2)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v0_0) = v0 c
          ∧ r.2.mem ((c.tc : Thread Cert.AdamEvenInIdeal.nD Cert.AdamEvenInIdeal.τ).loc Cert.AdamEvenInIdeal.main_v0_1) = v1 c
          ∧ r.2.mem ((c.tc : Thread Cert.AdamEvenInIdeal.nD Cert.AdamEvenInIdeal.τ).loc Cert.AdamEvenInIdeal.main_v0_2) = v2 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInRefIdeal.defs (F := Ideal)) (onTc (τ := Cert.AdamEvenInRefIdeal.τ) (Cert.AdamEvenInRefIdeal.main (F := Ideal))) ⟨m', fun _ => 0, g'⟩ (fun r => ∀ c : Dev Cert.AdamEvenInRefIdeal.nD,
          r.2.mem ((c.tc : Thread Cert.AdamEvenInRefIdeal.nD Cert.AdamEvenInRefIdeal.τ).loc Cert.AdamEvenInRefIdeal.main_v23) = v0 c
          ∧ r.2.mem ((c.tc : Thread Cert.AdamEvenInRefIdeal.nD Cert.AdamEvenInRefIdeal.τ).loc Cert.AdamEvenInRefIdeal.main_v4) = v1 c
          ∧ r.2.mem ((c.tc : Thread Cert.AdamEvenInRefIdeal.nD Cert.AdamEvenInRefIdeal.τ).loc Cert.AdamEvenInRefIdeal.main_v10) = v2 c
          ∧ r.2.mem ((c.tc : Thread Cert.AdamEvenInRefIdeal.nD Cert.AdamEvenInRefIdeal.τ).loc Cert.AdamEvenInRefIdeal.main_arg0) = m' ((c.tc : Thread Cert.AdamEvenInRefIdeal.nD Cert.AdamEvenInRefIdeal.τ).loc Cert.AdamEvenInRefIdeal.main_arg0)
          ∧ r.2.mem ((c.tc : Thread Cert.AdamEvenInRefIdeal.nD Cert.AdamEvenInRefIdeal.τ).loc Cert.AdamEvenInRefIdeal.main_arg1) = m' ((c.tc : Thread Cert.AdamEvenInRefIdeal.nD Cert.AdamEvenInRefIdeal.τ).loc Cert.AdamEvenInRefIdeal.main_arg1)
          ∧ r.2.mem ((c.tc : Thread Cert.AdamEvenInRefIdeal.nD Cert.AdamEvenInRefIdeal.τ).loc Cert.AdamEvenInRefIdeal.main_arg2) = m' ((c.tc : Thread Cert.AdamEvenInRefIdeal.nD Cert.AdamEvenInRefIdeal.τ).loc Cert.AdamEvenInRefIdeal.main_arg2)
          ∧ r.2.mem ((c.tc : Thread Cert.AdamEvenInRefIdeal.nD Cert.AdamEvenInRefIdeal.τ).loc Cert.AdamEvenInRefIdeal.main_arg3) = m' ((c.tc : Thread Cert.AdamEvenInRefIdeal.nD Cert.AdamEvenInRefIdeal.τ).loc Cert.AdamEvenInRefIdeal.main_arg3))

def preserves_AdamOddIn_AdamOddInIdeal : Prop :=
  True

def algebraic_AdamOddInIdeal_AdamOddInRefIdeal [hAdamOddInIdeal : Cert.AdamOddInIdeal.Facts] [hAdamOddInRefIdeal : Cert.AdamOddInRefIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInRefIdeal.nD Cert.AdamOddInRefIdeal.τ Cert.AdamOddInRefIdeal.sig) → Buf (Elt Ideal) ℓ) (g' : Dev Cert.AdamOddInRefIdeal.nD → PrngReg), Pre_AdamOddInIdeal m →
    (∀ c : Dev Cert.AdamOddInIdeal.nD,
      m' ((c.tc : Thread Cert.AdamOddInRefIdeal.nD Cert.AdamOddInRefIdeal.τ).loc Cert.AdamOddInRefIdeal.main_arg0) = m ((c.tc : Thread Cert.AdamOddInIdeal.nD Cert.AdamOddInIdeal.τ).loc Cert.AdamOddInIdeal.main_arg0)
      ∧ m' ((c.tc : Thread Cert.AdamOddInRefIdeal.nD Cert.AdamOddInRefIdeal.τ).loc Cert.AdamOddInRefIdeal.main_arg1) = m ((c.tc : Thread Cert.AdamOddInIdeal.nD Cert.AdamOddInIdeal.τ).loc Cert.AdamOddInIdeal.main_arg1)
      ∧ m' ((c.tc : Thread Cert.AdamOddInRefIdeal.nD Cert.AdamOddInRefIdeal.τ).loc Cert.AdamOddInRefIdeal.main_arg2) = m ((c.tc : Thread Cert.AdamOddInIdeal.nD Cert.AdamOddInIdeal.τ).loc Cert.AdamOddInIdeal.main_arg2)
      ∧ m' ((c.tc : Thread Cert.AdamOddInRefIdeal.nD Cert.AdamOddInRefIdeal.τ).loc Cert.AdamOddInRefIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInRefIdeal.defs (F := Ideal)) (onTc (τ := Cert.AdamOddInRefIdeal.τ) (Cert.AdamOddInRefIdeal.main (F := Ideal))) ⟨m', fun _ => 0, g'⟩ (fun r => ∀ c : Dev Cert.AdamOddInRefIdeal.nD,
          r.2.mem ((c.tc : Thread Cert.AdamOddInRefIdeal.nD Cert.AdamOddInRefIdeal.τ).loc Cert.AdamOddInRefIdeal.main_v23) = v0 c
          ∧ r.2.mem ((c.tc : Thread Cert.AdamOddInRefIdeal.nD Cert.AdamOddInRefIdeal.τ).loc Cert.AdamOddInRefIdeal.main_v4) = v1 c
          ∧ r.2.mem ((c.tc : Thread Cert.AdamOddInRefIdeal.nD Cert.AdamOddInRefIdeal.τ).loc Cert.AdamOddInRefIdeal.main_v10) = v2 c
          ∧ r.2.mem ((c.tc : Thread Cert.AdamOddInRefIdeal.nD Cert.AdamOddInRefIdeal.τ).loc Cert.AdamOddInRefIdeal.main_arg0) = m' ((c.tc : Thread Cert.AdamOddInRefIdeal.nD Cert.AdamOddInRefIdeal.τ).loc Cert.AdamOddInRefIdeal.main_arg0)
          ∧ r.2.mem ((c.tc : Thread Cert.AdamOddInRefIdeal.nD Cert.AdamOddInRefIdeal.τ).loc Cert.AdamOddInRefIdeal.main_arg1) = m' ((c.tc : Thread Cert.AdamOddInRefIdeal.nD Cert.AdamOddInRefIdeal.τ).loc Cert.AdamOddInRefIdeal.main_arg1)
          ∧ r.2.mem ((c.tc : Thread Cert.AdamOddInRefIdeal.nD Cert.AdamOddInRefIdeal.τ).loc Cert.AdamOddInRefIdeal.main_arg2) = m' ((c.tc : Thread Cert.AdamOddInRefIdeal.nD Cert.AdamOddInRefIdeal.τ).loc Cert.AdamOddInRefIdeal.main_arg2)
          ∧ r.2.mem ((c.tc : Thread Cert.AdamOddInRefIdeal.nD Cert.AdamOddInRefIdeal.τ).loc Cert.AdamOddInRefIdeal.main_arg3) = m' ((c.tc : Thread Cert.AdamOddInRefIdeal.nD Cert.AdamOddInRefIdeal.τ).loc Cert.AdamOddInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v17) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_SumEvenIn_SumEvenInIdeal : Prop :=
  True

def algebraic_SumEvenInIdeal_SumEvenInRefIdeal [hSumEvenInIdeal : Cert.SumEvenInIdeal.Facts] [hSumEvenInRefIdeal : Cert.SumEvenInRefIdeal.Facts] : Prop :=
  ∀ (m : (ℓ : Loc Cert.SumEvenInIdeal.nD Cert.SumEvenInIdeal.τ Cert.SumEvenInIdeal.sig) → Buf (Elt Ideal) ℓ) (g : Dev Cert.SumEvenInIdeal.nD → PrngReg)
    (m' : (ℓ : Loc Cert.SumEvenInRefIdeal.nD Cert.SumEvenInRefIdeal.τ Cert.SumEvenInRefIdeal.sig) → Buf (Elt Ideal) ℓ) (g' : Dev Cert.SumEvenInRefIdeal.nD → PrngReg), Pre_SumEvenInIdeal m →
    (∀ c : Dev Cert.SumEvenInIdeal.nD,
      m' ((c.tc : Thread Cert.SumEvenInRefIdeal.nD Cert.SumEvenInRefIdeal.τ).loc Cert.SumEvenInRefIdeal.main_arg0) = m ((c.tc : Thread Cert.SumEvenInIdeal.nD Cert.SumEvenInIdeal.τ).loc Cert.SumEvenInIdeal.main_arg0)) →
    ∃ (v0 : (c : Dev Cert.SumEvenInIdeal.nD) → Buf (Elt Ideal) ((c.tc : Thread Cert.SumEvenInIdeal.nD Cert.SumEvenInIdeal.τ).loc Cert.SumEvenInIdeal.main_v0)),
      θ_run (Cert.SumEvenInIdeal.defs (F := Ideal)) (onTc (τ := Cert.SumEvenInIdeal.τ) (Cert.SumEvenInIdeal.main (F := Ideal))) ⟨m, fun _ => 0, g⟩ (fun r => ∀ c : Dev Cert.SumEvenInIdeal.nD,
          r.2.mem ((c.tc : Thread Cert.SumEvenInIdeal.nD Cert.SumEvenInIdeal.τ).loc Cert.SumEvenInIdeal.main_v0) = v0 c
          ∧ r.2.mem ((c.tc : Thread Cert.SumEvenInIdeal.nD Cert.SumEvenInIdeal.τ).loc Cert.SumEvenInIdeal.main_arg0) = m ((c.tc : Thread Cert.SumEvenInIdeal.nD Cert.SumEvenInIdeal.τ).loc Cert.SumEvenInIdeal.main_arg0))
      ∧ θ_run (Cert.SumEvenInRefIdeal.defs (F := Ideal)) (onTc (τ := Cert.SumEvenInRefIdeal.τ) (Cert.SumEvenInRefIdeal.main (F := Ideal))) ⟨m', fun _ => 0, g'⟩ (fun r => ∀ c : Dev Cert.SumEvenInRefIdeal.nD,
          r.2.mem ((c.tc : Thread Cert.SumEvenInRefIdeal.nD Cert.SumEvenInRefIdeal.τ).loc Cert.SumEvenInRefIdeal.main_v1) = v0 c
          ∧ r.2.mem ((c.tc : Thread Cert.SumEvenInRefIdeal.nD Cert.SumEvenInRefIdeal.τ).loc Cert.SumEvenInRefIdeal.main_arg0) = m' ((c.tc : Thread Cert.SumEvenInRefIdeal.nD Cert.SumEvenInRefIdeal.τ).loc Cert.SumEvenInRefIdeal.main_arg0))

def preserves_SumOddIn_SumOddInIdeal : Prop :=
  True

def algebraic_SumOddInIdeal_SumOddInRefIdeal [hSumOddInIdeal : Cert.SumOddInIdeal.Facts] [hSumOddInRefIdeal : Cert.SumOddInRefIdeal.Facts] : Prop :=
  ∀ (m : (ℓ : Loc Cert.SumOddInIdeal.nD Cert.SumOddInIdeal.τ Cert.SumOddInIdeal.sig) → Buf (Elt Ideal) ℓ) (g : Dev Cert.SumOddInIdeal.nD → PrngReg)
    (m' : (ℓ : Loc Cert.SumOddInRefIdeal.nD Cert.SumOddInRefIdeal.τ Cert.SumOddInRefIdeal.sig) → Buf (Elt Ideal) ℓ) (g' : Dev Cert.SumOddInRefIdeal.nD → PrngReg), Pre_SumOddInIdeal m →
    (∀ c : Dev Cert.SumOddInIdeal.nD,
      m' ((c.tc : Thread Cert.SumOddInRefIdeal.nD Cert.SumOddInRefIdeal.τ).loc Cert.SumOddInRefIdeal.main_arg0) = m ((c.tc : Thread Cert.SumOddInIdeal.nD Cert.SumOddInIdeal.τ).loc Cert.SumOddInIdeal.main_arg0)) →
    ∃ (v0 : (c : Dev Cert.SumOddInIdeal.nD) → Buf (Elt Ideal) ((c.tc : Thread Cert.SumOddInIdeal.nD Cert.SumOddInIdeal.τ).loc Cert.SumOddInIdeal.main_v0)),
      θ_run (Cert.SumOddInIdeal.defs (F := Ideal)) (onTc (τ := Cert.SumOddInIdeal.τ) (Cert.SumOddInIdeal.main (F := Ideal))) ⟨m, fun _ => 0, g⟩ (fun r => ∀ c : Dev Cert.SumOddInIdeal.nD,
          r.2.mem ((c.tc : Thread Cert.SumOddInIdeal.nD Cert.SumOddInIdeal.τ).loc Cert.SumOddInIdeal.main_v0) = v0 c
          ∧ r.2.mem ((c.tc : Thread Cert.SumOddInIdeal.nD Cert.SumOddInIdeal.τ).loc Cert.SumOddInIdeal.main_arg0) = m ((c.tc : Thread Cert.SumOddInIdeal.nD Cert.SumOddInIdeal.τ).loc Cert.SumOddInIdeal.main_arg0))
      ∧ θ_run (Cert.SumOddInRefIdeal.defs (F := Ideal)) (onTc (τ := Cert.SumOddInRefIdeal.τ) (Cert.SumOddInRefIdeal.main (F := Ideal))) ⟨m', fun _ => 0, g'⟩ (fun r => ∀ c : Dev Cert.SumOddInRefIdeal.nD,
          r.2.mem ((c.tc : Thread Cert.SumOddInRefIdeal.nD Cert.SumOddInRefIdeal.τ).loc Cert.SumOddInRefIdeal.main_v1) = v0 c
          ∧ r.2.mem ((c.tc : Thread Cert.SumOddInRefIdeal.nD Cert.SumOddInRefIdeal.τ).loc Cert.SumOddInRefIdeal.main_arg0) = m' ((c.tc : Thread Cert.SumOddInRefIdeal.nD Cert.SumOddInRefIdeal.τ).loc Cert.SumOddInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernelIdeal : Cert.KernelIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hOddX : Cert.OddX.Facts) (hOddXIdeal : Cert.OddXIdeal.Facts) (hOddXRefIdeal : Cert.OddXRefIdeal.Facts) (hOddW : Cert.OddW.Facts) (hOddWIdeal : Cert.OddWIdeal.Facts) (hOddWRefIdeal : Cert.OddWRefIdeal.Facts) (hEvenX : Cert.EvenX.Facts) (hEvenXIdeal : Cert.EvenXIdeal.Facts) (hEvenXRefIdeal : Cert.EvenXRefIdeal.Facts) (hEvenW : Cert.EvenW.Facts) (hEvenWIdeal : Cert.EvenWIdeal.Facts) (hEvenWRefIdeal : Cert.EvenWRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hOut : Cert.Out.Facts) (hOutIdeal : Cert.OutIdeal.Facts) (hOutRefIdeal : Cert.OutRefIdeal.Facts) (hAdamEvenIn : Cert.AdamEvenIn.Facts) (hAdamEvenInIdeal : Cert.AdamEvenInIdeal.Facts) (hAdamEvenInRefIdeal : Cert.AdamEvenInRefIdeal.Facts) (hAdamOddIn : Cert.AdamOddIn.Facts) (hAdamOddInIdeal : Cert.AdamOddInIdeal.Facts) (hAdamOddInRefIdeal : Cert.AdamOddInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hLoss : Cert.Loss.Facts) (hLossIdeal : Cert.LossIdeal.Facts) (hLossRefIdeal : Cert.LossRefIdeal.Facts) (hSumEvenIn : Cert.SumEvenIn.Facts) (hSumEvenInIdeal : Cert.SumEvenInIdeal.Facts) (hSumEvenInRefIdeal : Cert.SumEvenInRefIdeal.Facts) (hSumOddIn : Cert.SumOddIn.Facts) (hSumOddInIdeal : Cert.SumOddInIdeal.Facts) (hSumOddInRefIdeal : Cert.SumOddInRefIdeal.Facts) (hSumOut : Cert.SumOut.Facts) (hSumOutIdeal : Cert.SumOutIdeal.Facts) (hSumOutRefIdeal : Cert.SumOutRefIdeal.Facts) (hSumSmall : Cert.SumSmall.Facts) (hSumSmallIdeal : Cert.SumSmallIdeal.Facts) (hSumSmallRefIdeal : Cert.SumSmallRefIdeal.Facts),
    quiescent_KernelIdeal (hKernelIdeal := hKernelIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_OddX (hOddX := hOddX)
    ∧ quiescent_OddXIdeal (hOddXIdeal := hOddXIdeal)
    ∧ quiescent_OddXRefIdeal (hOddXRefIdeal := hOddXRefIdeal)
    ∧ quiescent_OddW (hOddW := hOddW)
    ∧ quiescent_OddWIdeal (hOddWIdeal := hOddWIdeal)
    ∧ quiescent_OddWRefIdeal (hOddWRefIdeal := hOddWRefIdeal)
    ∧ quiescent_EvenX (hEvenX := hEvenX)
    ∧ quiescent_EvenXIdeal (hEvenXIdeal := hEvenXIdeal)
    ∧ quiescent_EvenXRefIdeal (hEvenXRefIdeal := hEvenXRefIdeal)
    ∧ quiescent_EvenW (hEvenW := hEvenW)
    ∧ quiescent_EvenWIdeal (hEvenWIdeal := hEvenWIdeal)
    ∧ quiescent_EvenWRefIdeal (hEvenWRefIdeal := hEvenWRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Out (hOut := hOut)
    ∧ quiescent_OutIdeal (hOutIdeal := hOutIdeal)
    ∧ quiescent_OutRefIdeal (hOutRefIdeal := hOutRefIdeal)
    ∧ quiescent_AdamEvenIn (hAdamEvenIn := hAdamEvenIn)
    ∧ quiescent_AdamEvenInIdeal (hAdamEvenInIdeal := hAdamEvenInIdeal)
    ∧ quiescent_AdamEvenInRefIdeal (hAdamEvenInRefIdeal := hAdamEvenInRefIdeal)
    ∧ quiescent_AdamOddIn (hAdamOddIn := hAdamOddIn)
    ∧ quiescent_AdamOddInIdeal (hAdamOddInIdeal := hAdamOddInIdeal)
    ∧ quiescent_AdamOddInRefIdeal (hAdamOddInRefIdeal := hAdamOddInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_Loss (hLoss := hLoss)
    ∧ quiescent_LossIdeal (hLossIdeal := hLossIdeal)
    ∧ quiescent_LossRefIdeal (hLossRefIdeal := hLossRefIdeal)
    ∧ quiescent_SumEvenIn (hSumEvenIn := hSumEvenIn)
    ∧ quiescent_SumEvenInIdeal (hSumEvenInIdeal := hSumEvenInIdeal)
    ∧ quiescent_SumEvenInRefIdeal (hSumEvenInRefIdeal := hSumEvenInRefIdeal)
    ∧ quiescent_SumOddIn (hSumOddIn := hSumOddIn)
    ∧ quiescent_SumOddInIdeal (hSumOddInIdeal := hSumOddInIdeal)
    ∧ quiescent_SumOddInRefIdeal (hSumOddInRefIdeal := hSumOddInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_OddX_OddXIdeal
    ∧ algebraic_OddXIdeal_OddXRefIdeal (hOddXIdeal := hOddXIdeal) (hOddXRefIdeal := hOddXRefIdeal)
    ∧ preserves_OddW_OddWIdeal
    ∧ algebraic_OddWIdeal_OddWRefIdeal (hOddWIdeal := hOddWIdeal) (hOddWRefIdeal := hOddWRefIdeal)
    ∧ preserves_EvenX_EvenXIdeal
    ∧ algebraic_EvenXIdeal_EvenXRefIdeal (hEvenXIdeal := hEvenXIdeal) (hEvenXRefIdeal := hEvenXRefIdeal)
    ∧ preserves_EvenW_EvenWIdeal
    ∧ algebraic_EvenWIdeal_EvenWRefIdeal (hEvenWIdeal := hEvenWIdeal) (hEvenWRefIdeal := hEvenWRefIdeal)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_Out_OutIdeal
    ∧ algebraic_OutIdeal_OutRefIdeal (hOutIdeal := hOutIdeal) (hOutRefIdeal := hOutRefIdeal)
    ∧ preserves_AdamEvenIn_AdamEvenInIdeal
    ∧ algebraic_AdamEvenInIdeal_AdamEvenInRefIdeal (hAdamEvenInIdeal := hAdamEvenInIdeal) (hAdamEvenInRefIdeal := hAdamEvenInRefIdeal)
    ∧ preserves_AdamOddIn_AdamOddInIdeal
    ∧ algebraic_AdamOddInIdeal_AdamOddInRefIdeal (hAdamOddInIdeal := hAdamOddInIdeal) (hAdamOddInRefIdeal := hAdamOddInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_Loss_LossIdeal
    ∧ algebraic_LossIdeal_LossRefIdeal (hLossIdeal := hLossIdeal) (hLossRefIdeal := hLossRefIdeal)
    ∧ preserves_SumEvenIn_SumEvenInIdeal
    ∧ algebraic_SumEvenInIdeal_SumEvenInRefIdeal (hSumEvenInIdeal := hSumEvenInIdeal) (hSumEvenInRefIdeal := hSumEvenInRefIdeal)
    ∧ preserves_SumOddIn_SumOddInIdeal
    ∧ algebraic_SumOddInIdeal_SumOddInRefIdeal (hSumOddInIdeal := hSumOddInIdeal) (hSumOddInRefIdeal := hSumOddInRefIdeal)
    ∧ preserves_SumOut_SumOutIdeal
    ∧ algebraic_SumOutIdeal_SumOutRefIdeal (hSumOutIdeal := hSumOutIdeal) (hSumOutRefIdeal := hSumOutRefIdeal)
    ∧ preserves_SumSmall_SumSmallIdeal
    ∧ algebraic_SumSmallIdeal_SumSmallRefIdeal (hSumSmallIdeal := hSumSmallIdeal) (hSumSmallRefIdeal := hSumSmallRefIdeal)
-- ==== KernelIdeal.lean ====
abbrev S4096x2048 : Shape := ⟨2, ![4096, 2048]⟩
abbrev S1x2x2048x32x64 : Shape := ⟨5, ![1, 2, 2048, 32, 64]⟩
abbrev S2x2x2048x32x64 : Shape := ⟨5, ![2, 2, 2048, 32, 64]⟩
abbrev S2048x64x2x2x32 : Shape := ⟨5, ![2048, 64, 2, 2, 32]⟩
abbrev S2048x64x128 : Shape := ⟨3, ![2048, 64, 128]⟩
abbrev S2x2048x32x2x32 : Shape := ⟨5, ![2, 2048, 32, 2, 32]⟩
abbrev S2048x32x2x2x32 : Shape := ⟨5, ![2048, 32, 2, 2, 32]⟩
abbrev S2048x32x128 : Shape := ⟨3, ![2048, 32, 128]⟩
abbrev S2048x32x64x128 : Shape := ⟨4, ![2048, 32, 64, 128]⟩
abbrev S16x64x128 : Shape := ⟨3, ![16, 64, 128]⟩
abbrev S16x32x128 : Shape := ⟨3, ![16, 32, 128]⟩
abbrev S16x32x64x128 : Shape := ⟨4, ![16, 32, 64, 128]⟩
abbrev S32x64x128 : Shape := ⟨3, ![32, 64, 128]⟩
abbrev S1x64x128 : Shape := ⟨3, ![1, 64, 128]⟩
abbrev S64x128 : Shape := ⟨2, ![64, 128]⟩
abbrev S128 : Shape := ⟨1, ![128]⟩
abbrev S1x128 : Shape := ⟨2, ![1, 128]⟩
abbrev S1x1x128 : Shape := ⟨3, ![1, 1, 128]⟩
abbrev S1x1x64x128 : Shape := ⟨4, ![1, 1, 64, 128]⟩
abbrev S1x32x64x128 : Shape := ⟨4, ![1, 32, 64, 128]⟩
abbrev S2048x64x64 : Shape := ⟨3, ![2048, 64, 64]⟩
abbrev S2048x64x2x32 : Shape := ⟨4, ![2048, 64, 2, 32]⟩
abbrev S2x2048x32x64 : Shape := ⟨4, ![2, 2048, 32, 64]⟩

abbrev nBuf : Space → Nat
  | .hbm => 68
  | .vmem => 52
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1x2x2048x32x64, .f32⟩
  | .hbm, ⟨8, _⟩ => ⟨S2x2x2048x32x64, .f32⟩
  | .hbm, ⟨9, _⟩ => ⟨S2048x64x2x2x32, .f32⟩
  | .hbm, ⟨10, _⟩ => ⟨S2048x64x128, .f32⟩
  | .hbm, ⟨11, _⟩ => ⟨S1x2x2048x32x64, .f32⟩
  | .hbm, ⟨12, _⟩ => ⟨S2x2x2048x32x64, .f32⟩
  | .hbm, ⟨13, _⟩ => ⟨S2048x64x2x2x32, .f32⟩
  | .hbm, ⟨14, _⟩ => ⟨S2048x64x128, .f32⟩
  | .hbm, ⟨15, _⟩ => ⟨S1x2x2048x32x64, .f32⟩
  | .hbm, ⟨16, _⟩ => ⟨S2x2x2048x32x64, .f32⟩
  | .hbm, ⟨17, _⟩ => ⟨S2048x64x2x2x32, .f32⟩
  | .hbm, ⟨18, _⟩ => ⟨S2048x64x128, .f32⟩
  | .hbm, ⟨19, _⟩ => ⟨S1x2x2048x32x64, .f32⟩
  | .hbm, ⟨20, _⟩ => ⟨S2x2x2048x32x64, .f32⟩
  | .hbm, ⟨21, _⟩ => ⟨S2048x64x2x2x32, .f32⟩
  | .hbm, ⟨22, _⟩ => ⟨S2048x64x128, .f32⟩
  | .hbm, ⟨23, _⟩ => ⟨S1x2x2048x32x64, .f32⟩
  | .hbm, ⟨24, _⟩ => ⟨S2x2x2048x32x64, .f32⟩
  | .hbm, ⟨25, _⟩ => ⟨S2048x64x2x2x32, .f32⟩
  | .hbm, ⟨26, _⟩ => ⟨S2048x64x128, .f32⟩
  | .hbm, ⟨27, _⟩ => ⟨S2x2048x32x2x32, .f32⟩
  | .hbm, ⟨28, _⟩ => ⟨S2048x32x2x2x32, .f32⟩
  | .hbm, ⟨29, _⟩ => ⟨S2048x32x128, .f32⟩
  | .hbm, ⟨30, _⟩ => ⟨S2048x32x128, .f32⟩
  | .hbm, ⟨31, _⟩ => ⟨S2048x32x64x128, .f32⟩
  | .hbm, ⟨32, _⟩ => ⟨S2048x32x128, .f32⟩
  | .hbm, ⟨33, _⟩ => ⟨S2048x32x2x2x32, .f32⟩
  | .hbm, ⟨34, _⟩ => ⟨S2x2048x32x2x32, .f32⟩
  | .hbm, ⟨35, _⟩ => ⟨S4096x2048, .f32⟩
  | .hbm, ⟨36, _⟩ => ⟨S2x2048x32x2x32, .f32⟩
  | .hbm, ⟨37, _⟩ => ⟨S2048x32x2x2x32, .f32⟩
  | .hbm, ⟨38, _⟩ => ⟨S2048x32x128, .f32⟩
  | .hbm, ⟨39, _⟩ => ⟨S2048x64x128, .f32⟩
  | .hbm, ⟨40, _⟩ => ⟨S2048x64x128, .f32⟩
  | .hbm, ⟨41, _⟩ => ⟨S2048x64x128, .f32⟩
  | .hbm, ⟨42, _⟩ => ⟨S2048x64x128, .f32⟩
  | .hbm, ⟨43, _⟩ => ⟨S2048x64x128, .f32⟩
  | .hbm, ⟨44, _⟩ => ⟨S2048x32x128, .f32⟩
  | .hbm, ⟨45, _⟩ => ⟨S2048x64x64, .f32⟩
  | .hbm, ⟨46, _⟩ => ⟨S2048x64x2x32, .f32⟩
  | .hbm, ⟨47, _⟩ => ⟨S2x2048x32x64, .f32⟩
  | .hbm, ⟨48, _⟩ => ⟨S4096x2048, .f32⟩
  | .hbm, ⟨49, _⟩ => ⟨S2048x64x64, .f32⟩
  | .hbm, ⟨50, _⟩ => ⟨S2048x64x2x32, .f32⟩
  | .hbm, ⟨51, _⟩ => ⟨S2x2048x32x64, .f32⟩
  | .hbm, ⟨52, _⟩ => ⟨S4096x2048, .f32⟩
  | .hbm, ⟨53, _⟩ => ⟨S2048x64x64, .f32⟩
  | .hbm, ⟨54, _⟩ => ⟨S2048x64x2x32, .f32⟩
  | .hbm, ⟨55, _⟩ => ⟨S2x2048x32x64, .f32⟩
  | .hbm, ⟨56, _⟩ => ⟨S4096x2048, .f32⟩
  | .hbm, ⟨57, _⟩ => ⟨S2048x64x64, .f32⟩
  | .hbm, ⟨58, _⟩ => ⟨S2048x64x2x32, .f32⟩
  | .hbm, ⟨59, _⟩ => ⟨S2x2048x32x64, .f32⟩
  | .hbm, ⟨60, _⟩ => ⟨S4096x2048, .f32⟩
  | .hbm, ⟨61, _⟩ => ⟨S2048x64x64, .f32⟩
  | .hbm, ⟨62, _⟩ => ⟨S2048x64x2x32, .f32⟩
  | .hbm, ⟨63, _⟩ => ⟨S2x2048x32x64, .f32⟩
  | .hbm, ⟨64, _⟩ => ⟨S4096x2048, .f32⟩
  | .hbm, ⟨65, _⟩ => ⟨S2048x32x2x2x32, .f32⟩
  | .hbm, ⟨66, _⟩ => ⟨S2x2048x32x2x32, .f32⟩
  | .hbm, ⟨67, _⟩ => ⟨S4096x2048, .f32⟩
  | .local _ .vmem, ⟨0, _⟩ => ⟨S16x64x128, .f32⟩
  | .local _ .vmem, ⟨1, _⟩ => ⟨S16x64x128, .f32⟩
  | .local _ .vmem, ⟨2, _⟩ => ⟨S16x64x128, .f32⟩
  | .local _ .vmem, ⟨3, _⟩ => ⟨S16x64x128, .f32⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S16x64x128, .f32⟩
  | .local _ .vmem, ⟨9, _⟩ => ⟨S16x64x128, .f32⟩
  | .local _ .vmem, ⟨10, _⟩ => ⟨S16x32x128, .f32⟩
  | .local _ .vmem, ⟨11, _⟩ => ⟨S16x32x128, .f32⟩
  | .local _ .vmem, ⟨12, _⟩ => ⟨S16x32x128, .f32⟩
  | .local _ .vmem, ⟨13, _⟩ => ⟨S16x32x128, .f32⟩
  | .local _ .vmem, ⟨14, _⟩ => ⟨S16x32x64x128, .f32⟩
  | .local _ .vmem, ⟨15, _⟩ => ⟨S16x32x64x128, .f32⟩
  | .local _ .vmem, ⟨16, _⟩ => ⟨S16x32x128, .f32⟩
  | .local _ .vmem, ⟨17, _⟩ => ⟨S16x32x128, .f32⟩
  | .local _ .vmem, ⟨18, _⟩ => ⟨S32x64x128, .f32⟩
  | .local _ .vmem, ⟨19, _⟩ => ⟨S16x64x128, .f32⟩
  | .local _ .vmem, ⟨20, _⟩ => ⟨S16x64x128, .f32⟩
  | .local _ .vmem, ⟨21, _⟩ => ⟨S16x64x128, .f32⟩
  | .local _ .vmem, ⟨22, _⟩ => ⟨S16x64x128, .f32⟩
  | .local _ .vmem, ⟨23, _⟩ => ⟨S16x64x128, .f32⟩
  | .local _ .vmem, ⟨24, _⟩ => ⟨S16x64x128, .f32⟩
  | .local _ .vmem, ⟨25, _⟩ => ⟨S16x64x128, .f32⟩
  | .local _ .vmem, ⟨26, _⟩ => ⟨S16x64x128, .f32⟩
  | .local _ .vmem, ⟨27, _⟩ => ⟨S16x64x128, .f32⟩
  | .local _ .vmem, ⟨28, _⟩ => ⟨S16x64x128, .f32⟩
  | .local _ .vmem, ⟨29, _⟩ => ⟨S16x32x128, .f32⟩
  | .local _ .vmem, ⟨30, _⟩ => ⟨S16x32x128, .f32⟩
  | .local _ .vmem, ⟨31, _⟩ => ⟨S16x32x64x128, .f32⟩
  | .local _ .vmem, ⟨32, _⟩ => ⟨S16x32x64x128, .f32⟩
  | .local _ .vmem, ⟨33, _⟩ => ⟨S1x32x64x128, .f32⟩
  | .local _ .vmem, ⟨34, _⟩ => ⟨S1x32x64x128, .f32⟩
  | .local _ .vmem, ⟨35, _⟩ => ⟨S16x32x128, .f32⟩
  | .local _ .vmem, ⟨36, _⟩ => ⟨S16x32x128, .f32⟩
  | .local _ .vmem, ⟨37, _⟩ => ⟨S16x32x128, .f32⟩
  | .local _ .vmem, ⟨38, _⟩ => ⟨S16x32x128, .f32⟩
  | .local _ .vmem, ⟨39, _⟩ => ⟨S16x64x128, .f32⟩
  | .local _ .vmem, ⟨40, _⟩ => ⟨S16x64x128, .f32⟩
  | .local _ .vmem, ⟨41, _⟩ => ⟨S16x64x128, .f32⟩
  | .local _ .vmem, ⟨42, _⟩ => ⟨S16x64x128, .f32⟩
  | .local _ .vmem, ⟨43, _⟩ => ⟨S16x64x128, .f32⟩
  | .local _ .vmem, ⟨44, _⟩ => ⟨S16x64x128, .f32⟩
  | .local _ .vmem, ⟨45, _⟩ => ⟨S16x64x128, .f32⟩
  | .local _ .vmem, ⟨46, _⟩ => ⟨S16x64x128, .f32⟩
  | .local _ .vmem, ⟨47, _⟩ => ⟨S16x64x128, .f32⟩
  | .local _ .vmem, ⟨48, _⟩ => ⟨S16x64x128, .f32⟩
  | .local _ .vmem, ⟨49, _⟩ => ⟨S16x32x128, .f32⟩
  | .local _ .vmem, ⟨50, _⟩ => ⟨S16x32x128, .f32⟩
  | .local _ .vmem, ⟨51, _⟩ => ⟨S32x64x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev main_v30_4 : Ref sig .tc := ⟨.hbm, 43, rfl⟩
abbrev main_v30_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_stg15_0 : Ref sig .tc := ⟨.vmem, 49, rfl⟩
abbrev cc1_stg15_1 : Ref sig .tc := ⟨.vmem, 50, rfl⟩
abbrev cc1_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v4 : Index := Scalar.indexCast arg11
  let c0 : Index := 0#32
  let c0_3 : Index := 0#32
  ![v4.toNat, 0, 0]
def k0_off2 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v30 : Index := Scalar.indexCast arg11
  let c0_16 : Index := 0#32
  let c0_17 : Index := 0#32
  ![v30.toNat, 0, 0]
def k0_off3 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v39 : Index := Scalar.indexCast arg11
  let c0_21 : Index := 0#32
  let c0_22 : Index := 0#32
  let c0_23 : Index := 0#32
  ![v39.toNat, 0, 0, 0]
def k0_off4 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v65 : Index := Scalar.indexCast arg11
  let c1_33 : Index := 1#32
  let c0_34 : Index := 0#32
  ![v65.toNat, 1, 0]
def k0_off5 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v74 : Index := Scalar.indexCast arg11
  let c1_38 : Index := 1#32
  let c0_39 : Index := 0#32
  let c0_40 : Index := 0#32
  ![v74.toNat, 1, 0, 0]
def k0_off6 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v100 : Index := Scalar.indexCast arg11
  let c2_50 : Index := 2#32
  let c0_51 : Index := 0#32
  ![v100.toNat, 2, 0]
def k0_off7 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v109 : Index := Scalar.indexCast arg11
  let c2_55 : Index := 2#32
  let c0_56 : Index := 0#32
  let c0_57 : Index := 0#32
  ![v109.toNat, 2, 0, 0]
def k0_off8 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v135 : Index := Scalar.indexCast arg11
  let c3_67 : Index := 3#32
  let c0_68 : Index := 0#32
  ![v135.toNat, 3, 0]
def k0_off9 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v144 : Index := Scalar.indexCast arg11
  let c3_72 : Index := 3#32
  let c0_73 : Index := 0#32
  let c0_74 : Index := 0#32
  ![v144.toNat, 3, 0, 0]
def k0_off10 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v170 : Index := Scalar.indexCast arg11
  let c4_84 : Index := 4#32
  let c0_85 : Index := 0#32
  ![v170.toNat, 4, 0]
def k0_off11 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v179 : Index := Scalar.indexCast arg11
  let c4_89 : Index := 4#32
  let c0_90 : Index := 0#32
  let c0_91 : Index := 0#32
  ![v179.toNat, 4, 0, 0]
def k0_off12 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v205 : Index := Scalar.indexCast arg11
  let c5_101 : Index := 5#32
  let c0_102 : Index := 0#32
  ![v205.toNat, 5, 0]
def k0_off13 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v214 : Index := Scalar.indexCast arg11
  let c5_106 : Index := 5#32
  let c0_107 : Index := 0#32
  let c0_108 : Index := 0#32
  ![v214.toNat, 5, 0, 0]
def k0_off14 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v240 : Index := Scalar.indexCast arg11
  let c6_118 : Index := 6#32
  let c0_119 : Index := 0#32
  ![v240.toNat, 6, 0]
def k0_off15 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v249 : Index := Scalar.indexCast arg11
  let c6_123 : Index := 6#32
  let c0_124 : Index := 0#32
  let c0_125 : Index := 0#32
  ![v249.toNat, 6, 0, 0]
def k0_off16 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v275 : Index := Scalar.indexCast arg11
  let c7_135 : Index := 7#32
  let c0_136 : Index := 0#32
  ![v275.toNat, 7, 0]
def k0_off17 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v284 : Index := Scalar.indexCast arg11
  let c7_140 : Index := 7#32
  let c0_141 : Index := 0#32
  let c0_142 : Index := 0#32
  ![v284.toNat, 7, 0, 0]
def k0_off18 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v310 : Index := Scalar.indexCast arg11
  let c8_152 : Index := 8#32
  let c0_153 : Index := 0#32
  ![v310.toNat, 8, 0]
def k0_off19 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v319 : Index := Scalar.indexCast arg11
  let c8_157 : Index := 8#32
  let c0_158 : Index := 0#32
  let c0_159 : Index := 0#32
  ![v319.toNat, 8, 0, 0]
def k0_off20 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v345 : Index := Scalar.indexCast arg11
  let c9_169 : Index := 9#32
  let c0_170 : Index := 0#32
  ![v345.toNat, 9, 0]
def k0_off21 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v354 : Index := Scalar.indexCast arg11
  let c9_174 : Index := 9#32
  let c0_175 : Index := 0#32
  let c0_176 : Index := 0#32
  ![v354.toNat, 9, 0, 0]
def k0_off22 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v380 : Index := Scalar.indexCast arg11
  let c10_186 : Index := 10#32
  let c0_187 : Index := 0#32
  ![v380.toNat, 10, 0]
def k0_off23 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v389 : Index := Scalar.indexCast arg11
  let c10_191 : Index := 10#32
  let c0_192 : Index := 0#32
  let c0_193 : Index := 0#32
  ![v389.toNat, 10, 0, 0]
def k0_off24 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v415 : Index := Scalar.indexCast arg11
  let c11_203 : Index := 11#32
  let c0_204 : Index := 0#32
  ![v415.toNat, 11, 0]
def k0_off25 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v424 : Index := Scalar.indexCast arg11
  let c11_208 : Index := 11#32
  let c0_209 : Index := 0#32
  let c0_210 : Index := 0#32
  ![v424.toNat, 11, 0, 0]
def k0_off26 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v450 : Index := Scalar.indexCast arg11
  let c12_220 : Index := 12#32
  let c0_221 : Index := 0#32
  ![v450.toNat, 12, 0]
def k0_off27 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v459 : Index := Scalar.indexCast arg11
  let c12_225 : Index := 12#32
  let c0_226 : Index := 0#32
  let c0_227 : Index := 0#32
  ![v459.toNat, 12, 0, 0]
def k0_off28 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v485 : Index := Scalar.indexCast arg11
  let c13_237 : Index := 13#32
  let c0_238 : Index := 0#32
  ![v485.toNat, 13, 0]
def k0_off29 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v494 : Index := Scalar.indexCast arg11
  let c13_242 : Index := 13#32
  let c0_243 : Index := 0#32
  let c0_244 : Index := 0#32
  ![v494.toNat, 13, 0, 0]
def k0_off30 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v520 : Index := Scalar.indexCast arg11
  let c14_254 : Index := 14#32
  let c0_255 : Index := 0#32
  ![v520.toNat, 14, 0]
def k0_off31 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v529 : Index := Scalar.indexCast arg11
  let c14_259 : Index := 14#32
  let c0_260 : Index := 0#32
  let c0_261 : Index := 0#32
  ![v529.toNat, 14, 0, 0]
def k0_off32 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v555 : Index := Scalar.indexCast arg11
  let c15_271 : Index := 15#32
  let c0_272 : Index := 0#32
  ![v555.toNat, 15, 0]
def k0_off33 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v564 : Index := Scalar.indexCast arg11
  let c15_276 : Index := 15#32
  let c0_277 : Index := 0#32
  let c0_278 : Index := 0#32
  ![v564.toNat, 15, 0, 0]
def k0_off34 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v590 : Index := Scalar.indexCast arg11
  let c16_288 : Index := 16#32
  let c0_289 : Index := 0#32
  ![v590.toNat, 16, 0]
def k0_off35 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v599 : Index := Scalar.indexCast arg11
  let c16_293 : Index := 16#32
  let c0_294 : Index := 0#32
  let c0_295 : Index := 0#32
  ![v599.toNat, 16, 0, 0]
def k0_off36 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v625 : Index := Scalar.indexCast arg11
  let c17_305 : Index := 17#32
  let c0_306 : Index := 0#32
  ![v625.toNat, 17, 0]
def k0_off37 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v634 : Index := Scalar.indexCast arg11
  let c17_310 : Index := 17#32
  let c0_311 : Index := 0#32
  let c0_312 : Index := 0#32
  ![v634.toNat, 17, 0, 0]
def k0_off38 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v660 : Index := Scalar.indexCast arg11
  let c18_322 : Index := 18#32
  let c0_323 : Index := 0#32
  ![v660.toNat, 18, 0]
def k0_off39 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v669 : Index := Scalar.indexCast arg11
  let c18_327 : Index := 18#32
  let c0_328 : Index := 0#32
  let c0_329 : Index := 0#32
  ![v669.toNat, 18, 0, 0]
def k0_off40 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v695 : Index := Scalar.indexCast arg11
  let c19_339 : Index := 19#32
  let c0_340 : Index := 0#32
  ![v695.toNat, 19, 0]
def k0_off41 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v704 : Index := Scalar.indexCast arg11
  let c19_344 : Index := 19#32
  let c0_345 : Index := 0#32
  let c0_346 : Index := 0#32
  ![v704.toNat, 19, 0, 0]
def k0_off42 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v730 : Index := Scalar.indexCast arg11
  let c20_356 : Index := 20#32
  let c0_357 : Index := 0#32
  ![v730.toNat, 20, 0]
def k0_off43 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v739 : Index := Scalar.indexCast arg11
  let c20_361 : Index := 20#32
  let c0_362 : Index := 0#32
  let c0_363 : Index := 0#32
  ![v739.toNat, 20, 0, 0]
def k0_off44 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v765 : Index := Scalar.indexCast arg11
  let c21_373 : Index := 21#32
  let c0_374 : Index := 0#32
  ![v765.toNat, 21, 0]
def k0_off45 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v774 : Index := Scalar.indexCast arg11
  let c21_378 : Index := 21#32
  let c0_379 : Index := 0#32
  let c0_380 : Index := 0#32
  ![v774.toNat, 21, 0, 0]
def k0_off46 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v800 : Index := Scalar.indexCast arg11
  let c22_390 : Index := 22#32
  let c0_391 : Index := 0#32
  ![v800.toNat, 22, 0]
def k0_off47 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v809 : Index := Scalar.indexCast arg11
  let c22_395 : Index := 22#32
  let c0_396 : Index := 0#32
  let c0_397 : Index := 0#32
  ![v809.toNat, 22, 0, 0]
def k0_off48 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v835 : Index := Scalar.indexCast arg11
  let c23_407 : Index := 23#32
  let c0_408 : Index := 0#32
  ![v835.toNat, 23, 0]
def k0_off49 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v844 : Index := Scalar.indexCast arg11
  let c23_412 : Index := 23#32
  let c0_413 : Index := 0#32
  let c0_414 : Index := 0#32
  ![v844.toNat, 23, 0, 0]
def k0_off50 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v870 : Index := Scalar.indexCast arg11
  let c24_424 : Index := 24#32
  let c0_425 : Index := 0#32
  ![v870.toNat, 24, 0]
def k0_off51 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v879 : Index := Scalar.indexCast arg11
  let c24_429 : Index := 24#32
  let c0_430 : Index := 0#32
  let c0_431 : Index := 0#32
  ![v879.toNat, 24, 0, 0]
def k0_off52 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v905 : Index := Scalar.indexCast arg11
  let c25_441 : Index := 25#32
  let c0_442 : Index := 0#32
  ![v905.toNat, 25, 0]
def k0_off53 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v914 : Index := Scalar.indexCast arg11
  let c25_446 : Index := 25#32
  let c0_447 : Index := 0#32
  let c0_448 : Index := 0#32
  ![v914.toNat, 25, 0, 0]
def k0_off54 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v940 : Index := Scalar.indexCast arg11
  let c26_458 : Index := 26#32
  let c0_459 : Index := 0#32
  ![v940.toNat, 26, 0]
def k0_off55 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v949 : Index := Scalar.indexCast arg11
  let c26_463 : Index := 26#32
  let c0_464 : Index := 0#32
  let c0_465 : Index := 0#32
  ![v949.toNat, 26, 0, 0]
def k0_off56 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v975 : Index := Scalar.indexCast arg11
  let c27_475 : Index := 27#32
  let c0_476 : Index := 0#32
  ![v975.toNat, 27, 0]
def k0_off57 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v984 : Index := Scalar.indexCast arg11
  let c27_480 : Index := 27#32
  let c0_481 : Index := 0#32
  let c0_482 : Index := 0#32
  ![v984.toNat, 27, 0, 0]
def k0_off58 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1010 : Index := Scalar.indexCast arg11
  let c28_492 : Index := 28#32
  let c0_493 : Index := 0#32
  ![v1010.toNat, 28, 0]
def k0_off59 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v1019 : Index := Scalar.indexCast arg11
  let c28_497 : Index := 28#32
  let c0_498 : Index := 0#32
  let c0_499 : Index := 0#32
  ![v1019.toNat, 28, 0, 0]
def k0_off60 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1045 : Index := Scalar.indexCast arg11
  let c29_509 : Index := 29#32
  let c0_510 : Index := 0#32
  ![v1045.toNat, 29, 0]
def k0_off61 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v1054 : Index := Scalar.indexCast arg11
  let c29_514 : Index := 29#32
  let c0_515 : Index := 0#32
  let c0_516 : Index := 0#32
  ![v1054.toNat, 29, 0, 0]
def k0_off62 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1080 : Index := Scalar.indexCast arg11
  let c30_526 : Index := 30#32
  let c0_527 : Index := 0#32
  ![v1080.toNat, 30, 0]
def k0_off63 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v1089 : Index := Scalar.indexCast arg11
  let c30_531 : Index := 30#32
  let c0_532 : Index := 0#32
  let c0_533 : Index := 0#32
  ![v1089.toNat, 30, 0, 0]
def k0_off64 (k0_t1 : Fin k0_t1_loop.trips) : Fin 3 → Nat :=
  let c0_i32_1 : BitVec 32 := 0#32
  let c1_i32 : BitVec 32 := 1#32
  let arg11 : BitVec 32 := Scf.iv c0_i32_1 c1_i32 k0_t1
  let v1115 : Index := Scalar.indexCast arg11
  let c31_543 : Index := 31#32
  let c0_544 : Index := 0#32
  ![v1115.toNat, 31, 0]
def k0_off65 (k0_t1 : Fin k0_t1_loop.trips) : Fin 4 → Nat :=
  let c0_i32_1 : BitVec 32 := 0#32
  let c1_i32 : BitVec 32 := 1#32
  let arg11 : BitVec 32 := Scf.iv c0_i32_1 c1_i32 k0_t1
  let v1124 : Index := Scalar.indexCast arg11
  let c31_548 : Index := 31#32
  let c0_549 : Index := 0#32
  let c0_550 : Index := 0#32
  ![v1124.toNat, 31, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

@[reducible] def k1_t1_loop : Scf.Loop 32 :=
  let c0_i32_1 : BitVec 32 := 0#32
  let c15_i32 : BitVec 32 := 15#32
  let v3 : BitVec 32 := Scalar.addi c0_i32_1 c15_i32
  let c1_i32 : BitVec 32 := 1#32
  ⟨c0_i32_1, v3, c1_i32⟩
def k1_off1 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1548 : Index := Scalar.indexCast v1547
  let c0_935 : Index := 0#32
  let c0_936 : Index := 0#32
  ![v1548.toNat, 0, 0]
def k1_off2 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_946 : BitVec 32 := 1#32
  let v1564 : BitVec 32 := Scalar.subi v1547 c1_i32_946
  let v1565 : Index := Scalar.indexCast v1564
  let c0_947 : Index := 0#32
  let c0_948 : Index := 0#32
  let c0_949 : Index := 0#32
  ![v1565.toNat, 0, 0, 0]
def k1_off3 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1568 : Index := Scalar.indexCast v1547
  let c0_950 : Index := 0#32
  let c0_951 : Index := 0#32
  let c0_952 : Index := 0#32
  ![v1568.toNat, 0, 0, 0]
def k1_off4 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1571 : Index := Scalar.indexCast v1547
  let c0_953 : Index := 0#32
  let c0_954 : Index := 0#32
  ![v1571.toNat, 0, 0]
def k1_off5 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_969 : BitVec 32 := 1#32
  let v1616 : BitVec 32 := Scalar.subi v1547 c1_i32_969
  let v1617 : Index := Scalar.indexCast v1616
  let c1_970 : Index := 1#32
  let c0_971 : Index := 0#32
  let c0_972 : Index := 0#32
  ![v1617.toNat, 1, 0, 0]
def k1_off6 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1620 : Index := Scalar.indexCast v1547
  let c1_973 : Index := 1#32
  let c0_974 : Index := 0#32
  let c0_975 : Index := 0#32
  ![v1620.toNat, 1, 0, 0]
def k1_off7 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1623 : Index := Scalar.indexCast v1547
  let c1_976 : Index := 1#32
  let c0_977 : Index := 0#32
  ![v1623.toNat, 1, 0]
def k1_off8 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_992 : BitVec 32 := 1#32
  let v1668 : BitVec 32 := Scalar.subi v1547 c1_i32_992
  let v1669 : Index := Scalar.indexCast v1668
  let c2_993 : Index := 2#32
  let c0_994 : Index := 0#32
  let c0_995 : Index := 0#32
  ![v1669.toNat, 2, 0, 0]
def k1_off9 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1672 : Index := Scalar.indexCast v1547
  let c2_996 : Index := 2#32
  let c0_997 : Index := 0#32
  let c0_998 : Index := 0#32
  ![v1672.toNat, 2, 0, 0]
def k1_off10 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1675 : Index := Scalar.indexCast v1547
  let c2_999 : Index := 2#32
  let c0_1000 : Index := 0#32
  ![v1675.toNat, 2, 0]
def k1_off11 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1015 : BitVec 32 := 1#32
  let v1720 : BitVec 32 := Scalar.subi v1547 c1_i32_1015
  let v1721 : Index := Scalar.indexCast v1720
  let c3_1016 : Index := 3#32
  let c0_1017 : Index := 0#32
  let c0_1018 : Index := 0#32
  ![v1721.toNat, 3, 0, 0]
def k1_off12 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1724 : Index := Scalar.indexCast v1547
  let c3_1019 : Index := 3#32
  let c0_1020 : Index := 0#32
  let c0_1021 : Index := 0#32
  ![v1724.toNat, 3, 0, 0]
def k1_off13 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1727 : Index := Scalar.indexCast v1547
  let c3_1022 : Index := 3#32
  let c0_1023 : Index := 0#32
  ![v1727.toNat, 3, 0]
def k1_off14 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1038 : BitVec 32 := 1#32
  let v1772 : BitVec 32 := Scalar.subi v1547 c1_i32_1038
  let v1773 : Index := Scalar.indexCast v1772
  let c4_1039 : Index := 4#32
  let c0_1040 : Index := 0#32
  let c0_1041 : Index := 0#32
  ![v1773.toNat, 4, 0, 0]
def k1_off15 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1776 : Index := Scalar.indexCast v1547
  let c4_1042 : Index := 4#32
  let c0_1043 : Index := 0#32
  let c0_1044 : Index := 0#32
  ![v1776.toNat, 4, 0, 0]
def k1_off16 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1779 : Index := Scalar.indexCast v1547
  let c4_1045 : Index := 4#32
  let c0_1046 : Index := 0#32
  ![v1779.toNat, 4, 0]
def k1_off17 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1061 : BitVec 32 := 1#32
  let v1824 : BitVec 32 := Scalar.subi v1547 c1_i32_1061
  let v1825 : Index := Scalar.indexCast v1824
  let c5_1062 : Index := 5#32
  let c0_1063 : Index := 0#32
  let c0_1064 : Index := 0#32
  ![v1825.toNat, 5, 0, 0]
def k1_off18 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1828 : Index := Scalar.indexCast v1547
  let c5_1065 : Index := 5#32
  let c0_1066 : Index := 0#32
  let c0_1067 : Index := 0#32
  ![v1828.toNat, 5, 0, 0]
def k1_off19 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1831 : Index := Scalar.indexCast v1547
  let c5_1068 : Index := 5#32
  let c0_1069 : Index := 0#32
  ![v1831.toNat, 5, 0]
def k1_off20 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1084 : BitVec 32 := 1#32
  let v1876 : BitVec 32 := Scalar.subi v1547 c1_i32_1084
  let v1877 : Index := Scalar.indexCast v1876
  let c6_1085 : Index := 6#32
  let c0_1086 : Index := 0#32
  let c0_1087 : Index := 0#32
  ![v1877.toNat, 6, 0, 0]
def k1_off21 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1880 : Index := Scalar.indexCast v1547
  let c6_1088 : Index := 6#32
  let c0_1089 : Index := 0#32
  let c0_1090 : Index := 0#32
  ![v1880.toNat, 6, 0, 0]
def k1_off22 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1883 : Index := Scalar.indexCast v1547
  let c6_1091 : Index := 6#32
  let c0_1092 : Index := 0#32
  ![v1883.toNat, 6, 0]
def k1_off23 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1107 : BitVec 32 := 1#32
  let v1928 : BitVec 32 := Scalar.subi v1547 c1_i32_1107
  let v1929 : Index := Scalar.indexCast v1928
  let c7_1108 : Index := 7#32
  let c0_1109 : Index := 0#32
  let c0_1110 : Index := 0#32
  ![v1929.toNat, 7, 0, 0]
def k1_off24 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1932 : Index := Scalar.indexCast v1547
  let c7_1111 : Index := 7#32
  let c0_1112 : Index := 0#32
  let c0_1113 : Index := 0#32
  ![v1932.toNat, 7, 0, 0]
def k1_off25 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1935 : Index := Scalar.indexCast v1547
  let c7_1114 : Index := 7#32
  let c0_1115 : Index := 0#32
  ![v1935.toNat, 7, 0]
def k1_off26 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1130 : BitVec 32 := 1#32
  let v1980 : BitVec 32 := Scalar.subi v1547 c1_i32_1130
  let v1981 : Index := Scalar.indexCast v1980
  let c8_1131 : Index := 8#32
  let c0_1132 : Index := 0#32
  let c0_1133 : Index := 0#32
  ![v1981.toNat, 8, 0, 0]
def k1_off27 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1984 : Index := Scalar.indexCast v1547
  let c8_1134 : Index := 8#32
  let c0_1135 : Index := 0#32
  let c0_1136 : Index := 0#32
  ![v1984.toNat, 8, 0, 0]
def k1_off28 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v1987 : Index := Scalar.indexCast v1547
  let c8_1137 : Index := 8#32
  let c0_1138 : Index := 0#32
  ![v1987.toNat, 8, 0]
def k1_off29 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1153 : BitVec 32 := 1#32
  let v2032 : BitVec 32 := Scalar.subi v1547 c1_i32_1153
  let v2033 : Index := Scalar.indexCast v2032
  let c9_1154 : Index := 9#32
  let c0_1155 : Index := 0#32
  let c0_1156 : Index := 0#32
  ![v2033.toNat, 9, 0, 0]
def k1_off30 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2036 : Index := Scalar.indexCast v1547
  let c9_1157 : Index := 9#32
  let c0_1158 : Index := 0#32
  let c0_1159 : Index := 0#32
  ![v2036.toNat, 9, 0, 0]
def k1_off31 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2039 : Index := Scalar.indexCast v1547
  let c9_1160 : Index := 9#32
  let c0_1161 : Index := 0#32
  ![v2039.toNat, 9, 0]
def k1_off32 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1176 : BitVec 32 := 1#32
  let v2084 : BitVec 32 := Scalar.subi v1547 c1_i32_1176
  let v2085 : Index := Scalar.indexCast v2084
  let c10_1177 : Index := 10#32
  let c0_1178 : Index := 0#32
  let c0_1179 : Index := 0#32
  ![v2085.toNat, 10, 0, 0]
def k1_off33 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2088 : Index := Scalar.indexCast v1547
  let c10_1180 : Index := 10#32
  let c0_1181 : Index := 0#32
  let c0_1182 : Index := 0#32
  ![v2088.toNat, 10, 0, 0]
def k1_off34 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2091 : Index := Scalar.indexCast v1547
  let c10_1183 : Index := 10#32
  let c0_1184 : Index := 0#32
  ![v2091.toNat, 10, 0]
def k1_off35 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1199 : BitVec 32 := 1#32
  let v2136 : BitVec 32 := Scalar.subi v1547 c1_i32_1199
  let v2137 : Index := Scalar.indexCast v2136
  let c11_1200 : Index := 11#32
  let c0_1201 : Index := 0#32
  let c0_1202 : Index := 0#32
  ![v2137.toNat, 11, 0, 0]
def k1_off36 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2140 : Index := Scalar.indexCast v1547
  let c11_1203 : Index := 11#32
  let c0_1204 : Index := 0#32
  let c0_1205 : Index := 0#32
  ![v2140.toNat, 11, 0, 0]
def k1_off37 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2143 : Index := Scalar.indexCast v1547
  let c11_1206 : Index := 11#32
  let c0_1207 : Index := 0#32
  ![v2143.toNat, 11, 0]
def k1_off38 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1222 : BitVec 32 := 1#32
  let v2188 : BitVec 32 := Scalar.subi v1547 c1_i32_1222
  let v2189 : Index := Scalar.indexCast v2188
  let c12_1223 : Index := 12#32
  let c0_1224 : Index := 0#32
  let c0_1225 : Index := 0#32
  ![v2189.toNat, 12, 0, 0]
def k1_off39 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2192 : Index := Scalar.indexCast v1547
  let c12_1226 : Index := 12#32
  let c0_1227 : Index := 0#32
  let c0_1228 : Index := 0#32
  ![v2192.toNat, 12, 0, 0]
def k1_off40 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2195 : Index := Scalar.indexCast v1547
  let c12_1229 : Index := 12#32
  let c0_1230 : Index := 0#32
  ![v2195.toNat, 12, 0]
def k1_off41 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1245 : BitVec 32 := 1#32
  let v2240 : BitVec 32 := Scalar.subi v1547 c1_i32_1245
  let v2241 : Index := Scalar.indexCast v2240
  let c13_1246 : Index := 13#32
  let c0_1247 : Index := 0#32
  let c0_1248 : Index := 0#32
  ![v2241.toNat, 13, 0, 0]
def k1_off42 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2244 : Index := Scalar.indexCast v1547
  let c13_1249 : Index := 13#32
  let c0_1250 : Index := 0#32
  let c0_1251 : Index := 0#32
  ![v2244.toNat, 13, 0, 0]
def k1_off43 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2247 : Index := Scalar.indexCast v1547
  let c13_1252 : Index := 13#32
  let c0_1253 : Index := 0#32
  ![v2247.toNat, 13, 0]
def k1_off44 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1268 : BitVec 32 := 1#32
  let v2292 : BitVec 32 := Scalar.subi v1547 c1_i32_1268
  let v2293 : Index := Scalar.indexCast v2292
  let c14_1269 : Index := 14#32
  let c0_1270 : Index := 0#32
  let c0_1271 : Index := 0#32
  ![v2293.toNat, 14, 0, 0]
def k1_off45 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2296 : Index := Scalar.indexCast v1547
  let c14_1272 : Index := 14#32
  let c0_1273 : Index := 0#32
  let c0_1274 : Index := 0#32
  ![v2296.toNat, 14, 0, 0]
def k1_off46 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2299 : Index := Scalar.indexCast v1547
  let c14_1275 : Index := 14#32
  let c0_1276 : Index := 0#32
  ![v2299.toNat, 14, 0]
def k1_off47 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1291 : BitVec 32 := 1#32
  let v2344 : BitVec 32 := Scalar.subi v1547 c1_i32_1291
  let v2345 : Index := Scalar.indexCast v2344
  let c15_1292 : Index := 15#32
  let c0_1293 : Index := 0#32
  let c0_1294 : Index := 0#32
  ![v2345.toNat, 15, 0, 0]
def k1_off48 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2348 : Index := Scalar.indexCast v1547
  let c15_1295 : Index := 15#32
  let c0_1296 : Index := 0#32
  let c0_1297 : Index := 0#32
  ![v2348.toNat, 15, 0, 0]
def k1_off49 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2351 : Index := Scalar.indexCast v1547
  let c15_1298 : Index := 15#32
  let c0_1299 : Index := 0#32
  ![v2351.toNat, 15, 0]
def k1_off50 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1314 : BitVec 32 := 1#32
  let v2396 : BitVec 32 := Scalar.subi v1547 c1_i32_1314
  let v2397 : Index := Scalar.indexCast v2396
  let c16_1315 : Index := 16#32
  let c0_1316 : Index := 0#32
  let c0_1317 : Index := 0#32
  ![v2397.toNat, 16, 0, 0]
def k1_off51 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2400 : Index := Scalar.indexCast v1547
  let c16_1318 : Index := 16#32
  let c0_1319 : Index := 0#32
  let c0_1320 : Index := 0#32
  ![v2400.toNat, 16, 0, 0]
def k1_off52 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2403 : Index := Scalar.indexCast v1547
  let c16_1321 : Index := 16#32
  let c0_1322 : Index := 0#32
  ![v2403.toNat, 16, 0]
def k1_off53 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1337 : BitVec 32 := 1#32
  let v2448 : BitVec 32 := Scalar.subi v1547 c1_i32_1337
  let v2449 : Index := Scalar.indexCast v2448
  let c17_1338 : Index := 17#32
  let c0_1339 : Index := 0#32
  let c0_1340 : Index := 0#32
  ![v2449.toNat, 17, 0, 0]
def k1_off54 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2452 : Index := Scalar.indexCast v1547
  let c17_1341 : Index := 17#32
  let c0_1342 : Index := 0#32
  let c0_1343 : Index := 0#32
  ![v2452.toNat, 17, 0, 0]
def k1_off55 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2455 : Index := Scalar.indexCast v1547
  let c17_1344 : Index := 17#32
  let c0_1345 : Index := 0#32
  ![v2455.toNat, 17, 0]
def k1_off56 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1360 : BitVec 32 := 1#32
  let v2500 : BitVec 32 := Scalar.subi v1547 c1_i32_1360
  let v2501 : Index := Scalar.indexCast v2500
  let c18_1361 : Index := 18#32
  let c0_1362 : Index := 0#32
  let c0_1363 : Index := 0#32
  ![v2501.toNat, 18, 0, 0]
def k1_off57 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2504 : Index := Scalar.indexCast v1547
  let c18_1364 : Index := 18#32
  let c0_1365 : Index := 0#32
  let c0_1366 : Index := 0#32
  ![v2504.toNat, 18, 0, 0]
def k1_off58 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2507 : Index := Scalar.indexCast v1547
  let c18_1367 : Index := 18#32
  let c0_1368 : Index := 0#32
  ![v2507.toNat, 18, 0]
def k1_off59 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1383 : BitVec 32 := 1#32
  let v2552 : BitVec 32 := Scalar.subi v1547 c1_i32_1383
  let v2553 : Index := Scalar.indexCast v2552
  let c19_1384 : Index := 19#32
  let c0_1385 : Index := 0#32
  let c0_1386 : Index := 0#32
  ![v2553.toNat, 19, 0, 0]
def k1_off60 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2556 : Index := Scalar.indexCast v1547
  let c19_1387 : Index := 19#32
  let c0_1388 : Index := 0#32
  let c0_1389 : Index := 0#32
  ![v2556.toNat, 19, 0, 0]
def k1_off61 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2559 : Index := Scalar.indexCast v1547
  let c19_1390 : Index := 19#32
  let c0_1391 : Index := 0#32
  ![v2559.toNat, 19, 0]
def k1_off62 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1406 : BitVec 32 := 1#32
  let v2604 : BitVec 32 := Scalar.subi v1547 c1_i32_1406
  let v2605 : Index := Scalar.indexCast v2604
  let c20_1407 : Index := 20#32
  let c0_1408 : Index := 0#32
  let c0_1409 : Index := 0#32
  ![v2605.toNat, 20, 0, 0]
def k1_off63 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2608 : Index := Scalar.indexCast v1547
  let c20_1410 : Index := 20#32
  let c0_1411 : Index := 0#32
  let c0_1412 : Index := 0#32
  ![v2608.toNat, 20, 0, 0]
def k1_off64 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2611 : Index := Scalar.indexCast v1547
  let c20_1413 : Index := 20#32
  let c0_1414 : Index := 0#32
  ![v2611.toNat, 20, 0]
def k1_off65 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1429 : BitVec 32 := 1#32
  let v2656 : BitVec 32 := Scalar.subi v1547 c1_i32_1429
  let v2657 : Index := Scalar.indexCast v2656
  let c21_1430 : Index := 21#32
  let c0_1431 : Index := 0#32
  let c0_1432 : Index := 0#32
  ![v2657.toNat, 21, 0, 0]
def k1_off66 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2660 : Index := Scalar.indexCast v1547
  let c21_1433 : Index := 21#32
  let c0_1434 : Index := 0#32
  let c0_1435 : Index := 0#32
  ![v2660.toNat, 21, 0, 0]
def k1_off67 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2663 : Index := Scalar.indexCast v1547
  let c21_1436 : Index := 21#32
  let c0_1437 : Index := 0#32
  ![v2663.toNat, 21, 0]
def k1_off68 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1452 : BitVec 32 := 1#32
  let v2708 : BitVec 32 := Scalar.subi v1547 c1_i32_1452
  let v2709 : Index := Scalar.indexCast v2708
  let c22_1453 : Index := 22#32
  let c0_1454 : Index := 0#32
  let c0_1455 : Index := 0#32
  ![v2709.toNat, 22, 0, 0]
def k1_off69 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2712 : Index := Scalar.indexCast v1547
  let c22_1456 : Index := 22#32
  let c0_1457 : Index := 0#32
  let c0_1458 : Index := 0#32
  ![v2712.toNat, 22, 0, 0]
def k1_off70 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2715 : Index := Scalar.indexCast v1547
  let c22_1459 : Index := 22#32
  let c0_1460 : Index := 0#32
  ![v2715.toNat, 22, 0]
def k1_off71 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1475 : BitVec 32 := 1#32
  let v2760 : BitVec 32 := Scalar.subi v1547 c1_i32_1475
  let v2761 : Index := Scalar.indexCast v2760
  let c23_1476 : Index := 23#32
  let c0_1477 : Index := 0#32
  let c0_1478 : Index := 0#32
  ![v2761.toNat, 23, 0, 0]
def k1_off72 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2764 : Index := Scalar.indexCast v1547
  let c23_1479 : Index := 23#32
  let c0_1480 : Index := 0#32
  let c0_1481 : Index := 0#32
  ![v2764.toNat, 23, 0, 0]
def k1_off73 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2767 : Index := Scalar.indexCast v1547
  let c23_1482 : Index := 23#32
  let c0_1483 : Index := 0#32
  ![v2767.toNat, 23, 0]
def k1_off74 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1498 : BitVec 32 := 1#32
  let v2812 : BitVec 32 := Scalar.subi v1547 c1_i32_1498
  let v2813 : Index := Scalar.indexCast v2812
  let c24_1499 : Index := 24#32
  let c0_1500 : Index := 0#32
  let c0_1501 : Index := 0#32
  ![v2813.toNat, 24, 0, 0]
def k1_off75 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2816 : Index := Scalar.indexCast v1547
  let c24_1502 : Index := 24#32
  let c0_1503 : Index := 0#32
  let c0_1504 : Index := 0#32
  ![v2816.toNat, 24, 0, 0]
def k1_off76 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2819 : Index := Scalar.indexCast v1547
  let c24_1505 : Index := 24#32
  let c0_1506 : Index := 0#32
  ![v2819.toNat, 24, 0]
def k1_off77 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1521 : BitVec 32 := 1#32
  let v2864 : BitVec 32 := Scalar.subi v1547 c1_i32_1521
  let v2865 : Index := Scalar.indexCast v2864
  let c25_1522 : Index := 25#32
  let c0_1523 : Index := 0#32
  let c0_1524 : Index := 0#32
  ![v2865.toNat, 25, 0, 0]
def k1_off78 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2868 : Index := Scalar.indexCast v1547
  let c25_1525 : Index := 25#32
  let c0_1526 : Index := 0#32
  let c0_1527 : Index := 0#32
  ![v2868.toNat, 25, 0, 0]
def k1_off79 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2871 : Index := Scalar.indexCast v1547
  let c25_1528 : Index := 25#32
  let c0_1529 : Index := 0#32
  ![v2871.toNat, 25, 0]
def k1_off80 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1544 : BitVec 32 := 1#32
  let v2916 : BitVec 32 := Scalar.subi v1547 c1_i32_1544
  let v2917 : Index := Scalar.indexCast v2916
  let c26_1545 : Index := 26#32
  let c0_1546 : Index := 0#32
  let c0_1547 : Index := 0#32
  ![v2917.toNat, 26, 0, 0]
def k1_off81 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2920 : Index := Scalar.indexCast v1547
  let c26_1548 : Index := 26#32
  let c0_1549 : Index := 0#32
  let c0_1550 : Index := 0#32
  ![v2920.toNat, 26, 0, 0]
def k1_off82 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2923 : Index := Scalar.indexCast v1547
  let c26_1551 : Index := 26#32
  let c0_1552 : Index := 0#32
  ![v2923.toNat, 26, 0]
def k1_off83 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1567 : BitVec 32 := 1#32
  let v2968 : BitVec 32 := Scalar.subi v1547 c1_i32_1567
  let v2969 : Index := Scalar.indexCast v2968
  let c27_1568 : Index := 27#32
  let c0_1569 : Index := 0#32
  let c0_1570 : Index := 0#32
  ![v2969.toNat, 27, 0, 0]
def k1_off84 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2972 : Index := Scalar.indexCast v1547
  let c27_1571 : Index := 27#32
  let c0_1572 : Index := 0#32
  let c0_1573 : Index := 0#32
  ![v2972.toNat, 27, 0, 0]
def k1_off85 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v2975 : Index := Scalar.indexCast v1547
  let c27_1574 : Index := 27#32
  let c0_1575 : Index := 0#32
  ![v2975.toNat, 27, 0]
def k1_off86 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1590 : BitVec 32 := 1#32
  let v3020 : BitVec 32 := Scalar.subi v1547 c1_i32_1590
  let v3021 : Index := Scalar.indexCast v3020
  let c28_1591 : Index := 28#32
  let c0_1592 : Index := 0#32
  let c0_1593 : Index := 0#32
  ![v3021.toNat, 28, 0, 0]
def k1_off87 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3024 : Index := Scalar.indexCast v1547
  let c28_1594 : Index := 28#32
  let c0_1595 : Index := 0#32
  let c0_1596 : Index := 0#32
  ![v3024.toNat, 28, 0, 0]
def k1_off88 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3027 : Index := Scalar.indexCast v1547
  let c28_1597 : Index := 28#32
  let c0_1598 : Index := 0#32
  ![v3027.toNat, 28, 0]
def k1_off89 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1613 : BitVec 32 := 1#32
  let v3072 : BitVec 32 := Scalar.subi v1547 c1_i32_1613
  let v3073 : Index := Scalar.indexCast v3072
  let c29_1614 : Index := 29#32
  let c0_1615 : Index := 0#32
  let c0_1616 : Index := 0#32
  ![v3073.toNat, 29, 0, 0]
def k1_off90 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3076 : Index := Scalar.indexCast v1547
  let c29_1617 : Index := 29#32
  let c0_1618 : Index := 0#32
  let c0_1619 : Index := 0#32
  ![v3076.toNat, 29, 0, 0]
def k1_off91 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3079 : Index := Scalar.indexCast v1547
  let c29_1620 : Index := 29#32
  let c0_1621 : Index := 0#32
  ![v3079.toNat, 29, 0]
def k1_off92 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1636 : BitVec 32 := 1#32
  let v3124 : BitVec 32 := Scalar.subi v1547 c1_i32_1636
  let v3125 : Index := Scalar.indexCast v3124
  let c30_1637 : Index := 30#32
  let c0_1638 : Index := 0#32
  let c0_1639 : Index := 0#32
  ![v3125.toNat, 30, 0, 0]
def k1_off93 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3128 : Index := Scalar.indexCast v1547
  let c30_1640 : Index := 30#32
  let c0_1641 : Index := 0#32
  let c0_1642 : Index := 0#32
  ![v3128.toNat, 30, 0, 0]
def k1_off94 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3131 : Index := Scalar.indexCast v1547
  let c30_1643 : Index := 30#32
  let c0_1644 : Index := 0#32
  ![v3131.toNat, 30, 0]
def k1_off95 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let c1_i32_1659 : BitVec 32 := 1#32
  let v3176 : BitVec 32 := Scalar.subi v1547 c1_i32_1659
  let v3177 : Index := Scalar.indexCast v3176
  let c31_1660 : Index := 31#32
  let c0_1661 : Index := 0#32
  let c0_1662 : Index := 0#32
  ![v3177.toNat, 31, 0, 0]
def k1_off96 (k1_t1 : Fin k1_t1_loop.trips) : Fin 4 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3180 : Index := Scalar.indexCast v1547
  let c31_1663 : Index := 31#32
  let c0_1664 : Index := 0#32
  let c0_1665 : Index := 0#32
  ![v3180.toNat, 31, 0, 0]
def k1_off97 (k1_t1 : Fin k1_t1_loop.trips) : Fin 3 → Nat :=
  let c15_i32_934 : BitVec 32 := 15#32
  let c0_i32_1 : BitVec 32 := 0#32
  let c1_i32 : BitVec 32 := 1#32
  let arg18 : BitVec 32 := Scf.iv c0_i32_1 c1_i32 k1_t1
  let v1547 : BitVec 32 := Scalar.subi c15_i32_934 arg18
  let v3183 : Index := Scalar.indexCast v1547
  let c31_1666 : Index := 31#32
  let c0_1667 : Index := 0#32
  ![v3183.toNat, 31, 0]
def cc1_transform_0 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 4 → Nat :=
  let arg0 : BitVec 32 := BitVec.ofNat 32 (i 0).val
  let c127_i32 : BitVec 32 := 127#32
  let v0 : BitVec 32 := Scalar.subi c127_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc1_transform_8 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_9 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_11 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_12 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_13 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_14 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc1_transform_15 (i : grid1.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S16x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x32x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x32x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x32x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S16x32x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S16x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S16x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S16x64x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S16x64x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S16x64x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S16x32x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== OutX.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutW.lean ====
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OddX.lean ====
abbrev S4096x12288 : Shape := ⟨2, ![4096, 12288]⟩
abbrev S12288x4096 : Shape := ⟨2, ![12288, 4096]⟩
abbrev S4096x4096 : Shape := ⟨2, ![4096, 4096]⟩
abbrev S2048x1536 : Shape := ⟨2, ![2048, 1536]⟩
abbrev S1536x1024 : Shape := ⟨2, ![1536, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x12288, .f32⟩
  | .hbm, ⟨1, _⟩ => ⟨S4096x12288, .f32⟩
  | .hbm, ⟨2, _⟩ => ⟨S4096x12288, .bf16⟩
  | .hbm, ⟨3, _⟩ => ⟨S12288x4096, .f32⟩
  | .hbm, ⟨4, _⟩ => ⟨S12288x4096, .bf16⟩
  | .hbm, ⟨5, _⟩ => ⟨S4096x4096, .f32⟩
  | .local _ .vmem, ⟨0, _⟩ => ⟨S2048x1536, .bf16⟩
  | .local _ .vmem, ⟨1, _⟩ => ⟨S2048x1536, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddXRefIdeal.lean ====
abbrev S4096x12288 : Shape := ⟨2, ![4096, 12288]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x12288, .f32⟩
  | .hbm, ⟨2, _⟩ => ⟨S_, .f32⟩
  | .hbm, ⟨3, _⟩ => ⟨S4096x4096, .f32⟩
  | .hbm, ⟨4, _⟩ => ⟨S4096x12288, .f32⟩
  | .hbm, ⟨5, _⟩ => ⟨S4096x4096, .f32⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OddW.lean ====
abbrev S4096x4096 : Shape := ⟨2, ![4096, 4096]⟩
abbrev S4096x12288 : Shape := ⟨2, ![4096, 12288]⟩
abbrev S12288x4096 : Shape := ⟨2, ![12288, 4096]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S4096x12288, .bf16⟩
  | .hbm, ⟨3, _⟩ => ⟨S4096x4096, .bf16⟩
  | .hbm, ⟨4, _⟩ => ⟨S12288x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddWRefIdeal.lean ====
abbrev S4096x4096 : Shape := ⟨2, ![4096, 4096]⟩
abbrev S4096x12288 : Shape := ⟨2, ![4096, 12288]⟩
abbrev S_ : Shape := ⟨0, ![]⟩
abbrev S12288x4096 : Shape := ⟨2, ![12288, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S_, .f32⟩
  | .hbm, ⟨3, _⟩ => ⟨S4096x12288, .f32⟩
  | .hbm, ⟨4, _⟩ => ⟨S4096x12288, .f32⟩
  | .hbm, ⟨5, _⟩ => ⟨S12288x4096, .f32⟩
  | .hbm, ⟨6, _⟩ => ⟨S4096x12288, .f32⟩
  | .hbm, ⟨7, _⟩ => ⟨S12288x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvenX.lean ====
abbrev S4096x16640 : Shape := ⟨2, ![4096, 16640]⟩
abbrev S16640x4096 : Shape := ⟨2, ![16640, 4096]⟩
abbrev S4096x4096 : Shape := ⟨2, ![4096, 4096]⟩
abbrev S2048x1280 : Shape := ⟨2, ![2048, 1280]⟩
abbrev S1280x1024 : Shape := ⟨2, ![1280, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x16640, .f32⟩
  | .hbm, ⟨1, _⟩ => ⟨S4096x16640, .f32⟩
  | .hbm, ⟨2, _⟩ => ⟨S4096x16640, .bf16⟩
  | .hbm, ⟨3, _⟩ => ⟨S16640x4096, .f32⟩
  | .hbm, ⟨4, _⟩ => ⟨S16640x4096, .bf16⟩
  | .hbm, ⟨5, _⟩ => ⟨S4096x4096, .f32⟩
  | .local _ .vmem, ⟨0, _⟩ => ⟨S2048x1280, .bf16⟩
  | .local _ .vmem, ⟨1, _⟩ => ⟨S2048x1280, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x16640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 13], ![false, false, false]⟩

def k0_cond3 (i : grid0.Coords) : BitVec 1 :=
  let arg2 : BitVec 32 := BitVec.ofNat 32 (i 2).val
  let c12_i32 : BitVec 32 := 12#32
  let v6 : BitVec 1 := Scalar.cmpi .eq arg2 c12_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenXRefIdeal.lean ====
abbrev S4096x16640 : Shape := ⟨2, ![4096, 16640]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x16640, .f32⟩
  | .hbm, ⟨1, _⟩ => ⟨S4096x16640, .f32⟩
  | .hbm, ⟨2, _⟩ => ⟨S_, .f32⟩
  | .hbm, ⟨3, _⟩ => ⟨S4096x4096, .f32⟩
  | .hbm, ⟨4, _⟩ => ⟨S4096x16640, .f32⟩
  | .hbm, ⟨5, _⟩ => ⟨S4096x4096, .f32⟩
  | _, _ => ⟨S4096x16640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== EvenW.lean ====
abbrev S4096x4096 : Shape := ⟨2, ![4096, 4096]⟩
abbrev S4096x16640 : Shape := ⟨2, ![4096, 16640]⟩
abbrev S16640x4096 : Shape := ⟨2, ![16640, 4096]⟩
abbrev S1024x1280 : Shape := ⟨2, ![1024, 1280]⟩
abbrev S1024x2048 : Shape := ⟨2, ![1024, 2048]⟩
abbrev S1280x2048 : Shape := ⟨2, ![1280, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x16640, .f32⟩
  | .hbm, ⟨2, _⟩ => ⟨S4096x16640, .bf16⟩
  | .hbm, ⟨3, _⟩ => ⟨S4096x4096, .bf16⟩
  | .hbm, ⟨4, _⟩ => ⟨S16640x4096, .bf16⟩
  | .local _ .vmem, ⟨0, _⟩ => ⟨S1024x1280, .bf16⟩
  | .local _ .vmem, ⟨1, _⟩ => ⟨S1024x1280, .bf16⟩
  | .local _ .vmem, ⟨2, _⟩ => ⟨S1024x2048, .bf16⟩
  | .local _ .vmem, ⟨3, _⟩ => ⟨S1024x2048, .bf16⟩
  | .local _ .vmem, ⟨4, _⟩ => ⟨S1280x2048, .bf16⟩
  | .local _ .vmem, ⟨5, _⟩ => ⟨S1280x2048, .bf16⟩
  | .local _ .vmem, ⟨6, _⟩ => ⟨S1280x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenWRefIdeal.lean ====
abbrev S4096x4096 : Shape := ⟨2, ![4096, 4096]⟩
abbrev S4096x16640 : Shape := ⟨2, ![4096, 16640]⟩
abbrev S_ : Shape := ⟨0, ![]⟩
abbrev S16640x4096 : Shape := ⟨2, ![16640, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16640, .f32⟩
  | .hbm, ⟨2, _⟩ => ⟨S_, .f32⟩
  | .hbm, ⟨3, _⟩ => ⟨S4096x16640, .f32⟩
  | .hbm, ⟨4, _⟩ => ⟨S4096x16640, .f32⟩
  | .hbm, ⟨5, _⟩ => ⟨S16640x4096, .f32⟩
  | .hbm, ⟨6, _⟩ => ⟨S4096x16640, .f32⟩
  | .hbm, ⟨7, _⟩ => ⟨S16640x4096, .f32⟩
  | .hbm, ⟨8, _⟩ => ⟨S16640x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenIn.lean ====
abbrev S4096x4096 : Shape := ⟨2, ![4096, 4096]⟩
abbrev S4096x16640 : Shape := ⟨2, ![4096, 16640]⟩
abbrev S16640x4096 : Shape := ⟨2, ![16640, 4096]⟩
abbrev S1024x4096 : Shape := ⟨2, ![1024, 4096]⟩
abbrev S1280x4096 : Shape := ⟨2, ![1280, 4096]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x16640, .f32⟩
  | .hbm, ⟨2, _⟩ => ⟨S4096x4096, .bf16⟩
  | .hbm, ⟨3, _⟩ => ⟨S16640x4096, .f32⟩
  | .hbm, ⟨4, _⟩ => ⟨S16640x4096, .bf16⟩
  | .hbm, ⟨5, _⟩ => ⟨S4096x16640, .f32⟩
  | .local _ .vmem, ⟨0, _⟩ => ⟨S1024x4096, .bf16⟩
  | .local _ .vmem, ⟨1, _⟩ => ⟨S1024x4096, .bf16⟩
  | .local _ .vmem, ⟨2, _⟩ => ⟨S1280x4096, .bf16⟩
  | .local _ .vmem, ⟨3, _⟩ => ⟨S1280x4096, .bf16⟩
  | .local _ .vmem, ⟨4, _⟩ => ⟨S1024x1280, .f32⟩
  | .local _ .vmem, ⟨5, _⟩ => ⟨S1024x1280, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInRefIdeal.lean ====
abbrev S4096x4096 : Shape := ⟨2, ![4096, 4096]⟩
abbrev S4096x16640 : Shape := ⟨2, ![4096, 16640]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16640, .f32⟩
  | .hbm, ⟨2, _⟩ => ⟨S4096x16640, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OddIn.lean ====
abbrev S4096x4096 : Shape := ⟨2, ![4096, 4096]⟩
abbrev S4096x12288 : Shape := ⟨2, ![4096, 12288]⟩
abbrev S12288x4096 : Shape := ⟨2, ![12288, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S4096x4096, .bf16⟩
  | .hbm, ⟨3, _⟩ => ⟨S12288x4096, .f32⟩
  | .hbm, ⟨4, _⟩ => ⟨S12288x4096, .bf16⟩
  | .hbm, ⟨5, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInRefIdeal.lean ====
abbrev S4096x4096 : Shape := ⟨2, ![4096, 4096]⟩
abbrev S4096x12288 : Shape := ⟨2, ![4096, 12288]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x12288, .f32⟩
  | .hbm, ⟨2, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Out.lean ====
abbrev S4096x4096 : Shape := ⟨2, ![4096, 4096]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AdamEvenIn.lean ====
abbrev S4096x2080 : Shape := ⟨2, ![4096, 2080]⟩
abbrev S64x2080 : Shape := ⟨2, ![64, 2080]⟩

abbrev nBuf : Space → Nat
  | .hbm => 7
  | .vmem => 14
  | .smem => 0
  | _ => 0

abbrev bufTy : (tb : Table) → Fin (tcTables nBuf tb) → BufTy
  | .hbm, ⟨0, _⟩ => ⟨S4096x2080, .f32⟩
  | .hbm, ⟨1, _⟩ => ⟨S4096x2080, .f32⟩
  | .hbm, ⟨2, _⟩ => ⟨S4096x2080, .f32⟩
  | .hbm, ⟨3, _⟩ => ⟨S4096x2080, .f32⟩
  | .hbm, ⟨4, _⟩ => ⟨S4096x2080, .f32⟩
  | .hbm, ⟨5, _⟩ => ⟨S4096x2080, .f32⟩
  | .hbm, ⟨6, _⟩ => ⟨S4096x2080, .f32⟩
  | .local _ .vmem, ⟨0, _⟩ => ⟨S64x2080, .f32⟩
  | .local _ .vmem, ⟨1, _⟩ => ⟨S64x2080, .f32⟩
  | .local _ .vmem, ⟨2, _⟩ => ⟨S64x2080, .f32⟩
  | .local _ .vmem, ⟨3, _⟩ => ⟨S64x2080, .f32⟩
  | .local _ .vmem, ⟨4, _⟩ => ⟨S64x2080, .f32⟩
  | .local _ .vmem, ⟨5, _⟩ => ⟨S64x2080, .f32⟩
  | .local _ .vmem, ⟨6, _⟩ => ⟨S64x2080, .f32⟩
  | .local _ .vmem, ⟨7, _⟩ => ⟨S64x2080, .f32⟩
  | .local _ .vmem, ⟨8, _⟩ => ⟨S64x2080, .f32⟩
  | .local _ .vmem, ⟨9, _⟩ => ⟨S64x2080, .f32⟩
  | .local _ .vmem, ⟨10, _⟩ => ⟨S64x2080, .f32⟩
  | .local _ .vmem, ⟨11, _⟩ => ⟨S64x2080, .f32⟩
  | .local _ .vmem, ⟨12, _⟩ => ⟨S64x2080, .f32⟩
  | .local _ .vmem, ⟨13, _⟩ => ⟨S64x2080, .f32⟩
  | _, _ => ⟨S4096x2080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2080 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2080 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2080 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2080 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2080 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInIdeal.lean ====
abbrev S4096x2080 : Shape := ⟨2, ![4096, 2080]⟩
abbrev S64x2080 : Shape := ⟨2, ![64, 2080]⟩

abbrev nBuf : Space → Nat
  | .hbm => 7
  | .vmem => 14
  | .smem => 0
  | _ => 0

abbrev bufTy : (tb : Table) → Fin (tcTables nBuf tb) → BufTy
  | .hbm, ⟨0, _⟩ => ⟨S4096x2080, .f32⟩
  | .hbm, ⟨1, _⟩ => ⟨S4096x2080, .f32⟩
  | .hbm, ⟨2, _⟩ => ⟨S4096x2080, .f32⟩
  | .hbm, ⟨3, _⟩ => ⟨S4096x2080, .f32⟩
  | .hbm, ⟨4, _⟩ => ⟨S4096x2080, .f32⟩
  | .hbm, ⟨5, _⟩ => ⟨S4096x2080, .f32⟩
  | .hbm, ⟨6, _⟩ => ⟨S4096x2080, .f32⟩
  | .local _ .vmem, ⟨0, _⟩ => ⟨S64x2080, .f32⟩
  | .local _ .vmem, ⟨1, _⟩ => ⟨S64x2080, .f32⟩
  | .local _ .vmem, ⟨2, _⟩ => ⟨S64x2080, .f32⟩
  | .local _ .vmem, ⟨3, _⟩ => ⟨S64x2080, .f32⟩
  | .local _ .vmem, ⟨4, _⟩ => ⟨S64x2080, .f32⟩
  | .local _ .vmem, ⟨5, _⟩ => ⟨S64x2080, .f32⟩
  | .local _ .vmem, ⟨6, _⟩ => ⟨S64x2080, .f32⟩
  | .local _ .vmem, ⟨7, _⟩ => ⟨S64x2080, .f32⟩
  | .local _ .vmem, ⟨8, _⟩ => ⟨S64x2080, .f32⟩
  | .local _ .vmem, ⟨9, _⟩ => ⟨S64x2080, .f32⟩
  | .local _ .vmem, ⟨10, _⟩ => ⟨S64x2080, .f32⟩
  | .local _ .vmem, ⟨11, _⟩ => ⟨S64x2080, .f32⟩
  | .local _ .vmem, ⟨12, _⟩ => ⟨S64x2080, .f32⟩
  | .local _ .vmem, ⟨13, _⟩ => ⟨S64x2080, .f32⟩
  | _, _ => ⟨S4096x2080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2080 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2080 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2080 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2080 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2080 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvenInRefIdeal.lean ====
abbrev S4096x2080 : Shape := ⟨2, ![4096, 2080]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2080, .f32⟩
  | .hbm, ⟨1, _⟩ => ⟨S4096x2080, .f32⟩
  | .hbm, ⟨2, _⟩ => ⟨S4096x2080, .f32⟩
  | .hbm, ⟨3, _⟩ => ⟨S4096x2080, .f32⟩
  | .hbm, ⟨4, _⟩ => ⟨S_, .f32⟩
  | .hbm, ⟨5, _⟩ => ⟨S4096x2080, .f32⟩
  | .hbm, ⟨6, _⟩ => ⟨S4096x2080, .f32⟩
  | .hbm, ⟨7, _⟩ => ⟨S_, .f32⟩
  | .hbm, ⟨8, _⟩ => ⟨S4096x2080, .f32⟩
  | .hbm, ⟨9, _⟩ => ⟨S4096x2080, .f32⟩
  | .hbm, ⟨10, _⟩ => ⟨S4096x2080, .f32⟩
  | .hbm, ⟨11, _⟩ => ⟨S_, .f32⟩
  | .hbm, ⟨12, _⟩ => ⟨S4096x2080, .f32⟩
  | .hbm, ⟨13, _⟩ => ⟨S4096x2080, .f32⟩
  | .hbm, ⟨14, _⟩ => ⟨S4096x2080, .f32⟩
  | .hbm, ⟨15, _⟩ => ⟨S_, .f32⟩
  | .hbm, ⟨16, _⟩ => ⟨S4096x2080, .f32⟩
  | .hbm, ⟨17, _⟩ => ⟨S4096x2080, .f32⟩
  | .hbm, ⟨18, _⟩ => ⟨S4096x2080, .f32⟩
  | .hbm, ⟨19, _⟩ => ⟨S_, .f32⟩
  | .hbm, ⟨20, _⟩ => ⟨S4096x2080, .f32⟩
  | .hbm, ⟨21, _⟩ => ⟨S4096x2080, .f32⟩
  | .hbm, ⟨22, _⟩ => ⟨S_, .f32⟩
  | .hbm, ⟨23, _⟩ => ⟨S4096x2080, .f32⟩
  | .hbm, ⟨24, _⟩ => ⟨S4096x2080, .f32⟩
  | .hbm, ⟨25, _⟩ => ⟨S4096x2080, .f32⟩
  | .hbm, ⟨26, _⟩ => ⟨S_, .f32⟩
  | .hbm, ⟨27, _⟩ => ⟨S4096x2080, .f32⟩
  | .hbm, ⟨28, _⟩ => ⟨S4096x2080, .f32⟩
  | .hbm, ⟨29, _⟩ => ⟨S4096x2080, .f32⟩
  | .hbm, ⟨30, _⟩ => ⟨S_, .f32⟩
  | .hbm, ⟨31, _⟩ => ⟨S4096x2080, .f32⟩
  | .hbm, ⟨32, _⟩ => ⟨S4096x2080, .f32⟩
  | .hbm, ⟨33, _⟩ => ⟨S4096x2080, .f32⟩
  | .hbm, ⟨34, _⟩ => ⟨S_, .f32⟩
  | .hbm, ⟨35, _⟩ => ⟨S4096x2080, .f32⟩
  | .hbm, ⟨36, _⟩ => ⟨S4096x2080, .f32⟩
  | _, _ => ⟨S4096x2080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOddIn.lean ====
abbrev S4096x1536 : Shape := ⟨2, ![4096, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOddInIdeal.lean ====
abbrev S4096x1536 : Shape := ⟨2, ![4096, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOddInRefIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x4096 : Shape := ⟨2, ![512, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x4096 : Shape := ⟨2, ![512, 4096]⟩
abbrev S64x4096 : Shape := ⟨2, ![64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x4096 : Shape := ⟨2, ![512, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512x4096, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S_, .f32⟩
  | .hbm, ⟨12, _⟩ => ⟨S512x4096, .f32⟩
  | .hbm, ⟨13, _⟩ => ⟨S512x4096, .f32⟩
  | .hbm, ⟨14, _⟩ => ⟨S512x4096, .f32⟩
  | .hbm, ⟨15, _⟩ => ⟨S_, .f32⟩
  | .hbm, ⟨16, _⟩ => ⟨S512x4096, .f32⟩
  | .hbm, ⟨17, _⟩ => ⟨S512x4096, .f32⟩
  | .hbm, ⟨18, _⟩ => ⟨S512x4096, .f32⟩
  | .hbm, ⟨19, _⟩ => ⟨S_, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S_, .f32⟩
  | .hbm, ⟨27, _⟩ => ⟨S512x4096, .f32⟩
  | .hbm, ⟨28, _⟩ => ⟨S512x4096, .f32⟩
  | .hbm, ⟨29, _⟩ => ⟨S512x4096, .f32⟩
  | .hbm, ⟨30, _⟩ => ⟨S_, .f32⟩
  | .hbm, ⟨31, _⟩ => ⟨S512x4096, .f32⟩
  | .hbm, ⟨32, _⟩ => ⟨S512x4096, .f32⟩
  | .hbm, ⟨33, _⟩ => ⟨S512x4096, .f32⟩
  | .hbm, ⟨34, _⟩ => ⟨S_, .f32⟩
  | .hbm, ⟨35, _⟩ => ⟨S512x4096, .f32⟩
  | .hbm, ⟨36, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S360x1024 : Shape := ⟨2, ![360, 1024]⟩
abbrev S120x1024 : Shape := ⟨2, ![120, 1024]⟩

abbrev nBuf : Space → Nat
  | .hbm => 7
  | .vmem => 14
  | .smem => 0
  | _ => 0

abbrev bufTy : (tb : Table) → Fin (tcTables nBuf tb) → BufTy
  | .hbm, ⟨0, _⟩ => ⟨S360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S360x1024, .f32⟩
  | .hbm, ⟨5, _⟩ => ⟨S360x1024, .f32⟩
  | .hbm, ⟨6, _⟩ => ⟨S360x1024, .f32⟩
  | .local _ .vmem, ⟨0, _⟩ => ⟨S120x1024, .f32⟩
  | .local _ .vmem, ⟨1, _⟩ => ⟨S120x1024, .f32⟩
  | .local _ .vmem, ⟨2, _⟩ => ⟨S120x1024, .f32⟩
  | .local _ .vmem, ⟨3, _⟩ => ⟨S120x1024, .f32⟩
  | .local _ .vmem, ⟨4, _⟩ => ⟨S120x1024, .f32⟩
  | .local _ .vmem, ⟨5, _⟩ => ⟨S120x1024, .f32⟩
  | .local _ .vmem, ⟨6, _⟩ => ⟨S120x1024, .f32⟩
  | .local _ .vmem, ⟨7, _⟩ => ⟨S120x1024, .f32⟩
  | .local _ .vmem, ⟨8, _⟩ => ⟨S120x1024, .f32⟩
  | .local _ .vmem, ⟨9, _⟩ => ⟨S120x1024, .f32⟩
  | .local _ .vmem, ⟨10, _⟩ => ⟨S120x1024, .f32⟩
  | .local _ .vmem, ⟨11, _⟩ => ⟨S120x1024, .f32⟩
  | .local _ .vmem, ⟨12, _⟩ => ⟨S120x1024, .f32⟩
  | .local _ .vmem, ⟨13, _⟩ => ⟨S120x1024, .f32⟩
  | _, _ => ⟨S360x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S120x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S120x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S120x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S120x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S120x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S120x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S120x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S360x1024 : Shape := ⟨2, ![360, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S360x1024, .f32⟩
  | .hbm, ⟨1, _⟩ => ⟨S360x1024, .f32⟩
  | .hbm, ⟨2, _⟩ => ⟨S360x1024, .f32⟩
  | .hbm, ⟨3, _⟩ => ⟨S360x1024, .f32⟩
  | .hbm, ⟨4, _⟩ => ⟨S_, .f32⟩
  | .hbm, ⟨5, _⟩ => ⟨S360x1024, .f32⟩
  | .hbm, ⟨6, _⟩ => ⟨S360x1024, .f32⟩
  | .hbm, ⟨7, _⟩ => ⟨S_, .f32⟩
  | .hbm, ⟨8, _⟩ => ⟨S360x1024, .f32⟩
  | .hbm, ⟨9, _⟩ => ⟨S360x1024, .f32⟩
  | .hbm, ⟨10, _⟩ => ⟨S360x1024, .f32⟩
  | .hbm, ⟨11, _⟩ => ⟨S_, .f32⟩
  | .hbm, ⟨12, _⟩ => ⟨S360x1024, .f32⟩
  | .hbm, ⟨13, _⟩ => ⟨S360x1024, .f32⟩
  | .hbm, ⟨14, _⟩ => ⟨S360x1024, .f32⟩
  | .hbm, ⟨15, _⟩ => ⟨S_, .f32⟩
  | .hbm, ⟨16, _⟩ => ⟨S360x1024, .f32⟩
  | .hbm, ⟨17, _⟩ => ⟨S360x1024, .f32⟩
  | .hbm, ⟨18, _⟩ => ⟨S360x1024, .f32⟩
  | .hbm, ⟨19, _⟩ => ⟨S_, .f32⟩
  | .hbm, ⟨20, _⟩ => ⟨S360x1024, .f32⟩
  | .hbm, ⟨21, _⟩ => ⟨S360x1024, .f32⟩
  | .hbm, ⟨22, _⟩ => ⟨S_, .f32⟩
  | .hbm, ⟨23, _⟩ => ⟨S360x1024, .f32⟩
  | .hbm, ⟨24, _⟩ => ⟨S360x1024, .f32⟩
  | .hbm, ⟨25, _⟩ => ⟨S360x1024, .f32⟩
  | .hbm, ⟨26, _⟩ => ⟨S_, .f32⟩
  | .hbm, ⟨27, _⟩ => ⟨S360x1024, .f32⟩
  | .hbm, ⟨28, _⟩ => ⟨S360x1024, .f32⟩
  | .hbm, ⟨29, _⟩ => ⟨S360x1024, .f32⟩
  | .hbm, ⟨30, _⟩ => ⟨S_, .f32⟩
  | .hbm, ⟨31, _⟩ => ⟨S360x1024, .f32⟩
  | .hbm, ⟨32, _⟩ => ⟨S360x1024, .f32⟩
  | .hbm, ⟨33, _⟩ => ⟨S360x1024, .f32⟩
  | .hbm, ⟨34, _⟩ => ⟨S_, .f32⟩
  | .hbm, ⟨35, _⟩ => ⟨S360x1024, .f32⟩
  | .hbm, ⟨36, _⟩ => ⟨S360x1024, .f32⟩
  | _, _ => ⟨S360x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsFwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsBwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S4096x4096 : Shape := ⟨2, ![4096, 4096]⟩
abbrev S1x4096 : Shape := ⟨2, ![1, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S4096 : Shape := ⟨1, ![4096]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x1, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S1x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== SumEvenIn.lean ====
abbrev S4x2080x4096 : Shape := ⟨3, ![4, 2080, 4096]⟩
abbrev S2080x4096 : Shape := ⟨2, ![2080, 4096]⟩
abbrev S4x32x4096 : Shape := ⟨3, ![4, 32, 4096]⟩
abbrev S32x4096 : Shape := ⟨2, ![32, 4096]⟩
abbrev S1x32x4096 : Shape := ⟨3, ![1, 32, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x2080x4096, .bf16⟩
  | .hbm, ⟨1, _⟩ => ⟨S2080x4096, .f32⟩
  | .local _ .vmem, ⟨0, _⟩ => ⟨S4x32x4096, .bf16⟩
  | .local _ .vmem, ⟨1, _⟩ => ⟨S4x32x4096, .bf16⟩
  | .local _ .vmem, ⟨2, _⟩ => ⟨S32x4096, .f32⟩
  | .local _ .vmem, ⟨3, _⟩ => ⟨S32x4096, .f32⟩
  | _, _ => ⟨S4x2080x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumEvenInIdeal.lean ====
abbrev S4x2080x4096 : Shape := ⟨3, ![4, 2080, 4096]⟩
abbrev S2080x4096 : Shape := ⟨2, ![2080, 4096]⟩
abbrev S4x32x4096 : Shape := ⟨3, ![4, 32, 4096]⟩
abbrev S32x4096 : Shape := ⟨2, ![32, 4096]⟩
abbrev S1x32x4096 : Shape := ⟨3, ![1, 32, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x2080x4096, .bf16⟩
  | .hbm, ⟨1, _⟩ => ⟨S2080x4096, .f32⟩
  | .local _ .vmem, ⟨0, _⟩ => ⟨S4x32x4096, .bf16⟩
  | .local _ .vmem, ⟨1, _⟩ => ⟨S4x32x4096, .bf16⟩
  | .local _ .vmem, ⟨2, _⟩ => ⟨S32x4096, .f32⟩
  | .local _ .vmem, ⟨3, _⟩ => ⟨S32x4096, .f32⟩
  | _, _ => ⟨S4x2080x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumEvenInRefIdeal.lean ====
abbrev S4x2080x4096 : Shape := ⟨3, ![4, 2080, 4096]⟩
abbrev S_ : Shape := ⟨0, ![]⟩
abbrev S2080x4096 : Shape := ⟨2, ![2080, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x2080x4096, .bf16⟩
  | .hbm, ⟨1, _⟩ => ⟨S4x2080x4096, .f32⟩
  | .hbm, ⟨2, _⟩ => ⟨S_, .f32⟩
  | .hbm, ⟨3, _⟩ => ⟨S2080x4096, .f32⟩
  | _, _ => ⟨S4x2080x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOddIn.lean ====
abbrev S4x1536x4096 : Shape := ⟨3, ![4, 1536, 4096]⟩
abbrev S1536x4096 : Shape := ⟨2, ![1536, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x1536x4096, .bf16⟩
  | .hbm, ⟨1, _⟩ => ⟨S1536x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOddInIdeal.lean ====
abbrev S4x1536x4096 : Shape := ⟨3, ![4, 1536, 4096]⟩
abbrev S1536x4096 : Shape := ⟨2, ![1536, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x1536x4096, .bf16⟩
  | .hbm, ⟨1, _⟩ => ⟨S1536x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | _, _ => ⟨S4x1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOddInRefIdeal.lean ====
abbrev S4x1536x4096 : Shape := ⟨3, ![4, 1536, 4096]⟩
abbrev S_ : Shape := ⟨0, ![]⟩
abbrev S1536x4096 : Shape := ⟨2, ![1536, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1536x4096, .bf16⟩
  | .hbm, ⟨1, _⟩ => ⟨S4x1536x4096, .f32⟩
  | .hbm, ⟨2, _⟩ => ⟨S_, .f32⟩
  | .hbm, ⟨3, _⟩ => ⟨S1536x4096, .f32⟩
  | _, _ => ⟨S4x1536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S4x512x4096 : Shape := ⟨3, ![4, 512, 4096]⟩
abbrev S512x4096 : Shape := ⟨2, ![512, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutIdeal.lean ====
abbrev S4x512x4096 : Shape := ⟨3, ![4, 512, 4096]⟩
abbrev S512x4096 : Shape := ⟨2, ![512, 4096]⟩
abbrev S4x64x4096 : Shape := ⟨3, ![4, 64, 4096]⟩
abbrev S64x4096 : Shape := ⟨2, ![64, 4096]⟩
abbrev S1x64x4096 : Shape := ⟨3, ![1, 64, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S64x4096, .f32⟩
  | .local _ .vmem, ⟨3, _⟩ => ⟨S64x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumOutRefIdeal.lean ====
abbrev S4x512x4096 : Shape := ⟨3, ![4, 512, 4096]⟩
abbrev S_ : Shape := ⟨0, ![]⟩
abbrev S512x4096 : Shape := ⟨2, ![512, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x512x4096, .f32⟩
  | .hbm, ⟨2, _⟩ => ⟨S_, .f32⟩
  | .hbm, ⟨3, _⟩ => ⟨S512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x360x1024 : Shape := ⟨3, ![8, 360, 1024]⟩
abbrev S360x1024 : Shape := ⟨2, ![360, 1024]⟩
abbrev S1x360x1024 : Shape := ⟨3, ![1, 360, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x360x1024, .f32⟩
  | .hbm, ⟨1, _⟩ => ⟨S360x1024, .f32⟩
  | .local _ .vmem, ⟨0, _⟩ => ⟨S8x360x1024, .f32⟩
  | .local _ .vmem, ⟨1, _⟩ => ⟨S360x1024, .f32⟩
  | _, _ => ⟨S8x360x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x360x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S360x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x360x1024 : Shape := ⟨3, ![8, 360, 1024]⟩
abbrev S_ : Shape := ⟨0, ![]⟩
abbrev S360x1024 : Shape := ⟨2, ![360, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x360x1024, .f32⟩
  | .hbm, ⟨1, _⟩ => ⟨S_, .f32⟩
  | .hbm, ⟨2, _⟩ => ⟨S360x1024, .f32⟩
  | _, _ => ⟨S8x360x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
  The two kernel bodies in block form. A body of either kernel is one time step repeated, and a time step is one
  state row repeated 32 times. The programs below say exactly that: reading and writing one row of a buffer, one
  state row's work, the 32 of them in order, a time step, a whole body.
-/
module

public import proofs.«01_k».proof.Proof.Gen.KernelIdeal.Skeleton

@[expose] public section

noncomputable section

namespace Cert.KernelIdeal.Steps

open Idealize.ShloMosaic Idealize.SL.Sem
open Cert.KernelIdeal.Facts₀

variable {F : FTy → Type} [FloatOps F]

/-- The programs of a kernel body. -/
abbrev P (F : FTy → Type) [FloatOps F] (α : Type) : Type 1 := Prog (TpuEff nD τ sig (Elt F) Λ₀ .tc) α

/-! ## One row -/

theorem inK {i : Nat} (hi : i < 16) : ∀ a, (![i, 0, 0] : Fin 3 → Nat) a + S1x64x128.size a ≤ S16x64x128.size a := by
  intro a; fin_cases a <;> simp [S1x64x128, S16x64x128] <;> omega
theorem inS {j : Nat} (hj : j < 32) : ∀ a, (![j, 0, 0] : Fin 3 → Nat) a + S1x64x128.size a ≤ S32x64x128.size a := by
  intro a; fin_cases a <;> simp [S1x64x128, S32x64x128] <;> omega
theorem inV {i j : Nat} (hi : i < 16) (hj : j < 32) :
    ∀ a, (![i, j, 0] : Fin 3 → Nat) a + S1x1x128.size a ≤ S16x32x128.size a := by
  intro a; fin_cases a <;> simp [S1x1x128, S16x32x128] <;> omega
theorem inH {i j : Nat} (hi : i < 16) (hj : j < 32) :
    ∀ a, (![i, j, 0, 0] : Fin 4 → Nat) a + S1x1x64x128.size a ≤ S16x32x64x128.size a := by
  intro a; fin_cases a <;> simp [S1x1x64x128, S16x32x64x128] <;> omega
theorem inB {j : Nat} (hj : j < 32) :
    ∀ a, (![0, j, 0, 0] : Fin 4 → Nat) a + S1x1x64x128.size a ≤ S1x32x64x128.size a := by
  intro a; fin_cases a <;> simp [S1x1x64x128, S1x32x64x128] <;> omega

/-- Row `i` of a block of 16 key rows. -/
def ldK (m : Memref sig .tc .vmem S16x64x128 .f32) (i : Nat) (hi : i < 16) : P F (FVec F S64x128 .f32) := do
  let x : Vec F S1x64x128 .f32 ← Prog.lift (.load m (Rect.unit (s := S16x64x128) ![i, 0, 0] S1x64x128.size (inK hi)).toLoadRect (View.loadsAt_vmem h_S1x64x128))
  pure (shapeCast S64x128 x shapeCasts_S1x64x128_S64x128)
/-- Row `j` of the 32 state rows carried between steps. -/
def ldS (m : Memref sig .tc .vmem S32x64x128 .f32) (j : Nat) (hj : j < 32) : P F (FVec F S64x128 .f32) := do
  let x : Vec F S1x64x128 .f32 ← Prog.lift (.load m (Rect.unit (s := S32x64x128) ![j, 0, 0] S1x64x128.size (inS hj)).toLoadRect (View.loadsAt_vmem h_S1x64x128))
  pure (shapeCast S64x128 x shapeCasts_S1x64x128_S64x128)
/-- Entry `(i, j)` of a block of 16 value rows. -/
def ldV (m : Memref sig .tc .vmem S16x32x128 .f32) (i j : Nat) (hi : i < 16) (hj : j < 32) : P F (FVec F S1x128 .f32) := do
  let x : Vec F S1x1x128 .f32 ← Prog.lift (.load m (Rect.unit (s := S16x32x128) ![i, j, 0] S1x1x128.size (inV hi hj)).toLoadRect (View.loadsAt_vmem h_S1x1x128))
  pure (shapeCast S1x128 x shapeCasts_S1x1x128_S1x128)
/-- State row `j` after step `i` of a block of 16 steps. -/
def ldH (m : Memref sig .tc .vmem S16x32x64x128 .f32) (i j : Nat) (hi : i < 16) (hj : j < 32) : P F (FVec F S64x128 .f32) := do
  let x : Vec F S1x1x64x128 .f32 ← Prog.lift (.load m (Rect.unit (s := S16x32x64x128) ![i, j, 0, 0] S1x1x64x128.size (inH hi hj)).toLoadRect (View.loadsAt_vmem h_S1x1x64x128))
  pure (shapeCast S64x128 x shapeCasts_S1x1x64x128_S64x128)
/-- State row `j` of the one step before a block. -/
def ldB (m : Memref sig .tc .vmem S1x32x64x128 .f32) (j : Nat) (hj : j < 32) : P F (FVec F S64x128 .f32) := do
  let x : Vec F S1x1x64x128 .f32 ← Prog.lift (.load m (Rect.unit (s := S1x32x64x128) ![0, j, 0, 0] S1x1x64x128.size (inB hj)).toLoadRect (View.loadsAt_vmem h_S1x1x64x128))
  pure (shapeCast S64x128 x shapeCasts_S1x1x64x128_S64x128)

def stK (m : Memref sig .tc .vmem S16x64x128 .f32) (i : Nat) (hi : i < 16) (x : FVec F S64x128 .f32) : P F PUnit := do
  let _ ← ldK m i hi
  Prog.lift (.store m (Rect.unit (s := S16x64x128) ![i, 0, 0] S1x64x128.size (inK hi)) (shapeCast S1x64x128 x shapeCasts_S64x128_S1x64x128) Finset.univ (View.stores_vmem_bits_univ h_S1x64x128 rfl) (.inl rfl))
def stS (m : Memref sig .tc .vmem S32x64x128 .f32) (j : Nat) (hj : j < 32) (x : FVec F S64x128 .f32) : P F PUnit := do
  let _ ← ldS m j hj
  Prog.lift (.store m (Rect.unit (s := S32x64x128) ![j, 0, 0] S1x64x128.size (inS hj)) (shapeCast S1x64x128 x shapeCasts_S64x128_S1x64x128) Finset.univ (View.stores_vmem_bits_univ h_S1x64x128 rfl) (.inl rfl))
def stV (m : Memref sig .tc .vmem S16x32x128 .f32) (i j : Nat) (hi : i < 16) (hj : j < 32) (x : FVec F S1x128 .f32) : P F PUnit := do
  let _ ← ldV m i j hi hj
  Prog.lift (.store m (Rect.unit (s := S16x32x128) ![i, j, 0] S1x1x128.size (inV hi hj)) (shapeCast S1x1x128 x shapeCasts_S1x128_S1x1x128) Finset.univ (View.stores_vmem_bits_univ h_S1x1x128 rfl) (.inl rfl))
def stH (m : Memref sig .tc .vmem S16x32x64x128 .f32) (i j : Nat) (hi : i < 16) (hj : j < 32) (x : FVec F S64x128 .f32) : P F PUnit := do
  let _ ← ldH m i j hi hj
  Prog.lift (.store m (Rect.unit (s := S16x32x64x128) ![i, j, 0, 0] S1x1x64x128.size (inH hi hj)) (shapeCast S1x1x64x128 x shapeCasts_S64x128_S1x1x64x128) Finset.univ (View.stores_vmem_bits_univ h_S1x1x64x128 rfl) (.inl rfl))

/-- The carried state rows set to zero. -/
def zeroS (m : Memref sig .tc .vmem S32x64x128 .f32) : P F PUnit := do
  let _ : Vec F S32x64x128 .f32 ← Prog.lift (.load m (Rect.unit (s := S32x64x128) ![0, 0, 0] S32x64x128.size inb_S32x64x128_S32x64x128_0_0_0).toLoadRect (View.loadsAt_vmem h_S32x64x128))
  Prog.lift (.store m (Rect.unit (s := S32x64x128) ![0, 0, 0] S32x64x128.size inb_S32x64x128_S32x64x128_0_0_0) (shapeCast S32x64x128 (broadcast S32x64x128 (Scalar.ofBits (F := F) .f32 0x00000000#32)) shapeCasts_S32x64x128_S32x64x128) Finset.univ (View.stores_vmem_bits_univ h_S32x64x128 rfl) (.inl rfl))

/-! ## What one state row's work computes -/

/-- The sum of a 64-row block over its rows. -/
def colSum (x : FVec F S64x128 .f32) : FVec F S1x128 .f32 :=
  shapeCast S1x128 (multiReduction .add [0] S128 x 0x00000000#32 reduces_S64x128_S128 (.inl rfl) rfl) shapeCasts_S128_S1x128
/-- One row repeated 64 times. -/
def spread (x : FVec F S1x128 .f32) : FVec F S64x128 .f32 := broadcastTo S64x128 x broadcasts_S1x128_S64x128
def zeroT : FVec F S64x128 .f32 := broadcast S64x128 (Scalar.ofBits (F := F) .f32 0x00000000#32)
def saOf (s kk : FVec F S64x128 .f32) : FVec F S1x128 .f32 :=
  subf (broadcast S1x128 (Scalar.ofBits (F := F) .f32 0x00000000#32)) (colSum (mulf s kk))
def snOf (s w b kx : FVec F S64x128 .f32) (sa v : FVec F S1x128 .f32) : FVec F S64x128 .f32 :=
  addf (addf (mulf s w) (mulf (spread sa) b)) (mulf (spread v) kx)
def bothOf (x : FVec F S64x128 .f32) : FVec F S64x128 .f32 := addf x (dynamicRotate 1 64#32 none x rotates_S64x128_d1)

/-! ## The forward kernel -/

section Fwd
variable (a1 a2 a3 a4 a5 : Memref sig .tc .vmem S16x64x128 .f32) (a6 a7 : Memref sig .tc .vmem S16x32x128 .f32)
  (a8 : Memref sig .tc .vmem S16x32x64x128 .f32) (a9 : Memref sig .tc .vmem S16x32x128 .f32) (a10 : Memref sig .tc .vmem S32x64x128 .f32)

/-- State row `j` of step `i`. -/
def frow (i : Nat) (hi : i < 16) (kk w b kx r : FVec F S64x128 .f32) (j : Nat) (hj : j < 32) : P F PUnit := do
  let s ← ldS a10 j hj
  let v ← ldV a6 i j hi hj
  stS a10 j hj (snOf s w b kx (saOf s kk) v)
  stH a8 i j hi hj (snOf s w b kx (saOf s kk) v)
  stV a9 i j hi hj (saOf s kk)
  stV a7 i j hi hj (colSum (mulf (snOf s w b kx (saOf s kk) v) r))

/-- `n` state rows from row `j` on. -/
def frows (i : Nat) (hi : i < 16) (kk w b kx r : FVec F S64x128 .f32) : (n j : Nat) → j + n ≤ 32 → P F PUnit
  | 0, _, _ => pure ⟨⟩
  | n + 1, j, h => do
    frow a6 a7 a8 a9 a10 i hi kk w b kx r j (by omega)
    frows i hi kk w b kx r n (j + 1) (by omega)

/-- Step `i` of a block. -/
def fstep (i : Nat) (hi : i < 16) : P F PUnit := do
  let kk ← ldK a1 i hi
  let w ← ldK a2 i hi
  let b ← ldK a3 i hi
  let kx ← ldK a4 i hi
  let r ← ldK a5 i hi
  frows a6 a7 a8 a9 a10 i hi kk w b kx r 32 0 (by omega)
end Fwd

/-! ## The backward kernel -/

section Bwd
variable (a1 a2 a3 a4 a5 : Memref sig .tc .vmem S16x64x128 .f32) (a6 : Memref sig .tc .vmem S16x32x128 .f32)
  (a7 : Memref sig .tc .vmem S16x32x64x128 .f32) (a8 : Memref sig .tc .vmem S1x32x64x128 .f32) (a9 a10 : Memref sig .tc .vmem S16x32x128 .f32)
  (a11 a12 a13 a14 a15 : Memref sig .tc .vmem S16x64x128 .f32) (a16 : Memref sig .tc .vmem S16x32x128 .f32) (a17 : Memref sig .tc .vmem S32x64x128 .f32)

/-- The five gradients a step sums over the state rows. -/
structure Acc (F : FTy → Type) : Type where
  r : FVec F S64x128 .f32
  w : FVec F S64x128 .f32
  b : FVec F S64x128 .f32
  kx : FVec F S64x128 .f32
  kk : FVec F S64x128 .f32

def Acc.zero : Acc F := ⟨zeroT, zeroT, zeroT, zeroT, zeroT⟩
def gOf (g r : FVec F S64x128 .f32) (dy : FVec F S1x128 .f32) : FVec F S64x128 .f32 := addf g (mulf (spread dy) r)
/-- What one state row adds: from the state before and after, the value entries, and the row's gradient `g`. -/
def Acc.next (A : Acc F) (sOld sNew g b : FVec F S64x128 .f32) (v dy sa : FVec F S1x128 .f32) : Acc F :=
  ⟨addf A.r (mulf sNew (spread dy)), addf A.w (mulf g sOld), addf A.b (mulf g (spread sa)), addf A.kx (mulf g (spread v)),
    addf A.kk (mulf sOld (spread (colSum (mulf g b))))⟩
def gNext (g w kk b : FVec F S64x128 .f32) : FVec F S64x128 .f32 := subf (mulf g w) (mulf (spread (colSum (mulf g b))) kk)

def brow (before : (j : Nat) → j < 32 → P F (FVec F S64x128 .f32)) (i : Nat) (hi : i < 16) (kk w b kx r : FVec F S64x128 .f32)
    (j : Nat) (hj : j < 32) (A : Acc F) : P F (Acc F) := do
  let so ← before j hj
  let sn ← ldH a7 i j hi hj
  let v ← ldV a6 i j hi hj
  let dy ← ldV a10 i j hi hj
  let sa ← ldV a9 i j hi hj
  let g ← ldS a17 j hj
  stV a16 i j hi hj (colSum (mulf (gOf g r dy) kx))
  stS a17 j hj (gNext (gOf g r dy) w kk b)
  pure (A.next so sn (gOf g r dy) b v dy sa)

def brows (before : (j : Nat) → j < 32 → P F (FVec F S64x128 .f32)) (i : Nat) (hi : i < 16) (kk w b kx r : FVec F S64x128 .f32) :
    (n j : Nat) → j + n ≤ 32 → Acc F → P F (Acc F)
  | 0, _, _, A => pure A
  | n + 1, j, h, A => do
    let A' ← brow a6 a7 a9 a10 a16 a17 before i hi kk w b kx r j (by omega) A
    brows before i hi kk w b kx r n (j + 1) (by omega) A'

def bstep (before : (j : Nat) → j < 32 → P F (FVec F S64x128 .f32)) (i : Nat) (hi : i < 16) : P F PUnit := do
  let kk ← ldK a1 i hi
  let w ← ldK a2 i hi
  let b ← ldK a3 i hi
  let kx ← ldK a4 i hi
  let r ← ldK a5 i hi
  let A ← brows a6 a7 a9 a10 a16 a17 before i hi kk w b kx r 32 0 (by omega) Acc.zero
  stK a15 i hi (bothOf A.r)
  stK a12 i hi (bothOf A.w)
  stK a13 i hi (bothOf A.b)
  stK a14 i hi (bothOf A.kx)
  stK a11 i hi (subf zeroT (bothOf A.kk))
end Bwd

end Cert.KernelIdeal.Steps
-- ==== Proof.Forms.lean ====
/-
  The bodies of the two scans' kernels as one program text each: a loop over the steps of a block, whose passes are
  the loads, row operations and stores named in `Steps`.
-/
module

public import proofs.«01_k».proof.Proof.Steps
public import Idealize.ShloMosaic.Lib.Pipeline.Regions

@[expose] public section

set_option maxRecDepth 65536

noncomputable section

namespace Cert.KernelIdeal.Steps

open Idealize.ShloMosaic Idealize.SL.Sem
open Cert.KernelIdeal.Facts₀ Cert.KernelIdeal.Gen

variable {F : FTy → Type} [FloatOps F]

/-- The row the backward loop's trip works on, as the kernel computes it, -/
def rowAt (t : Fin k1_t1_loop.trips) : Nat := (Scalar.indexCast (Scalar.subi 15#32 (Scf.iv 0#32 1#32 t))).toNat
/-- and the row before it. -/
def prevAt (t : Fin k1_t1_loop.trips) : Nat := (Scalar.indexCast (Scalar.subi (Scalar.subi 15#32 (Scf.iv 0#32 1#32 t)) 1#32)).toNat
def stepAt (t : Fin k0_t1_loop.trips) : Nat := (Scalar.indexCast (Scf.iv 0#32 1#32 t)).toNat

theorem rowAt_eq (t : Fin k1_t1_loop.trips) : rowAt t = 15 - t.val := congrFun (k1_off1_eq t) 0
theorem prevAt_eq (t : Fin k1_t1_loop.trips) : prevAt t = 14 - t.val := congrFun (k1_off2_eq t) 0
theorem stepAt_eq (t : Fin k0_t1_loop.trips) : stepAt t = t.val := congrFun (k0_off1_eq t) 0
theorem rowAt_lt (t : Fin k1_t1_loop.trips) : rowAt t < 16 := by rw [rowAt_eq]; omega
theorem prevAt_lt (t : Fin k1_t1_loop.trips) : prevAt t < 16 := by rw [prevAt_eq]; omega
theorem stepAt_lt (t : Fin k0_t1_loop.trips) : stepAt t < 16 := by rw [stepAt_eq]; exact t.isLt

section Fwd
variable (i : grid0.Coords) (a1 a2 a3 a4 a5 : Memref sig .tc .vmem S16x64x128 .f32) (a6 a7 : Memref sig .tc .vmem S16x32x128 .f32)
  (a8 : Memref sig .tc .vmem S16x32x64x128 .f32) (a9 : Memref sig .tc .vmem S16x32x128 .f32) (a10 : Memref sig .tc .vmem S32x64x128 .f32)
  (h1 : a1.IsWhole) (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole)

theorem fwd_trip (t : Fin k0_t1_loop.trips) (u : Unit) :
    k0_t1_body (F := F) i a1 h1 a2 h2 a3 h3 a4 h4 a5 h5 a6 h6 a7 h7 a8 h8 a9 h9 a10 h10 t u
      = (do fstep a1 a2 a3 a4 a5 a6 a7 a8 a9 a10 (stepAt t) (stepAt_lt t); pure ⟨⟩) := by
  chain_rfl

/-- The condition under which a body clears the carried rows: the grid's first point. -/
def firstG (n : Nat) : Prop :=
  Scalar.cmpi .ne (Scalar.extui (Scalar.cmpi .eq (BitVec.ofNat 32 n) 0#32) : BitVec 32) 0#32 = 1#1
instance (n : Nat) : Decidable (firstG n) := inferInstanceAs (Decidable (_ = _))

/-- A guarded start, a loop and a head, then a tail: the head and the tail are one program. -/
theorem guarded {α β : Type} (c : Prop) [Decidable c] (z l : P F PUnit) (H : P F α) (T : α → P F β) (R : P F β) (hl : H >>= T = R) :
    ((do
        if _h : c then do
          z
          pure ⟨⟩
        else do
          pure ⟨⟩
        l
        H) >>= T)
      = ((if c then z else pure ⟨⟩) >>= fun _ => l >>= fun _ => R) := by
  subst hl
  by_cases h : c
  · rw [dif_pos h, if_pos h]
    simp only [Prog.bind_assoc]
  · rw [dif_neg h, if_neg h]
    simp only [Prog.bind_assoc]
    rfl

/-- The forward loop. -/
def floop : P F PUnit :=
  Scf.Loop.for k0_t1_loop Gen.k0_t1_ok ⟨⟩ fun t _ => do
    fstep a1 a2 a3 a4 a5 a6 a7 a8 a9 a10 (stepAt t) (stepAt_lt t)
    pure ⟨⟩

theorem fwd_cut :
    cc0_rwkv_scan_fwd (F := F) i a1 h1 a2 h2 a3 h3 a4 h4 a5 h5 a6 h6 a7 h7 a8 h8 a9 h9 a10 h10
      = (do
        if _h : firstG (i 0).val then do
          zeroS a10
          pure ⟨⟩
        else do
          pure ⟨⟩
        floop a1 a2 a3 a4 a5 a6 a7 a8 a9 a10
        pure ⟨⟩) := by
  chain_rfl

theorem fwd_body :
    cc0_rwkv_scan_fwd (F := F) i a1 h1 a2 h2 a3 h3 a4 h4 a5 h5 a6 h6 a7 h7 a8 h8 a9 h9 a10 h10
      = ((if firstG (i 0).val then zeroS a10 else pure ⟨⟩) >>= fun _ =>
          floop a1 a2 a3 a4 a5 a6 a7 a8 a9 a10 >>= fun _ => pure ⟨⟩) := by
  rw [fwd_cut]
  have h := guarded (F := F) (firstG (i 0).val) (zeroS a10) (floop a1 a2 a3 a4 a5 a6 a7 a8 a9 a10) (pure PUnit.unit)
    (pure : PUnit → P F PUnit) (pure PUnit.unit) rfl
  rw [← h]
  exact (Prog.bind_pure _).symm
end Fwd

section Bwd
variable (i : grid1.Coords) (a1 a2 a3 a4 a5 : Memref sig .tc .vmem S16x64x128 .f32) (a6 : Memref sig .tc .vmem S16x32x128 .f32)
  (a7 : Memref sig .tc .vmem S16x32x64x128 .f32) (a8 : Memref sig .tc .vmem S1x32x64x128 .f32) (a9 a10 : Memref sig .tc .vmem S16x32x128 .f32)
  (a11 a12 a13 a14 a15 : Memref sig .tc .vmem S16x64x128 .f32) (a16 : Memref sig .tc .vmem S16x32x128 .f32) (a17 : Memref sig .tc .vmem S32x64x128 .f32)
  (h1 : a1.IsWhole) (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole) (h13 : a13.IsWhole) (h14 : a14.IsWhole) (h15 : a15.IsWhole)
  (h16 : a16.IsWhole) (h17 : a17.IsWhole)

/-- The state before a block's first step: zero at the last point of the grid (the first block), the row fetched
    beside the block elsewhere. -/
def beforeFirst (n : Nat) (j : Nat) (hj : j < 32) : P F (FVec F S64x128 .f32) := do
  let x ← ldB a8 j hj
  pure (Scalar.select (Scalar.cmpi .eq (BitVec.ofNat 32 n) 127#32) zeroT x)

theorem bwd_trip (t : Fin k1_t1_loop.trips) (u : Unit) :
    k1_t1_body (F := F) i a1 h1 a2 h2 a3 h3 a4 h4 a5 h5 a6 h6 a7 h7 a8 h8 a9 h9 a10 h10 a11 h11 a12 h12 a13 h13 a14 h14 a15 h15 a16 h16 a17 h17 t u
      = (do
        bstep a1 a2 a3 a4 a5 a6 a7 a9 a10 a11 a12 a13 a14 a15 a16 a17
          (fun j hj => ldH a7 (prevAt t) j (prevAt_lt t) hj) (rowAt t) (rowAt_lt t)
        pure ⟨⟩) := by
  chain_rfl

/-- What the backward body's last step has read when its first state row's work begins, -/
abbrev Head (F : FTy → Type) : Type :=
  Σ' (_ : BitVec 1) (_ : FVec F S64x128 .f32) (_ : FVec F S64x128 .f32) (_ : FVec F S64x128 .f32) (_ : FVec F S64x128 .f32)
    (_ : FVec F S64x128 .f32) (_ : FVec F S64x128 .f32) (_ : FVec F S64x128 .f32), FVec F S64x128 .f32
/-- the reads, -/
def lastHead (n : Nat) : P F (Head F) := do
  let kk ← ldK a1 0 (by omega)
  let w ← ldK a2 0 (by omega)
  let b ← ldK a3 0 (by omega)
  let kx ← ldK a4 0 (by omega)
  let r ← ldK a5 0 (by omega)
  let so ← beforeFirst a8 n 0 (by omega)
  let sn ← ldH a7 0 0 (by omega) (by omega)
  pure ⟨Scalar.cmpi .eq (BitVec.ofNat 32 n) 127#32, kk, w, b, kx, r, zeroT, so, sn⟩
/-- the state before the block, the comparison made once, -/
def beforeWith (c : BitVec 1) (j : Nat) (hj : j < 32) : P F (FVec F S64x128 .f32) := do
  let x ← ldB a8 j hj
  pure (Scalar.select c zeroT x)
/-- and the rest of that step. -/
def lastTail : Head F → P F PUnit := fun ⟨c, kk, w, b, kx, r, z, so, sn⟩ => do
  let v ← ldV a6 0 0 (by omega) (by omega)
  let dy ← ldV a10 0 0 (by omega) (by omega)
  let sa ← ldV a9 0 0 (by omega) (by omega)
  let g ← ldS a17 0 (by omega)
  stV a16 0 0 (by omega) (by omega) (colSum (mulf (gOf g r dy) kx))
  stS a17 0 (by omega) (gNext (gOf g r dy) w kk b)
  let A ← brows a6 a7 a9 a10 a16 a17 (beforeWith a8 c) 0 (by omega) kk w b kx r 31 1 (by omega)
    (Acc.next ⟨z, z, z, z, z⟩ so sn (gOf g r dy) b v dy sa)
  stK a15 0 (by omega) (bothOf A.r)
  stK a12 0 (by omega) (bothOf A.w)
  stK a13 0 (by omega) (bothOf A.b)
  stK a14 0 (by omega) (bothOf A.kx)
  stK a11 0 (by omega) (subf zeroT (bothOf A.kk))
  pure ⟨⟩

theorem last_eq (n : Nat) :
    (lastHead (F := F) a1 a2 a3 a4 a5 a7 a8 n >>= lastTail a6 a7 a8 a9 a10 a11 a12 a13 a14 a15 a16 a17)
      = (do
        bstep a1 a2 a3 a4 a5 a6 a7 a9 a10 a11 a12 a13 a14 a15 a16 a17 (beforeFirst a8 n) 0 (by omega)
        pure ⟨⟩) := by
  chain_rfl

/-- The backward loop. -/
def bloop : P F PUnit :=
  Scf.Loop.for k1_t1_loop Gen.k1_t1_ok ⟨⟩ fun t _ => do
    bstep a1 a2 a3 a4 a5 a6 a7 a9 a10 a11 a12 a13 a14 a15 a16 a17
      (fun j hj => ldH a7 (prevAt t) j (prevAt_lt t) hj) (rowAt t) (rowAt_lt t)
    pure ⟨⟩

theorem bwd_front :
    k1_part44 (F := F) i a1 h1 a2 h2 a3 h3 a4 h4 a5 h5 a6 h6 a7 h7 a8 h8 a9 h9 a10 h10 a11 h11 a12 h12 a13 h13 a14 h14 a15 h15 a16 h16 a17 h17
      = (do
        if _h : firstG (i 0).val then do
          zeroS a17
          pure ⟨⟩
        else do
          pure ⟨⟩
        bloop a1 a2 a3 a4 a5 a6 a7 a9 a10 a11 a12 a13 a14 a15 a16 a17
        lastHead (F := F) a1 a2 a3 a4 a5 a7 a8 (i 0).val) := by
  chain_rfl

theorem bwd_back :
    cc1_rwkv_scan_bwd (F := F) i a1 h1 a2 h2 a3 h3 a4 h4 a5 h5 a6 h6 a7 h7 a8 h8 a9 h9 a10 h10 a11 h11 a12 h12 a13 h13 a14 h14 a15 h15 a16 h16 a17 h17
      = (k1_part44 (F := F) i a1 h1 a2 h2 a3 h3 a4 h4 a5 h5 a6 h6 a7 h7 a8 h8 a9 h9 a10 h10 a11 h11 a12 h12 a13 h13 a14 h14 a15 h15 a16 h16 a17 h17 >>= lastTail a6 a7 a8 a9 a10 a11 a12 a13 a14 a15 a16 a17) := by
  chain_rfl

theorem bwd_body :
    cc1_rwkv_scan_bwd (F := F) i a1 h1 a2 h2 a3 h3 a4 h4 a5 h5 a6 h6 a7 h7 a8 h8 a9 h9 a10 h10 a11 h11 a12 h12 a13 h13 a14 h14 a15 h15 a16 h16 a17 h17
      = ((if firstG (i 0).val then zeroS a17 else pure ⟨⟩) >>= fun _ =>
          bloop a1 a2 a3 a4 a5 a6 a7 a9 a10 a11 a12 a13 a14 a15 a16 a17 >>= fun _ =>
          bstep a1 a2 a3 a4 a5 a6 a7 a9 a10 a11 a12 a13 a14 a15 a16 a17 (beforeFirst a8 (i 0).val) 0 (by omega) >>= fun _ =>
          pure ⟨⟩) := by
  rw [bwd_back, bwd_front]
  exact guarded _ _ _ _ _ _ (last_eq (F := F) a1 a2 a3 a4 a5 a6 a7 a8 a9 a10 a11 a12 a13 a14 a15 a16 a17 (i 0).val)
end Bwd
end Cert.KernelIdeal.Steps
-- ==== Proof.Rows.lean ====
/-
  The rules of the row reads and row writes. A buffer of the kernels is held as the rows it consists of
  (`packK`, `packS`, `packV`, `packH`, `packB`); reading a row gives that row, writing one replaces it.
-/
module

public import proofs.«01_k».proof.Proof.Steps
public import Idealize.ShloMosaic.Lib.Memref
public import Idealize.ShloMosaic.Lib.ValueLayout
public import Idealize.ShloMosaic.Rules.Step

@[expose] public section

noncomputable section

namespace Cert.KernelIdeal.Steps

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Facts₀

variable {F : FTy → Type} [FloatOps F]

/-- A state row, or a row of key entries: 64 by 128 lanes. -/
abbrev Tile (F : FTy → Type) : Type := FVec F S64x128 .f32
/-- One entry per lane. -/
abbrev Row (F : FTy → Type) : Type := FVec F S1x128 .f32

def packK (x : Nat → Tile F) : FVec F S16x64x128 .f32 := fun y => x (y 0).val (ix2 (y 1) (y 2))
def packS (x : Nat → Tile F) : FVec F S32x64x128 .f32 := fun y => x (y 0).val (ix2 (y 1) (y 2))
def packV (x : Nat → Nat → Row F) : FVec F S16x32x128 .f32 := fun y => x (y 0).val (y 1).val (ix2 0 (y 2))
def packH (x : Nat → Nat → Tile F) : FVec F S16x32x64x128 .f32 := fun y => x (y 0).val (y 1).val (ix2 (y 2) (y 3))
def packB (x : Nat → Tile F) : FVec F S1x32x64x128 .f32 := fun y => x (y 1).val (ix2 (y 2) (y 3))

omit [FloatOps F] in
theorem packK_congr {x x' : Nat → Tile F} (h : ∀ i < 16, x i = x' i) : packK x = packK x' :=
  funext fun y => congrFun (h (y 0).val (y 0).isLt) _
omit [FloatOps F] in
theorem packS_congr {x x' : Nat → Tile F} (h : ∀ i < 32, x i = x' i) : packS x = packS x' :=
  funext fun y => congrFun (h (y 0).val (y 0).isLt) _
omit [FloatOps F] in
theorem packV_congr {x x' : Nat → Nat → Row F} (h : ∀ i < 16, ∀ j < 32, x i j = x' i j) : packV x = packV x' :=
  funext fun y => congrFun (h (y 0).val (y 0).isLt (y 1).val (y 1).isLt) _
omit [FloatOps F] in
theorem packH_congr {x x' : Nat → Nat → Tile F} (h : ∀ i < 16, ∀ j < 32, x i j = x' i j) : packH x = packH x' :=
  funext fun y => congrFun (h (y 0).val (y 0).isLt (y 1).val (y 1).isLt) _
omit [FloatOps F] in
theorem packB_congr {x x' : Nat → Tile F} (h : ∀ j < 32, x j = x' j) : packB x = packB x' :=
  funext fun y => congrFun (h (y 1).val (y 1).isLt) _

/-- The rows of given contents. -/
def rowsK (X : FVec F S16x64x128 .f32) (i : Nat) : Tile F := fun y => if h : i < 16 then X (ix3 ⟨i, h⟩ (y 0) (y 1)) else zeroT y
def rowsS (X : FVec F S32x64x128 .f32) (j : Nat) : Tile F := fun y => if h : j < 32 then X (ix3 ⟨j, h⟩ (y 0) (y 1)) else zeroT y
def rowsV (X : FVec F S16x32x128 .f32) (i j : Nat) : Row F := fun y =>
  if h : i < 16 ∧ j < 32 then X (ix3 ⟨i, h.1⟩ ⟨j, h.2⟩ (y 1)) else colSum zeroT y
def rowsH (X : FVec F S16x32x64x128 .f32) (i j : Nat) : Tile F := fun y =>
  if h : i < 16 ∧ j < 32 then X (ix4 ⟨i, h.1⟩ ⟨j, h.2⟩ (y 0) (y 1)) else zeroT y

theorem packK_rowsK (X : FVec F S16x64x128 .f32) : packK (rowsK X) = X := funext fun y => by
  obtain ⟨a, b, c, rfl⟩ : ∃ a b c, y = ix3 a b c := ⟨_, _, _, eq_ix3 y⟩
  show dite _ _ _ = _
  exact dif_pos a.isLt
theorem packS_rowsS (X : FVec F S32x64x128 .f32) : packS (rowsS X) = X := funext fun y => by
  obtain ⟨a, b, c, rfl⟩ : ∃ a b c, y = ix3 a b c := ⟨_, _, _, eq_ix3 y⟩
  show dite _ _ _ = _
  exact dif_pos a.isLt
theorem packV_rowsV (X : FVec F S16x32x128 .f32) : packV (rowsV X) = X := funext fun y => by
  obtain ⟨a, b, c, rfl⟩ : ∃ a b c, y = ix3 a b c := ⟨_, _, _, eq_ix3 y⟩
  show dite _ _ _ = _
  exact dif_pos (⟨a.isLt, b.isLt⟩ : a.val < 16 ∧ b.val < 32)
theorem packH_rowsH (X : FVec F S16x32x64x128 .f32) : packH (rowsH X) = X := funext fun y => by
  obtain ⟨a, b, c, d, rfl⟩ : ∃ a b c d, y = ix4 a b c d := ⟨_, _, _, _, eq_ix4 y⟩
  show dite _ _ _ = _
  exact dif_pos (⟨a.isLt, b.isLt⟩ : a.val < 16 ∧ b.val < 32)

variable {Ix : Type} [DecidableEq Ix] {Name : Type} [DecidableEq Name] {U : Type} [URA U] {Lvl : Type} [Preorder Lvl]
variable {defs : Defs nD τ sig (Elt F) Λ₀} {𝒱 : Variants} {c : Dev nD} {E : Set Name}

local notation "𝕄" => MT nD τ sig Ix (Elt F) Name U Lvl

/-- A buffer of core `c` held whole at `X`. -/
abbrev own (c : Dev nD) {s : Shape} (m : Memref sig .tc .vmem s .f32) (X : FVec F s .f32) : sProp 𝕄 :=
  owns (c : Thread nD τ) m fullShare X

theorem wp_ld {s s' : Shape} (m : Memref sig .tc .vmem s .f32) (r : Rect s) (hl : m.view.LoadsAt r.toLoadRect)
    (h : r.shape.ShapeCasts s') (X : FVec F s .f32) (x : FVec F s' .f32) (hx : shapeCast s' (fun y => X (r.emb y)) h = x)
    (Q : FVec F s' .f32 → sProp 𝕄) :
    own c m X ⊢ iprop((own c m X -∗ Q x) -∗ wp (M := MT nD τ sig Ix (Elt F) Name U Lvl) frame (wpE defs 𝒱 (c : Thread nD τ) none) E (Prog.op (.load m r.toLoadRect hl) fun y => pure (shapeCast s' y h)) Q) := by
  unfold own owns
  iintro ⟨%f, %hf, H⟩ K
  subst hf
  iapply (wp_load 𝒱 (c : Thread nD τ) none E (View.setOn_subset_set _ _)) $$ [H]; · iexact H
  iintro H
  rw [wp_pure]
  imodintro
  have hx' : shapeCast s' (View.readAt (Elt F) m.view r.toLoadRect f) h = x := hx
  rw [hx']
  iapply K
  iexists f; isplitr; · ipureintro; rfl
  iexact H

theorem wp_st {s : Shape} (m : Memref sig .tc .vmem s .f32) (r : Rect s) (w : FVec F r.shape .f32)
    (hx : (m.access r).Stores Finset.univ) (hm : Finset.univ = Finset.univ ∨ ∀ a, r.stride a = 1) (X X' : FVec F s .f32)
    (hin : ∀ y, X' (r.emb y) = w y) (hout : ∀ y, y ∉ r.set → X' y = X y) (Q : PUnit → sProp 𝕄) :
    own c m X ⊢ iprop((own c m X' -∗ Q ⟨⟩) -∗ wp (M := MT nD τ sig Ix (Elt F) Name U Lvl) frame (wpE defs 𝒱 (c : Thread nD τ) none) E (Prog.op (.store m r w Finset.univ hx hm) pure) Q) := by
  unfold own owns
  iintro ⟨%f, %hf, H⟩ K
  subst hf
  iapply (wp_store 𝒱 (c : Thread nD τ) none E ((m.setOn_access_subset_setOn r _).trans (View.setOn_subset_set _ _))) $$ [H]; · iexact H
  iintro H
  rw [wp_pure]
  imodintro
  iapply K
  iexists _; isplitr; swap; (· iexact H)
  ipureintro
  funext y
  by_cases hy : y ∈ r.set
  · rw [← Rect.map_emb_univ, Finset.mem_map] at hy
    obtain ⟨z, -, rfl⟩ := hy
    rw [hin]
    exact View.read_slice_write_emb r f w (Finset.mem_univ z)
  · rw [hout y hy]
    exact View.read_slice_write_of_not_mem r f w Finset.univ (by rwa [Rect.map_emb_univ])

/-! ## Reading a row -/

theorem wp_ldK (m : Memref sig .tc .vmem S16x64x128 .f32) (i : Nat) (hi : i < 16) (x : Nat → Tile F) (Q : Tile F → sProp 𝕄) :
    own c m (packK x) ⊢ iprop((own c m (packK x) -∗ Q (x i)) -∗ wp (M := MT nD τ sig Ix (Elt F) Name U Lvl) frame (wpE defs 𝒱 (c : Thread nD τ) none) E (ldK m i hi) Q) :=
  wp_ld m (Rect.unit (s := S16x64x128) ![i, 0, 0] S1x64x128.size (inK hi)) _ shapeCasts_S1x64x128_S64x128 _ _ (funext fun y => by
    obtain ⟨a, b, rfl⟩ : ∃ a b, y = ix2 a b := ⟨_, _, eq_ix2 y⟩
    unfold shapeCast
    rw [reshapeEquiv_ix2_1ab]
    show x (i + 1 * 0) (ix2 ⟨0 + 1 * a.val, _⟩ ⟨0 + 1 * b.val, _⟩) = x i (ix2 a b)
    simp only [Nat.one_mul, Nat.zero_add, Nat.add_zero]) Q

theorem wp_ldS (m : Memref sig .tc .vmem S32x64x128 .f32) (i : Nat) (hi : i < 32) (x : Nat → Tile F) (Q : Tile F → sProp 𝕄) :
    own c m (packS x) ⊢ iprop((own c m (packS x) -∗ Q (x i)) -∗ wp (M := MT nD τ sig Ix (Elt F) Name U Lvl) frame (wpE defs 𝒱 (c : Thread nD τ) none) E (ldS m i hi) Q) :=
  wp_ld m (Rect.unit (s := S32x64x128) ![i, 0, 0] S1x64x128.size (inS hi)) _ shapeCasts_S1x64x128_S64x128 _ _ (funext fun y => by
    obtain ⟨a, b, rfl⟩ : ∃ a b, y = ix2 a b := ⟨_, _, eq_ix2 y⟩
    unfold shapeCast
    rw [reshapeEquiv_ix2_1ab]
    show x (i + 1 * 0) (ix2 ⟨0 + 1 * a.val, _⟩ ⟨0 + 1 * b.val, _⟩) = x i (ix2 a b)
    simp only [Nat.one_mul, Nat.zero_add, Nat.add_zero]) Q

theorem wp_ldV (m : Memref sig .tc .vmem S16x32x128 .f32) (i j : Nat) (hi : i < 16) (hj : j < 32) (x : Nat → Nat → Row F)
    (Q : Row F → sProp 𝕄) :
    own c m (packV x) ⊢ iprop((own c m (packV x) -∗ Q (x i j)) -∗ wp (M := MT nD τ sig Ix (Elt F) Name U Lvl) frame (wpE defs 𝒱 (c : Thread nD τ) none) E (ldV m i j hi hj) Q) :=
  wp_ld m (Rect.unit (s := S16x32x128) ![i, j, 0] S1x1x128.size (inV hi hj)) _ shapeCasts_S1x1x128_S1x128 _ _ (funext fun y => by
    obtain ⟨a, b, rfl⟩ : ∃ a b, y = ix2 a b := ⟨_, _, eq_ix2 y⟩
    obtain rfl : a = 0 := Subsingleton.elim (α := Fin 1) _ _
    unfold shapeCast
    rw [reshapeEquiv_ix2_1ab]
    show x (i + 1 * 0) (j + 1 * 0) (ix2 0 ⟨0 + 1 * b.val, _⟩) = x i j (ix2 0 b)
    simp only [Nat.one_mul, Nat.zero_add, Nat.add_zero]) Q

theorem wp_ldH (m : Memref sig .tc .vmem S16x32x64x128 .f32) (i j : Nat) (hi : i < 16) (hj : j < 32) (x : Nat → Nat → Tile F)
    (Q : Tile F → sProp 𝕄) :
    own c m (packH x) ⊢ iprop((own c m (packH x) -∗ Q (x i j)) -∗ wp (M := MT nD τ sig Ix (Elt F) Name U Lvl) frame (wpE defs 𝒱 (c : Thread nD τ) none) E (ldH m i j hi hj) Q) :=
  wp_ld m (Rect.unit (s := S16x32x64x128) ![i, j, 0, 0] S1x1x64x128.size (inH hi hj)) _ shapeCasts_S1x1x64x128_S64x128 _ _
    (funext fun y => by
    obtain ⟨a, b, rfl⟩ : ∃ a b, y = ix2 a b := ⟨_, _, eq_ix2 y⟩
    unfold shapeCast
    rw [reshapeEquiv_ix2_11ab]
    show x (i + 1 * 0) (j + 1 * 0) (ix2 ⟨0 + 1 * a.val, _⟩ ⟨0 + 1 * b.val, _⟩) = x i j (ix2 a b)
    simp only [Nat.one_mul, Nat.zero_add, Nat.add_zero]) Q

theorem wp_ldB (m : Memref sig .tc .vmem S1x32x64x128 .f32) (j : Nat) (hj : j < 32) (x : Nat → Tile F) (Q : Tile F → sProp 𝕄) :
    own c m (packB x) ⊢ iprop((own c m (packB x) -∗ Q (x j)) -∗ wp (M := MT nD τ sig Ix (Elt F) Name U Lvl) frame (wpE defs 𝒱 (c : Thread nD τ) none) E (ldB m j hj) Q) :=
  wp_ld m (Rect.unit (s := S1x32x64x128) ![0, j, 0, 0] S1x1x64x128.size (inB hj)) _ shapeCasts_S1x1x64x128_S64x128 _ _
    (funext fun y => by
    obtain ⟨a, b, rfl⟩ : ∃ a b, y = ix2 a b := ⟨_, _, eq_ix2 y⟩
    unfold shapeCast
    rw [reshapeEquiv_ix2_11ab]
    show x (j + 1 * 0) (ix2 ⟨0 + 1 * a.val, _⟩ ⟨0 + 1 * b.val, _⟩) = x j (ix2 a b)
    simp only [Nat.one_mul, Nat.zero_add, Nat.add_zero]) Q

/-! ## Writing a row -/

/-- Row `i` replaced. -/
def put {α : Type} (x : Nat → α) (i : Nat) (z : α) : Nat → α := fun i' => if i' = i then z else x i'
/-- Entry `(i, j)` replaced. -/
def put2 {α : Type} (x : Nat → Nat → α) (i j : Nat) (z : α) : Nat → Nat → α := put x i (put (x i) j z)

theorem put_self {α : Type} (x : Nat → α) (i : Nat) (z : α) : put x i z i = z := if_pos rfl
theorem put_ne {α : Type} (x : Nat → α) (i i' : Nat) (z : α) (h : i' ≠ i) : put x i z i' = x i' := if_neg h
theorem put2_self {α : Type} (x : Nat → Nat → α) (i j : Nat) (z : α) : put2 x i j z i j = z := by
  unfold put2; rw [put_self, put_self]
theorem put2_ne {α : Type} (x : Nat → Nat → α) (i j i' j' : Nat) (z : α) (h : ¬(i' = i ∧ j' = j)) : put2 x i j z i' j' = x i' j' := by
  unfold put2
  by_cases hi : i' = i
  · subst hi
    rw [put_self, put_ne _ _ _ _ fun hj => h ⟨rfl, hj⟩]
  · rw [put_ne _ _ _ _ hi]

theorem wp_stK (m : Memref sig .tc .vmem S16x64x128 .f32) (i : Nat) (hi : i < 16) (z : Tile F) (x : Nat → Tile F) (Q : PUnit → sProp 𝕄) :
    own c m (packK x) ⊢ iprop((own c m (packK (put x i z)) -∗ Q ⟨⟩) -∗ wp (M := MT nD τ sig Ix (Elt F) Name U Lvl) frame (wpE defs 𝒱 (c : Thread nD τ) none) E (stK m i hi z) Q) := by
  unfold stK
  rw [wp_bind]
  iintro H K
  iapply (wp_ldK m i hi x _) $$ H
  iintro H
  iapply (wp_st m (Rect.unit (s := S16x64x128) ![i, 0, 0] S1x64x128.size (inK hi)) _ _ _ (packK x) (packK (put x i z)) ?_ ?_) $$ H
  · intro y
    obtain ⟨u, a, b, rfl⟩ : ∃ u a b, y = ix3 u a b := ⟨_, _, _, eq_ix3 y⟩
    obtain rfl : u = 0 := Subsingleton.elim (α := Fin 1) _ _
    unfold shapeCast
    rw [show (ix3 (0 : Fin 1) a b : S1x64x128.Idx) = Shape.reshapeEquiv shapeCasts_S1x64x128_S64x128 (ix2 a b) from
      (reshapeEquiv_ix2_1ab _ a b).symm, Shape.reshapeEquiv_reshapeEquiv, Shape.reshapeEquiv_self]
    rw [show (Shape.reshapeEquiv shapeCasts_S1x64x128_S64x128 (ix2 a b)) = ix3 (0 : Fin 1) a b from reshapeEquiv_ix2_1ab _ a b]
    show put x i z (i + 1 * 0) (ix2 ⟨0 + 1 * a.val, _⟩ ⟨0 + 1 * b.val, _⟩) = z (ix2 a b)
    simp only [Nat.one_mul, Nat.zero_add, Nat.add_zero, put_self]
  · intro y hy
    refine congrFun (put_ne x i (y 0).val z fun h => hy ?_) _
    rw [Rect.mem_set_unit]
    intro a
    fin_cases a <;> simp [S1x64x128] <;> omega
  iexact K

theorem wp_stS (m : Memref sig .tc .vmem S32x64x128 .f32) (i : Nat) (hi : i < 32) (z : Tile F) (x : Nat → Tile F) (Q : PUnit → sProp 𝕄) :
    own c m (packS x) ⊢ iprop((own c m (packS (put x i z)) -∗ Q ⟨⟩) -∗ wp (M := MT nD τ sig Ix (Elt F) Name U Lvl) frame (wpE defs 𝒱 (c : Thread nD τ) none) E (stS m i hi z) Q) := by
  unfold stS
  rw [wp_bind]
  iintro H K
  iapply (wp_ldS m i hi x _) $$ H
  iintro H
  iapply (wp_st m (Rect.unit (s := S32x64x128) ![i, 0, 0] S1x64x128.size (inS hi)) _ _ _ (packS x) (packS (put x i z)) ?_ ?_) $$ H
  · intro y
    obtain ⟨u, a, b, rfl⟩ : ∃ u a b, y = ix3 u a b := ⟨_, _, _, eq_ix3 y⟩
    obtain rfl : u = 0 := Subsingleton.elim (α := Fin 1) _ _
    unfold shapeCast
    rw [show (ix3 (0 : Fin 1) a b : S1x64x128.Idx) = Shape.reshapeEquiv shapeCasts_S1x64x128_S64x128 (ix2 a b) from
      (reshapeEquiv_ix2_1ab _ a b).symm, Shape.reshapeEquiv_reshapeEquiv, Shape.reshapeEquiv_self]
    rw [show (Shape.reshapeEquiv shapeCasts_S1x64x128_S64x128 (ix2 a b)) = ix3 (0 : Fin 1) a b from reshapeEquiv_ix2_1ab _ a b]
    show put x i z (i + 1 * 0) (ix2 ⟨0 + 1 * a.val, _⟩ ⟨0 + 1 * b.val, _⟩) = z (ix2 a b)
    simp only [Nat.one_mul, Nat.zero_add, Nat.add_zero, put_self]
  · intro y hy
    refine congrFun (put_ne x i (y 0).val z fun h => hy ?_) _
    rw [Rect.mem_set_unit]
    intro a
    fin_cases a <;> simp [S1x64x128] <;> omega
  iexact K

theorem wp_stV (m : Memref sig .tc .vmem S16x32x128 .f32) (i j : Nat) (hi : i < 16) (hj : j < 32) (z : Row F) (x : Nat → Nat → Row F)
    (Q : PUnit → sProp 𝕄) :
    own c m (packV x) ⊢ iprop((own c m (packV (put2 x i j z)) -∗ Q ⟨⟩) -∗ wp (M := MT nD τ sig Ix (Elt F) Name U Lvl) frame (wpE defs 𝒱 (c : Thread nD τ) none) E (stV m i j hi hj z) Q) := by
  unfold stV
  rw [wp_bind]
  iintro H K
  iapply (wp_ldV m i j hi hj x _) $$ H
  iintro H
  iapply (wp_st m (Rect.unit (s := S16x32x128) ![i, j, 0] S1x1x128.size (inV hi hj)) _ _ _ (packV x) (packV (put2 x i j z)) ?_ ?_) $$ H
  · intro y
    obtain ⟨u, a, b, rfl⟩ : ∃ u a b, y = ix3 u a b := ⟨_, _, _, eq_ix3 y⟩
    obtain rfl : u = 0 := Subsingleton.elim (α := Fin 1) _ _
    obtain rfl : a = 0 := Subsingleton.elim (α := Fin 1) _ _
    unfold shapeCast
    rw [show (ix3 (0 : Fin 1) (0 : Fin 1) b : S1x1x128.Idx) = Shape.reshapeEquiv shapeCasts_S1x1x128_S1x128 (ix2 0 b) from
      (reshapeEquiv_ix2_1ab _ 0 b).symm, Shape.reshapeEquiv_reshapeEquiv, Shape.reshapeEquiv_self]
    rw [show (Shape.reshapeEquiv shapeCasts_S1x1x128_S1x128 (ix2 0 b)) = ix3 (0 : Fin 1) 0 b from reshapeEquiv_ix2_1ab _ 0 b]
    show put2 x i j z (i + 1 * 0) (j + 1 * 0) (ix2 0 ⟨0 + 1 * b.val, _⟩) = z (ix2 0 b)
    simp only [Nat.one_mul, Nat.zero_add, Nat.add_zero, put2_self]
  · intro y hy
    refine congrFun (put2_ne x i j (y 0).val (y 1).val z fun h => hy ?_) _
    rw [Rect.mem_set_unit]
    intro a
    fin_cases a <;> simp [S1x1x128] <;> omega
  iexact K

theorem wp_stH (m : Memref sig .tc .vmem S16x32x64x128 .f32) (i j : Nat) (hi : i < 16) (hj : j < 32) (z : Tile F) (x : Nat → Nat → Tile F)
    (Q : PUnit → sProp 𝕄) :
    own c m (packH x) ⊢ iprop((own c m (packH (put2 x i j z)) -∗ Q ⟨⟩) -∗ wp (M := MT nD τ sig Ix (Elt F) Name U Lvl) frame (wpE defs 𝒱 (c : Thread nD τ) none) E (stH m i j hi hj z) Q) := by
  unfold stH
  rw [wp_bind]
  iintro H K
  iapply (wp_ldH m i j hi hj x _) $$ H
  iintro H
  iapply (wp_st m (Rect.unit (s := S16x32x64x128) ![i, j, 0, 0] S1x1x64x128.size (inH hi hj)) _ _ _ (packH x) (packH (put2 x i j z)) ?_ ?_) $$ H
  · intro y
    obtain ⟨u, v, a, b, rfl⟩ : ∃ u v a b, y = ix4 u v a b := ⟨_, _, _, _, eq_ix4 y⟩
    obtain rfl : u = 0 := Subsingleton.elim (α := Fin 1) _ _
    obtain rfl : v = 0 := Subsingleton.elim (α := Fin 1) _ _
    unfold shapeCast
    rw [show (ix4 (0 : Fin 1) (0 : Fin 1) a b : S1x1x64x128.Idx) = Shape.reshapeEquiv shapeCasts_S1x1x64x128_S64x128 (ix2 a b) from
      (reshapeEquiv_ix2_11ab _ a b).symm, Shape.reshapeEquiv_reshapeEquiv, Shape.reshapeEquiv_self]
    rw [show (Shape.reshapeEquiv shapeCasts_S1x1x64x128_S64x128 (ix2 a b)) = ix4 (0 : Fin 1) 0 a b from reshapeEquiv_ix2_11ab _ a b]
    show put2 x i j z (i + 1 * 0) (j + 1 * 0) (ix2 ⟨0 + 1 * a.val, _⟩ ⟨0 + 1 * b.val, _⟩) = z (ix2 a b)
    simp only [Nat.one_mul, Nat.zero_add, Nat.add_zero, put2_self]
  · intro y hy
    refine congrFun (put2_ne x i j (y 0).val (y 1).val z fun h => hy ?_) _
    rw [Rect.mem_set_unit]
    intro a
    fin_cases a <;> simp [S1x1x64x128] <;> omega
  iexact K

/-- A read whose result is not used. -/
theorem wp_ld_unused {s : Shape} (m : Memref sig .tc .vmem s .f32) (r : Rect s) (hl : m.view.LoadsAt r.toLoadRect) (X : FVec F s .f32)
    {α : Type} (p : P F α) (Q : α → sProp 𝕄) :
    own c m X ⊢ iprop((own c m X -∗ wp (M := MT nD τ sig Ix (Elt F) Name U Lvl) frame (wpE defs 𝒱 (c : Thread nD τ) none) E p Q) -∗ wp (M := MT nD τ sig Ix (Elt F) Name U Lvl) frame (wpE defs 𝒱 (c : Thread nD τ) none) E (Prog.op (.load m r.toLoadRect hl) fun _ => p) Q) := by
  unfold own owns
  iintro ⟨%f, %hf, H⟩ K
  iapply (wp_load 𝒱 (c : Thread nD τ) none E (View.setOn_subset_set _ _)) $$ [H]; · iexact H
  iintro H
  iapply K
  iexists f; isplitr; · ipureintro; exact hf
  iexact H

theorem wp_zeroS (m : Memref sig .tc .vmem S32x64x128 .f32) (X : FVec F S32x64x128 .f32) (Q : PUnit → sProp 𝕄) :
    own c m X ⊢ iprop((own c m (packS fun _ => zeroT) -∗ Q ⟨⟩) -∗ wp (M := MT nD τ sig Ix (Elt F) Name U Lvl) frame (wpE defs 𝒱 (c : Thread nD τ) none) E (zeroS m) Q) := by
  have hw : (shapeCast S32x64x128 (broadcast S32x64x128 (Scalar.ofBits (F := F) .f32 0x00000000#32)) shapeCasts_S32x64x128_S32x64x128)
      = fun _ => Scalar.ofBits (F := F) .f32 0x00000000#32 := rfl
  unfold zeroS
  rw [hw]
  iintro H K
  iapply (wp_ld_unused m (Rect.unit (s := S32x64x128) ![0, 0, 0] S32x64x128.size inb_S32x64x128_S32x64x128_0_0_0) _ X) $$ H
  iintro H
  iapply (wp_st m (Rect.unit (s := S32x64x128) ![0, 0, 0] S32x64x128.size inb_S32x64x128_S32x64x128_0_0_0) _ _ _ X (packS fun _ => zeroT) ?_ ?_) $$ H
  · intro y
    show Scalar.ofBits (F := F) .f32 0x00000000#32 = _
    rfl
  · intro y hy
    refine absurd ?_ hy
    rw [Rect.mem_set_unit]
    intro a
    refine ⟨?_, ?_⟩
    · fin_cases a <;> exact Nat.zero_le _
    · have := (y a).isLt
      fin_cases a <;> exact lt_of_lt_of_eq this (Nat.zero_add _).symm
  iexact K

end Cert.KernelIdeal.Steps
-- ==== Proof.Forward.lean ====
/-
  What the forward body does: from the state rows before a block of 16 steps to the state rows after it, the block's
  results, states and inner products written.
-/
module

public import proofs.«01_k».proof.Proof.Forms
public import proofs.«01_k».proof.Proof.Rows

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Facts₀

/-- The first `n` from `N`, the others from `O`. -/
def upto {α : Type} (n : Nat) (N O : Nat → α) : Nat → α := fun j => if j < n then N j else O j

theorem upto_zero {α : Type} (N O : Nat → α) : upto 0 N O = O := funext fun _ => if_neg (Nat.not_lt_zero _)
theorem upto_lt {α : Type} {n : Nat} (N O : Nat → α) {j : Nat} (h : j < n) : upto n N O j = N j := if_pos h
theorem upto_at {α : Type} (n : Nat) (N O : Nat → α) : upto n N O n = O n := if_neg (lt_irrefl n)
theorem put_upto {α : Type} (n : Nat) (N O : Nat → α) : put (upto n N O) n (N n) = upto (n + 1) N O := funext fun j => by
  unfold put upto
  by_cases h : j = n
  · subst h; rw [if_pos rfl, if_pos (Nat.lt_succ_self _)]
  · rw [if_neg h]; exact if_congr (by omega) rfl rfl
/-- Entry `j` of row `i` written: the row's first `j` become its first `j + 1`. -/
theorem put2_row {α : Type} (x : Nat → Nat → α) (i j : Nat) (N O : Nat → α) :
    put2 (put x i (upto j N O)) i j (N j) = put x i (upto (j + 1) N O) := funext fun i' => by
  unfold put2
  rw [put_self, put_upto]
  unfold put
  by_cases h : i' = i
  · rw [if_pos h, if_pos h]
  · rw [if_neg h, if_neg h, if_neg h]
theorem put_same {α : Type} (x : Nat → α) (i : Nat) : put x i (x i) = x := funext fun i' => by
  unfold put
  by_cases h : i' = i
  · rw [if_pos h, h]
  · rw [if_neg h]

variable {F : FTy → Type} [FloatOps F]

/-- The state rows before step `t`. -/
def traj (kk w b kx : Nat → Tile F) (v : Nat → Nat → Row F) : Nat → Nat → Tile F
  | 0, _ => zeroT
  | t + 1, j => snOf (traj kk w b kx v t j) (w t) (b t) (kx t) (saOf (traj kk w b kx v t j) (kk t)) (v t j)
/-- The inner products of step `t`, -/
def trajSa (kk w b kx : Nat → Tile F) (v : Nat → Nat → Row F) (t j : Nat) : Row F := saOf (traj kk w b kx v t j) (kk t)
/-- and its results. -/
def trajY (kk w b kx r : Nat → Tile F) (v : Nat → Nat → Row F) (t j : Nat) : Row F := colSum (mulf (traj kk w b kx v (t + 1) j) (r t))

variable {Ix : Type} [DecidableEq Ix] {Name : Type} [DecidableEq Name] {U : Type} [URA U] {Lvl : Type} [Preorder Lvl]
variable {defs : Defs nD τ sig (Elt F) Λ₀} {𝒱 : Variants} {c : Dev nD} {E : Set Name}

local notation "𝕄" => MT nD τ sig Ix (Elt F) Name U Lvl

section Fwd
variable (a1 a2 a3 a4 a5 : Memref sig .tc .vmem S16x64x128 .f32) (a6 a7 : Memref sig .tc .vmem S16x32x128 .f32)
  (a8 : Memref sig .tc .vmem S16x32x64x128 .f32) (a9 : Memref sig .tc .vmem S16x32x128 .f32) (a10 : Memref sig .tc .vmem S32x64x128 .f32)

/-- `n` state rows from row `j` on. -/
theorem wp_frows (i : Nat) (hi : i < 16) (kk w b kx r : Tile F) (v : Nat → Nat → Row F) (S : Nat → Tile F)
    (Y SA : Nat → Nat → Row F) (H : Nat → Nat → Tile F) (Q : PUnit → sProp 𝕄) : ∀ (n j : Nat) (h : j + n ≤ 32),
    iprop(own c a6 (packV v)
        ∗ own c a7 (packV (put Y i (upto j (fun j => colSum (mulf (snOf (S j) w b kx (saOf (S j) kk) (v i j)) r)) (Y i))))
        ∗ own c a8 (packH (put H i (upto j (fun j => snOf (S j) w b kx (saOf (S j) kk) (v i j)) (H i))))
        ∗ own c a9 (packV (put SA i (upto j (fun j => saOf (S j) kk) (SA i))))
        ∗ own c a10 (packS (upto j (fun j => snOf (S j) w b kx (saOf (S j) kk) (v i j)) S)))
      ⊢ iprop((own c a6 (packV v)
          ∗ own c a7 (packV (put Y i (upto (j + n) (fun j => colSum (mulf (snOf (S j) w b kx (saOf (S j) kk) (v i j)) r)) (Y i))))
          ∗ own c a8 (packH (put H i (upto (j + n) (fun j => snOf (S j) w b kx (saOf (S j) kk) (v i j)) (H i))))
          ∗ own c a9 (packV (put SA i (upto (j + n) (fun j => saOf (S j) kk) (SA i))))
          ∗ own c a10 (packS (upto (j + n) (fun j => snOf (S j) w b kx (saOf (S j) kk) (v i j)) S)) -∗ Q ⟨⟩)
        -∗ wp (M := MT nD τ sig Ix (Elt F) Name U Lvl) frame (wpE defs 𝒱 (c : Thread nD τ) none) E (frows a6 a7 a8 a9 a10 i hi kk w b kx r n j h) Q)
  | 0, j, h => by
    simp only [frows, wp_pure]
    iintro H K
    imodintro
    iapply K
    iexact H
  | n + 1, j, h => by
    unfold frows frow
    simp only [wp_bind]
    iintro ⟨H6, H7, H8, H9, H10⟩ K
    iapply (wp_ldS a10 j _ _ _) $$ H10
    iintro H10
    iapply (wp_ldV a6 i j hi _ _ _) $$ H6
    iintro H6
    iapply (wp_stS a10 j _ _ _ _) $$ H10
    iintro H10
    iapply (wp_stH a8 i j hi _ _ _ _) $$ H8
    iintro H8
    iapply (wp_stV a9 i j hi _ _ _ _) $$ H9
    iintro H9
    iapply (wp_stV a7 i j hi _ _ _ _) $$ H7
    iintro H7
    rw [upto_at]
    simp only [put_upto (N := fun j => snOf (S j) w b kx (saOf (S j) kk) (v i j)),
      put2_row (N := fun j => snOf (S j) w b kx (saOf (S j) kk) (v i j)), put2_row (N := fun j => saOf (S j) kk),
      put2_row (N := fun j => colSum (mulf (snOf (S j) w b kx (saOf (S j) kk) (v i j)) r))]
    iapply (wp_frows i hi kk w b kx r v S Y SA H Q n (j + 1) _) $$ [H6 H7 H8 H9 H10]
    · isplitl [H6]; · iexact H6
      isplitl [H7]; · iexact H7
      isplitl [H8]; · iexact H8
      isplitl [H9]; · iexact H9
      iexact H10
    rw [show j + 1 + n = j + (n + 1) by omega]
    iexact K

omit [FloatOps F] in
theorem packV_row (n : Nat) (N O : Nat → Nat → Row F) (x : Nat → Row F) :
    packV (put (upto n N O) n (upto 32 (N n) x)) = packV (upto (n + 1) N O) := packV_congr fun i _ j hj => by
  rw [← put_upto n N O]
  by_cases h : i = n
  · subst h; rw [put_self, put_self, upto_lt _ _ hj]
  · rw [put_ne _ _ _ _ h, put_ne _ _ _ _ h]
omit [FloatOps F] in
theorem packH_row (n : Nat) (N O : Nat → Nat → Tile F) (x : Nat → Tile F) :
    packH (put (upto n N O) n (upto 32 (N n) x)) = packH (upto (n + 1) N O) := packH_congr fun i _ j hj => by
  rw [← put_upto n N O]
  by_cases h : i = n
  · subst h; rw [put_self, put_self, upto_lt _ _ hj]
  · rw [put_ne _ _ _ _ h, put_ne _ _ _ _ h]

variable (kk w b kx r : Nat → Tile F) (v : Nat → Nat → Row F) (Y SA : Nat → Nat → Row F) (H : Nat → Nat → Tile F) (t0 : Nat)

/-- The forward kernel's buffers after `n` steps of the block that begins with step `t0`. -/
def fwdAt (n : Nat) : sProp 𝕄 :=
  iprop((own c a1 (packK fun i => kk (t0 + i)) ∗ own c a2 (packK fun i => w (t0 + i)) ∗ own c a3 (packK fun i => b (t0 + i))
      ∗ own c a4 (packK fun i => kx (t0 + i)) ∗ own c a5 (packK fun i => r (t0 + i)))
    ∗ own c a6 (packV fun i => v (t0 + i))
    ∗ own c a7 (packV (upto n (fun i => trajY kk w b kx r v (t0 + i)) Y))
    ∗ own c a8 (packH (upto n (fun i => traj kk w b kx v (t0 + i + 1)) H))
    ∗ own c a9 (packV (upto n (fun i => trajSa kk w b kx v (t0 + i)) SA))
    ∗ own c a10 (packS (traj kk w b kx v (t0 + n))))

theorem wp_fstep (n : Nat) (hn : n < 16) (Q : PUnit → sProp 𝕄) :
    fwdAt (c := c) a1 a2 a3 a4 a5 a6 a7 a8 a9 a10 kk w b kx r v Y SA H t0 n
      ⊢ iprop((fwdAt (c := c) a1 a2 a3 a4 a5 a6 a7 a8 a9 a10 kk w b kx r v Y SA H t0 (n + 1) -∗ Q ⟨⟩)
        -∗ wp (M := MT nD τ sig Ix (Elt F) Name U Lvl) frame (wpE defs 𝒱 (c : Thread nD τ) none) E (fstep a1 a2 a3 a4 a5 a6 a7 a8 a9 a10 n hn) Q) := by
  unfold fwdAt fstep
  simp only [wp_bind]
  iintro ⟨⟨H1, H2, H3, H4, H5⟩, H6, H7, H8, H9, H10⟩ K
  iapply (wp_ldK a1 n hn _ _) $$ H1
  iintro H1
  iapply (wp_ldK a2 n hn _ _) $$ H2
  iintro H2
  iapply (wp_ldK a3 n hn _ _) $$ H3
  iintro H3
  iapply (wp_ldK a4 n hn _ _) $$ H4
  iintro H4
  iapply (wp_ldK a5 n hn _ _) $$ H5
  iintro H5
  iapply (wp_frows a6 a7 a8 a9 a10 n hn (kk (t0 + n)) (w (t0 + n)) (b (t0 + n)) (kx (t0 + n)) (r (t0 + n)) (fun i => v (t0 + i))
    (traj kk w b kx v (t0 + n)) (upto n (fun i => trajY kk w b kx r v (t0 + i)) Y)
    (upto n (fun i => trajSa kk w b kx v (t0 + i)) SA) (upto n (fun i => traj kk w b kx v (t0 + i + 1)) H) Q 32 0 _) $$ [H6 H7 H8 H9 H10]
  · rw [upto_zero, upto_zero, upto_zero, upto_zero, put_same, put_same, put_same]
    isplitl [H6]; · iexact H6
    isplitl [H7]; · iexact H7
    isplitl [H8]; · iexact H8
    isplitl [H9]; · iexact H9
    iexact H10
  iintro ⟨H6, H7, H8, H9, H10⟩
  iapply K
  isplitl [H1 H2 H3 H4 H5]
  · isplitl [H1]; · iexact H1
    isplitl [H2]; · iexact H2
    isplitl [H3]; · iexact H3
    isplitl [H4]; · iexact H4
    iexact H5
  isplitl [H6]; · iexact H6
  isplitl [H7]
  · rw [← packV_row n (fun i => trajY kk w b kx r v (t0 + i)) Y (upto n (fun i => trajY kk w b kx r v (t0 + i)) Y n)]
    iexact H7
  isplitl [H8]
  · rw [← packH_row n (fun i => traj kk w b kx v (t0 + i + 1)) H (upto n (fun i => traj kk w b kx v (t0 + i + 1)) H n)]
    iexact H8
  isplitl [H9]
  · rw [← packV_row n (fun i => trajSa kk w b kx v (t0 + i)) SA (upto n (fun i => trajSa kk w b kx v (t0 + i)) SA n)]
    iexact H9
  rw [show packS (traj kk w b kx v (t0 + (n + 1)))
      = packS (upto (0 + 32) (fun j => snOf (traj kk w b kx v (t0 + n) j) (w (t0 + n)) (b (t0 + n)) (kx (t0 + n))
          (saOf (traj kk w b kx v (t0 + n) j) (kk (t0 + n))) (v (t0 + n) j)) (traj kk w b kx v (t0 + n)))
    from packS_congr fun j hj => (upto_lt _ _ hj).symm]
  iexact H10

theorem wp_floop (Q : PUnit → sProp 𝕄) :
    fwdAt (c := c) a1 a2 a3 a4 a5 a6 a7 a8 a9 a10 kk w b kx r v Y SA H t0 0
      ⊢ iprop((fwdAt (c := c) a1 a2 a3 a4 a5 a6 a7 a8 a9 a10 kk w b kx r v Y SA H t0 16 -∗ Q ⟨⟩)
        -∗ wp (M := MT nD τ sig Ix (Elt F) Name U Lvl) frame (wpE defs 𝒱 (c : Thread nD τ) none) E (floop a1 a2 a3 a4 a5 a6 a7 a8 a9 a10) Q) := by
  unfold floop
  iintro H K
  iapply (Scf.wp_for frame (wpE defs 𝒱 (c : Thread nD τ) none) E _ _ _ _ _ _
    (fun n (_ : PUnit) => fwdAt (c := c) a1 a2 a3 a4 a5 a6 a7 a8 a9 a10 kk w b kx r v Y SA H t0 n) ?_)
  · intro k _
    have e : stepAt k = k.val := stepAt_eq k
    rw [wp_bind]
    generalize stepAt_lt k = hk
    revert hk
    rw [e]
    intro hk
    iintro H
    iapply (wp_fstep a1 a2 a3 a4 a5 a6 a7 a8 a9 a10 kk w b kx r v Y SA H t0 k.val hk _) $$ H
    iintro H
    rw [wp_pure]
    imodintro
    iexact H
  isplitl [H]; · iexact H
  iintro %_ H
  iapply K
  iexact H

/-- The forward body at a block's first step `t0`: the state rows come in as they stand before that step, or, at the
first block, as anything. -/
theorem wp_fbody (i : grid0.Coords) (X : FVec F S32x64x128 .f32) (hX : ¬ firstG (i 0).val → X = packS (traj kk w b kx v t0))
    (h0 : firstG (i 0).val → t0 = 0)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (Q : PUnit → sProp 𝕄) :
    iprop((own c a1 (packK fun i => kk (t0 + i)) ∗ own c a2 (packK fun i => w (t0 + i)) ∗ own c a3 (packK fun i => b (t0 + i))
        ∗ own c a4 (packK fun i => kx (t0 + i)) ∗ own c a5 (packK fun i => r (t0 + i)))
      ∗ own c a6 (packV fun i => v (t0 + i)) ∗ own c a7 (packV Y) ∗ own c a8 (packH H) ∗ own c a9 (packV SA) ∗ own c a10 X)
      ⊢ iprop(((own c a1 (packK fun i => kk (t0 + i)) ∗ own c a2 (packK fun i => w (t0 + i)) ∗ own c a3 (packK fun i => b (t0 + i))
        ∗ own c a4 (packK fun i => kx (t0 + i)) ∗ own c a5 (packK fun i => r (t0 + i)))
      ∗ own c a6 (packV fun i => v (t0 + i))
      ∗ own c a7 (packV fun i => trajY kk w b kx r v (t0 + i))
      ∗ own c a8 (packH fun i => traj kk w b kx v (t0 + i + 1))
      ∗ own c a9 (packV fun i => trajSa kk w b kx v (t0 + i))
      ∗ own c a10 (packS (traj kk w b kx v (t0 + 16))) -∗ Q ⟨⟩)
        -∗ wp (M := MT nD τ sig Ix (Elt F) Name U Lvl) frame (wpE defs 𝒱 (c : Thread nD τ) none) E (cc0_rwkv_scan_fwd i a1 h1 a2 h2 a3 h3 a4 h4 a5 h5 a6 h6 a7 h7 a8 h8 a9 h9 a10 h10) Q) := by
  rw [fwd_body, wp_bind]
  iintro ⟨⟨H1, H2, H3, H4, H5⟩, H6, H7, H8, H9, H10⟩ K
  have hz : own (Ix := Ix) (Name := Name) (U := U) (Lvl := Lvl) c a10 X
      ⊢ iprop((own c a10 (packS (traj kk w b kx v t0)) -∗ wp (M := MT nD τ sig Ix (Elt F) Name U Lvl) frame (wpE defs 𝒱 (c : Thread nD τ) none) E (floop a1 a2 a3 a4 a5 a6 a7 a8 a9 a10 >>= fun _ => pure ⟨⟩) Q)
        -∗ wp (M := MT nD τ sig Ix (Elt F) Name U Lvl) frame (wpE defs 𝒱 (c : Thread nD τ) none) E (if firstG (i 0).val then zeroS a10 else pure ⟨⟩) fun _ => wp (M := MT nD τ sig Ix (Elt F) Name U Lvl) frame (wpE defs 𝒱 (c : Thread nD τ) none) E (floop a1 a2 a3 a4 a5 a6 a7 a8 a9 a10 >>= fun _ => pure ⟨⟩) Q) := by
    by_cases hg : firstG (i 0).val
    · rw [if_pos hg]
      obtain rfl := h0 hg
      rw [show traj kk w b kx v 0 = fun _ => zeroT from rfl]
      iintro H K
      iapply (wp_zeroS a10 X _) $$ H
      iexact K
    · rw [if_neg hg, hX hg, wp_pure]
      iintro H K
      imodintro
      iapply K
      iexact H
  iapply hz $$ H10
  iintro H10
  rw [wp_bind]
  iapply (wp_floop a1 a2 a3 a4 a5 a6 a7 a8 a9 a10 kk w b kx r v Y SA H t0 _) $$ [H1 H2 H3 H4 H5 H6 H7 H8 H9 H10]
  · unfold fwdAt
    rw [upto_zero, upto_zero, upto_zero]
    isplitl [H1 H2 H3 H4 H5]
    · isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    iexact H10
  iintro H
  rw [wp_pure]
  imodintro
  iapply K
  unfold fwdAt
  rw [show packV (upto 16 (fun i => trajY kk w b kx r v (t0 + i)) Y) = packV (fun i => trajY kk w b kx r v (t0 + i)) from
      packV_congr fun i hi j _ => congrFun (upto_lt _ _ hi) j,
    show packH (upto 16 (fun i => traj kk w b kx v (t0 + i + 1)) H) = packH (fun i => traj kk w b kx v (t0 + i + 1)) from
      packH_congr fun i hi j _ => congrFun (upto_lt _ _ hi) j,
    show packV (upto 16 (fun i => trajSa kk w b kx v (t0 + i)) SA) = packV (fun i => trajSa kk w b kx v (t0 + i)) from
      packV_congr fun i hi j _ => congrFun (upto_lt _ _ hi) j]
  iexact H

end Fwd

end Cert.KernelIdeal.Steps
-- ==== Proof.Backward.lean ====
/-
  What the backward body does: from the state gradient after a block of 16 steps to the state gradient before it, the
  block's gradients of the keys and values written.
-/
module

public import proofs.«01_k».proof.Proof.Forward

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Facts₀

/-- From the `n`-th on those of `N`, the others from `O`. -/
def downto {α : Type} (n : Nat) (N O : Nat → α) : Nat → α := fun j => if n ≤ j then N j else O j

theorem downto_at {α : Type} (n : Nat) (N O : Nat → α) : downto (n + 1) N O n = O n := if_neg (by omega)
theorem put_downto {α : Type} (n : Nat) (N O : Nat → α) : put (downto (n + 1) N O) n (N n) = downto n N O := funext fun j => by
  unfold put downto
  by_cases h : j = n
  · subst h; rw [if_pos rfl, if_pos le_rfl]
  · rw [if_neg h]; exact if_congr (by omega) rfl rfl
theorem downto_zero {α : Type} (N O : Nat → α) : downto 0 N O = N := funext fun _ => if_pos (Nat.zero_le _)

variable {F : FTy → Type} [FloatOps F]

omit [FloatOps F] in
theorem packV_rowDown (n : Nat) (N O : Nat → Nat → Row F) (x : Nat → Row F) :
    packV (put (downto (n + 1) N O) n (upto 32 (N n) x)) = packV (downto n N O) := packV_congr fun i _ j hj => by
  rw [← put_downto n N O]
  by_cases h : i = n
  · subst h; rw [put_self, put_self, upto_lt _ _ hj]
  · rw [put_ne _ _ _ _ h, put_ne _ _ _ _ h]
omit [FloatOps F] in
theorem packV_full (N O : Nat → Nat → Row F) : packV (downto 16 N O) = packV O :=
  packV_congr fun _ hi _ _ => congrFun (if_neg (Nat.not_le.mpr hi)) _
omit [FloatOps F] in
theorem packK_full (N O : Nat → Tile F) : packK (downto 16 N O) = packK O :=
  packK_congr fun _ hi => if_neg (Nat.not_le.mpr hi)

/-- The gradients a step sums over its first `n` state rows. -/
def accF (so sn gg : Nat → Tile F) (b : Tile F) (v dy sa : Nat → Row F) : Nat → Acc F
  | 0 => Acc.zero
  | n + 1 => (accF so sn gg b v dy sa n).next (so n) (sn n) (gg n) b (v n) (dy n) (sa n)

section Gradient
variable (kk w b kx r : Nat → Tile F) (v dy sa : Nat → Nat → Row F) (st : Nat → Nat → Tile F)

/-- The state gradient `n` steps before the last. -/
def gBack : Nat → Nat → Tile F
  | 0, _ => zeroT
  | n + 1, j => gNext (gOf (gBack n j) (r (2047 - n)) (dy (2047 - n) j)) (w (2047 - n)) (kk (2047 - n)) (b (2047 - n))
/-- The gradient of the state rows before step `t`. -/
def gAt (t j : Nat) : Tile F := gBack kk w b r dy (2048 - t) j
/-- The gradient of the state rows after step `t`, the step's result included. -/
def gIn (t j : Nat) : Tile F := gOf (gAt kk w b r dy (t + 1) j) (r t) (dy t j)
/-- The state rows before step `t`, from the rows after every step. -/
def bef (t j : Nat) : Tile F := if t = 0 then zeroT else st (t - 1) j
/-- The sums of step `t`, -/
def accAt (t : Nat) : Acc F := accF (bef st t) (st t) (gIn kk w b r dy t) (b t) (v t) (dy t) (sa t) 32
/-- and its gradients: of the five key rows -/
def gradR (t : Nat) : Tile F := bothOf (accAt kk w b r v dy sa st t).r
def gradW (t : Nat) : Tile F := bothOf (accAt kk w b r v dy sa st t).w
def gradB (t : Nat) : Tile F := bothOf (accAt kk w b r v dy sa st t).b
def gradKx (t : Nat) : Tile F := bothOf (accAt kk w b r v dy sa st t).kx
def gradKk (t : Nat) : Tile F := subf zeroT (bothOf (accAt kk w b r v dy sa st t).kk)
/-- and of the values. -/
def gradV (t j : Nat) : Row F := colSum (mulf (gIn kk w b r dy t j) (kx t))

theorem gAt_step (t j : Nat) (ht : t < 2048) :
    gAt kk w b r dy t j = gNext (gIn kk w b r dy t j) (w t) (kk t) (b t) := by
  unfold gIn gAt
  rw [show 2048 - t = 2048 - (t + 1) + 1 by omega]
  show gNext _ (w (2047 - (2048 - (t + 1)))) (kk (2047 - (2048 - (t + 1)))) (b (2047 - (2048 - (t + 1)))) = _
  rw [show 2047 - (2048 - (t + 1)) = t by omega]
end Gradient

variable {Ix : Type} [DecidableEq Ix] {Name : Type} [DecidableEq Name] {U : Type} [URA U] {Lvl : Type} [Preorder Lvl]
variable {defs : Defs nD τ sig (Elt F) Λ₀} {𝒱 : Variants} {c : Dev nD} {E : Set Name}

local notation "𝕄" => MT nD τ sig Ix (Elt F) Name U Lvl

section Bwd
variable (a1 a2 a3 a4 a5 : Memref sig .tc .vmem S16x64x128 .f32) (a6 : Memref sig .tc .vmem S16x32x128 .f32)
  (a7 : Memref sig .tc .vmem S16x32x64x128 .f32) (a8 : Memref sig .tc .vmem S1x32x64x128 .f32) (a9 a10 : Memref sig .tc .vmem S16x32x128 .f32)
  (a11 a12 a13 a14 a15 : Memref sig .tc .vmem S16x64x128 .f32) (a16 : Memref sig .tc .vmem S16x32x128 .f32) (a17 : Memref sig .tc .vmem S32x64x128 .f32)

/-- `n` state rows from row `j` on. -/
theorem wp_brows (before : (j : Nat) → j < 32 → P F (FVec F S64x128 .f32)) (i : Nat) (hi : i < 16) (kk w b kx r : Tile F)
    (v dy sa : Nat → Nat → Row F) (st : Nat → Nat → Tile F) (sb so : Nat → Tile F) (G : Nat → Tile F) (DV : Nat → Nat → Row F)
    (hb : ∀ (j : Nat) (hj : j < 32) (Q : Tile F → sProp 𝕄),
      iprop(own c a7 (packH st) ∗ own c a8 (packB sb)) ⊢ iprop(((own c a7 (packH st) ∗ own c a8 (packB sb)) -∗ Q (so j)) -∗ wp (M := MT nD τ sig Ix (Elt F) Name U Lvl) frame (wpE defs 𝒱 (c : Thread nD τ) none) E (before j hj) Q))
    (Q : Acc F → sProp 𝕄) : ∀ (n j : Nat) (h : j + n ≤ 32),
    iprop((own c a7 (packH st) ∗ own c a8 (packB sb)) ∗ own c a6 (packV v) ∗ own c a9 (packV sa) ∗ own c a10 (packV dy)
        ∗ own c a16 (packV (put DV i (upto j (fun j => colSum (mulf (gOf (G j) r (dy i j)) kx)) (DV i))))
        ∗ own c a17 (packS (upto j (fun j => gNext (gOf (G j) r (dy i j)) w kk b) G)))
      ⊢ iprop(((own c a7 (packH st) ∗ own c a8 (packB sb)) ∗ own c a6 (packV v) ∗ own c a9 (packV sa) ∗ own c a10 (packV dy)
          ∗ own c a16 (packV (put DV i (upto (j + n) (fun j => colSum (mulf (gOf (G j) r (dy i j)) kx)) (DV i))))
          ∗ own c a17 (packS (upto (j + n) (fun j => gNext (gOf (G j) r (dy i j)) w kk b) G))
          -∗ Q (accF so (st i) (fun j => gOf (G j) r (dy i j)) b (v i) (dy i) (sa i) (j + n)))
        -∗ wp (M := MT nD τ sig Ix (Elt F) Name U Lvl) frame (wpE defs 𝒱 (c : Thread nD τ) none) E (brows a6 a7 a9 a10 a16 a17 before i hi kk w b kx r n j h
          (accF so (st i) (fun j => gOf (G j) r (dy i j)) b (v i) (dy i) (sa i) j)) Q)
  | 0, j, h => by
    simp only [brows, wp_pure]
    iintro H K
    imodintro
    iapply K
    iexact H
  | n + 1, j, h => by
    unfold brows brow
    simp only [wp_bind]
    iintro ⟨R, H6, H9, H10, H16, H17⟩ K
    iapply (hb j _ _) $$ R
    iintro ⟨H7, H8⟩
    iapply (wp_ldH a7 i j hi _ _ _) $$ H7
    iintro H7
    iapply (wp_ldV a6 i j hi _ _ _) $$ H6
    iintro H6
    iapply (wp_ldV a10 i j hi _ _ _) $$ H10
    iintro H10
    iapply (wp_ldV a9 i j hi _ _ _) $$ H9
    iintro H9
    iapply (wp_ldS a17 j _ _ _) $$ H17
    iintro H17
    iapply (wp_stV a16 i j hi _ _ _ _) $$ H16
    iintro H16
    iapply (wp_stS a17 j _ _ _ _) $$ H17
    iintro H17
    rw [upto_at, wp_pure]
    imodintro
    simp only [put_upto (N := fun j => gNext (gOf (G j) r (dy i j)) w kk b),
      put2_row (N := fun j => colSum (mulf (gOf (G j) r (dy i j)) kx))]
    iapply (wp_brows before i hi kk w b kx r v dy sa st sb so G DV hb Q n (j + 1) _) $$ [H6 H7 H8 H9 H10 H16 H17]
    · isplitl [H7 H8]
      · isplitl [H7]; · iexact H7
        iexact H8
      isplitl [H6]; · iexact H6
      isplitl [H9]; · iexact H9
      isplitl [H10]; · iexact H10
      isplitl [H16]; · iexact H16
      iexact H17
    rw [show j + 1 + n = j + (n + 1) by omega]
    iexact K

variable (kk w b kx r : Nat → Tile F) (v dy sa : Nat → Nat → Row F) (st : Nat → Nat → Tile F) (t0 : Nat)
  (DKK DW DB DKX DR : Nat → Tile F) (DV : Nat → Nat → Row F)

/-- The backward kernel's input blocks that begin with step `t0`. -/
def bwdIn : sProp 𝕄 :=
  iprop((own c a1 (packK fun i => kk (t0 + i)) ∗ own c a2 (packK fun i => w (t0 + i)) ∗ own c a3 (packK fun i => b (t0 + i))
      ∗ own c a4 (packK fun i => kx (t0 + i)) ∗ own c a5 (packK fun i => r (t0 + i)))
    ∗ (own c a7 (packH fun i => st (t0 + i)) ∗ own c a8 (packB (st (t0 - 1))))
    ∗ own c a6 (packV fun i => v (t0 + i)) ∗ own c a9 (packV fun i => sa (t0 + i)) ∗ own c a10 (packV fun i => dy (t0 + i)))
/-- Its output blocks once rows `n` to 15 are done, -/
def bwdOut (n : Nat) : sProp 𝕄 :=
  iprop((own c a11 (packK (downto n (fun i => gradKk kk w b r v dy sa st (t0 + i)) DKK))
      ∗ own c a12 (packK (downto n (fun i => gradW kk w b r v dy sa st (t0 + i)) DW))
      ∗ own c a13 (packK (downto n (fun i => gradB kk w b r v dy sa st (t0 + i)) DB))
      ∗ own c a14 (packK (downto n (fun i => gradKx kk w b r v dy sa st (t0 + i)) DKX))
      ∗ own c a15 (packK (downto n (fun i => gradR kk w b r v dy sa st (t0 + i)) DR)))
    ∗ own c a16 (packV (downto n (fun i => gradV kk w b kx r dy (t0 + i)) DV)))
/-- and all its buffers. -/
def bwdAt (n : Nat) : sProp 𝕄 :=
  iprop(bwdIn (c := c) a1 a2 a3 a4 a5 a6 a7 a8 a9 a10 kk w b kx r v dy sa st t0
    ∗ bwdOut (c := c) a11 a12 a13 a14 a15 a16 kk w b kx r v dy sa st t0 DKK DW DB DKX DR DV n
    ∗ own c a17 (packS (gAt kk w b r dy (t0 + n))))

theorem wp_bstep (before : (j : Nat) → j < 32 → P F (FVec F S64x128 .f32)) (n : Nat) (hn : n < 16) (ht : t0 + n < 2048)
    (hb : ∀ (j : Nat) (hj : j < 32) (Q : Tile F → sProp 𝕄),
      iprop(own c a7 (packH fun i => st (t0 + i)) ∗ own c a8 (packB (st (t0 - 1))))
        ⊢ iprop(((own c a7 (packH fun i => st (t0 + i)) ∗ own c a8 (packB (st (t0 - 1)))) -∗ Q (bef st (t0 + n) j)) -∗ wp (M := MT nD τ sig Ix (Elt F) Name U Lvl) frame (wpE defs 𝒱 (c : Thread nD τ) none) E (before j hj) Q))
    (Q : PUnit → sProp 𝕄) :
    bwdAt (c := c) a1 a2 a3 a4 a5 a6 a7 a8 a9 a10 a11 a12 a13 a14 a15 a16 a17 kk w b kx r v dy sa st t0 DKK DW DB DKX DR DV (n + 1)
      ⊢ iprop((bwdAt (c := c) a1 a2 a3 a4 a5 a6 a7 a8 a9 a10 a11 a12 a13 a14 a15 a16 a17 kk w b kx r v dy sa st t0 DKK DW DB DKX DR DV n -∗ Q ⟨⟩)
        -∗ wp (M := MT nD τ sig Ix (Elt F) Name U Lvl) frame (wpE defs 𝒱 (c : Thread nD τ) none) E (bstep a1 a2 a3 a4 a5 a6 a7 a9 a10 a11 a12 a13 a14 a15 a16 a17 before n hn) Q) := by
  unfold bwdAt bwdIn bwdOut bstep
  simp only [wp_bind]
  iintro ⟨⟨⟨H1, H2, H3, H4, H5⟩, R, H6, H9, H10⟩, ⟨⟨H11, H12, H13, H14, H15⟩, H16⟩, H17⟩ K
  iapply (wp_ldK a1 n hn _ _) $$ H1
  iintro H1
  iapply (wp_ldK a2 n hn _ _) $$ H2
  iintro H2
  iapply (wp_ldK a3 n hn _ _) $$ H3
  iintro H3
  iapply (wp_ldK a4 n hn _ _) $$ H4
  iintro H4
  iapply (wp_ldK a5 n hn _ _) $$ H5
  iintro H5
  iapply (wp_brows a6 a7 a8 a9 a10 a16 a17 before n hn (kk (t0 + n)) (w (t0 + n)) (b (t0 + n)) (kx (t0 + n)) (r (t0 + n))
    (fun i => v (t0 + i)) (fun i => dy (t0 + i)) (fun i => sa (t0 + i)) (fun i => st (t0 + i)) (st (t0 - 1)) (bef st (t0 + n))
    (gAt kk w b r dy (t0 + n + 1)) (downto (n + 1) (fun i => gradV kk w b kx r dy (t0 + i)) DV) hb _ 32 0 _) $$ [R H6 H9 H10 H16 H17]
  · rw [upto_zero, upto_zero, put_same]
    isplitl [R]; · iexact R
    isplitl [H6]; · iexact H6
    isplitl [H9]; · iexact H9
    isplitl [H10]; · iexact H10
    isplitl [H16]; · iexact H16
    iexact H17
  iintro ⟨R, H6, H9, H10, H16, H17⟩
  iapply (wp_stK a15 n hn _ _ _) $$ H15
  iintro H15
  iapply (wp_stK a12 n hn _ _ _) $$ H12
  iintro H12
  iapply (wp_stK a13 n hn _ _ _) $$ H13
  iintro H13
  iapply (wp_stK a14 n hn _ _ _) $$ H14
  iintro H14
  iapply (wp_stK a11 n hn _ _ _) $$ H11
  iintro H11
  iapply K
  isplitl [H1 H2 H3 H4 H5 R H6 H9 H10]
  · isplitl [H1 H2 H3 H4 H5]
    · isplitl [H1]; · iexact H1
      isplitl [H2]; · iexact H2
      isplitl [H3]; · iexact H3
      isplitl [H4]; · iexact H4
      iexact H5
    isplitl [R]; · iexact R
    isplitl [H6]; · iexact H6
    isplitl [H9]; · iexact H9
    iexact H10
  isplitr [H17]
  · isplitr [H16]
    · rw [← put_downto n (fun i => gradKk kk w b r v dy sa st (t0 + i)) DKK, ← put_downto n (fun i => gradW kk w b r v dy sa st (t0 + i)) DW,
        ← put_downto n (fun i => gradB kk w b r v dy sa st (t0 + i)) DB, ← put_downto n (fun i => gradKx kk w b r v dy sa st (t0 + i)) DKX,
        ← put_downto n (fun i => gradR kk w b r v dy sa st (t0 + i)) DR]
      isplitl [H11]; · iexact H11
      isplitl [H12]; · iexact H12
      isplitl [H13]; · iexact H13
      isplitl [H14]; · iexact H14
      iexact H15
    rw [← packV_rowDown n (fun i => gradV kk w b kx r dy (t0 + i)) DV (downto (n + 1) (fun i => gradV kk w b kx r dy (t0 + i)) DV n)]
    iexact H16
  rw [show packS (gAt kk w b r dy (t0 + n)) = packS (upto (0 + 32) (fun j => gNext (gOf (gAt kk w b r dy (t0 + n + 1) j) (r (t0 + n)) (dy (t0 + n) j)) (w (t0 + n)) (kk (t0 + n)) (b (t0 + n)))
        (gAt kk w b r dy (t0 + n + 1)))
    from packS_congr fun j hj => by rw [upto_lt _ _ (show j < 0 + 32 by omega)]; exact gAt_step kk w b r dy (t0 + n) j ht]
  iexact H17

theorem wp_bloop (ht : t0 + 16 ≤ 2048) (Q : PUnit → sProp 𝕄) :
    bwdAt (c := c) a1 a2 a3 a4 a5 a6 a7 a8 a9 a10 a11 a12 a13 a14 a15 a16 a17 kk w b kx r v dy sa st t0 DKK DW DB DKX DR DV 16
      ⊢ iprop((bwdAt (c := c) a1 a2 a3 a4 a5 a6 a7 a8 a9 a10 a11 a12 a13 a14 a15 a16 a17 kk w b kx r v dy sa st t0 DKK DW DB DKX DR DV 1 -∗ Q ⟨⟩)
        -∗ wp (M := MT nD τ sig Ix (Elt F) Name U Lvl) frame (wpE defs 𝒱 (c : Thread nD τ) none) E (bloop a1 a2 a3 a4 a5 a6 a7 a9 a10 a11 a12 a13 a14 a15 a16 a17) Q) := by
  unfold bloop
  iintro H K
  iapply (Scf.wp_for frame (wpE defs 𝒱 (c : Thread nD τ) none) E _ _ _ _ _ _
    (fun n (_ : PUnit) => bwdAt (c := c) a1 a2 a3 a4 a5 a6 a7 a8 a9 a10 a11 a12 a13 a14 a15 a16 a17 kk w b kx r v dy sa st t0 DKK DW DB DKX DR DV (16 - n)) ?_)
  · intro k _
    have e : rowAt k = 15 - k.val := rowAt_eq k
    have e' : prevAt k = 14 - k.val := prevAt_eq k
    have hk15 : k.val < 15 := k.isLt
    rw [wp_bind]
    generalize rowAt_lt k = hk
    generalize prevAt_lt k = hk'
    revert hk hk'
    rw [e, e']
    intro hk hk'
    rw [show 16 - k.val = (15 - k.val) + 1 by omega, show 16 - (k.val + 1) = 15 - k.val by omega]
    iintro H
    iapply (wp_bstep a1 a2 a3 a4 a5 a6 a7 a8 a9 a10 a11 a12 a13 a14 a15 a16 a17 kk w b kx r v dy sa st t0 DKK DW DB DKX DR DV _ (15 - k.val) hk (by omega) ?_ _) $$ H
    · intro j hj Q'
      rw [show bef st (t0 + (15 - k.val)) j = st (t0 + (14 - k.val)) j from
        (if_neg (by omega)).trans (congrArg (fun t => st t j) (by omega))]
      iintro ⟨H7, H8⟩ K
      iapply (wp_ldH a7 (14 - k.val) j hk' hj (fun i => st (t0 + i)) _) $$ H7
      iintro H7
      iapply K
      isplitl [H7]; · iexact H7
      iexact H8
    iintro H
    rw [wp_pure]
    imodintro
    iexact H
  isplitl [H]; · iexact H
  iintro %_ H
  iapply K
  iexact H

/-- The backward body at the block that begins with step `t0`: the state gradient comes in as it stands after the block, or, at
the last block, as anything. -/
theorem wp_bbody (i : grid1.Coords) (X : FVec F S32x64x128 .f32) (hX : ¬ firstG (i 0).val → X = packS (gAt kk w b r dy (t0 + 16)))
    (h0 : firstG (i 0).val → t0 + 16 = 2048) (ht : t0 + 16 ≤ 2048)
    (hsel : Scalar.cmpi .eq (BitVec.ofNat 32 (i 0).val) 127#32 = if t0 = 0 then 1#1 else 0#1)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (h15 : a15.IsWhole) (h16 : a16.IsWhole) (h17 : a17.IsWhole) (Q : PUnit → sProp 𝕄) :
    iprop(bwdIn (c := c) a1 a2 a3 a4 a5 a6 a7 a8 a9 a10 kk w b kx r v dy sa st t0
      ∗ ((own c a11 (packK DKK) ∗ own c a12 (packK DW) ∗ own c a13 (packK DB) ∗ own c a14 (packK DKX) ∗ own c a15 (packK DR)) ∗ own c a16 (packV DV))
      ∗ own c a17 X)
      ⊢ iprop((bwdAt (c := c) a1 a2 a3 a4 a5 a6 a7 a8 a9 a10 a11 a12 a13 a14 a15 a16 a17 kk w b kx r v dy sa st t0 DKK DW DB DKX DR DV 0 -∗ Q ⟨⟩)
        -∗ wp (M := MT nD τ sig Ix (Elt F) Name U Lvl) frame (wpE defs 𝒱 (c : Thread nD τ) none) E (cc1_rwkv_scan_bwd i a1 h1 a2 h2 a3 h3 a4 h4 a5 h5 a6 h6 a7 h7 a8 h8 a9 h9 a10 h10 a11 h11 a12 h12 a13 h13 a14 h14 a15 h15 a16 h16 a17 h17) Q) := by
  rw [bwd_body, wp_bind]
  iintro ⟨HI, ⟨⟨H11, H12, H13, H14, H15⟩, H16⟩, H17⟩ K
  have hz (R : sProp 𝕄) : own (Ix := Ix) (Name := Name) (U := U) (Lvl := Lvl) c a17 X
      ⊢ iprop((own c a17 (packS (gAt kk w b r dy (t0 + 16))) -∗ R) -∗ wp (M := MT nD τ sig Ix (Elt F) Name U Lvl) frame (wpE defs 𝒱 (c : Thread nD τ) none) E (if firstG (i 0).val then zeroS a17 else pure ⟨⟩) fun _ => R) := by
    by_cases hg : firstG (i 0).val
    · rw [if_pos hg, h0 hg, show gAt kk w b r dy 2048 = fun _ => zeroT from rfl]
      iintro H K
      iapply (wp_zeroS a17 X _) $$ H
      iexact K
    · rw [if_neg hg, hX hg, wp_pure]
      iintro H K
      imodintro
      iapply K
      iexact H
  iapply (hz _) $$ H17
  iintro H17
  rw [wp_bind]
  iapply (wp_bloop a1 a2 a3 a4 a5 a6 a7 a8 a9 a10 a11 a12 a13 a14 a15 a16 a17 kk w b kx r v dy sa st t0 DKK DW DB DKX DR DV ht _) $$ [HI H11 H12 H13 H14 H15 H16 H17]
  · unfold bwdAt bwdOut
    rw [packK_full, packK_full, packK_full, packK_full, packK_full, packV_full]
    isplitl [HI]; · iexact HI
    isplitr [H17]
    · isplitr [H16]
      · isplitl [H11]; · iexact H11
        isplitl [H12]; · iexact H12
        isplitl [H13]; · iexact H13
        isplitl [H14]; · iexact H14
        iexact H15
      iexact H16
    iexact H17
  iintro H
  rw [wp_bind]
  iapply (wp_bstep a1 a2 a3 a4 a5 a6 a7 a8 a9 a10 a11 a12 a13 a14 a15 a16 a17 kk w b kx r v dy sa st t0 DKK DW DB DKX DR DV _ 0 _ (by omega) ?_ _) $$ H
  · intro j hj Q'
    unfold beforeFirst
    rw [wp_bind]
    iintro ⟨H7, H8⟩ K
    iapply (wp_ldB a8 j hj (st (t0 - 1)) _) $$ H8
    iintro H8
    rw [hsel, wp_pure]
    imodintro
    rw [show Scalar.select (if t0 = 0 then 1#1 else 0#1) zeroT (st (t0 - 1) j) = bef st (t0 + 0) j from by
      unfold bef
      by_cases h : t0 = 0
      · rw [if_pos h, if_pos (show t0 + 0 = 0 by omega)]; rfl
      · rw [if_neg h, if_neg (show ¬ t0 + 0 = 0 by omega)]; rfl]
    iapply K
    isplitl [H7]; · iexact H7
    iexact H8
  iintro H
  rw [wp_pure]
  imodintro
  iapply K
  iexact H

end Bwd

end Cert.KernelIdeal.Steps
-- ==== Proof.Blocks.lean ====
/-
  The windows' blocks as rows. A kernel's array is a run of rows, one per time step; the block a window shows at a
  grid point is the 16 consecutive rows (for the state before a block: the one row) of its array that the index map names.
-/
module

public import proofs.«01_k».proof.Proof.Rows

@[expose] public section

noncomputable section

namespace Cert.KernelIdeal.Steps

open Idealize.ShloMosaic
open Idealize.ShloMosaic.TcCoe
open Idealize.ShloMosaic.ValueIdx
open Cert.KernelIdeal.Facts₀

variable {F : FTy → Type} [FloatOps F]

/-! ## Whole arrays and their rows -/

/-- The row of time step `t` (a row of zeros past the end). -/
def keyAt (X : FVec F S2048x64x128 .f32) (t : Nat) : Tile F := fun y => if h : t < 2048 then X (ix3 ⟨t, h⟩ (y 0) (y 1)) else zeroT y
def valAt (X : FVec F S2048x32x128 .f32) (t j : Nat) : Row F := fun y =>
  if h : t < 2048 ∧ j < 32 then X (ix3 ⟨t, h.1⟩ ⟨j, h.2⟩ (y 1)) else colSum zeroT y
def stateAt (X : FVec F S2048x32x64x128 .f32) (t j : Nat) : Tile F := fun y =>
  if h : t < 2048 ∧ j < 32 then X (ix4 ⟨t, h.1⟩ ⟨j, h.2⟩ (y 0) (y 1)) else zeroT y

/-- The array of given rows. -/
def allK (x : Nat → Tile F) : FVec F S2048x64x128 .f32 := fun y => x (y 0).val (ix2 (y 1) (y 2))
def allV (x : Nat → Nat → Row F) : FVec F S2048x32x128 .f32 := fun y => x (y 0).val (y 1).val (ix2 0 (y 2))
def allH (x : Nat → Nat → Tile F) : FVec F S2048x32x64x128 .f32 := fun y => x (y 0).val (y 1).val (ix2 (y 2) (y 3))

theorem keyAt_allK (x : Nat → Tile F) {t : Nat} (h : t < 2048) : keyAt (allK x) t = x t := funext fun y => by
  obtain ⟨a, b, rfl⟩ : ∃ a b, y = ix2 a b := ⟨_, _, eq_ix2 y⟩
  exact dif_pos h
theorem valAt_allV (x : Nat → Nat → Row F) {t j : Nat} (h : t < 2048) (hj : j < 32) : valAt (allV x) t j = x t j := funext fun y => by
  obtain ⟨a, b, rfl⟩ : ∃ a b, y = ix2 a b := ⟨_, _, eq_ix2 y⟩
  obtain rfl : a = 0 := Subsingleton.elim (α := Fin 1) _ _
  exact dif_pos ⟨h, hj⟩
theorem stateAt_allH (x : Nat → Nat → Tile F) {t j : Nat} (h : t < 2048) (hj : j < 32) : stateAt (allH x) t j = x t j := funext fun y => by
  obtain ⟨a, b, rfl⟩ : ∃ a b, y = ix2 a b := ⟨_, _, eq_ix2 y⟩
  exact dif_pos ⟨h, hj⟩

/-! ## A block read -/

section Read
variable (ix : Fin 3 → Nat) (q : Nat) (h0 : ix 0 = q) (h1 : ix 1 = 0) (h2 : ix 2 = 0)

include h0 h1 h2 in
theorem readK (hin : ∀ a, (ix a + 1) * S16x64x128.size a ≤ S2048x64x128.size a) (X : FVec F S2048x64x128 .f32) :
    (fun y => X ((Rect.block (s := S2048x64x128) S16x64x128.size ix hin).emb y)) = packK fun i => keyAt X (16 * q + i) := by
  funext y
  obtain ⟨a, b, c, rfl⟩ : ∃ a b c, y = ix3 a b c := ⟨_, _, _, eq_ix3 y⟩
  have hq : (q + 1) * 16 ≤ 2048 := h0 ▸ hin 0
  have ha : a.val < 16 := a.isLt
  show _ = dite (16 * q + a.val < 2048) _ _
  rw [dif_pos (show 16 * q + a.val < 2048 by omega)]
  refine congrArg X ?_
  funext k
  apply Fin.ext
  fin_cases k
  · show ix 0 * 16 + 1 * a.val = 16 * q + a.val; rw [h0]; omega
  · show ix 1 * 64 + 1 * b.val = b.val; rw [h1]; omega
  · show ix 2 * 128 + 1 * c.val = c.val; rw [h2]; omega

include h0 h1 h2 in
theorem readV (hin : ∀ a, (ix a + 1) * S16x32x128.size a ≤ S2048x32x128.size a) (X : FVec F S2048x32x128 .f32) :
    (fun y => X ((Rect.block (s := S2048x32x128) S16x32x128.size ix hin).emb y)) = packV fun i => valAt X (16 * q + i) := by
  funext y
  obtain ⟨a, b, c, rfl⟩ : ∃ a b c, y = ix3 a b c := ⟨_, _, _, eq_ix3 y⟩
  have hq : (q + 1) * 16 ≤ 2048 := h0 ▸ hin 0
  have ha : a.val < 16 := a.isLt
  show _ = dite (16 * q + a.val < 2048 ∧ b.val < 32) _ _
  rw [dif_pos (show 16 * q + a.val < 2048 ∧ b.val < 32 from ⟨by omega, b.isLt⟩)]
  refine congrArg X ?_
  funext k
  apply Fin.ext
  fin_cases k
  · show ix 0 * 16 + 1 * a.val = 16 * q + a.val; rw [h0]; omega
  · show ix 1 * 32 + 1 * b.val = b.val; rw [h1]; omega
  · show ix 2 * 128 + 1 * c.val = c.val; rw [h2]; omega

include h0 h1 h2 in
/-- Every element of an array lies in the block of its time step. -/
theorem memK (hin : ∀ a, (ix a + 1) * S16x64x128.size a ≤ S2048x64x128.size a) (y : S2048x64x128.Idx) (hy : (y 0).val / 16 = q) :
    ∃ z, (Rect.block (s := S2048x64x128) S16x64x128.size ix hin).emb z = y := by
  obtain ⟨a, b, c, rfl⟩ : ∃ a b c, y = ix3 a b c := ⟨_, _, _, eq_ix3 y⟩
  have hy' : a.val / 16 = q := hy
  refine ⟨ix3 ⟨a.val % 16, Nat.mod_lt _ (by decide)⟩ b c, ?_⟩
  funext k
  apply Fin.ext
  fin_cases k
  · show ix 0 * 16 + 1 * (a.val % 16) = a.val; rw [h0]; omega
  · show ix 1 * 64 + 1 * b.val = b.val; rw [h1]; omega
  · show ix 2 * 128 + 1 * c.val = c.val; rw [h2]; omega

include h0 h1 h2 in
theorem memV (hin : ∀ a, (ix a + 1) * S16x32x128.size a ≤ S2048x32x128.size a) (y : S2048x32x128.Idx) (hy : (y 0).val / 16 = q) :
    ∃ z, (Rect.block (s := S2048x32x128) S16x32x128.size ix hin).emb z = y := by
  obtain ⟨a, b, c, rfl⟩ : ∃ a b c, y = ix3 a b c := ⟨_, _, _, eq_ix3 y⟩
  have hy' : a.val / 16 = q := hy
  refine ⟨ix3 ⟨a.val % 16, Nat.mod_lt _ (by decide)⟩ b c, ?_⟩
  funext k
  apply Fin.ext
  fin_cases k
  · show ix 0 * 16 + 1 * (a.val % 16) = a.val; rw [h0]; omega
  · show ix 1 * 32 + 1 * b.val = b.val; rw [h1]; omega
  · show ix 2 * 128 + 1 * c.val = c.val; rw [h2]; omega

end Read

section ReadH
variable (ix : Fin 4 → Nat) (q : Nat) (h0 : ix 0 = q) (h1 : ix 1 = 0) (h2 : ix 2 = 0) (h3 : ix 3 = 0)

include h0 h1 h2 h3 in
theorem readH (hin : ∀ a, (ix a + 1) * S16x32x64x128.size a ≤ S2048x32x64x128.size a) (X : FVec F S2048x32x64x128 .f32) :
    (fun y => X ((Rect.block (s := S2048x32x64x128) S16x32x64x128.size ix hin).emb y)) = packH fun i => stateAt X (16 * q + i) := by
  funext y
  obtain ⟨a, b, c, d, rfl⟩ : ∃ a b c d, y = ix4 a b c d := ⟨_, _, _, _, eq_ix4 y⟩
  have hq : (q + 1) * 16 ≤ 2048 := h0 ▸ hin 0
  have ha : a.val < 16 := a.isLt
  show _ = dite (16 * q + a.val < 2048 ∧ b.val < 32) _ _
  rw [dif_pos (show 16 * q + a.val < 2048 ∧ b.val < 32 from ⟨by omega, b.isLt⟩)]
  refine congrArg X ?_
  funext k
  apply Fin.ext
  fin_cases k
  · show ix 0 * 16 + 1 * a.val = 16 * q + a.val; rw [h0]; omega
  · show ix 1 * 32 + 1 * b.val = b.val; rw [h1]; omega
  · show ix 2 * 64 + 1 * c.val = c.val; rw [h2]; omega
  · show ix 3 * 128 + 1 * d.val = d.val; rw [h3]; omega

include h0 h1 h2 h3 in
theorem readB (hin : ∀ a, (ix a + 1) * S1x32x64x128.size a ≤ S2048x32x64x128.size a) (X : FVec F S2048x32x64x128 .f32) :
    (fun y => X ((Rect.block (s := S2048x32x64x128) S1x32x64x128.size ix hin).emb y)) = packB (stateAt X q) := by
  funext y
  obtain ⟨a, b, c, d, rfl⟩ : ∃ a b c d, y = ix4 a b c d := ⟨_, _, _, _, eq_ix4 y⟩
  have hq : (q + 1) * 1 ≤ 2048 := h0 ▸ hin 0
  have ha : a.val < 1 := a.isLt
  show _ = dite (q < 2048 ∧ b.val < 32) _ _
  rw [dif_pos (show q < 2048 ∧ b.val < 32 from ⟨by omega, b.isLt⟩)]
  refine congrArg X ?_
  funext k
  apply Fin.ext
  fin_cases k
  · show ix 0 * 1 + 1 * a.val = q; rw [h0]; omega
  · show ix 1 * 32 + 1 * b.val = b.val; rw [h1]; omega
  · show ix 2 * 64 + 1 * c.val = c.val; rw [h2]; omega
  · show ix 3 * 128 + 1 * d.val = d.val; rw [h3]; omega

include h0 h1 h2 h3 in
theorem memH (hin : ∀ a, (ix a + 1) * S16x32x64x128.size a ≤ S2048x32x64x128.size a) (y : S2048x32x64x128.Idx) (hy : (y 0).val / 16 = q) :
    ∃ z, (Rect.block (s := S2048x32x64x128) S16x32x64x128.size ix hin).emb z = y := by
  obtain ⟨a, b, c, d, rfl⟩ : ∃ a b c d, y = ix4 a b c d := ⟨_, _, _, _, eq_ix4 y⟩
  have hy' : a.val / 16 = q := hy
  refine ⟨ix4 ⟨a.val % 16, Nat.mod_lt _ (by decide)⟩ b c d, ?_⟩
  funext k
  apply Fin.ext
  fin_cases k
  · show ix 0 * 16 + 1 * (a.val % 16) = a.val; rw [h0]; omega
  · show ix 1 * 32 + 1 * b.val = b.val; rw [h1]; omega
  · show ix 2 * 64 + 1 * c.val = c.val; rw [h2]; omega
  · show ix 3 * 128 + 1 * d.val = d.val; rw [h3]; omega

end ReadH

/-! ## Rows written back -/

theorem packK_all (x : Nat → Tile F) {q : Nat} (hq : q < 128) :
    (packK fun i => keyAt (allK x) (16 * q + i)) = packK fun i => x (16 * q + i) :=
  packK_congr fun i hi => keyAt_allK x (by omega)
theorem packV_all (x : Nat → Nat → Row F) {q : Nat} (hq : q < 128) :
    (packV fun i => valAt (allV x) (16 * q + i)) = packV fun i => x (16 * q + i) :=
  packV_congr fun i hi j hj => valAt_allV x (by omega) hj
theorem packH_all (x : Nat → Nat → Tile F) {q : Nat} (hq : q < 128) :
    (packH fun i => stateAt (allH x) (16 * q + i)) = packH fun i => x (16 * q + i) :=
  packH_congr fun i hi j hj => stateAt_allH x (by omega) hj

end Cert.KernelIdeal.Steps

end
-- ==== Proof.Region0.lean ====
/-
  The forward scan on its grid: 128 points of 16 time steps each. The state rows carried in the scratch buffer before
  point `t` are those before step `16 t`; a point writes the results, states and inner products of its 16 steps, and
  the points together write the three result arrays whole.
-/
module

public import proofs.«01_k».proof.Proof.Forward
public import proofs.«01_k».proof.Proof.Blocks
public import proofs.«01_k».proof.Proof.Gen.KernelIdeal.Points
public import proofs.«01_k».proof.Proof.Gen.KernelIdeal.Launch
public import Idealize.ShloMosaic.Lib.Pipeline.Frame

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Facts₀ Cert.KernelIdeal.Gen

variable {F : FTy → Type} [FloatOps F]

local notation "𝕄" => MT nD τ sig Unit (Elt F) ℕ (UR sig nD τ) ℕ

/-- The rows of the arrays the forward scan reads. -/
abbrev kkRow (V : Valuation τ sig (Elt F)) : Nat → Tile F := keyAt (V (Proc.devRef .tc main_v3))
abbrev wRow (V : Valuation τ sig (Elt F)) : Nat → Tile F := keyAt (V (Proc.devRef .tc main_v7))
abbrev bRow (V : Valuation τ sig (Elt F)) : Nat → Tile F := keyAt (V (Proc.devRef .tc main_v11))
abbrev kxRow (V : Valuation τ sig (Elt F)) : Nat → Tile F := keyAt (V (Proc.devRef .tc main_v15))
abbrev rRow (V : Valuation τ sig (Elt F)) : Nat → Tile F := keyAt (V (Proc.devRef .tc main_v19))
abbrev vRow (V : Valuation τ sig (Elt F)) : Nat → Nat → Row F := valAt (V (Proc.devRef .tc main_v22))

/-- The states, results and inner products they give. -/
abbrev fwdS (V : Valuation τ sig (Elt F)) : Nat → Nat → Tile F := traj (kkRow V) (wRow V) (bRow V) (kxRow V) (vRow V)
abbrev fwdSa (V : Valuation τ sig (Elt F)) : Nat → Nat → Row F := trajSa (kkRow V) (wRow V) (bRow V) (kxRow V) (vRow V)
abbrev fwdY (V : Valuation τ sig (Elt F)) : Nat → Nat → Row F := trajY (kkRow V) (wRow V) (bRow V) (kxRow V) (rRow V) (vRow V)

/-- The scratch buffer before point `n`, beside the scoped buffers the forward scan leaves alone. -/
def inv0 (V : Valuation τ sig (Elt F)) (c : Dev nD) (n : Nat) : sProp 𝕄 :=
  iprop((∃ X : FVec F S32x64x128 .f32, ⌜n ≠ 0 → X = packS (fwdS V (16 * n))⌝ ∗ own c (Memref.whole cc0_scratch0) X)
    ∗ Pipeline.scopedRestBut (Ix := Unit) (Name := ℕ) (U := UR sig nD τ) (Lvl := ℕ) (Val := Elt F) spec0 c [cc0_scratch0])

/-- What the body leaves in each window's buffer at point `t`. -/
def left0 (V : Valuation τ sig (Elt F)) (w : Fin cfg0.W) (t : Nat) : (cfg0.win w).block.Idx → Elt F (cfg0.win w).elt :=
  match w with
  | ⟨0, _⟩ => packK fun i => kkRow V (16 * t + i)
  | ⟨1, _⟩ => packK fun i => wRow V (16 * t + i)
  | ⟨2, _⟩ => packK fun i => bRow V (16 * t + i)
  | ⟨3, _⟩ => packK fun i => kxRow V (16 * t + i)
  | ⟨4, _⟩ => packK fun i => rRow V (16 * t + i)
  | ⟨5, _⟩ => packV fun i => vRow V (16 * t + i)
  | ⟨6, _⟩ => packV fun i => fwdY V (16 * t + i)
  | ⟨7, _⟩ => packH fun i => fwdS V (16 * t + i + 1)
  | ⟨8, _⟩ => packV fun i => fwdSa V (16 * t + i)

/-- The proof data: arrays entered at `V`, nothing owed. -/
def dat0 (V : Valuation τ sig (Elt F)) (c : Dev nD) : Dat τ (Elt F) Unit ℕ (UR sig nD τ) ℕ cfg0 c where
  A w := V (Proc.devRef .tc (Pipeline.arrRef spec0 w))
  after w t := left0 V w t.val
  Φ t := inv0 V c t.val
  q w := Pipeline.shareOf spec0 w
  owed _ := 0

theorem coords0 (t : Fin cfg0.N) : (grid0.coords t 0).val = t.val :=
  (Pipeline.Grid.coords_val t 0 (S := 1) (B := 128) (by decide) rfl).trans (by
    have h : t.val < 128 := N_0 ▸ t.isLt
    omega)

theorem lt0 (t : Fin cfg0.N) : t.val < 128 := N_0 ▸ t.isLt

theorem index0 (t : Fin cfg0.N) : (BitVec.ofNat 32 (grid0.coords t 0).val).toNat = t.val := by
  rw [coords0, BitVec.toNat_ofNat, Nat.mod_eq_of_lt]
  have := lt0 t; omega

theorem first_iff : ∀ n < 128, (firstG n ↔ n = 0) := by decide

/-! ## The blocks the body finds -/

section
variable (V : Valuation τ sig (Elt F)) (c : Dev nD) (t : Fin cfg0.N)

theorem in0_0 (d) : (dat0 V c).before 0 t d = packK fun i => kkRow V (16 * t.val + i) := by
  unfold Dat.before; rw [if_pos (fetch0_0 t)]
  exact readK _ t.val (index0 t) rfl rfl (Facts₀.hinb0_0 _) (V (Proc.devRef .tc main_v3))
theorem in0_1 (d) : (dat0 V c).before 1 t d = packK fun i => wRow V (16 * t.val + i) := by
  unfold Dat.before; rw [if_pos (fetch0_1 t)]
  exact readK _ t.val (index0 t) rfl rfl (Facts₀.hinb0_1 _) (V (Proc.devRef .tc main_v7))
theorem in0_2 (d) : (dat0 V c).before 2 t d = packK fun i => bRow V (16 * t.val + i) := by
  unfold Dat.before; rw [if_pos (fetch0_2 t)]
  exact readK _ t.val (index0 t) rfl rfl (Facts₀.hinb0_2 _) (V (Proc.devRef .tc main_v11))
theorem in0_3 (d) : (dat0 V c).before 3 t d = packK fun i => kxRow V (16 * t.val + i) := by
  unfold Dat.before; rw [if_pos (fetch0_3 t)]
  exact readK _ t.val (index0 t) rfl rfl (Facts₀.hinb0_3 _) (V (Proc.devRef .tc main_v15))
theorem in0_4 (d) : (dat0 V c).before 4 t d = packK fun i => rRow V (16 * t.val + i) := by
  unfold Dat.before; rw [if_pos (fetch0_4 t)]
  exact readK _ t.val (index0 t) rfl rfl (Facts₀.hinb0_4 _) (V (Proc.devRef .tc main_v19))
theorem in0_5 (d) : (dat0 V c).before 5 t d = packV fun i => vRow V (16 * t.val + i) := by
  unfold Dat.before; rw [if_pos (fetch0_5 t)]
  exact readV _ t.val (index0 t) rfl rfl (Facts₀.hinb0_5 _) (V (Proc.devRef .tc main_v22))

end

/-! ## The body at a point -/

set_option backward.isDefEq.respectTransparency.types false in
theorem body0 (V : Valuation τ sig (Elt F)) (c : Dev nD) : BodyObligation (dat0 V c) (defs₀ (F := F)) Variants.none () Set.univ := fun t => by
  rw [bigSep_W0, bigSep_W0]
  simp only [in0_0, in0_1, in0_2, in0_3, in0_4, in0_5]
  rw [show (dat0 V c).Φ t.castSucc = inv0 V c t.val from rfl, show (dat0 V c).Φ t.succ = inv0 V c (t.val + 1) from rfl]
  unfold inv0 Dat.owesAt Pipeline.owesWithin
  rw [show (dat0 V c).owed t.castSucc = 0 from rfl, show (dat0 V c).owed t.succ = 0 from rfl]
  iintro ⟨⟨⟨%X, %hX, HX⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hlt := lt0 t
  iapply (wp_fbody (win0_0.stage (cfg0.slots t 0)) (win0_1.stage (cfg0.slots t 1)) (win0_2.stage (cfg0.slots t 2))
    (win0_3.stage (cfg0.slots t 3)) (win0_4.stage (cfg0.slots t 4)) (win0_5.stage (cfg0.slots t 5)) (win0_6.stage (cfg0.slots t 6))
    (win0_7.stage (cfg0.slots t 7)) (win0_8.stage (cfg0.slots t 8)) (Memref.whole cc0_scratch0)
    (kkRow V) (wRow V) (bRow V) (kxRow V) (rRow V) (vRow V)
    (rowsV ((dat0 V c).before 6 t d6)) (rowsV ((dat0 V c).before 8 t d8)) (rowsH ((dat0 V c).before 7 t d7)) (16 * t.val)
    (grid0.coords t) X (fun h => hX fun e => h (by rw [coords0]; exact (first_iff _ hlt).mpr e))
    (fun h => by rw [coords0] at h; have := (first_iff _ hlt).mp h; omega)
    _ _ _ _ _ _ _ _ _ _ _) $$ [H0 H1 H2 H3 H4 H5 H6 H7 H8 HX]
  · rw [packV_rowsV, packV_rowsV, packH_rowsH]
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    isplitl [H7]; · iexact H7
    isplitl [H8]; · iexact H8
    iexact HX
  iintro ⟨⟨H0, H1, H2, H3, H4⟩, H5, H6, H7, H8, HX⟩
  isplitl [HX HR]
  · isplitl [HX]
    · iexists _; isplitr; swap; (· iexact HX)
      ipureintro; exact fun _ => congrArg (fun n => packS (fwdS V n)) (by omega)
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## What the region leaves -/

theorem covered {α : Type} {x : α} {S : Set α} {y : α} (h : y = x) (hy : y ∈ S) : x ∈ S := h ▸ hy

section
variable (V : Valuation τ sig (Elt F)) (c : Dev nD)

/-- The grid point of a time step. -/
def pt0 (n : Nat) (h : n < 2048) : Fin cfg0.N := ⟨n / 16, by show n / 16 < grid0.N; rw [N_0]; omega⟩

set_option backward.isDefEq.respectTransparency.types false in
theorem out0_6 : (dat0 V c).arrAt 6 cfg0.N = allV (fwdY V) :=
  (dat0 V c).arrAt_eq_of_cover 6 (allV (fwdY V))
    (fun t _ => ((readV _ t.val (index0 t) rfl rfl (Facts₀.hinb0_6 _) (allV (fwdY V))).trans (packV_all _ (lt0 t))).symm)
    fun i => ⟨pt0 (i 0).val (i 0).isLt, flush0_6 _, by
      obtain ⟨z, hz⟩ := memV _ _ (index0 (pt0 (i 0).val (i 0).isLt)) rfl rfl (Facts₀.hinb0_6 _) i rfl
      exact covered hz (View.emb_mem_set _ z)⟩

set_option backward.isDefEq.respectTransparency.types false in
theorem out0_7 : (dat0 V c).arrAt 7 cfg0.N = allH fun t => fwdS V (t + 1) :=
  (dat0 V c).arrAt_eq_of_cover 7 (allH fun t => fwdS V (t + 1))
    (fun t _ => ((readH _ t.val (index0 t) rfl rfl rfl (Facts₀.hinb0_7 _) (allH fun t => fwdS V (t + 1))).trans (packH_all _ (lt0 t))).symm)
    fun i => ⟨pt0 (i 0).val (i 0).isLt, flush0_7 _, by
      obtain ⟨z, hz⟩ := memH _ _ (index0 (pt0 (i 0).val (i 0).isLt)) rfl rfl rfl (Facts₀.hinb0_7 _) i rfl
      exact covered hz (View.emb_mem_set _ z)⟩

set_option backward.isDefEq.respectTransparency.types false in
theorem out0_8 : (dat0 V c).arrAt 8 cfg0.N = allV (fwdSa V) :=
  (dat0 V c).arrAt_eq_of_cover 8 (allV (fwdSa V))
    (fun t _ => ((readV _ t.val (index0 t) rfl rfl (Facts₀.hinb0_8 _) (allV (fwdSa V))).trans (packV_all _ (lt0 t))).symm)
    fun i => ⟨pt0 (i 0).val (i 0).isLt, flush0_8 _, by
      obtain ⟨z, hz⟩ := memV _ _ (index0 (pt0 (i 0).val (i 0).isLt)) rfl rfl (Facts₀.hinb0_8 _) i rfl
      exact covered hz (View.emb_mem_set _ z)⟩

end

end Cert.KernelIdeal.Steps

end
-- ==== Proof.Region1.lean ====
/-
  The backward scan on its grid: 128 points of 16 time steps each, the last steps first. The gradient of the state
  carried in the scratch buffer before point `t` is the one after step `16 (128 - t)`; a point writes the gradients of
  its 16 steps, and the points together write the six result arrays whole.
-/
module

public import proofs.«01_k».proof.Proof.Backward
public import proofs.«01_k».proof.Proof.Region0

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-- The rows of the further arrays the backward scan reads: the states after each step, the inner products, the
    gradient of the results. -/
abbrev stRow (V : Valuation τ sig (Elt F)) : Nat → Nat → Tile F := stateAt (V (Proc.devRef .tc main_v23_1))
abbrev saRow (V : Valuation τ sig (Elt F)) : Nat → Nat → Row F := valAt (V (Proc.devRef .tc main_v23_2))
abbrev dyRow (V : Valuation τ sig (Elt F)) : Nat → Nat → Row F := valAt (V (Proc.devRef .tc main_v29))

/-- The gradients they give: of the state after a step, and of each of a step's inputs. -/
abbrev bwdG (V : Valuation τ sig (Elt F)) : Nat → Nat → Tile F := gAt (kkRow V) (wRow V) (bRow V) (rRow V) (dyRow V)
abbrev bwdKk (V : Valuation τ sig (Elt F)) : Nat → Tile F := gradKk (kkRow V) (wRow V) (bRow V) (rRow V) (vRow V) (dyRow V) (saRow V) (stRow V)
abbrev bwdW (V : Valuation τ sig (Elt F)) : Nat → Tile F := gradW (kkRow V) (wRow V) (bRow V) (rRow V) (vRow V) (dyRow V) (saRow V) (stRow V)
abbrev bwdB (V : Valuation τ sig (Elt F)) : Nat → Tile F := gradB (kkRow V) (wRow V) (bRow V) (rRow V) (vRow V) (dyRow V) (saRow V) (stRow V)
abbrev bwdKx (V : Valuation τ sig (Elt F)) : Nat → Tile F := gradKx (kkRow V) (wRow V) (bRow V) (rRow V) (vRow V) (dyRow V) (saRow V) (stRow V)
abbrev bwdR (V : Valuation τ sig (Elt F)) : Nat → Tile F := gradR (kkRow V) (wRow V) (bRow V) (rRow V) (vRow V) (dyRow V) (saRow V) (stRow V)
abbrev bwdV (V : Valuation τ sig (Elt F)) : Nat → Nat → Row F := gradV (kkRow V) (wRow V) (bRow V) (kxRow V) (rRow V) (dyRow V)

/-- The scratch buffer before point `n`, beside the scoped buffers the backward scan leaves alone. -/
def inv1 (V : Valuation τ sig (Elt F)) (c : Dev nD) (n : Nat) : sProp 𝕄 :=
  iprop((∃ X : FVec F S32x64x128 .f32, ⌜n ≠ 0 → X = packS (bwdG V (16 * (128 - n)))⌝ ∗ own c (Memref.whole cc1_scratch0) X)
    ∗ Pipeline.scopedRestBut (Ix := Unit) (Name := ℕ) (U := UR sig nD τ) (Lvl := ℕ) (Val := Elt F) spec1 c [cc1_scratch0])

/-- The first step of point `t`'s block. -/
abbrev at1 (t : Nat) : Nat := 16 * (127 - t)

/-- What the body leaves in each window's buffer at point `t`. -/
def left1 (V : Valuation τ sig (Elt F)) (w : Fin cfg1.W) (t : Nat) : (cfg1.win w).block.Idx → Elt F (cfg1.win w).elt :=
  match w with
  | ⟨0, _⟩ => packK fun i => kkRow V (at1 t + i)
  | ⟨1, _⟩ => packK fun i => wRow V (at1 t + i)
  | ⟨2, _⟩ => packK fun i => bRow V (at1 t + i)
  | ⟨3, _⟩ => packK fun i => kxRow V (at1 t + i)
  | ⟨4, _⟩ => packK fun i => rRow V (at1 t + i)
  | ⟨5, _⟩ => packV fun i => vRow V (at1 t + i)
  | ⟨6, _⟩ => packH fun i => stRow V (at1 t + i)
  | ⟨7, _⟩ => packB (stRow V (at1 t - 1))
  | ⟨8, _⟩ => packV fun i => saRow V (at1 t + i)
  | ⟨9, _⟩ => packV fun i => dyRow V (at1 t + i)
  | ⟨10, _⟩ => packK fun i => bwdKk V (at1 t + i)
  | ⟨11, _⟩ => packK fun i => bwdW V (at1 t + i)
  | ⟨12, _⟩ => packK fun i => bwdB V (at1 t + i)
  | ⟨13, _⟩ => packK fun i => bwdKx V (at1 t + i)
  | ⟨14, _⟩ => packK fun i => bwdR V (at1 t + i)
  | ⟨15, _⟩ => packV fun i => bwdV V (at1 t + i)
  | ⟨n + 16, h⟩ => absurd h (by show ¬ n + 16 < 16; omega)

/-- The proof data: arrays entered at `V`, nothing owed. -/
def dat1 (V : Valuation τ sig (Elt F)) (c : Dev nD) : Dat τ (Elt F) Unit ℕ (UR sig nD τ) ℕ cfg1 c where
  A w := V (Proc.devRef .tc (Pipeline.arrRef spec1 w))
  after w t := left1 V w t.val
  Φ t := inv1 V c t.val
  q w := Pipeline.shareOf spec1 w
  owed _ := 0

theorem lt1 (t : Fin cfg1.N) : t.val < 128 := N_1 ▸ t.isLt

theorem coords1 (t : Fin cfg1.N) : (grid1.coords t 0).val = t.val :=
  (Pipeline.Grid.coords_val t 0 (S := 1) (B := 128) (by decide) rfl).trans (by
    have h := lt1 t
    omega)

theorem back_all : ∀ n < 128, (Scalar.subi 127#32 (BitVec.ofNat 32 n)).toNat = 127 - n := by decide
theorem prev_all : ∀ n < 128,
    (Scalar.maxsi (Scalar.subi (Scalar.muli (Scalar.subi 127#32 (BitVec.ofNat 32 n)) 16#32) 1#32) 0#32).toNat = 16 * (127 - n) - 1 := by decide
theorem last_all : ∀ n < 128, Scalar.cmpi .eq (BitVec.ofNat 32 n) 127#32 = if 16 * (127 - n) = 0 then 1#1 else 0#1 := by decide

theorem index1 (t : Fin cfg1.N) : (Scalar.subi 127#32 (BitVec.ofNat 32 (grid1.coords t 0).val)).toNat = 127 - t.val := by
  rw [coords1]; exact back_all _ (lt1 t)
theorem prev1 (t : Fin cfg1.N) :
    (Scalar.maxsi (Scalar.subi (Scalar.muli (Scalar.subi 127#32 (BitVec.ofNat 32 (grid1.coords t 0).val)) 16#32) 1#32) 0#32).toNat
      = 16 * (127 - t.val) - 1 := by
  rw [coords1]; exact prev_all _ (lt1 t)

/-! ## The blocks the body finds -/

section
variable (V : Valuation τ sig (Elt F)) (c : Dev nD) (t : Fin cfg1.N)

theorem in1_0 (d) : (dat1 V c).before 0 t d = packK fun i => kkRow V (at1 t.val + i) := by
  unfold Dat.before; rw [if_pos (fetch1_0 t)]
  exact readK _ _ (index1 t) rfl rfl (Facts₀.hinb1_0 _) (V (Proc.devRef .tc main_v3))
theorem in1_1 (d) : (dat1 V c).before 1 t d = packK fun i => wRow V (at1 t.val + i) := by
  unfold Dat.before; rw [if_pos (fetch1_1 t)]
  exact readK _ _ (index1 t) rfl rfl (Facts₀.hinb1_1 _) (V (Proc.devRef .tc main_v7))
theorem in1_2 (d) : (dat1 V c).before 2 t d = packK fun i => bRow V (at1 t.val + i) := by
  unfold Dat.before; rw [if_pos (fetch1_2 t)]
  exact readK _ _ (index1 t) rfl rfl (Facts₀.hinb1_2 _) (V (Proc.devRef .tc main_v11))
theorem in1_3 (d) : (dat1 V c).before 3 t d = packK fun i => kxRow V (at1 t.val + i) := by
  unfold Dat.before; rw [if_pos (fetch1_3 t)]
  exact readK _ _ (index1 t) rfl rfl (Facts₀.hinb1_3 _) (V (Proc.devRef .tc main_v15))
theorem in1_4 (d) : (dat1 V c).before 4 t d = packK fun i => rRow V (at1 t.val + i) := by
  unfold Dat.before; rw [if_pos (fetch1_4 t)]
  exact readK _ _ (index1 t) rfl rfl (Facts₀.hinb1_4 _) (V (Proc.devRef .tc main_v19))
theorem in1_5 (d) : (dat1 V c).before 5 t d = packV fun i => vRow V (at1 t.val + i) := by
  unfold Dat.before; rw [if_pos (fetch1_5 t)]
  exact readV _ _ (index1 t) rfl rfl (Facts₀.hinb1_5 _) (V (Proc.devRef .tc main_v22))
theorem in1_6 (d) : (dat1 V c).before 6 t d = packH fun i => stRow V (at1 t.val + i) := by
  unfold Dat.before; rw [if_pos (fetch1_6 t)]
  exact readH _ _ (index1 t) rfl rfl rfl (Facts₀.hinb1_6 _) (V (Proc.devRef .tc main_v23_1))
theorem in1_7 (d) : (dat1 V c).before 7 t d = packB (stRow V (at1 t.val - 1)) := by
  unfold Dat.before; rw [if_pos (fetch1_7 t)]
  exact readB _ _ (prev1 t) rfl rfl rfl (Facts₀.hinb1_7 _) (V (Proc.devRef .tc main_v23_1))
theorem in1_8 (d) : (dat1 V c).before 8 t d = packV fun i => saRow V (at1 t.val + i) := by
  unfold Dat.before; rw [if_pos (fetch1_8 t)]
  exact readV _ _ (index1 t) rfl rfl (Facts₀.hinb1_8 _) (V (Proc.devRef .tc main_v23_2))
theorem in1_9 (d) : (dat1 V c).before 9 t d = packV fun i => dyRow V (at1 t.val + i) := by
  unfold Dat.before; rw [if_pos (fetch1_9 t)]
  exact readV _ _ (index1 t) rfl rfl (Facts₀.hinb1_9 _) (V (Proc.devRef .tc main_v29))

end

/-! ## The body at a point -/

set_option backward.isDefEq.respectTransparency.types false in
theorem body1 (V : Valuation τ sig (Elt F)) (c : Dev nD) : BodyObligation (dat1 V c) (defs₀ (F := F)) Variants.none () Set.univ := fun t => by
  rw [bigSep_W1, bigSep_W1]
  simp only [in1_0, in1_1, in1_2, in1_3, in1_4, in1_5, in1_6, in1_7, in1_8, in1_9]
  rw [show (dat1 V c).Φ t.castSucc = inv1 V c t.val from rfl, show (dat1 V c).Φ t.succ = inv1 V c (t.val + 1) from rfl]
  unfold inv1 Dat.owesAt Pipeline.owesWithin
  rw [show (dat1 V c).owed t.castSucc = 0 from rfl, show (dat1 V c).owed t.succ = 0 from rfl]
  iintro ⟨⟨⟨%X, %hX, HX⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩, ⟨%d15, H15⟩⟩
  have hlt := lt1 t
  iapply (wp_bbody (win1_0.stage (cfg1.slots t 0)) (win1_1.stage (cfg1.slots t 1)) (win1_2.stage (cfg1.slots t 2))
    (win1_3.stage (cfg1.slots t 3)) (win1_4.stage (cfg1.slots t 4)) (win1_5.stage (cfg1.slots t 5)) (win1_6.stage (cfg1.slots t 6))
    (win1_7.stage (cfg1.slots t 7)) (win1_8.stage (cfg1.slots t 8)) (win1_9.stage (cfg1.slots t 9)) (win1_10.stage (cfg1.slots t 10))
    (win1_11.stage (cfg1.slots t 11)) (win1_12.stage (cfg1.slots t 12)) (win1_13.stage (cfg1.slots t 13)) (win1_14.stage (cfg1.slots t 14))
    (win1_15.stage (cfg1.slots t 15)) (Memref.whole cc1_scratch0)
    (kkRow V) (wRow V) (bRow V) (kxRow V) (rRow V) (vRow V) (dyRow V) (saRow V) (stRow V) (at1 t.val)
    (rowsK ((dat1 V c).before 10 t d10)) (rowsK ((dat1 V c).before 11 t d11)) (rowsK ((dat1 V c).before 12 t d12))
    (rowsK ((dat1 V c).before 13 t d13)) (rowsK ((dat1 V c).before 14 t d14)) (rowsV ((dat1 V c).before 15 t d15))
    (grid1.coords t) X
    (fun h => (hX fun e => h (by rw [coords1]; exact (first_iff _ hlt).mpr e)).trans (congrArg (fun n => packS (bwdG V n)) (by unfold at1; omega)))
    (fun h => by rw [coords1] at h; have := (first_iff _ hlt).mp h; unfold at1; omega) (by unfold at1; omega)
    (by rw [coords1]; exact last_all _ hlt)
    _ _ _ _ _ _ _ _ _ _ _ _ _ _ _ _ _ _) $$ [H0 H1 H2 H3 H4 H5 H6 H7 H8 H9 H10 H11 H12 H13 H14 H15 HX]
  · unfold bwdIn
    rw [packK_rowsK, packK_rowsK, packK_rowsK, packK_rowsK, packK_rowsK, packV_rowsV]
    isplitl [H0 H1 H2 H3 H4 H5 H6 H7 H8 H9]
    · isplitl [H0 H1 H2 H3 H4]
      · isplitl [H0]; · iexact H0
        isplitl [H1]; · iexact H1
        isplitl [H2]; · iexact H2
        isplitl [H3]; · iexact H3
        iexact H4
      isplitl [H6 H7]
      · isplitl [H6]; · iexact H6
        iexact H7
      isplitl [H5]; · iexact H5
      isplitl [H8]; · iexact H8
      iexact H9
    isplitr [HX]
    · isplitr [H15]
      · isplitl [H10]; · iexact H10
        isplitl [H11]; · iexact H11
        isplitl [H12]; · iexact H12
        isplitl [H13]; · iexact H13
        iexact H14
      iexact H15
    iexact HX
  unfold bwdAt bwdIn bwdOut
  simp only [downto_zero]
  iintro ⟨⟨⟨H0, H1, H2, H3, H4⟩, ⟨H6, H7⟩, H5, H8, H9⟩, ⟨⟨H10, H11, H12, H13, H14⟩, H15⟩, HX⟩
  isplitl [HX HR]
  · isplitl [HX]
    · iexists _; isplitr; swap; (· iexact HX)
      ipureintro; exact fun _ => congrArg (fun n => packS (bwdG V n)) (by unfold at1; omega)
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-! ## What the region leaves -/

section
variable (V : Valuation τ sig (Elt F)) (c : Dev nD)

/-- The grid point of a time step. -/
def pt1 (n : Nat) : Fin cfg1.N := ⟨127 - n / 16, by show 127 - n / 16 < grid1.N; rw [N_1]; omega⟩

theorem step1 {n : Nat} (h : n < 2048) : n / 16 = 127 - (pt1 n).val := by show n / 16 = 127 - (127 - n / 16); omega
theorem ltBack (n : Nat) : 127 - n < 128 := by omega

set_option backward.isDefEq.respectTransparency.types false in
theorem out1_10 : (dat1 V c).arrAt 10 cfg1.N = allK (bwdKk V) :=
  (dat1 V c).arrAt_eq_of_cover 10 (allK (bwdKk V))
    (fun t _ => ((readK _ _ (index1 t) rfl rfl (Facts₀.hinb1_10 _) (allK (bwdKk V))).trans (packK_all _ (ltBack _))).symm)
    fun i => ⟨pt1 (i 0).val, flush1_10 _, by
      obtain ⟨z, hz⟩ := memK _ _ (index1 (pt1 (i 0).val)) rfl rfl (Facts₀.hinb1_10 _) i (step1 (i 0).isLt)
      exact covered hz (View.emb_mem_set _ z)⟩
set_option backward.isDefEq.respectTransparency.types false in
theorem out1_11 : (dat1 V c).arrAt 11 cfg1.N = allK (bwdW V) :=
  (dat1 V c).arrAt_eq_of_cover 11 (allK (bwdW V))
    (fun t _ => ((readK _ _ (index1 t) rfl rfl (Facts₀.hinb1_11 _) (allK (bwdW V))).trans (packK_all _ (ltBack _))).symm)
    fun i => ⟨pt1 (i 0).val, flush1_11 _, by
      obtain ⟨z, hz⟩ := memK _ _ (index1 (pt1 (i 0).val)) rfl rfl (Facts₀.hinb1_11 _) i (step1 (i 0).isLt)
      exact covered hz (View.emb_mem_set _ z)⟩
set_option backward.isDefEq.respectTransparency.types false in
theorem out1_12 : (dat1 V c).arrAt 12 cfg1.N = allK (bwdB V) :=
  (dat1 V c).arrAt_eq_of_cover 12 (allK (bwdB V))
    (fun t _ => ((readK _ _ (index1 t) rfl rfl (Facts₀.hinb1_12 _) (allK (bwdB V))).trans (packK_all _ (ltBack _))).symm)
    fun i => ⟨pt1 (i 0).val, flush1_12 _, by
      obtain ⟨z, hz⟩ := memK _ _ (index1 (pt1 (i 0).val)) rfl rfl (Facts₀.hinb1_12 _) i (step1 (i 0).isLt)
      exact covered hz (View.emb_mem_set _ z)⟩
set_option backward.isDefEq.respectTransparency.types false in
theorem out1_13 : (dat1 V c).arrAt 13 cfg1.N = allK (bwdKx V) :=
  (dat1 V c).arrAt_eq_of_cover 13 (allK (bwdKx V))
    (fun t _ => ((readK _ _ (index1 t) rfl rfl (Facts₀.hinb1_13 _) (allK (bwdKx V))).trans (packK_all _ (ltBack _))).symm)
    fun i => ⟨pt1 (i 0).val, flush1_13 _, by
      obtain ⟨z, hz⟩ := memK _ _ (index1 (pt1 (i 0).val)) rfl rfl (Facts₀.hinb1_13 _) i (step1 (i 0).isLt)
      exact covered hz (View.emb_mem_set _ z)⟩
set_option backward.isDefEq.respectTransparency.types false in
theorem out1_14 : (dat1 V c).arrAt 14 cfg1.N = allK (bwdR V) :=
  (dat1 V c).arrAt_eq_of_cover 14 (allK (bwdR V))
    (fun t _ => ((readK _ _ (index1 t) rfl rfl (Facts₀.hinb1_14 _) (allK (bwdR V))).trans (packK_all _ (ltBack _))).symm)
    fun i => ⟨pt1 (i 0).val, flush1_14 _, by
      obtain ⟨z, hz⟩ := memK _ _ (index1 (pt1 (i 0).val)) rfl rfl (Facts₀.hinb1_14 _) i (step1 (i 0).isLt)
      exact covered hz (View.emb_mem_set _ z)⟩
set_option backward.isDefEq.respectTransparency.types false in
theorem out1_15 : (dat1 V c).arrAt 15 cfg1.N = allV (bwdV V) :=
  (dat1 V c).arrAt_eq_of_cover 15 (allV (bwdV V))
    (fun t _ => ((readV _ _ (index1 t) rfl rfl (Facts₀.hinb1_15 _) (allV (bwdV V))).trans (packV_all _ (ltBack _))).symm)
    fun i => ⟨pt1 (i 0).val, flush1_15 _, by
      obtain ⟨z, hz⟩ := memV _ _ (index1 (pt1 (i 0).val)) rfl rfl (Facts₀.hinb1_15 _) i (step1 (i 0).isLt)
      exact covered hz (View.emb_mem_set _ z)⟩

end

end Cert.KernelIdeal.Steps

end
-- ==== Proof.Leaves.lean ====
/-
  The two scans' regions as parts of a run: entered with the buffers at `V`, a region leaves them at `leave0 V` or
  `leave1 V`, which name its result arrays and keep everything else.
-/
module

public import proofs.«01_k».proof.Proof.Region1
public import proofs.«01_k».proof.Proof.Gen.KernelIdeal.Regions
public import Idealize.ShloMosaic.Lib.Pipeline.RegionsLoop
public import Idealize.ShloMosaic.Lib.Pipeline.RegionArrays

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg)
open Cert.KernelIdeal.Gen

variable {F : FTy → Type} [FloatOps F]

local notation "𝕄" => MT nD τ sig Unit (Elt F) ℕ (UR sig nD τ) ℕ

/-! ## What the two regions leave -/

/-- The buffers after the forward scan, and after the backward scan. -/
def leave0 (V : Valuation τ sig (Elt F)) : Valuation τ sig (Elt F) :=
  Function.update (Function.update (Function.update V (Proc.devRef .tc main_v23_0) (allV (fwdY V)))
    (Proc.devRef .tc main_v23_1) (allH fun t => fwdS V (t + 1))) (Proc.devRef .tc main_v23_2) (allV (fwdSa V))
def leave1 (V : Valuation τ sig (Elt F)) : Valuation τ sig (Elt F) :=
  Function.update (Function.update (Function.update (Function.update (Function.update (Function.update V
    (Proc.devRef .tc main_v30_0) (allK (bwdKk V))) (Proc.devRef .tc main_v30_1) (allK (bwdW V))) (Proc.devRef .tc main_v30_2) (allK (bwdB V)))
    (Proc.devRef .tc main_v30_3) (allK (bwdKx V))) (Proc.devRef .tc main_v30_4) (allK (bwdR V))) (Proc.devRef .tc main_v30_5) (allV (bwdV V))

section
variable (V : Valuation τ sig (Elt F)) (c : Dev nD)

theorem leave0_of (r : Ref sig .tc) (h : r ∉ ([main_v23_0, main_v23_1, main_v23_2] : List (Ref sig .tc))) :
    leave0 V (Proc.devRef .tc r) = V (Proc.devRef .tc r) := by
  simp only [List.mem_cons, List.not_mem_nil, or_false, not_or] at h
  unfold leave0
  rw [Function.update_of_ne (StableHlo.devRef_ne_of_ne h.2.2), Function.update_of_ne (StableHlo.devRef_ne_of_ne h.2.1),
    Function.update_of_ne (StableHlo.devRef_ne_of_ne h.1)]
theorem leave0_0 : leave0 V (Proc.devRef .tc main_v23_0) = allV (fwdY V) := by
  unfold leave0; rw [Function.update_of_ne (StableHlo.devRef_ne_of_ne (by decide)), Function.update_of_ne (StableHlo.devRef_ne_of_ne (by decide)), Function.update_self]
theorem leave0_1 : leave0 V (Proc.devRef .tc main_v23_1) = allH fun t => fwdS V (t + 1) := by
  unfold leave0; rw [Function.update_of_ne (StableHlo.devRef_ne_of_ne (by decide)), Function.update_self]
theorem leave0_2 : leave0 V (Proc.devRef .tc main_v23_2) = allV (fwdSa V) := by
  unfold leave0; rw [Function.update_self]
theorem leave1_of (r : Ref sig .tc) (h : r ∉ ([main_v30_0, main_v30_1, main_v30_2, main_v30_3, main_v30_4, main_v30_5] : List (Ref sig .tc))) :
    leave1 V (Proc.devRef .tc r) = V (Proc.devRef .tc r) := by
  simp only [List.mem_cons, List.not_mem_nil, or_false, not_or] at h
  unfold leave1
  rw [Function.update_of_ne (StableHlo.devRef_ne_of_ne h.2.2.2.2.2), Function.update_of_ne (StableHlo.devRef_ne_of_ne h.2.2.2.2.1),
    Function.update_of_ne (StableHlo.devRef_ne_of_ne h.2.2.2.1), Function.update_of_ne (StableHlo.devRef_ne_of_ne h.2.2.1),
    Function.update_of_ne (StableHlo.devRef_ne_of_ne h.2.1), Function.update_of_ne (StableHlo.devRef_ne_of_ne h.1)]
theorem leave1_0 : leave1 V (Proc.devRef .tc main_v30_0) = allK (bwdKk V) := by
  unfold leave1; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem leave1_1 : leave1 V (Proc.devRef .tc main_v30_1) = allK (bwdW V) := by
  unfold leave1; rw [Function.update_of_ne (StableHlo.devRef_ne_of_ne (by decide)), Function.update_of_ne (StableHlo.devRef_ne_of_ne (by decide)), Function.update_of_ne (StableHlo.devRef_ne_of_ne (by decide)), Function.update_of_ne (StableHlo.devRef_ne_of_ne (by decide)), Function.update_self]
theorem leave1_2 : leave1 V (Proc.devRef .tc main_v30_2) = allK (bwdB V) := by
  unfold leave1; rw [Function.update_of_ne (StableHlo.devRef_ne_of_ne (by decide)), Function.update_of_ne (StableHlo.devRef_ne_of_ne (by decide)), Function.update_of_ne (StableHlo.devRef_ne_of_ne (by decide)), Function.update_self]
theorem leave1_3 : leave1 V (Proc.devRef .tc main_v30_3) = allK (bwdKx V) := by
  unfold leave1; rw [Function.update_of_ne (StableHlo.devRef_ne_of_ne (by decide)), Function.update_of_ne (StableHlo.devRef_ne_of_ne (by decide)), Function.update_self]
theorem leave1_4 : leave1 V (Proc.devRef .tc main_v30_4) = allK (bwdR V) := by
  unfold leave1; rw [Function.update_of_ne (StableHlo.devRef_ne_of_ne (by decide)), Function.update_self]
theorem leave1_5 : leave1 V (Proc.devRef .tc main_v30_5) = allV (bwdV V) := by
  unfold leave1; rw [Function.update_self]

set_option backward.isDefEq.respectTransparency.types false in
theorem leaves0 (w : Fin cfg0.W) : (dat0 V c).arrAt w cfg0.N = leave0 V (Proc.devRef .tc (Pipeline.arrRef spec0 w)) := by
  match w with
  | ⟨0, _⟩ => exact ((dat0 V c).arrAt_in 0 rfl _).trans (leave0_of V main_v3 (by decide)).symm
  | ⟨1, _⟩ => exact ((dat0 V c).arrAt_in 1 rfl _).trans (leave0_of V main_v7 (by decide)).symm
  | ⟨2, _⟩ => exact ((dat0 V c).arrAt_in 2 rfl _).trans (leave0_of V main_v11 (by decide)).symm
  | ⟨3, _⟩ => exact ((dat0 V c).arrAt_in 3 rfl _).trans (leave0_of V main_v15 (by decide)).symm
  | ⟨4, _⟩ => exact ((dat0 V c).arrAt_in 4 rfl _).trans (leave0_of V main_v19 (by decide)).symm
  | ⟨5, _⟩ => exact ((dat0 V c).arrAt_in 5 rfl _).trans (leave0_of V main_v22 (by decide)).symm
  | ⟨6, _⟩ => exact (out0_6 V c).trans (leave0_0 V).symm
  | ⟨7, _⟩ => exact (out0_7 V c).trans (leave0_1 V).symm
  | ⟨8, _⟩ => exact (out0_8 V c).trans (leave0_2 V).symm
  | ⟨n + 9, h⟩ => exact absurd h (by show ¬ n + 9 < 9; omega)

set_option maxHeartbeats 2000000 in
set_option backward.isDefEq.respectTransparency.types false in
theorem leaves1 (w : Fin cfg1.W) : (dat1 V c).arrAt w cfg1.N = leave1 V (Proc.devRef .tc (Pipeline.arrRef spec1 w)) := by
  match w with
  | ⟨0, _⟩ => exact ((dat1 V c).arrAt_in 0 rfl _).trans (leave1_of V main_v3 (by decide)).symm
  | ⟨1, _⟩ => exact ((dat1 V c).arrAt_in 1 rfl _).trans (leave1_of V main_v7 (by decide)).symm
  | ⟨2, _⟩ => exact ((dat1 V c).arrAt_in 2 rfl _).trans (leave1_of V main_v11 (by decide)).symm
  | ⟨3, _⟩ => exact ((dat1 V c).arrAt_in 3 rfl _).trans (leave1_of V main_v15 (by decide)).symm
  | ⟨4, _⟩ => exact ((dat1 V c).arrAt_in 4 rfl _).trans (leave1_of V main_v19 (by decide)).symm
  | ⟨5, _⟩ => exact ((dat1 V c).arrAt_in 5 rfl _).trans (leave1_of V main_v22 (by decide)).symm
  | ⟨6, _⟩ => exact ((dat1 V c).arrAt_in 6 rfl _).trans (leave1_of V main_v23_1 (by decide)).symm
  | ⟨7, _⟩ => exact ((dat1 V c).arrAt_in 7 rfl _).trans (leave1_of V main_v23_1 (by decide)).symm
  | ⟨8, _⟩ => exact ((dat1 V c).arrAt_in 8 rfl _).trans (leave1_of V main_v23_2 (by decide)).symm
  | ⟨9, _⟩ => exact ((dat1 V c).arrAt_in 9 rfl _).trans (leave1_of V main_v29 (by decide)).symm
  | ⟨10, _⟩ => exact (out1_10 V c).trans (leave1_0 V).symm
  | ⟨11, _⟩ => exact (out1_11 V c).trans (leave1_1 V).symm
  | ⟨12, _⟩ => exact (out1_12 V c).trans (leave1_2 V).symm
  | ⟨13, _⟩ => exact (out1_13 V c).trans (leave1_3 V).symm
  | ⟨14, _⟩ => exact (out1_14 V c).trans (leave1_4 V).symm
  | ⟨15, _⟩ => exact (out1_15 V c).trans (leave1_5 V).symm
  | ⟨n + 16, h⟩ => exact absurd h (by show ¬ n + 16 < 16; omega)

theorem enters0 (w : Fin cfg0.W) : (dat0 V c).A w = V (Proc.devRef .tc (Pipeline.arrRef spec0 w)) := rfl
theorem enters1 (w : Fin cfg1.W) : (dat1 V c).A w = V (Proc.devRef .tc (Pipeline.arrRef spec1 w)) := rfl

theorem rest0 (b : Ref sig .tc) (hb : b ∉ Finset.univ.image (Pipeline.arrRef spec0)) : leave0 V (Proc.devRef .tc b) = V (Proc.devRef .tc b) :=
  leave0_of V b fun h => hb ((show ∀ r ∈ ([main_v23_0, main_v23_1, main_v23_2] : List (Ref sig .tc)), r ∈ Finset.univ.image (Pipeline.arrRef spec0) by decide) b h)
theorem rest1 (b : Ref sig .tc) (hb : b ∉ Finset.univ.image (Pipeline.arrRef spec1)) : leave1 V (Proc.devRef .tc b) = V (Proc.devRef .tc b) :=
  leave1_of V b fun h => hb ((show ∀ r ∈ ([main_v30_0, main_v30_1, main_v30_2, main_v30_3, main_v30_4, main_v30_5] : List (Ref sig .tc)), r ∈ Finset.univ.image (Pipeline.arrRef spec1) by decide) b h)

theorem again0 : Function.update (Function.update (Function.update V (Proc.devRef .tc main_v23_0) (leave0 V (Proc.devRef .tc main_v23_0)))
    (Proc.devRef .tc main_v23_1) (leave0 V (Proc.devRef .tc main_v23_1))) (Proc.devRef .tc main_v23_2) (leave0 V (Proc.devRef .tc main_v23_2)) = leave0 V := by
  rw [leave0_0, leave0_1, leave0_2]; rfl
theorem again1 : Function.update (Function.update (Function.update (Function.update (Function.update (Function.update V
    (Proc.devRef .tc main_v30_0) (leave1 V (Proc.devRef .tc main_v30_0))) (Proc.devRef .tc main_v30_1) (leave1 V (Proc.devRef .tc main_v30_1)))
    (Proc.devRef .tc main_v30_2) (leave1 V (Proc.devRef .tc main_v30_2))) (Proc.devRef .tc main_v30_3) (leave1 V (Proc.devRef .tc main_v30_3)))
    (Proc.devRef .tc main_v30_4) (leave1 V (Proc.devRef .tc main_v30_4))) (Proc.devRef .tc main_v30_5) (leave1 V (Proc.devRef .tc main_v30_5)) = leave1 V := by
  rw [leave1_0, leave1_1, leave1_2, leave1_3, leave1_4, leave1_5]; rfl

/-! ## The invariants at the ends -/

theorem begin0 : (Pipeline.scopedRest (Ix := Unit) (Name := ℕ) (U := UR sig nD τ) (Lvl := ℕ) (Val := Elt F) spec0 c : sProp 𝕄) ⊢ inv0 V c 0 := by
  rw [scopedRest0_split c]; unfold inv0
  iintro ⟨⟨%f, H⟩, HR⟩
  isplitl [H]
  · iexists f; isplitr; (· ipureintro; exact fun h => absurd rfl h)
    iapply (Entails.of_eq (owns_whole (c : Thread nD τ) cc0_scratch0 fullShare f).symm); iexact H
  iexact HR
theorem finish0 (n : Nat) : inv0 V c n ⊢ (Pipeline.scopedRest (Ix := Unit) (Name := ℕ) (U := UR sig nD τ) (Lvl := ℕ) (Val := Elt F) spec0 c : sProp 𝕄) := by
  rw [scopedRest0_split c]; unfold inv0
  iintro ⟨⟨%f, -, H⟩, HR⟩
  isplitl [H]
  · iexists f; iapply (Entails.of_eq (owns_whole (c : Thread nD τ) cc0_scratch0 fullShare f)); iexact H
  iexact HR

theorem scratch1 : (Pipeline.scopedRest (Ix := Unit) (Name := ℕ) (U := UR sig nD τ) (Lvl := ℕ) (Val := Elt F) spec1 c : sProp 𝕄)
    = iprop((∃ f : Buf (Elt F) ((c : Thread nD τ).loc cc1_scratch0), ((c : Thread nD τ).loc cc1_scratch0) ↦{fullShare} f)
      ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
theorem begin1 : (Pipeline.scopedRest (Ix := Unit) (Name := ℕ) (U := UR sig nD τ) (Lvl := ℕ) (Val := Elt F) spec1 c : sProp 𝕄) ⊢ inv1 V c 0 := by
  rw [scratch1 c]; unfold inv1
  iintro ⟨⟨%f, H⟩, HR⟩
  isplitl [H]
  · iexists f; isplitr; (· ipureintro; exact fun h => absurd rfl h)
    iapply (Entails.of_eq (owns_whole (c : Thread nD τ) cc1_scratch0 fullShare f).symm); iexact H
  iexact HR
theorem finish1 (n : Nat) : inv1 V c n ⊢ (Pipeline.scopedRest (Ix := Unit) (Name := ℕ) (U := UR sig nD τ) (Lvl := ℕ) (Val := Elt F) spec1 c : sProp 𝕄) := by
  rw [scratch1 c]; unfold inv1
  iintro ⟨⟨%f, -, H⟩, HR⟩
  isplitl [H]
  · iexists f; iapply (Entails.of_eq (owns_whole (c : Thread nD τ) cc1_scratch0 fullShare f)); iexact H
  iexact HR

end

/-! ## A region as a segment of the run -/

/-- No core owes another anything: no level is assigned. -/
abbrev L : GSem nD τ sig → Finset Unit := fun _ => ∅
abbrev lv : GSem nD τ sig → Unit → ℕ := fun _ _ => 0
/-- What rides beside the buffers: the core owes nothing. -/
abbrev E (_ : Fin 3) (c : Dev nD) : sProp 𝕄 := iprop(∃ W, owes (c : Thread nD τ) (0 : CellTallies nD τ sig Unit) W)

section
variable (pdats : (p : Fin 2) → (c : Dev nD) → Dat τ (Elt F) Unit ℕ (UR sig nD τ) ℕ (cfgs p) c) (p : Fin 2) (V V' : Dev nD → Valuation τ sig (Elt F))

set_option backward.isDefEq.respectTransparency.types false in
/-- Entered with the buffers at `V`, a region whose arrays end at `V'` leaves them at `V'`: its input arrays by their
    shares, what it does not name untouched. -/
def region (kit : Pipeline.LaunchFacts₀ (nD := nD) (τ := τ) cfgs p)
    (hbody : ∀ c, BodyObligation (pdats p c) (defs₀ (F := F)) Variants.none () Set.univ)
    (howed : ∀ c t, (pdats p c).owed t = 0) (hrec : ∀ c, (pdats p c).recorded 0 = Set.univ)
    (hq : ∀ c w, (pdats p c).q w = Pipeline.shareOf (cfgs p).spec w)
    (hA : ∀ c w, (pdats p c).A w = V c (Proc.devRef .tc (Pipeline.arrRef (cfgs p).spec w)))
    (hF : ∀ c w, (pdats p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b))
    (hin : ∀ c, (Pipeline.scopedRest (cfgs p).spec c : sProp 𝕄) ⊢ (pdats p c).Φ 0)
    (hout : ∀ c, (pdats p c).Φ (Fin.last (cfgs p).N) ⊢ (Pipeline.scopedRest (cfgs p).spec c : sProp 𝕄)) :
    RegionSeg (pcfgs (F := F)) adm pdats () defs₀ Variants.none L lv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ E 0 c)
  post c := iprop(StableHlo.held (c : Thread nD τ) (Pipeline.ucRefs τ sig) (V' c) ∗ E 0 c)
  X _ := iprop(emp)
  Y _ := iprop(emp)
  Z c := Pipeline.unscopedRest (cfgs p).spec c fun b => V c (Proc.devRef .tc b)
  hentry c := by
    rw [← Pipeline.unscopedBufs_held (Ix := Unit) (Name := ℕ) (U := UR sig nD τ) (Lvl := ℕ) c (V c), Pipeline.ownSems0_none, Pipeline.prefHeld_of_none _ rfl]
    have hsplit := Pipeline.arrays_of_unscopedBufs_shared (pcfgs (F := F)) adm pdats kit.win kit.sharedIn kit.arr_whole c (fun w _ => hq c w)
      (fun b => V c (Proc.devRef .tc b)) (hA c)
    iintro ⟨⟨Hub, HO⟩, -, -⟩
    ihave H := hsplit $$ Hub
    icases H with ⟨Ha, HZ⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitr; · iempintro
    iexact HZ
  hin c := (show _ ⊢ (Pipeline.scopedRest (cfgs p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (V' c)]
    have hjoin := Pipeline.unscopedBufs_of_arrays_shared (pcfgs (F := F)) adm kit.win kit.sharedIn kit.arr_whole c pdats (fun w _ => hq c w)
      (fun b => V c (Proc.devRef .tc b)) (fun b => V' c (Proc.devRef .tc b)) _ (hF c) (hrest c)
    iintro ⟨Ha, HO, -, HZ⟩
    ihave H := hjoin $$ [Ha HZ]
    · isplitl [Ha]; · iexact Ha
      iexact HZ
    imodintro
    isplitl [H]; · iexact H
    unfold Dat.owesAt Pipeline.owesWithin
    rw [howed c (Fin.last _)]
    icases HO with ⟨%W, -, HO⟩; iexists W; iexact HO

end

end Cert.KernelIdeal.Steps

end
-- ==== Proof.Run.lean ====
/-
  The whole run: host operations, the forward scan's region, host operations, the backward scan's region, host
  operations. Every execution ends, and each buffer outside the kernels then holds the last valuation `V5`.
-/
module

public import proofs.«01_k».proof.Proof.Leaves

@[expose] public section

noncomputable section

namespace Cert.KernelIdeal.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg)
open Cert.KernelIdeal.Gen

variable {F : FTy → Type} [FloatOps F]

local notation "𝕄" => MT nD τ sig Unit (Elt F) ℕ (UR sig nD τ) ℕ

/-! ## The run -/

variable (m : (ℓ : Loc nD τ sig) → Buf (Elt F) ℓ) (ρ : Dev nD → PrngReg)

/-- What the first region leaves, and what both leave. -/
def outs₂ : Outs (F := F) := fun _ r c => leave0 (V1 m c) (Proc.devRef .tc r)
def outs : Outs (F := F) := fun n r c => if n = 2 then outs₂ m n r c else leave1 (V3 m (outs₂ m) c) (Proc.devRef .tc r)

theorem outs_two (r : Ref sig .tc) (c : Dev nD) : outs m 2 r c = leave0 (V1 m c) (Proc.devRef .tc r) := (if_pos rfl).trans (by rw [outs₂])
theorem outs₂_two (r : Ref sig .tc) (c : Dev nD) : outs₂ m 2 r c = leave0 (V1 m c) (Proc.devRef .tc r) := by rw [outs₂]

theorem V2_eq₂ (c : Dev nD) : V2 m (outs₂ m) c = leave0 (V1 m c) := by
  unfold V2; rw [outs₂_two, outs₂_two, outs₂_two, again0]
theorem V2_eq (c : Dev nD) : V2 m (outs m) c = leave0 (V1 m c) := by
  unfold V2; rw [outs_two, outs_two, outs_two, again0]
theorem V3_eq (c : Dev nD) : V3 m (outs m) c = V3 m (outs₂ m) c := by
  unfold V3; rw [V2_eq, V2_eq₂]
theorem outs_four (r : Ref sig .tc) (c : Dev nD) : outs m 4 r c = leave1 (V3 m (outs m) c) (Proc.devRef .tc r) := by
  rw [V3_eq]; exact if_neg (by decide)
theorem V4_eq (c : Dev nD) : V4 m (outs m) c = leave1 (V3 m (outs m) c) := by
  unfold V4; rw [outs_four, outs_four, outs_four, outs_four, outs_four, outs_four, again1]

/-- The proof data of the two regions. -/
def dats (p : Fin 2) (c : Dev nD) : Dat τ (Elt F) Unit ℕ (UR sig nD τ) ℕ (cfgs p) c :=
  match p with
  | ⟨0, _⟩ => dat0 (V1 m c) c
  | ⟨1, _⟩ => dat1 (V3 m (outs m) c) c

set_option backward.isDefEq.respectTransparency.types false in
/-- The forward scan's region. -/
def reg0 : RegionSeg (pcfgs (F := F)) adm (dats m) () defs₀ Variants.none L lv 0 :=
  region (dats m) 0 (fun c => V1 m c) (fun c => leave0 (V1 m c)) launch0.to₀ (fun c => body0 (V1 m c) c) (fun _ _ => rfl) (fun _ => rfl) (fun _ _ => rfl)
    (fun c w => enters0 (V1 m c) c w) (fun c => leaves0 (V1 m c) c) (fun c => rest0 (V1 m c)) (fun c => begin0 (V1 m c) c) (fun c => finish0 (V1 m c) c _)

set_option backward.isDefEq.respectTransparency.types false in
/-- The backward scan's region. -/
def reg1 : RegionSeg (pcfgs (F := F)) adm (dats m) () defs₀ Variants.none L lv 1 :=
  region (dats m) 1 (fun c => V3 m (outs m) c) (fun c => leave1 (V3 m (outs m) c)) launch₀1 (fun c => body1 (V3 m (outs m) c) c) (fun _ _ => rfl) (fun _ => rfl)
    (fun _ _ => rfl) (fun c w => enters1 (V3 m (outs m) c) c w) (fun c => leaves1 (V3 m (outs m) c) c) (fun c => rest1 (V3 m (outs m) c))
    (fun c => begin1 (V3 m (outs m) c) c) (fun c => finish1 (V3 m (outs m) c) c _)

theorem pre0 (c : Dev nD) : iprop(StableHlo.held (c : Thread nD τ) (Pipeline.ucRefs τ sig) (V1 m c) ∗ E 0 c) ⊢ ((reg0 m).pre c : sProp 𝕄) := by
  unfold reg0 region; exact .rfl
theorem post0 (c : Dev nD) : ((reg0 m).post c : sProp 𝕄) ⊢ iprop(StableHlo.held (c : Thread nD τ) (Pipeline.ucRefs τ sig) (V2 m (outs m) c) ∗ E 1 c) := by
  rw [V2_eq]; unfold reg0 region; exact .rfl
theorem pre1 (c : Dev nD) : iprop(StableHlo.held (c : Thread nD τ) (Pipeline.ucRefs τ sig) (V3 m (outs m) c) ∗ E 1 c) ⊢ ((reg1 m).pre c : sProp 𝕄) := by
  unfold reg1 region; exact .rfl
theorem post1 (c : Dev nD) : ((reg1 m).post c : sProp 𝕄) ⊢ iprop(StableHlo.held (c : Thread nD τ) (Pipeline.ucRefs τ sig) (V4 m (outs m) c) ∗ E 2 c) := by
  rw [V4_eq]; unfold reg1 region; exact .rfl

set_option backward.isDefEq.respectTransparency.types false in
/-- The run ends; every buffer outside the kernels then holds `V5`, and every counter is zero. -/
theorem run_main : θ_run defs (onTc (τ := τ) (main (F := F))) ⟨m, fun _ => 0, ρ⟩ (fun r => (∀ c : Dev nD, ∀ b ∈ Pipeline.ucRefs τ sig,
    r.2.mem ((c : Thread nD τ).1, b) = V5 m (outs m) c b) ∧ r.2.sem = fun _ => 0) := by
  refine Pipeline.θ_run_regions_kit_dev_sems (pcfgs (F := F)) adm (dats m) () cellOf_inj (emb₁ : Emb (UR sig nD τ) 𝕄) defs₀ Variants.none L lv m ρ main
    (segs m (outs m) Variants.none L lv E () (dats m) (reg0 m) (reg1 m))
    (fun c Q => by
      rewrite [main_chain c, Seg.run_eq_chain,
        show (segs m (outs m) Variants.none L lv E () (dats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) (O₀ := 0) (fun _ _ => rfl) (fun _ => iprop(emp))
    (initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    iexact HSI

/-- A buffer outside the kernels at the end. -/
theorem mem_ucRefs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

end Cert.KernelIdeal.Steps

end
-- ==== Proof.Products.lean ====
/-
  Tiled matrix products at the ideal values: what the programs of this directory share. An array is read at natural
  coordinates (`rd`, zero outside), a product of two blocks is the sum of the products along the contracted axis for
  each of the three ways the step contracts, and an accumulator that starts with one block's product and adds the
  others' holds, after the last, the sum along the whole axis (`fold_sum`).
-/
module

public import Idealize.ShloMosaic.Lib.Pipeline.Value
public import Idealize.ShloMosaic.Lib.MatmulPlain
public import Idealize.ShloMosaic.Lib.StackMember
public import Idealize.ShloMosaic.Lib.Tactic

@[expose] public section

noncomputable section

namespace Cert.Products

open Idealize.ShloMosaic Idealize.ShloMosaic.ValueIdx
open scoped BigOperators

/-- A matrix read at natural coordinates, zero outside. -/
def rd {M N : ℕ} (A : (⟨2, ![M, N]⟩ : Shape).Idx → EReal) (i j : ℕ) : EReal :=
  if h : i < M ∧ j < N then A (ix2 ⟨i, h.1⟩ ⟨j, h.2⟩) else 0

/-- At coordinates inside the matrix, `rd` is the entry. -/
theorem rd_ix2 {M N : ℕ} (A : (⟨2, ![M, N]⟩ : Shape).Idx → EReal) (i : Fin M) (j : Fin N) : rd A i j = A (ix2 i j) :=
  dif_pos ⟨i.isLt, j.isLt⟩

/-- An entry whose coordinates are known is `rd` there. -/
theorem rd_of {M N : ℕ} (A : (⟨2, ![M, N]⟩ : Shape).Idx → EReal) (y : (⟨2, ![M, N]⟩ : Shape).Idx) {i j : ℕ}
    (hi : (y 0).val = i) (hj : (y 1).val = j) : A y = rd A i j := by
  subst hi hj
  rw [show rd A (y 0).val (y 1).val = A (ix2 (y 0) (y 1)) from rd_ix2 A (y 0) (y 1)]
  exact congrArg A (eq_ix2 y)

/-- The transposed matrix. -/
def swap {M N : ℕ} (A : (⟨2, ![M, N]⟩ : Shape).Idx → EReal) : (⟨2, ![N, M]⟩ : Shape).Idx → EReal := fun i => A (ix2 (i 1) (i 0))

theorem rd_swap {M N : ℕ} (A : (⟨2, ![M, N]⟩ : Shape).Idx → EReal) (i j : ℕ) : rd (swap A) i j = rd A j i := by
  unfold rd
  by_cases h : i < N ∧ j < M
  · rw [dif_pos h, dif_pos h.symm]; rfl
  · rw [dif_neg h, dif_neg fun h' => h h'.symm]

/-- A change of format leaves a value of the extended reals as it is. -/
theorem truncf_eq {s : Shape} (x : Vec Ideal s .f32) (h : FTy.bits .bf16 < FTy.bits .f32) :
    @Eq (s.Idx → EReal) (truncf (F := Ideal) (s := s) (φ := .f32) .bf16 x h) x := rfl

/-- The transpose operation's array is the transposed matrix. -/
theorem transpose_eq_swap {M N : ℕ} (A : (⟨2, ![M, N]⟩ : Shape).Idx → EReal)
    (h : (⟨2, ![M, N]⟩ : Shape).Transposes [1, 0] ⟨2, ![N, M]⟩) : transpose ⟨2, ![N, M]⟩ [1, 0] A h = swap A := by
  funext i
  refine congrArg A (funext fun a => Fin.ext ?_)
  match a with
  | ⟨0, _⟩ => rfl
  | ⟨1, _⟩ => rfl

/-- The sum over consecutive blocks of one width is the sum over the whole range. -/
theorem sum_blocks (w : ℕ) (f : ℕ → EReal) : ∀ J : ℕ,
    ∑ s ∈ Finset.range J, ∑ k : Fin w, f (w * s + k) = ∑ k : Fin (J * w), f k
  | 0 => by rw [Fin.sum_univ_eq_sum_range, Nat.zero_mul]; rfl
  | J + 1 => by
    rw [Finset.sum_range_succ, sum_blocks w f J, Fin.sum_univ_eq_sum_range (fun k => f (w * J + k)),
      Fin.sum_univ_eq_sum_range, Fin.sum_univ_eq_sum_range, Nat.succ_mul, Finset.sum_range_add, Nat.mul_comm w J]

/-- An accumulator reset with block 0's product and adding each later block's product holds, at the last point of its
    run, the sum along the whole contracted axis. `T q i k` is the axis' term `k` for entry `i` of output block `q`. -/
theorem fold_sum {ι : Type*} {N J w : ℕ} (a : (n : ℕ) → n < N → ι → EReal)
    (g : (n : ℕ) → n < N → (ι → EReal) → ι → EReal) (T : ℕ → ι → ℕ → EReal)
    (ha : ∀ n h i, n % J = 0 → a n h i = ∑ k : Fin w, T (n / J) i (w * (n % J) + k))
    (hg : ∀ n h acc i, n % J ≠ 0 → g n h acc i = acc i + ∑ k : Fin w, T (n / J) i (w * (n % J) + k))
    (q j : ℕ) (hj : j < J) (h : J * q + j < N) (i : ι) :
    Pipeline.accAt a g (J * q) j h i = ∑ k : Fin ((j + 1) * w), T q i k := by
  have hq : ∀ s, s < J → (J * q + s) / J = q ∧ (J * q + s) % J = s := fun s hs =>
    ⟨by rw [Nat.mul_add_div (by omega), Nat.div_eq_of_lt hs, Nat.add_zero], by rw [Nat.mul_add_mod, Nat.mod_eq_of_lt hs]⟩
  rw [Pipeline.accAt_add_apply a g (fun _ => 0) (fun n i => ∑ k : Fin w, T (n / J) i (w * (n % J) + k)) (J * q) j
    (fun h i => by rw [ha _ _ _ (Nat.mul_mod_right J q), zero_add])
    (fun n h acc i h1 h2 => hg n h acc i (by
      obtain ⟨s, rfl⟩ := Nat.exists_eq_add_of_lt h1
      rw [Nat.add_assoc, (hq (s + 1) (by omega)).2]; omega)) j le_rfl h i, zero_add,
    ← sum_blocks w (T q i) (j + 1)]
  refine Finset.sum_congr rfl fun s hs => ?_
  rw [(hq s (by have := Finset.mem_range.1 hs; omega)).1, (hq s (by have := Finset.mem_range.1 hs; omega)).2]

/-- Both operands contracted along their rows: `[K, M]` and `[K, N]` give `[M, N]`. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun a => by fin_cases a <;> rfl⟩

/-- The contracted coordinate of `tn` as a row number. -/
def tnContr (M K N : ℕ) : (tn M K N).contr.Idx ≃ Fin K := contrEquiv1 _ K rfl rfl

theorem tn_idx {M K N : ℕ} (r : Fin M) (c : Fin N) (k : Fin K) :
    (tn M K N).lhsIdx (ix2 r c) ((tnContr M K N).symm k) = ix2 k r
    ∧ (tn M K N).rhsIdx (ix2 r c) ((tnContr M K N).symm k) = ix2 k c := by
  have hk := contrEquiv1_symm_val (tn M K N) K rfl rfl k
  constructor
  · funext a; apply Fin.ext
    match a with
    | ⟨0, _⟩ => exact hk
    | ⟨1, _⟩ => rfl
  · funext a; apply Fin.ext
    match a with
    | ⟨0, _⟩ => exact hk
    | ⟨1, _⟩ => rfl

theorem sum_tn {M K N : ℕ} (lhs : (⟨2, ![K, M]⟩ : Shape).Idx → EReal) (rhs : (⟨2, ![K, N]⟩ : Shape).Idx → EReal) (r : Fin M)
    (c : Fin N) : ∑ k : (tn M K N).contr.Idx, lhs ((tn M K N).lhsIdx (ix2 r c) k) * rhs ((tn M K N).rhsIdx (ix2 r c) k)
      = ∑ k : Fin K, rd lhs k r * rd rhs k c := by
  rw [← Equiv.sum_comp (tnContr M K N).symm]
  refine Finset.sum_congr rfl fun k _ => ?_
  rw [(tn_idx r c k).1, (tn_idx r c k).2, rd_ix2, rd_ix2]

/-- A block product of rows with rows, into zero. -/
theorem matmul_nt {M K N : ℕ} {φ₁ φ₂ : FTy} (lhs : FVec Ideal ⟨2, ![M, K]⟩ φ₁) (rhs : FVec Ideal ⟨2, ![N, K]⟩ φ₂)
    (y : (⟨2, ![M, N]⟩ : Shape).Idx) :
    matmul (DotDims.transposedRhs M K N) none lhs rhs (constant ⟨2, ![M, N]⟩ .f32 0x00000000#32) y
      = ∑ k : Fin K, rd lhs (y 0) k * rd rhs (y 1) k := by
  obtain ⟨r, c, rfl⟩ : ∃ r c, y = ix2 r c := ⟨y 0, y 1, (eq_ix2 y).symm ▸ rfl⟩
  refine (Ideal.matmul_transposedRhs_apply none lhs rhs _ r c).trans ?_
  show Ideal.ofBits .f32 0x00000000#32 + _ = _
  rw [Ideal.ofBits_zero_f32, zero_add]
  exact Finset.sum_congr rfl fun k _ => by rw [← rd_ix2 lhs, ← rd_ix2 rhs]; rfl

/-- A block product of rows with columns, into zero. -/
theorem matmul_nn {M K N : ℕ} {φ₁ φ₂ : FTy} (lhs : FVec Ideal ⟨2, ![M, K]⟩ φ₁) (rhs : FVec Ideal ⟨2, ![K, N]⟩ φ₂)
    (y : (⟨2, ![M, N]⟩ : Shape).Idx) :
    matmul (DotDims.plain M K N) none lhs rhs (constant ⟨2, ![M, N]⟩ .f32 0x00000000#32) y
      = ∑ k : Fin K, rd lhs (y 0) k * rd rhs k (y 1) := by
  obtain ⟨r, c, rfl⟩ : ∃ r c, y = ix2 r c := ⟨y 0, y 1, (eq_ix2 y).symm ▸ rfl⟩
  refine (Ideal.matmul_plain_apply none lhs rhs _ r c).trans ?_
  show Ideal.ofBits .f32 0x00000000#32 + _ = _
  rw [Ideal.ofBits_zero_f32, zero_add]
  exact Finset.sum_congr rfl fun k _ => by rw [← rd_ix2 lhs, ← rd_ix2 rhs]; rfl

/-- A block product of columns with columns, into zero. -/
theorem matmul_tn {M K N : ℕ} {φ₁ φ₂ : FTy} (lhs : FVec Ideal ⟨2, ![K, M]⟩ φ₁) (rhs : FVec Ideal ⟨2, ![K, N]⟩ φ₂)
    (y : (⟨2, ![M, N]⟩ : Shape).Idx) :
    matmul (tn M K N) none lhs rhs (constant ⟨2, ![M, N]⟩ .f32 0x00000000#32) y
      = ∑ k : Fin K, rd lhs k (y 0) * rd rhs k (y 1) := by
  obtain ⟨r, c, rfl⟩ : ∃ r c, y = ix2 r c := ⟨y 0, y 1, (eq_ix2 y).symm ▸ rfl⟩
  exact (Ideal.matmul_constant_zero_apply (tn M K N) none lhs rhs _).trans (sum_tn lhs rhs r c)

/-- The whole product of rows with rows on the host. -/
theorem dot_nt {M K N : ℕ} {φ₁ φ₂ : FTy} (lhs : FVec Ideal ⟨2, ![M, K]⟩ φ₁) (rhs : FVec Ideal ⟨2, ![N, K]⟩ φ₂)
    (y : (⟨2, ![M, N]⟩ : Shape).Idx) :
    Host.dotGeneral (DotDims.transposedRhs M K N) none lhs rhs y = ∑ k : Fin K, rd lhs (y 0) k * rd rhs (y 1) k := by
  rw [← matmul_nt lhs rhs y]
  exact (Ideal.dotGeneral_apply _ _ _ lhs rhs y).trans (Ideal.matmul_constant_zero_apply _ _ lhs rhs y).symm

/-- The whole product of rows with columns on the host. -/
theorem dot_nn {M K N : ℕ} {φ₁ φ₂ : FTy} (lhs : FVec Ideal ⟨2, ![M, K]⟩ φ₁) (rhs : FVec Ideal ⟨2, ![K, N]⟩ φ₂)
    (y : (⟨2, ![M, N]⟩ : Shape).Idx) :
    Host.dotGeneral (DotDims.plain M K N) none lhs rhs y = ∑ k : Fin K, rd lhs (y 0) k * rd rhs k (y 1) := by
  rw [← matmul_nn lhs rhs y]
  exact (Ideal.dotGeneral_apply _ _ _ lhs rhs y).trans (Ideal.matmul_constant_zero_apply _ _ lhs rhs y).symm

/-- The whole product of columns with columns on the host. -/
theorem dot_tn {M K N : ℕ} {φ₁ φ₂ : FTy} (lhs : FVec Ideal ⟨2, ![K, M]⟩ φ₁) (rhs : FVec Ideal ⟨2, ![K, N]⟩ φ₂)
    (y : (⟨2, ![M, N]⟩ : Shape).Idx) :
    Host.dotGeneral (tn M K N) none lhs rhs y = ∑ k : Fin K, rd lhs k (y 0) * rd rhs k (y 1) := by
  rw [← matmul_tn lhs rhs y]
  exact (Ideal.dotGeneral_apply _ _ _ lhs rhs y).trans (Ideal.matmul_constant_zero_apply _ _ lhs rhs y).symm

end Cert.Products

end
-- ==== Proof.OutX.lean ====
/-
  The gradient of an output projection's input: `dx · wᵀ`, tiled over rows, columns and the contracted axis, is the
  product that differentiating `y ↦ y · w` gives.
-/
module

public import proofs.«01_k».proof.Defs
public import proofs.«01_k».proof.Proof.Products
public import proofs.«01_k».proof.Proof.Gen.OutX.Frame
public import proofs.«01_k».proof.Proof.Gen.OutXIdeal.Value
public import proofs.«01_k».proof.Proof.Gen.OutXRefIdeal.Run

@[expose] public section

set_option maxRecDepth 16384

noncomputable section

namespace Cert.OutXIdeal.Tiles

open Cert.OutXIdeal Cert.OutXIdeal.Gen Cert.OutXIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S2048x1024 .f32) (ha : a.IsWhole)
  (b : Memref sig .tc .vmem S1024x1024 .bf16) (hb : b.IsWhole)  (o : Memref sig .tc .vmem S2048x1024 .f32) (ho : o.IsWhole)
  (s : Memref sig .tc .vmem S2048x1024 .f32) (hs : s.IsWhole)
  (x : Vec F S2048x1024 .f32) (y : Vec F S1024x1024 .bf16) (acc : Vec F S2048x1024 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S2048x1024) hz, View.ld_unit_zero (S := S1024x1024) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S2048x1024) hz, View.ld_unit_zero (S := S1024x1024) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S2048x1024) hz, View.ld_unit_zero (S := S1024x1024) hz]

/-- At the last block the output block is made from the accumulator. -/
theorem stored (h0 : ¬cond0_0 i) (h1 : cond0_1 i) (h2 : cond0_2 i) :
    out0_C_2 c i a ha b hb o ho s hs h0 h1 h2 x y acc = k0_pay2 acc x y := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S2048x1024) _ hz]
  simp only [View.readAt_eq_ld, ha.read_unread, hb.read_unread, hs.read_unread, View.ld_unit_zero (S := S2048x1024) hz, View.ld_unit_zero (S := S1024x1024) hz]

end Cases

variable (m : (ℓ : Loc nD τ sig) → Buf (Elt Ideal) ℓ)

/-- The two whole arrays, as the call reads them. -/
abbrev lhs (c : Dev nD) : S4096x4096.Idx → EReal := m ((c : Thread nD τ).loc main_arg1)
abbrev rhs (c : Dev nD) : S4096x4096.Idx → EReal := m ((c : Thread nD τ).loc main_arg0)

theorem pay1_apply (x : Vec Ideal S2048x1024 .f32) (y : Vec Ideal S1024x1024 .bf16) (i : S2048x1024.Idx) :
    k0_pay1 x y i = ∑ k : Fin 1024, rd x (i 0) k * rd y (i 1) k := by
  unfold k0_pay1
  simp only [shapeCast_self]
  exact matmul_nt (truncf .bf16 x bitsLt_bf16_f32) (y) i

theorem pay2_apply (acc : Vec Ideal S2048x1024 .f32) (x : Vec Ideal S2048x1024 .f32) (y : Vec Ideal S1024x1024 .bf16) (i : S2048x1024.Idx) :
    k0_pay2 acc x y i = acc i + ∑ k : Fin 1024, rd x (i 0) k * rd y (i 1) k := by
  unfold k0_pay2
  simp only [shapeCast_self]
  exact congrArg (acc i + ·) (matmul_nt (truncf .bf16 x bitsLt_bf16_f32) (y) i)

/-- The windows' block numbers, decided over the grid. -/
theorem places : ∀ t : Fin cfg0.N, (win0_0.index t (0 : Fin 2) = t.val / 4 / 4 ∧ win0_0.index t (1 : Fin 2) = t.val % 4)
    ∧ win0_1.index t (0 : Fin 2) = t.val / 4 % 4 ∧ win0_1.index t (1 : Fin 2) = t.val % 4 :=
  (by decide +kernel : ∀ t : Fin grid0.N, _)

theorem array0 (c : Dev nD) : (V m c main_arg1 : S4096x4096.Idx → EReal) = lhs m c := V_main_arg1 m c
theorem array1 (c : Dev nD) : (V m c main_v0 : S4096x4096.Idx → EReal) = rhs m c := by
  show StableHlo.after hostOps0 _ _ = _
  after_results
  rfl

/-- The term `k` of entry `i` of output block `q`. -/
def term (c : Dev nD) (q : ℕ) (i : S2048x1024.Idx) (k : ℕ) : EReal :=
  rd (lhs m c) (q / 4 * 2048 + (i 0).val) k * rd (rhs m c) (q % 4 * 1024 + (i 1).val) k

theorem block0 (c : Dev nD) (t : Fin cfg0.N) (r k : ℕ) (hr : r < 2048) (hk : k < 1024) :
    rd (iblk m c 0 t : S2048x1024.Idx → EReal) r k = rd (lhs m c) (t.val / 4 / 4 * 2048 + r) (1024 * (t.val % 4) + k) := by
  obtain ⟨⟨e0, e1⟩, -⟩ := places t
  refine (rd_ix2 (iblk m c 0 t : S2048x1024.Idx → EReal) ⟨r, hr⟩ ⟨k, hk⟩).trans ?_
  rw [← array0]
  refine rd_of (V m c main_arg1 : S4096x4096.Idx → EReal) _ ?_ ?_
  · show win0_0.index t (0 : Fin 2) * 2048 + 1 * r = _
    rw [e0, one_mul]
  · show win0_0.index t (1 : Fin 2) * 1024 + 1 * k = _
    rw [e1, one_mul, Nat.mul_comm]

theorem block1 (c : Dev nD) (t : Fin cfg0.N) (r k : ℕ) (hr : r < 1024) (hk : k < 1024) :
    rd (iblk m c 1 t : S1024x1024.Idx → EReal) r k = rd (rhs m c) (t.val / 4 % 4 * 1024 + r) (1024 * (t.val % 4) + k) := by
  obtain ⟨-, e0, e1⟩ := places t
  refine (rd_ix2 (iblk m c 1 t : S1024x1024.Idx → EReal) ⟨r, hr⟩ ⟨k, hk⟩).trans ?_
  rw [← array1]
  refine rd_of (V m c main_v0 : S4096x4096.Idx → EReal) _ ?_ ?_
  · show win0_1.index t (0 : Fin 2) * 1024 + 1 * r = _
    rw [e0, one_mul]
  · show win0_1.index t (1 : Fin 2) * 1024 + 1 * k = _
    rw [e1, one_mul, Nat.mul_comm]

/-- The product of the two blocks of a point. -/
theorem blocks (c : Dev nD) (t : Fin cfg0.N) (i : S2048x1024.Idx) :
    ∑ k : Fin 1024, rd (iblk m c 0 t : S2048x1024.Idx → EReal) (i 0) k * rd (iblk m c 1 t : S1024x1024.Idx → EReal) (i 1) k
      = ∑ k : Fin 1024, term m c (t.val / 4) i (1024 * (t.val % 4) + k) :=
  Finset.sum_congr rfl fun k _ => by
    rw [block0 m c t _ _ (i 0).isLt k.isLt, block1 m c t _ _ (i 1).isLt k.isLt]; rfl

/-- What the last point of an output block's run leaves in the output's staging buffer. -/
theorem run_sum (c : Dev nD) (t : Fin cfg0.N) (ht : t.val % 4 = 3) (i : S2048x1024.Idx) :
    (outsAt0 m c t.val t.isLt).1 i = (∑ k : Fin 4096, term m c (t.val / 4) i k) := by
  have same : (outsAt0 m c t.val t.isLt).1 i = (outsAt0 m c t.val t.isLt).2 i := by
    rw [outsAt0_C m c t (by omega) (by omega) ht]
    dsimp only
    rw [stored, last]
  rw [same, soutsAt0_0_eq]
  have hq : t.val % 4 < 4 := Nat.mod_lt _ (by decide)
  refine (fold_sum (J := 4) (w := 1024) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 4 = 3
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S4096x4096.Idx) :
    (G2 m c : S4096x4096.Idx → EReal) i = (∑ k : Fin 4096, rd (lhs m c) (i 0) k * rd (rhs m c) (i 1) k) := by
  have h0 : (i 0).val < 4096 := (i 0).isLt
  have h1 : (i 1).val < 4096 := (i 1).isLt
  have hp : pt2Of i < cfg0.N := lt_of_lt_of_eq (by show 4 * (4 * _ + 1 * _) + 3 < 32; omega) N_0.symm
  unfold G2
  rw [dif_pos hp, ← outsAt0_sweep m c (pt2Of i) hp, run_sum m c ⟨pt2Of i, hp⟩ (by show (4 * _ + 3) % 4 = 3; omega)]
  have q0 : pt2Of i / 4 / 4 * 2048 + (i 0).val % 2048 = (i 0).val := by
    show (4 * (4 * ((i 0).val / 2048 - 0) + 1 * ((i 1).val / 1024 - 0)) + 3) / 4 / 4 * 2048 + _ = _; omega
  have q1 : pt2Of i / 4 % 4 * 1024 + (i 1).val % 1024 = (i 1).val := by
    show (4 * (4 * ((i 0).val / 2048 - 0) + 1 * ((i 1).val / 1024 - 0)) + 3) / 4 % 4 * 1024 + _ = _; omega
  show (∑ k : Fin 4096, rd (lhs m c) (pt2Of i / 4 / 4 * 2048 + (i 0).val % 2048) k * rd (rhs m c) (pt2Of i / 4 % 4 * 1024 + (i 1).val % 1024) k : EReal) = _
  rw [q0, q1]

end Cert.OutXIdeal.Tiles

namespace Cert.OutX

open Idealize.ShloMosaic Idealize.ShloMosaic.TcCoe Idealize.SL.Sem Idealize.ShloMosaic.ValueIdx Cert.Products

theorem frame : quiescent_OutX := fun m ρ _ => OutX.Gen.frame m ρ
theorem frame_ideal : quiescent_OutXIdeal := fun m ρ _ => OutXIdeal.Gen.frame m ρ
theorem frame_ref : quiescent_OutXRefIdeal := fun m ρ _ =>
  (θ_run OutXRefIdeal.defs _ _).mono (fun r h => ⟨fun c => (h c).2, sem_eq_zero_of_no_sems (by decide) r.2⟩)
    (OutXRefIdeal.Value.run (F := Ideal) m ρ)

/-- The reference's array, entry by entry, is the call's. -/
theorem algebraic : algebraic_OutXIdeal_OutXRefIdeal := by
  intro m g m' g' _ hargs
  refine ⟨fun c => OutXIdeal.Value.G2 m c, OutXIdeal.Value.run m g, ?_⟩
  refine (θ_run _ _ _).mono (fun r h c => ⟨(h c).1.trans ?_, (h c).2⟩) (OutXRefIdeal.Value.run m' g')
  rw [(hargs c).1, (hargs c).2]
  funext i
  exact Eq.trans (α := EReal) (dot_nt (M := 4096) (K := 4096) (N := 4096) (φ₁ := .f32) (φ₂ := .f32) (OutXIdeal.Tiles.lhs m c) (OutXIdeal.Tiles.rhs m c) i) (OutXIdeal.Tiles.result m c i).symm

end Cert.OutX

end
-- ==== Proof.OutW.lean ====
/-
  The gradient of an output projection's matrix: `yᵀ · dx`, tiled over rows, columns and tokens, is the product that
  differentiating `w ↦ y · w` gives.
-/
module

public import proofs.«01_k».proof.Defs
public import proofs.«01_k».proof.Proof.Products
public import proofs.«01_k».proof.Proof.Gen.OutW.Frame
public import proofs.«01_k».proof.Proof.Gen.OutWIdeal.Value
public import proofs.«01_k».proof.Proof.Gen.OutWRefIdeal.Run

@[expose] public section

set_option maxRecDepth 16384

noncomputable section

namespace Cert.OutWIdeal.Tiles

open Cert.OutWIdeal Cert.OutWIdeal.Gen Cert.OutWIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S1024x1024 .bf16) (ha : a.IsWhole)
  (b : Memref sig .tc .vmem S1024x2048 .f32) (hb : b.IsWhole)  (o : Memref sig .tc .vmem S1024x2048 .f32) (ho : o.IsWhole)
  (s : Memref sig .tc .vmem S1024x2048 .f32) (hs : s.IsWhole)
  (x : Vec F S1024x1024 .bf16) (y : Vec F S1024x2048 .f32) (acc : Vec F S1024x2048 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S1024x1024) hz, View.ld_unit_zero (S := S1024x2048) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S1024x1024) hz, View.ld_unit_zero (S := S1024x2048) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1024x2048) hz]

/-- At the last block the output block is made from the accumulator. -/
theorem stored (h0 : ¬cond0_0 i) (h1 : cond0_1 i) (h2 : cond0_2 i) :
    out0_C_2 c i a ha b hb o ho s hs h0 h1 h2 x y acc = k0_pay2 acc x y := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x1024) hz, View.ld_unit_zero (S := S1024x2048) hz]

end Cases

variable (m : (ℓ : Loc nD τ sig) → Buf (Elt Ideal) ℓ)

/-- The two whole arrays, as the call reads them. -/
abbrev lhs (c : Dev nD) : S4096x4096.Idx → EReal := m ((c : Thread nD τ).loc main_arg0)
abbrev rhs (c : Dev nD) : S4096x4096.Idx → EReal := m ((c : Thread nD τ).loc main_arg1)

theorem pay1_apply (x : Vec Ideal S1024x1024 .bf16) (y : Vec Ideal S1024x2048 .f32) (i : S1024x2048.Idx) :
    k0_pay1 x y i = ∑ k : Fin 1024, rd x k (i 0) * rd y k (i 1) := by
  unfold k0_pay1
  simp only [shapeCast_self]
  exact matmul_tn (x) (truncf .bf16 y bitsLt_bf16_f32) i

theorem pay2_apply (acc : Vec Ideal S1024x2048 .f32) (x : Vec Ideal S1024x1024 .bf16) (y : Vec Ideal S1024x2048 .f32) (i : S1024x2048.Idx) :
    k0_pay2 acc x y i = acc i + ∑ k : Fin 1024, rd x k (i 0) * rd y k (i 1) := by
  unfold k0_pay2
  simp only [shapeCast_self]
  exact congrArg (acc i + ·) (matmul_tn (x) (truncf .bf16 y bitsLt_bf16_f32) i)

/-- The windows' block numbers, decided over the grid. -/
theorem places : ∀ t : Fin cfg0.N, (win0_0.index t (0 : Fin 2) = t.val % 4 ∧ win0_0.index t (1 : Fin 2) = t.val / 4 / 2)
    ∧ win0_1.index t (0 : Fin 2) = t.val % 4 ∧ win0_1.index t (1 : Fin 2) = t.val / 4 % 2 :=
  (by decide +kernel : ∀ t : Fin grid0.N, _)

theorem array0 (c : Dev nD) : (V m c main_v0 : S4096x4096.Idx → EReal) = lhs m c := by
  show StableHlo.after hostOps0 _ _ = _
  after_results
  rfl
theorem array1 (c : Dev nD) : (V m c main_arg1 : S4096x4096.Idx → EReal) = rhs m c := V_main_arg1 m c

/-- The term `k` of entry `i` of output block `q`. -/
def term (c : Dev nD) (q : ℕ) (i : S1024x2048.Idx) (k : ℕ) : EReal :=
  rd (lhs m c) k (q / 2 * 1024 + (i 0).val) * rd (rhs m c) k (q % 2 * 2048 + (i 1).val)

theorem block0 (c : Dev nD) (t : Fin cfg0.N) (r k : ℕ) (hr : r < 1024) (hk : k < 1024) :
    rd (iblk m c 0 t : S1024x1024.Idx → EReal) r k = rd (lhs m c) (1024 * (t.val % 4) + r) (t.val / 4 / 2 * 1024 + k) := by
  obtain ⟨⟨e0, e1⟩, -⟩ := places t
  refine (rd_ix2 (iblk m c 0 t : S1024x1024.Idx → EReal) ⟨r, hr⟩ ⟨k, hk⟩).trans ?_
  rw [← array0]
  refine rd_of (V m c main_v0 : S4096x4096.Idx → EReal) _ ?_ ?_
  · show win0_0.index t (0 : Fin 2) * 1024 + 1 * r = _
    rw [e0, one_mul, Nat.mul_comm]
  · show win0_0.index t (1 : Fin 2) * 1024 + 1 * k = _
    rw [e1, one_mul]

theorem block1 (c : Dev nD) (t : Fin cfg0.N) (r k : ℕ) (hr : r < 1024) (hk : k < 2048) :
    rd (iblk m c 1 t : S1024x2048.Idx → EReal) r k = rd (rhs m c) (1024 * (t.val % 4) + r) (t.val / 4 % 2 * 2048 + k) := by
  obtain ⟨-, e0, e1⟩ := places t
  refine (rd_ix2 (iblk m c 1 t : S1024x2048.Idx → EReal) ⟨r, hr⟩ ⟨k, hk⟩).trans ?_
  rw [← array1]
  refine rd_of (V m c main_arg1 : S4096x4096.Idx → EReal) _ ?_ ?_
  · show win0_1.index t (0 : Fin 2) * 1024 + 1 * r = _
    rw [e0, one_mul, Nat.mul_comm]
  · show win0_1.index t (1 : Fin 2) * 2048 + 1 * k = _
    rw [e1, one_mul]

/-- The product of the two blocks of a point. -/
theorem blocks (c : Dev nD) (t : Fin cfg0.N) (i : S1024x2048.Idx) :
    ∑ k : Fin 1024, rd (iblk m c 0 t : S1024x1024.Idx → EReal) k (i 0) * rd (iblk m c 1 t : S1024x2048.Idx → EReal) k (i 1)
      = ∑ k : Fin 1024, term m c (t.val / 4) i (1024 * (t.val % 4) + k) :=
  Finset.sum_congr rfl fun k _ => by
    rw [block0 m c t _ _ k.isLt (i 0).isLt, block1 m c t _ _ k.isLt (i 1).isLt]; rfl

/-- What the last point of an output block's run leaves in the output's staging buffer. -/
theorem run_sum (c : Dev nD) (t : Fin cfg0.N) (ht : t.val % 4 = 3) (i : S1024x2048.Idx) :
    (outsAt0 m c t.val t.isLt).1 i = (∑ k : Fin 4096, term m c (t.val / 4) i k) := by
  have same : (outsAt0 m c t.val t.isLt).1 i = (outsAt0 m c t.val t.isLt).2 i := by
    rw [outsAt0_C m c t (by omega) (by omega) ht]
    dsimp only
    rw [stored, last]
  rw [same, soutsAt0_0_eq]
  have hq : t.val % 4 < 4 := Nat.mod_lt _ (by decide)
  refine (fold_sum (J := 4) (w := 1024) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 4 = 3
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S4096x4096.Idx) :
    (G2 m c : S4096x4096.Idx → EReal) i = (∑ k : Fin 4096, rd (lhs m c) k (i 0) * rd (rhs m c) k (i 1)) := by
  have h0 : (i 0).val < 4096 := (i 0).isLt
  have h1 : (i 1).val < 4096 := (i 1).isLt
  have hp : pt2Of i < cfg0.N := lt_of_lt_of_eq (by show 4 * (2 * _ + 1 * _) + 3 < 32; omega) N_0.symm
  unfold G2
  rw [dif_pos hp, ← outsAt0_sweep m c (pt2Of i) hp, run_sum m c ⟨pt2Of i, hp⟩ (by show (4 * _ + 3) % 4 = 3; omega)]
  have q0 : pt2Of i / 4 / 2 * 1024 + (i 0).val % 1024 = (i 0).val := by
    show (4 * (2 * ((i 0).val / 1024 - 0) + 1 * ((i 1).val / 2048 - 0)) + 3) / 4 / 2 * 1024 + _ = _; omega
  have q1 : pt2Of i / 4 % 2 * 2048 + (i 1).val % 2048 = (i 1).val := by
    show (4 * (2 * ((i 0).val / 1024 - 0) + 1 * ((i 1).val / 2048 - 0)) + 3) / 4 % 2 * 2048 + _ = _; omega
  show (∑ k : Fin 4096, rd (lhs m c) k (pt2Of i / 4 / 2 * 1024 + (i 0).val % 1024) * rd (rhs m c) k (pt2Of i / 4 % 2 * 2048 + (i 1).val % 2048) : EReal) = _
  rw [q0, q1]

end Cert.OutWIdeal.Tiles

namespace Cert.OutW

open Idealize.ShloMosaic Idealize.ShloMosaic.TcCoe Idealize.SL.Sem Idealize.ShloMosaic.ValueIdx Cert.Products

theorem frame : quiescent_OutW := fun m ρ _ => OutW.Gen.frame m ρ
theorem frame_ideal : quiescent_OutWIdeal := fun m ρ _ => OutWIdeal.Gen.frame m ρ
theorem frame_ref : quiescent_OutWRefIdeal := fun m ρ _ =>
  (θ_run OutWRefIdeal.defs _ _).mono (fun r h => ⟨fun c => (h c).2, sem_eq_zero_of_no_sems (by decide) r.2⟩)
    (OutWRefIdeal.Value.run (F := Ideal) m ρ)

/-- The reference's array, entry by entry, is the call's. -/
theorem algebraic : algebraic_OutWIdeal_OutWRefIdeal := by
  intro m g m' g' _ hargs
  refine ⟨fun c => OutWIdeal.Value.G2 m c, OutWIdeal.Value.run m g, ?_⟩
  refine (θ_run _ _ _).mono (fun r h c => ⟨(h c).1.trans ?_, (h c).2⟩) (OutWRefIdeal.Value.run m' g')
  rw [(hargs c).1, (hargs c).2]
  funext i
  refine Eq.trans (α := EReal) ?_ (OutWIdeal.Tiles.result m c i).symm
  refine Eq.trans (α := EReal) (congrFun (transpose_eq_swap (M := 4096) (N := 4096) _ _) i) ?_
  refine Eq.trans (α := EReal) (dot_tn (M := 4096) (K := 4096) (N := 4096) (φ₁ := .f32) (φ₂ := .f32) (OutWIdeal.Tiles.rhs m c)
    (OutWIdeal.Tiles.lhs m c) (ix2 (i 1) (i 0))) ?_
  exact Finset.sum_congr rfl fun k _ => mul_comm _ _

end Cert.OutW

end
-- ==== Proof.OddX.lean ====
/-
  The gradient of the odd layer's input projection's input: `dp · wᵀ` from the transposed matrix, tiled over rows,
  columns and the contracted axis, is the product that differentiating `h ↦ h · w` gives.
-/
module

public import proofs.«01_k».proof.Defs
public import proofs.«01_k».proof.Proof.Products
public import proofs.«01_k».proof.Proof.Gen.OddX.Frame
public import proofs.«01_k».proof.Proof.Gen.OddXIdeal.Value
public import proofs.«01_k».proof.Proof.Gen.OddXRefIdeal.Run

@[expose] public section

set_option maxRecDepth 16384

noncomputable section

namespace Cert.OddXIdeal.Tiles

open Cert.OddXIdeal Cert.OddXIdeal.Gen Cert.OddXIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S2048x1536 .bf16) (ha : a.IsWhole)
  (b : Memref sig .tc .vmem S1536x1024 .bf16) (hb : b.IsWhole)  (o : Memref sig .tc .vmem S2048x1024 .f32) (ho : o.IsWhole)
  (s : Memref sig .tc .vmem S2048x1024 .f32) (hs : s.IsWhole)
  (x : Vec F S2048x1536 .bf16) (y : Vec F S1536x1024 .bf16) (acc : Vec F S2048x1024 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S2048x1536) hz, View.ld_unit_zero (S := S1536x1024) hz, View.ld_unit_zero (S := S2048x1024) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S2048x1536) hz, View.ld_unit_zero (S := S1536x1024) hz, View.ld_unit_zero (S := S2048x1024) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S2048x1536) hz, View.ld_unit_zero (S := S1536x1024) hz, View.ld_unit_zero (S := S2048x1024) hz]

/-- At the last block the output block is made from the accumulator. -/
theorem stored (h0 : ¬cond0_0 i) (h1 : cond0_1 i) (h2 : cond0_2 i) :
    out0_C_2 c i a ha b hb o ho s hs h0 h1 h2 x y acc = k0_pay2 acc x y := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S2048x1024) _ hz]
  simp only [View.readAt_eq_ld, ha.read_unread, hb.read_unread, hs.read_unread, View.ld_unit_zero (S := S2048x1536) hz, View.ld_unit_zero (S := S1536x1024) hz, View.ld_unit_zero (S := S2048x1024) hz]

end Cases

variable (m : (ℓ : Loc nD τ sig) → Buf (Elt Ideal) ℓ)

/-- The two whole arrays, as the call reads them. -/
abbrev lhs (c : Dev nD) : S4096x12288.Idx → EReal := m ((c : Thread nD τ).loc main_arg1)
abbrev rhs (c : Dev nD) : S12288x4096.Idx → EReal := swap (m ((c : Thread nD τ).loc main_arg0) : S4096x12288.Idx → EReal)

theorem pay1_apply (x : Vec Ideal S2048x1536 .bf16) (y : Vec Ideal S1536x1024 .bf16) (i : S2048x1024.Idx) :
    k0_pay1 x y i = ∑ k : Fin 1536, rd x (i 0) k * rd y k (i 1) := by
  unfold k0_pay1
  simp only [shapeCast_self]
  exact matmul_nn (x) (y) i

theorem pay2_apply (acc : Vec Ideal S2048x1024 .f32) (x : Vec Ideal S2048x1536 .bf16) (y : Vec Ideal S1536x1024 .bf16) (i : S2048x1024.Idx) :
    k0_pay2 acc x y i = acc i + ∑ k : Fin 1536, rd x (i 0) k * rd y k (i 1) := by
  unfold k0_pay2
  simp only [shapeCast_self]
  exact congrArg (acc i + ·) (matmul_nn (x) (y) i)

/-- The windows' block numbers, decided over the grid. -/
theorem places : ∀ t : Fin cfg0.N, (win0_0.index t (0 : Fin 2) = t.val / 8 / 4 ∧ win0_0.index t (1 : Fin 2) = t.val % 8)
    ∧ win0_1.index t (0 : Fin 2) = t.val % 8 ∧ win0_1.index t (1 : Fin 2) = t.val / 8 % 4 :=
  (by decide +kernel : ∀ t : Fin grid0.N, _)

theorem array0 (c : Dev nD) : (V m c main_v0 : S4096x12288.Idx → EReal) = lhs m c := by
  show StableHlo.after hostOps0 _ _ = _
  after_results
  rfl
theorem array1 (c : Dev nD) : (V m c main_v2 : S12288x4096.Idx → EReal) = rhs m c := by
  show StableHlo.after hostOps0 _ _ = _
  after_results
  exact transpose_eq_swap _ _

/-- The term `k` of entry `i` of output block `q`. -/
def term (c : Dev nD) (q : ℕ) (i : S2048x1024.Idx) (k : ℕ) : EReal :=
  rd (lhs m c) (q / 4 * 2048 + (i 0).val) k * rd (rhs m c) k (q % 4 * 1024 + (i 1).val)

theorem block0 (c : Dev nD) (t : Fin cfg0.N) (r k : ℕ) (hr : r < 2048) (hk : k < 1536) :
    rd (iblk m c 0 t : S2048x1536.Idx → EReal) r k = rd (lhs m c) (t.val / 8 / 4 * 2048 + r) (1536 * (t.val % 8) + k) := by
  obtain ⟨⟨e0, e1⟩, -⟩ := places t
  refine (rd_ix2 (iblk m c 0 t : S2048x1536.Idx → EReal) ⟨r, hr⟩ ⟨k, hk⟩).trans ?_
  rw [← array0]
  refine rd_of (V m c main_v0 : S4096x12288.Idx → EReal) _ ?_ ?_
  · show win0_0.index t (0 : Fin 2) * 2048 + 1 * r = _
    rw [e0, one_mul]
  · show win0_0.index t (1 : Fin 2) * 1536 + 1 * k = _
    rw [e1, one_mul, Nat.mul_comm]

theorem block1 (c : Dev nD) (t : Fin cfg0.N) (r k : ℕ) (hr : r < 1536) (hk : k < 1024) :
    rd (iblk m c 1 t : S1536x1024.Idx → EReal) r k = rd (rhs m c) (1536 * (t.val % 8) + r) (t.val / 8 % 4 * 1024 + k) := by
  obtain ⟨-, e0, e1⟩ := places t
  refine (rd_ix2 (iblk m c 1 t : S1536x1024.Idx → EReal) ⟨r, hr⟩ ⟨k, hk⟩).trans ?_
  rw [← array1]
  refine rd_of (V m c main_v2 : S12288x4096.Idx → EReal) _ ?_ ?_
  · show win0_1.index t (0 : Fin 2) * 1536 + 1 * r = _
    rw [e0, one_mul, Nat.mul_comm]
  · show win0_1.index t (1 : Fin 2) * 1024 + 1 * k = _
    rw [e1, one_mul]

/-- The product of the two blocks of a point. -/
theorem blocks (c : Dev nD) (t : Fin cfg0.N) (i : S2048x1024.Idx) :
    ∑ k : Fin 1536, rd (iblk m c 0 t : S2048x1536.Idx → EReal) (i 0) k * rd (iblk m c 1 t : S1536x1024.Idx → EReal) k (i 1)
      = ∑ k : Fin 1536, term m c (t.val / 8) i (1536 * (t.val % 8) + k) :=
  Finset.sum_congr rfl fun k _ => by
    rw [block0 m c t _ _ (i 0).isLt k.isLt, block1 m c t _ _ k.isLt (i 1).isLt]; rfl

/-- What the last point of an output block's run leaves in the output's staging buffer. -/
theorem run_sum (c : Dev nD) (t : Fin cfg0.N) (ht : t.val % 8 = 7) (i : S2048x1024.Idx) :
    (outsAt0 m c t.val t.isLt).1 i = (∑ k : Fin 12288, term m c (t.val / 8) i k) := by
  have same : (outsAt0 m c t.val t.isLt).1 i = (outsAt0 m c t.val t.isLt).2 i := by
    rw [outsAt0_C m c t (by omega) (by omega) ht]
    dsimp only
    rw [stored, last]
  rw [same, soutsAt0_0_eq]
  have hq : t.val % 8 < 8 := Nat.mod_lt _ (by decide)
  refine (fold_sum (J := 8) (w := 1536) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 8 = 7
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S4096x4096.Idx) :
    (G2 m c : S4096x4096.Idx → EReal) i = (∑ k : Fin 12288, rd (lhs m c) (i 0) k * rd (rhs m c) k (i 1)) := by
  have h0 : (i 0).val < 4096 := (i 0).isLt
  have h1 : (i 1).val < 4096 := (i 1).isLt
  have hp : pt2Of i < cfg0.N := lt_of_lt_of_eq (by show 8 * (4 * _ + 1 * _) + 7 < 64; omega) N_0.symm
  unfold G2
  rw [dif_pos hp, ← outsAt0_sweep m c (pt2Of i) hp, run_sum m c ⟨pt2Of i, hp⟩ (by show (8 * _ + 7) % 8 = 7; omega)]
  have q0 : pt2Of i / 8 / 4 * 2048 + (i 0).val % 2048 = (i 0).val := by
    show (8 * (4 * ((i 0).val / 2048 - 0) + 1 * ((i 1).val / 1024 - 0)) + 7) / 8 / 4 * 2048 + _ = _; omega
  have q1 : pt2Of i / 8 % 4 * 1024 + (i 1).val % 1024 = (i 1).val := by
    show (8 * (4 * ((i 0).val / 2048 - 0) + 1 * ((i 1).val / 1024 - 0)) + 7) / 8 % 4 * 1024 + _ = _; omega
  show (∑ k : Fin 12288, rd (lhs m c) (pt2Of i / 8 / 4 * 2048 + (i 0).val % 2048) k * rd (rhs m c) k (pt2Of i / 8 % 4 * 1024 + (i 1).val % 1024) : EReal) = _
  rw [q0, q1]

end Cert.OddXIdeal.Tiles

namespace Cert.OddX

open Idealize.ShloMosaic Idealize.ShloMosaic.TcCoe Idealize.SL.Sem Idealize.ShloMosaic.ValueIdx Cert.Products

theorem frame : quiescent_OddX := fun m ρ _ => OddX.Gen.frame m ρ
theorem frame_ideal : quiescent_OddXIdeal := fun m ρ _ => OddXIdeal.Gen.frame m ρ
theorem frame_ref : quiescent_OddXRefIdeal := fun m ρ _ =>
  (θ_run OddXRefIdeal.defs _ _).mono (fun r h => ⟨fun c => (h c).2, sem_eq_zero_of_no_sems (by decide) r.2⟩)
    (OddXRefIdeal.Value.run (F := Ideal) m ρ)

/-- The reference's array, entry by entry, is the call's. -/
theorem algebraic : algebraic_OddXIdeal_OddXRefIdeal := by
  intro m g m' g' _ hargs
  refine ⟨fun c => OddXIdeal.Value.G2 m c, OddXIdeal.Value.run m g, ?_⟩
  refine (θ_run _ _ _).mono (fun r h c => ⟨(h c).1.trans ?_, (h c).2⟩) (OddXRefIdeal.Value.run m' g')
  rw [(hargs c).1, (hargs c).2]
  funext i
  refine Eq.trans (α := EReal) ?_ (OddXIdeal.Tiles.result m c i).symm
  refine Eq.trans (α := EReal) (dot_nt (M := 4096) (K := 12288) (N := 4096) (φ₁ := .f32) (φ₂ := .f32) (OddXIdeal.Tiles.lhs m c)
    (m ((c.tc : Thread OddXIdeal.nD OddXIdeal.τ).loc OddXIdeal.main_arg0) : (⟨2, ![4096, 12288]⟩ : Shape).Idx → EReal) i) ?_
  exact Finset.sum_congr rfl fun k _ => by rw [rd_swap]

end Cert.OddX

end
-- ==== Proof.OddW.lean ====
/-
  The gradient of the odd layer's input projection's matrix, transposed: `dpᵀ · h`, tiled over rows, columns and
  tokens, is the transposed product that differentiating `w ↦ h · w` gives.
-/
module

public import proofs.«01_k».proof.Defs
public import proofs.«01_k».proof.Proof.Products
public import proofs.«01_k».proof.Proof.Gen.OddW.Frame
public import proofs.«01_k».proof.Proof.Gen.OddWIdeal.Value
public import proofs.«01_k».proof.Proof.Gen.OddWRefIdeal.Run

@[expose] public section

set_option maxRecDepth 16384

noncomputable section

namespace Cert.OddWIdeal.Tiles

open Cert.OddWIdeal Cert.OddWIdeal.Gen Cert.OddWIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S1024x1024 .bf16) (ha : a.IsWhole)
  (b : Memref sig .tc .vmem S1024x2048 .bf16) (hb : b.IsWhole)  (o : Memref sig .tc .vmem S1024x2048 .f32) (ho : o.IsWhole)
  (s : Memref sig .tc .vmem S1024x2048 .f32) (hs : s.IsWhole)
  (x : Vec F S1024x1024 .bf16) (y : Vec F S1024x2048 .bf16) (acc : Vec F S1024x2048 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S1024x1024) hz, View.ld_unit_zero (S := S1024x2048) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S1024x1024) hz, View.ld_unit_zero (S := S1024x2048) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S1024x1024) hz, View.ld_unit_zero (S := S1024x2048) hz]

/-- At the last block the output block is made from the accumulator. -/
theorem stored (h0 : ¬cond0_0 i) (h1 : cond0_1 i) (h2 : cond0_2 i) :
    out0_C_2 c i a ha b hb o ho s hs h0 h1 h2 x y acc = k0_pay2 acc x y := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S1024x2048) _ hz]
  simp only [View.readAt_eq_ld, ha.read_unread, hb.read_unread, hs.read_unread, View.ld_unit_zero (S := S1024x1024) hz, View.ld_unit_zero (S := S1024x2048) hz]

end Cases

variable (m : (ℓ : Loc nD τ sig) → Buf (Elt Ideal) ℓ)

/-- The two whole arrays, as the call reads them. -/
abbrev lhs (c : Dev nD) : S4096x12288.Idx → EReal := m ((c : Thread nD τ).loc main_arg1)
abbrev rhs (c : Dev nD) : S4096x4096.Idx → EReal := m ((c : Thread nD τ).loc main_arg0)

theorem pay1_apply (x : Vec Ideal S1024x1024 .bf16) (y : Vec Ideal S1024x2048 .bf16) (i : S1024x2048.Idx) :
    k0_pay1 x y i = ∑ k : Fin 1024, rd x k (i 0) * rd y k (i 1) := by
  unfold k0_pay1
  simp only [shapeCast_self]
  exact matmul_tn (x) (y) i

theorem pay2_apply (acc : Vec Ideal S1024x2048 .f32) (x : Vec Ideal S1024x1024 .bf16) (y : Vec Ideal S1024x2048 .bf16) (i : S1024x2048.Idx) :
    k0_pay2 acc x y i = acc i + ∑ k : Fin 1024, rd x k (i 0) * rd y k (i 1) := by
  unfold k0_pay2
  simp only [shapeCast_self]
  exact congrArg (acc i + ·) (matmul_tn (x) (y) i)

/-- The windows' block numbers, decided over the grid. -/
theorem places : ∀ t : Fin cfg0.N, (win0_0.index t (0 : Fin 2) = t.val % 4 ∧ win0_0.index t (1 : Fin 2) = t.val / 4 / 2)
    ∧ win0_1.index t (0 : Fin 2) = t.val % 4 ∧ win0_1.index t (1 : Fin 2) = t.val / 4 % 2 :=
  (by decide +kernel : ∀ t : Fin grid0.N, _)

theorem array0 (c : Dev nD) : (V m c main_v0 : S4096x12288.Idx → EReal) = lhs m c := by
  show StableHlo.after hostOps0 _ _ = _
  after_results
  rfl
theorem array1 (c : Dev nD) : (V m c main_v1 : S4096x4096.Idx → EReal) = rhs m c := by
  show StableHlo.after hostOps0 _ _ = _
  after_results
  rfl

/-- The term `k` of entry `i` of output block `q`. -/
def term (c : Dev nD) (q : ℕ) (i : S1024x2048.Idx) (k : ℕ) : EReal :=
  rd (lhs m c) k (q / 2 * 1024 + (i 0).val) * rd (rhs m c) k (q % 2 * 2048 + (i 1).val)

theorem block0 (c : Dev nD) (t : Fin cfg0.N) (r k : ℕ) (hr : r < 1024) (hk : k < 1024) :
    rd (iblk m c 0 t : S1024x1024.Idx → EReal) r k = rd (lhs m c) (1024 * (t.val % 4) + r) (t.val / 4 / 2 * 1024 + k) := by
  obtain ⟨⟨e0, e1⟩, -⟩ := places t
  refine (rd_ix2 (iblk m c 0 t : S1024x1024.Idx → EReal) ⟨r, hr⟩ ⟨k, hk⟩).trans ?_
  rw [← array0]
  refine rd_of (V m c main_v0 : S4096x12288.Idx → EReal) _ ?_ ?_
  · show win0_0.index t (0 : Fin 2) * 1024 + 1 * r = _
    rw [e0, one_mul, Nat.mul_comm]
  · show win0_0.index t (1 : Fin 2) * 1024 + 1 * k = _
    rw [e1, one_mul]

theorem block1 (c : Dev nD) (t : Fin cfg0.N) (r k : ℕ) (hr : r < 1024) (hk : k < 2048) :
    rd (iblk m c 1 t : S1024x2048.Idx → EReal) r k = rd (rhs m c) (1024 * (t.val % 4) + r) (t.val / 4 % 2 * 2048 + k) := by
  obtain ⟨-, e0, e1⟩ := places t
  refine (rd_ix2 (iblk m c 1 t : S1024x2048.Idx → EReal) ⟨r, hr⟩ ⟨k, hk⟩).trans ?_
  rw [← array1]
  refine rd_of (V m c main_v1 : S4096x4096.Idx → EReal) _ ?_ ?_
  · show win0_1.index t (0 : Fin 2) * 1024 + 1 * r = _
    rw [e0, one_mul, Nat.mul_comm]
  · show win0_1.index t (1 : Fin 2) * 2048 + 1 * k = _
    rw [e1, one_mul]

/-- The product of the two blocks of a point. -/
theorem blocks (c : Dev nD) (t : Fin cfg0.N) (i : S1024x2048.Idx) :
    ∑ k : Fin 1024, rd (iblk m c 0 t : S1024x1024.Idx → EReal) k (i 0) * rd (iblk m c 1 t : S1024x2048.Idx → EReal) k (i 1)
      = ∑ k : Fin 1024, term m c (t.val / 4) i (1024 * (t.val % 4) + k) :=
  Finset.sum_congr rfl fun k _ => by
    rw [block0 m c t _ _ k.isLt (i 0).isLt, block1 m c t _ _ k.isLt (i 1).isLt]; rfl

/-- What the last point of an output block's run leaves in the output's staging buffer. -/
theorem run_sum (c : Dev nD) (t : Fin cfg0.N) (ht : t.val % 4 = 3) (i : S1024x2048.Idx) :
    (outsAt0 m c t.val t.isLt).1 i = (∑ k : Fin 4096, term m c (t.val / 4) i k) := by
  have same : (outsAt0 m c t.val t.isLt).1 i = (outsAt0 m c t.val t.isLt).2 i := by
    rw [outsAt0_C m c t (by omega) (by omega) ht]
    dsimp only
    rw [stored, last]
  rw [same, soutsAt0_0_eq]
  have hq : t.val % 4 < 4 := Nat.mod_lt _ (by decide)
  refine (fold_sum (J := 4) (w := 1024) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 4 = 3
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S12288x4096.Idx) :
    (G2 m c : S12288x4096.Idx → EReal) i = (∑ k : Fin 4096, rd (lhs m c) k (i 0) * rd (rhs m c) k (i 1)) := by
  have h0 : (i 0).val < 12288 := (i 0).isLt
  have h1 : (i 1).val < 4096 := (i 1).isLt
  have hp : pt2Of i < cfg0.N := lt_of_lt_of_eq (by show 4 * (2 * _ + 1 * _) + 3 < 96; omega) N_0.symm
  unfold G2
  rw [dif_pos hp, ← outsAt0_sweep m c (pt2Of i) hp, run_sum m c ⟨pt2Of i, hp⟩ (by show (4 * _ + 3) % 4 = 3; omega)]
  have q0 : pt2Of i / 4 / 2 * 1024 + (i 0).val % 1024 = (i 0).val := by
    show (4 * (2 * ((i 0).val / 1024 - 0) + 1 * ((i 1).val / 2048 - 0)) + 3) / 4 / 2 * 1024 + _ = _; omega
  have q1 : pt2Of i / 4 % 2 * 2048 + (i 1).val % 2048 = (i 1).val := by
    show (4 * (2 * ((i 0).val / 1024 - 0) + 1 * ((i 1).val / 2048 - 0)) + 3) / 4 % 2 * 2048 + _ = _; omega
  show (∑ k : Fin 4096, rd (lhs m c) k (pt2Of i / 4 / 2 * 1024 + (i 0).val % 1024) * rd (rhs m c) k (pt2Of i / 4 % 2 * 2048 + (i 1).val % 2048) : EReal) = _
  rw [q0, q1]

end Cert.OddWIdeal.Tiles

namespace Cert.OddW

open Idealize.ShloMosaic Idealize.ShloMosaic.TcCoe Idealize.SL.Sem Idealize.ShloMosaic.ValueIdx Cert.Products

theorem frame : quiescent_OddW := fun m ρ _ => OddW.Gen.frame m ρ
theorem frame_ideal : quiescent_OddWIdeal := fun m ρ _ => OddWIdeal.Gen.frame m ρ
theorem frame_ref : quiescent_OddWRefIdeal := fun m ρ _ =>
  (θ_run OddWRefIdeal.defs _ _).mono (fun r h => ⟨fun c => (h c).2, sem_eq_zero_of_no_sems (by decide) r.2⟩)
    (OddWRefIdeal.Value.run (F := Ideal) m ρ)

/-- The reference's array, entry by entry, is the call's. -/
theorem algebraic : algebraic_OddWIdeal_OddWRefIdeal := by
  intro m g m' g' _ hargs
  refine ⟨fun c => OddWIdeal.Value.G2 m c, OddWIdeal.Value.run m g, ?_⟩
  refine (θ_run _ _ _).mono (fun r h c => ⟨(h c).1.trans ?_, (h c).2⟩) (OddWRefIdeal.Value.run m' g')
  rw [(hargs c).1, (hargs c).2]
  funext i
  refine Eq.trans (α := EReal) ?_ (OddWIdeal.Tiles.result m c i).symm
  refine Eq.trans (α := EReal) (congrFun (transpose_eq_swap (M := 4096) (N := 12288) _ _) i) ?_
  refine Eq.trans (α := EReal) (congrFun (transpose_eq_swap (M := 12288) (N := 4096) _ _) (ix2 (i 1) (i 0))) ?_
  exact dot_tn (M := 12288) (K := 4096) (N := 4096) (φ₁ := .f32) (φ₂ := .f32) (OddWIdeal.Tiles.lhs m c) (OddWIdeal.Tiles.rhs m c)
    (ix2 (i 0) (i 1))

end Cert.OddW

end
-- ==== Proof.EvenX.lean ====
/-
  The gradient of the even layer's input projection's input: `dp · wᵀ` from the transposed matrix, tiled over rows,
  columns and the contracted axis, is the product that differentiating `h ↦ h · w` gives.
-/
module

public import proofs.«01_k».proof.Defs
public import proofs.«01_k».proof.Proof.Products
public import proofs.«01_k».proof.Proof.Gen.EvenX.Frame
public import proofs.«01_k».proof.Proof.Gen.EvenXIdeal.Value
public import proofs.«01_k».proof.Proof.Gen.EvenXRefIdeal.Run

@[expose] public section

set_option maxRecDepth 16384

noncomputable section

namespace Cert.EvenXIdeal.Tiles

open Cert.EvenXIdeal Cert.EvenXIdeal.Gen Cert.EvenXIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S2048x1280 .bf16) (ha : a.IsWhole)
  (b : Memref sig .tc .vmem S1280x1024 .bf16) (hb : b.IsWhole)  (o : Memref sig .tc .vmem S2048x1024 .f32) (ho : o.IsWhole)
  (s : Memref sig .tc .vmem S2048x1024 .f32) (hs : s.IsWhole)
  (x : Vec F S2048x1280 .bf16) (y : Vec F S1280x1024 .bf16) (acc : Vec F S2048x1024 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S2048x1280) hz, View.ld_unit_zero (S := S1280x1024) hz, View.ld_unit_zero (S := S2048x1024) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S2048x1280) hz, View.ld_unit_zero (S := S1280x1024) hz, View.ld_unit_zero (S := S2048x1024) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S2048x1280) hz, View.ld_unit_zero (S := S1280x1024) hz, View.ld_unit_zero (S := S2048x1024) hz]

/-- At the last block the output block is made from the accumulator. -/
theorem stored (h0 : ¬cond0_0 i) (h1 : cond0_1 i) (h2 : cond0_2 i) :
    out0_C_2 c i a ha b hb o ho s hs h0 h1 h2 x y acc = k0_pay2 acc x y := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S2048x1024) _ hz]
  simp only [View.readAt_eq_ld, ha.read_unread, hb.read_unread, hs.read_unread, View.ld_unit_zero (S := S2048x1280) hz, View.ld_unit_zero (S := S1280x1024) hz, View.ld_unit_zero (S := S2048x1024) hz]

end Cases

variable (m : (ℓ : Loc nD τ sig) → Buf (Elt Ideal) ℓ)

/-- The two whole arrays, as the call reads them. -/
abbrev lhs (c : Dev nD) : S4096x16640.Idx → EReal := m ((c : Thread nD τ).loc main_arg1)
abbrev rhs (c : Dev nD) : S16640x4096.Idx → EReal := swap (m ((c : Thread nD τ).loc main_arg0) : S4096x16640.Idx → EReal)

theorem pay1_apply (x : Vec Ideal S2048x1280 .bf16) (y : Vec Ideal S1280x1024 .bf16) (i : S2048x1024.Idx) :
    k0_pay1 x y i = ∑ k : Fin 1280, rd x (i 0) k * rd y k (i 1) := by
  unfold k0_pay1
  simp only [shapeCast_self]
  exact matmul_nn (x) (y) i

theorem pay2_apply (acc : Vec Ideal S2048x1024 .f32) (x : Vec Ideal S2048x1280 .bf16) (y : Vec Ideal S1280x1024 .bf16) (i : S2048x1024.Idx) :
    k0_pay2 acc x y i = acc i + ∑ k : Fin 1280, rd x (i 0) k * rd y k (i 1) := by
  unfold k0_pay2
  simp only [shapeCast_self]
  exact congrArg (acc i + ·) (matmul_nn (x) (y) i)

/-- The windows' block numbers, decided over the grid. -/
theorem places : ∀ t : Fin cfg0.N, (win0_0.index t (0 : Fin 2) = t.val / 13 / 4 ∧ win0_0.index t (1 : Fin 2) = t.val % 13)
    ∧ win0_1.index t (0 : Fin 2) = t.val % 13 ∧ win0_1.index t (1 : Fin 2) = t.val / 13 % 4 :=
  (by decide +kernel : ∀ t : Fin grid0.N, _)

theorem array0 (c : Dev nD) : (V m c main_v0 : S4096x16640.Idx → EReal) = lhs m c := by
  show StableHlo.after hostOps0 _ _ = _
  after_results
  rfl
theorem array1 (c : Dev nD) : (V m c main_v2 : S16640x4096.Idx → EReal) = rhs m c := by
  show StableHlo.after hostOps0 _ _ = _
  after_results
  exact transpose_eq_swap _ _

/-- The term `k` of entry `i` of output block `q`. -/
def term (c : Dev nD) (q : ℕ) (i : S2048x1024.Idx) (k : ℕ) : EReal :=
  rd (lhs m c) (q / 4 * 2048 + (i 0).val) k * rd (rhs m c) k (q % 4 * 1024 + (i 1).val)

theorem block0 (c : Dev nD) (t : Fin cfg0.N) (r k : ℕ) (hr : r < 2048) (hk : k < 1280) :
    rd (iblk m c 0 t : S2048x1280.Idx → EReal) r k = rd (lhs m c) (t.val / 13 / 4 * 2048 + r) (1280 * (t.val % 13) + k) := by
  obtain ⟨⟨e0, e1⟩, -⟩ := places t
  refine (rd_ix2 (iblk m c 0 t : S2048x1280.Idx → EReal) ⟨r, hr⟩ ⟨k, hk⟩).trans ?_
  rw [← array0]
  refine rd_of (V m c main_v0 : S4096x16640.Idx → EReal) _ ?_ ?_
  · show win0_0.index t (0 : Fin 2) * 2048 + 1 * r = _
    rw [e0, one_mul]
  · show win0_0.index t (1 : Fin 2) * 1280 + 1 * k = _
    rw [e1, one_mul, Nat.mul_comm]

theorem block1 (c : Dev nD) (t : Fin cfg0.N) (r k : ℕ) (hr : r < 1280) (hk : k < 1024) :
    rd (iblk m c 1 t : S1280x1024.Idx → EReal) r k = rd (rhs m c) (1280 * (t.val % 13) + r) (t.val / 13 % 4 * 1024 + k) := by
  obtain ⟨-, e0, e1⟩ := places t
  refine (rd_ix2 (iblk m c 1 t : S1280x1024.Idx → EReal) ⟨r, hr⟩ ⟨k, hk⟩).trans ?_
  rw [← array1]
  refine rd_of (V m c main_v2 : S16640x4096.Idx → EReal) _ ?_ ?_
  · show win0_1.index t (0 : Fin 2) * 1280 + 1 * r = _
    rw [e0, one_mul, Nat.mul_comm]
  · show win0_1.index t (1 : Fin 2) * 1024 + 1 * k = _
    rw [e1, one_mul]

/-- The product of the two blocks of a point. -/
theorem blocks (c : Dev nD) (t : Fin cfg0.N) (i : S2048x1024.Idx) :
    ∑ k : Fin 1280, rd (iblk m c 0 t : S2048x1280.Idx → EReal) (i 0) k * rd (iblk m c 1 t : S1280x1024.Idx → EReal) k (i 1)
      = ∑ k : Fin 1280, term m c (t.val / 13) i (1280 * (t.val % 13) + k) :=
  Finset.sum_congr rfl fun k _ => by
    rw [block0 m c t _ _ (i 0).isLt k.isLt, block1 m c t _ _ k.isLt (i 1).isLt]; rfl

/-- What the last point of an output block's run leaves in the output's staging buffer. -/
theorem run_sum (c : Dev nD) (t : Fin cfg0.N) (ht : t.val % 13 = 12) (i : S2048x1024.Idx) :
    (outsAt0 m c t.val t.isLt).1 i = (∑ k : Fin 16640, term m c (t.val / 13) i k) := by
  have same : (outsAt0 m c t.val t.isLt).1 i = (outsAt0 m c t.val t.isLt).2 i := by
    rw [outsAt0_C m c t (by omega) (by omega) ht]
    dsimp only
    rw [stored, last]
  rw [same, soutsAt0_0_eq]
  have hq : t.val % 13 < 13 := Nat.mod_lt _ (by decide)
  refine (fold_sum (J := 13) (w := 1280) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 13 = 12
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S4096x4096.Idx) :
    (G2 m c : S4096x4096.Idx → EReal) i = (∑ k : Fin 16640, rd (lhs m c) (i 0) k * rd (rhs m c) k (i 1)) := by
  have h0 : (i 0).val < 4096 := (i 0).isLt
  have h1 : (i 1).val < 4096 := (i 1).isLt
  have hp : pt2Of i < cfg0.N := lt_of_lt_of_eq (by show 13 * (4 * _ + 1 * _) + 12 < 104; omega) N_0.symm
  unfold G2
  rw [dif_pos hp, ← outsAt0_sweep m c (pt2Of i) hp, run_sum m c ⟨pt2Of i, hp⟩ (by show (13 * _ + 12) % 13 = 12; omega)]
  have q0 : pt2Of i / 13 / 4 * 2048 + (i 0).val % 2048 = (i 0).val := by
    show (13 * (4 * ((i 0).val / 2048 - 0) + 1 * ((i 1).val / 1024 - 0)) + 12) / 13 / 4 * 2048 + _ = _; omega
  have q1 : pt2Of i / 13 % 4 * 1024 + (i 1).val % 1024 = (i 1).val := by
    show (13 * (4 * ((i 0).val / 2048 - 0) + 1 * ((i 1).val / 1024 - 0)) + 12) / 13 % 4 * 1024 + _ = _; omega
  show (∑ k : Fin 16640, rd (lhs m c) (pt2Of i / 13 / 4 * 2048 + (i 0).val % 2048) k * rd (rhs m c) k (pt2Of i / 13 % 4 * 1024 + (i 1).val % 1024) : EReal) = _
  rw [q0, q1]

end Cert.EvenXIdeal.Tiles

namespace Cert.EvenX

open Idealize.ShloMosaic Idealize.ShloMosaic.TcCoe Idealize.SL.Sem Idealize.ShloMosaic.ValueIdx Cert.Products

theorem frame : quiescent_EvenX := fun m ρ _ => EvenX.Gen.frame m ρ
theorem frame_ideal : quiescent_EvenXIdeal := fun m ρ _ => EvenXIdeal.Gen.frame m ρ
theorem frame_ref : quiescent_EvenXRefIdeal := fun m ρ _ =>
  (θ_run EvenXRefIdeal.defs _ _).mono (fun r h => ⟨fun c => (h c).2, sem_eq_zero_of_no_sems (by decide) r.2⟩)
    (EvenXRefIdeal.Value.run (F := Ideal) m ρ)

/-- The reference's array, entry by entry, is the call's. -/
theorem algebraic : algebraic_EvenXIdeal_EvenXRefIdeal := by
  intro m g m' g' _ hargs
  refine ⟨fun c => EvenXIdeal.Value.G2 m c, EvenXIdeal.Value.run m g, ?_⟩
  refine (θ_run _ _ _).mono (fun r h c => ⟨(h c).1.trans ?_, (h c).2⟩) (EvenXRefIdeal.Value.run m' g')
  rw [(hargs c).1, (hargs c).2]
  funext i
  refine Eq.trans (α := EReal) ?_ (EvenXIdeal.Tiles.result m c i).symm
  refine Eq.trans (α := EReal) (dot_nt (M := 4096) (K := 16640) (N := 4096) (φ₁ := .f32) (φ₂ := .f32) (EvenXIdeal.Tiles.lhs m c)
    (m ((c.tc : Thread EvenXIdeal.nD EvenXIdeal.τ).loc EvenXIdeal.main_arg0) : (⟨2, ![4096, 16640]⟩ : Shape).Idx → EReal) i) ?_
  exact Finset.sum_congr rfl fun k _ => by rw [rd_swap]

end Cert.EvenX

end
-- ==== Proof.EvenW.lean ====
/-
  The gradient of the even layer's input projection's matrix, transposed: `dpᵀ · h`, tiled over rows, columns and
  tokens, is the transposed product that differentiating `w ↦ h · w` gives.
-/
module

public import proofs.«01_k».proof.Defs
public import proofs.«01_k».proof.Proof.Products
public import proofs.«01_k».proof.Proof.Gen.EvenW.Frame
public import proofs.«01_k».proof.Proof.Gen.EvenWIdeal.Value
public import proofs.«01_k».proof.Proof.Gen.EvenWRefIdeal.Run

@[expose] public section

set_option maxRecDepth 16384

noncomputable section

namespace Cert.EvenWIdeal.Tiles

open Cert.EvenWIdeal Cert.EvenWIdeal.Gen Cert.EvenWIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S1024x1280 .bf16) (ha : a.IsWhole)
  (b : Memref sig .tc .vmem S1024x2048 .bf16) (hb : b.IsWhole)  (o : Memref sig .tc .vmem S1280x2048 .bf16) (ho : o.IsWhole)
  (s : Memref sig .tc .vmem S1280x2048 .f32) (hs : s.IsWhole)
  (x : Vec F S1024x1280 .bf16) (y : Vec F S1024x2048 .bf16) (acc : Vec F S1280x2048 .f32)

/-- At the first block of the contracted axis the accumulator is that block's product. -/
theorem first (h0 : cond0_0 i) (h1 : ¬cond0_1 i) (h2 : ¬cond0_2 i) :
    sout0_A_0 c i a ha b hb o ho s hs h0 h1 h2 x y = k0_pay1 x y := by
  unfold sout0_A_0
  rw [View.read_writes_eq_canon _ _ _ (scover0_A_0 c i a ha b hb o ho s hs h0 h1 h2 x y)]
  unfold kernelRun0_A
  dsimp only
  rw [View.canon_unit_zero hz]
  simp only [View.readAt_eq_ld, ha.read_unread, hb.read_unread, View.ld_unit_zero (S := S1024x1280) hz, View.ld_unit_zero (S := S1024x2048) hz, View.ld_unit_zero (S := S1280x2048) hz]

/-- At a later block the accumulator gains that block's product. -/
theorem later (h0 : ¬cond0_0 i) (h1 : cond0_1 i) (h2 : ¬cond0_2 i) :
    sout0_B_0 c i a ha b hb o ho s hs h0 h1 h2 x y acc = k0_pay2 acc x y := by
  unfold sout0_B_0
  rw [View.read_writes_eq_canon _ _ _ (scover0_B_0 c i a ha b hb o ho s hs h0 h1 h2 x y acc)]
  unfold kernelRun0_B
  dsimp only
  rw [View.canon_unit_zero hz]
  simp only [View.readAt_eq_ld, ha.read_unread, hb.read_unread, hs.read_unread, View.ld_unit_zero (S := S1024x1280) hz, View.ld_unit_zero (S := S1024x2048) hz, View.ld_unit_zero (S := S1280x2048) hz]

/-- So it does at the last block. -/
theorem last (h0 : ¬cond0_0 i) (h1 : cond0_1 i) (h2 : cond0_2 i) :
    sout0_C_0 c i a ha b hb o ho s hs h0 h1 h2 x y acc = k0_pay2 acc x y := by
  unfold sout0_C_0
  rw [View.read_writes_eq_canon _ _ _ (scover0_C_0 c i a ha b hb o ho s hs h0 h1 h2 x y acc)]
  unfold kernelRun0_C
  dsimp only
  sl_unfold_words
  rw [View.canon_unit_zero hz]
  simp only [View.readAt_eq_ld, ha.read_unread, hb.read_unread, hs.read_unread, View.ld_unit_zero (S := S1024x1280) hz, View.ld_unit_zero (S := S1024x2048) hz, View.ld_unit_zero (S := S1280x2048) hz]

/-- At the last block the output block is made from the accumulator. -/
theorem stored (h0 : ¬cond0_0 i) (h1 : cond0_1 i) (h2 : cond0_2 i) :
    out0_C_2 c i a ha b hb o ho s hs h0 h1 h2 x y acc = k0_pay3 (k0_pay2 acc x y) := by
  unfold out0_C_2
  rw [View.read_writes_eq_canon _ _ _ (cover0_C_2 c i a ha b hb o ho s hs h0 h1 h2 x y acc)]
  unfold kernelRun0_C
  dsimp only
  sl_unfold_words
  rw [View.canon_unit_zero hz, View.readCov_unit_zero (S := S1280x2048) _ hz]
  simp only [View.readAt_eq_ld, ha.read_unread, hb.read_unread, hs.read_unread, View.ld_unit_zero (S := S1024x1280) hz, View.ld_unit_zero (S := S1024x2048) hz, View.ld_unit_zero (S := S1280x2048) hz]

end Cases

variable (m : (ℓ : Loc nD τ sig) → Buf (Elt Ideal) ℓ)

/-- The two whole arrays, as the call reads them. -/
abbrev lhs (c : Dev nD) : S4096x16640.Idx → EReal := m ((c : Thread nD τ).loc main_arg1)
abbrev rhs (c : Dev nD) : S4096x4096.Idx → EReal := m ((c : Thread nD τ).loc main_arg0)

theorem pay1_apply (x : Vec Ideal S1024x1280 .bf16) (y : Vec Ideal S1024x2048 .bf16) (i : S1280x2048.Idx) :
    k0_pay1 x y i = ∑ k : Fin 1024, rd x k (i 0) * rd y k (i 1) := by
  unfold k0_pay1
  simp only [shapeCast_self]
  exact matmul_tn (x) (y) i

theorem pay2_apply (acc : Vec Ideal S1280x2048 .f32) (x : Vec Ideal S1024x1280 .bf16) (y : Vec Ideal S1024x2048 .bf16) (i : S1280x2048.Idx) :
    k0_pay2 acc x y i = acc i + ∑ k : Fin 1024, rd x k (i 0) * rd y k (i 1) := by
  unfold k0_pay2
  simp only [shapeCast_self]
  exact congrArg (acc i + ·) (matmul_tn (x) (y) i)

/-- The windows' block numbers, decided over the grid. -/
theorem places : ∀ t : Fin cfg0.N, (win0_0.index t (0 : Fin 2) = t.val % 4 ∧ win0_0.index t (1 : Fin 2) = t.val / 4 / 2)
    ∧ win0_1.index t (0 : Fin 2) = t.val % 4 ∧ win0_1.index t (1 : Fin 2) = t.val / 4 % 2 :=
  (by decide +kernel : ∀ t : Fin grid0.N, _)

theorem array0 (c : Dev nD) : (V m c main_v0 : S4096x16640.Idx → EReal) = lhs m c := by
  show StableHlo.after hostOps0 _ _ = _
  after_results
  rfl
theorem array1 (c : Dev nD) : (V m c main_v1 : S4096x4096.Idx → EReal) = rhs m c := by
  show StableHlo.after hostOps0 _ _ = _
  after_results
  rfl

/-- The term `k` of entry `i` of output block `q`. -/
def term (c : Dev nD) (q : ℕ) (i : S1280x2048.Idx) (k : ℕ) : EReal :=
  rd (lhs m c) k (q / 2 * 1280 + (i 0).val) * rd (rhs m c) k (q % 2 * 2048 + (i 1).val)

theorem block0 (c : Dev nD) (t : Fin cfg0.N) (r k : ℕ) (hr : r < 1024) (hk : k < 1280) :
    rd (iblk m c 0 t : S1024x1280.Idx → EReal) r k = rd (lhs m c) (1024 * (t.val % 4) + r) (t.val / 4 / 2 * 1280 + k) := by
  obtain ⟨⟨e0, e1⟩, -⟩ := places t
  refine (rd_ix2 (iblk m c 0 t : S1024x1280.Idx → EReal) ⟨r, hr⟩ ⟨k, hk⟩).trans ?_
  rw [← array0]
  refine rd_of (V m c main_v0 : S4096x16640.Idx → EReal) _ ?_ ?_
  · show win0_0.index t (0 : Fin 2) * 1024 + 1 * r = _
    rw [e0, one_mul, Nat.mul_comm]
  · show win0_0.index t (1 : Fin 2) * 1280 + 1 * k = _
    rw [e1, one_mul]

theorem block1 (c : Dev nD) (t : Fin cfg0.N) (r k : ℕ) (hr : r < 1024) (hk : k < 2048) :
    rd (iblk m c 1 t : S1024x2048.Idx → EReal) r k = rd (rhs m c) (1024 * (t.val % 4) + r) (t.val / 4 % 2 * 2048 + k) := by
  obtain ⟨-, e0, e1⟩ := places t
  refine (rd_ix2 (iblk m c 1 t : S1024x2048.Idx → EReal) ⟨r, hr⟩ ⟨k, hk⟩).trans ?_
  rw [← array1]
  refine rd_of (V m c main_v1 : S4096x4096.Idx → EReal) _ ?_ ?_
  · show win0_1.index t (0 : Fin 2) * 1024 + 1 * r = _
    rw [e0, one_mul, Nat.mul_comm]
  · show win0_1.index t (1 : Fin 2) * 2048 + 1 * k = _
    rw [e1, one_mul]

/-- The product of the two blocks of a point. -/
theorem blocks (c : Dev nD) (t : Fin cfg0.N) (i : S1280x2048.Idx) :
    ∑ k : Fin 1024, rd (iblk m c 0 t : S1024x1280.Idx → EReal) k (i 0) * rd (iblk m c 1 t : S1024x2048.Idx → EReal) k (i 1)
      = ∑ k : Fin 1024, term m c (t.val / 4) i (1024 * (t.val % 4) + k) :=
  Finset.sum_congr rfl fun k _ => by
    rw [block0 m c t _ _ k.isLt (i 0).isLt, block1 m c t _ _ k.isLt (i 1).isLt]; rfl

/-- What the last point of an output block's run leaves in the output's staging buffer. -/
theorem run_sum (c : Dev nD) (t : Fin cfg0.N) (ht : t.val % 4 = 3) (i : S1280x2048.Idx) :
    (outsAt0 m c t.val t.isLt).1 i = (∑ k : Fin 4096, term m c (t.val / 4) i k) := by
  have same : (outsAt0 m c t.val t.isLt).1 i = (outsAt0 m c t.val t.isLt).2 i := by
    rw [outsAt0_C m c t (by omega) (by omega) ht]
    dsimp only
    rw [stored, last]
    rfl
  rw [same, soutsAt0_0_eq]
  have hq : t.val % 4 < 4 := Nat.mod_lt _ (by decide)
  refine (fold_sum (J := 4) (w := 1024) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 4 = 3
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product. -/
theorem result (c : Dev nD) (i : S16640x4096.Idx) :
    (G2 m c : S16640x4096.Idx → EReal) i = (∑ k : Fin 4096, rd (lhs m c) k (i 0) * rd (rhs m c) k (i 1)) := by
  have h0 : (i 0).val < 16640 := (i 0).isLt
  have h1 : (i 1).val < 4096 := (i 1).isLt
  have hp : pt2Of i < cfg0.N := lt_of_lt_of_eq (by show 4 * (2 * _ + 1 * _) + 3 < 104; omega) N_0.symm
  unfold G2
  rw [dif_pos hp, ← outsAt0_sweep m c (pt2Of i) hp, run_sum m c ⟨pt2Of i, hp⟩ (by show (4 * _ + 3) % 4 = 3; omega)]
  have q0 : pt2Of i / 4 / 2 * 1280 + (i 0).val % 1280 = (i 0).val := by
    show (4 * (2 * ((i 0).val / 1280 - 0) + 1 * ((i 1).val / 2048 - 0)) + 3) / 4 / 2 * 1280 + _ = _; omega
  have q1 : pt2Of i / 4 % 2 * 2048 + (i 1).val % 2048 = (i 1).val := by
    show (4 * (2 * ((i 0).val / 1280 - 0) + 1 * ((i 1).val / 2048 - 0)) + 3) / 4 % 2 * 2048 + _ = _; omega
  show (∑ k : Fin 4096, rd (lhs m c) k (pt2Of i / 4 / 2 * 1280 + (i 0).val % 1280) * rd (rhs m c) k (pt2Of i / 4 % 2 * 2048 + (i 1).val % 2048) : EReal) = _
  rw [q0, q1]

end Cert.EvenWIdeal.Tiles

namespace Cert.EvenW

open Idealize.ShloMosaic Idealize.ShloMosaic.TcCoe Idealize.SL.Sem Idealize.ShloMosaic.ValueIdx Cert.Products

theorem frame : quiescent_EvenW := fun m ρ _ => EvenW.Gen.frame m ρ
theorem frame_ideal : quiescent_EvenWIdeal := fun m ρ _ => EvenWIdeal.Gen.frame m ρ
theorem frame_ref : quiescent_EvenWRefIdeal := fun m ρ _ =>
  (θ_run EvenWRefIdeal.defs _ _).mono (fun r h => ⟨fun c => (h c).2, sem_eq_zero_of_no_sems (by decide) r.2⟩)
    (EvenWRefIdeal.Value.run (F := Ideal) m ρ)

/-- The reference's array, entry by entry, is the call's. -/
theorem algebraic : algebraic_EvenWIdeal_EvenWRefIdeal := by
  intro m g m' g' _ hargs
  refine ⟨fun c => EvenWIdeal.Value.G2 m c, EvenWIdeal.Value.run m g, ?_⟩
  refine (θ_run _ _ _).mono (fun r h c => ⟨(h c).1.trans ?_, (h c).2⟩) (EvenWRefIdeal.Value.run m' g')
  rw [(hargs c).1, (hargs c).2]
  funext i
  refine Eq.trans (α := EReal) ?_ (EvenWIdeal.Tiles.result m c i).symm
  refine Eq.trans (α := EReal) (congrFun (truncf_eq _ _) i) ?_
  refine Eq.trans (α := EReal) (congrFun (transpose_eq_swap (M := 4096) (N := 16640) _ _) i) ?_
  refine Eq.trans (α := EReal) (congrFun (transpose_eq_swap (M := 16640) (N := 4096) _ _) (ix2 (i 1) (i 0))) ?_
  exact dot_tn (M := 16640) (K := 4096) (N := 4096) (φ₁ := .f32) (φ₂ := .f32) (EvenWIdeal.Tiles.lhs m c) (EvenWIdeal.Tiles.rhs m c)
    (ix2 (i 0) (i 1))

end Cert.EvenW

end
-- ==== Proof.EvenIn.lean ====
/-
  The even layer's input projection: a panel of rows times a panel of the transposed matrix's rows, the whole contracted axis
  at once, is `h · w`.
-/
module

public import proofs.«01_k».proof.Defs
public import proofs.«01_k».proof.Proof.Products
public import proofs.«01_k».proof.Proof.Gen.EvenIn.Frame
public import proofs.«01_k».proof.Proof.Gen.EvenInIdeal.Value
public import proofs.«01_k».proof.Proof.Gen.EvenInRefIdeal.Run

@[expose] public section

set_option maxRecDepth 16384

noncomputable section

namespace Cert.EvenInIdeal.Tiles

open Cert.EvenInIdeal Cert.EvenInIdeal.Gen Cert.EvenInIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

variable (m : (ℓ : Loc nD τ sig) → Buf (Elt Ideal) ℓ)

/-- The two whole arrays, as the call reads them. -/
abbrev lhs (c : Dev nD) : S4096x4096.Idx → EReal := m ((c : Thread nD τ).loc main_arg0)
abbrev rhs (c : Dev nD) : S16640x4096.Idx → EReal := swap (m ((c : Thread nD τ).loc main_arg1) : S4096x16640.Idx → EReal)

theorem out_apply (x : Vec Ideal S1024x4096 .bf16) (y : Vec Ideal S1280x4096 .bf16) (i : S1024x1280.Idx) :
    out0_2 x y i = ∑ k : Fin 4096, rd x (i 0) k * rd y (i 1) k := by
  unfold out0_2
  rw [View.canon_unit_zero hz, View.ld_unit_zero (S := S1024x4096) hz, View.ld_unit_zero (S := S1280x4096) hz]
  unfold k0_pay1
  simp only [shapeCast_self]
  exact matmul_nt x y i

/-- The windows' block numbers, decided over the grid. -/
theorem places : ∀ t : Fin cfg0.N, (win0_0.index t (0 : Fin 2) = t.val / 13 ∧ win0_0.index t (1 : Fin 2) = 0)
    ∧ (win0_1.index t (0 : Fin 2) = t.val % 13 ∧ win0_1.index t (1 : Fin 2) = 0)
    ∧ (win0_2.index t (0 : Fin 2) = t.val / 13 ∧ win0_2.index t (1 : Fin 2) = t.val % 13) ∧ win0_2.flush t = true :=
  (by decide +kernel : ∀ t : Fin grid0.N, _)

theorem array0 (c : Dev nD) : (V m c main_v0 : S4096x4096.Idx → EReal) = lhs m c := by
  show StableHlo.after hostOps0 _ _ = _
  after_results
  rfl
theorem array1 (c : Dev nD) : (V m c main_v2 : S16640x4096.Idx → EReal) = rhs m c := by
  show StableHlo.after hostOps0 _ _ = _
  after_results
  exact transpose_eq_swap _ _

theorem block0 (c : Dev nD) (t : Fin cfg0.N) (r k : ℕ) (hr : r < 1024) (hk : k < 4096) :
    rd (iblk m c 0 t : S1024x4096.Idx → EReal) r k = rd (lhs m c) (t.val / 13 * 1024 + r) k := by
  obtain ⟨⟨e0, e1⟩, -⟩ := places t
  refine (rd_ix2 (iblk m c 0 t : S1024x4096.Idx → EReal) ⟨r, hr⟩ ⟨k, hk⟩).trans ?_
  rw [← array0]
  refine rd_of (V m c main_v0 : S4096x4096.Idx → EReal) _ ?_ ?_
  · show win0_0.index t (0 : Fin 2) * 1024 + 1 * r = _
    rw [e0, one_mul]
  · show win0_0.index t (1 : Fin 2) * 4096 + 1 * k = _
    rw [e1, one_mul, Nat.zero_mul, Nat.zero_add]

theorem block1 (c : Dev nD) (t : Fin cfg0.N) (r k : ℕ) (hr : r < 1280) (hk : k < 4096) :
    rd (iblk m c 1 t : S1280x4096.Idx → EReal) r k = rd (rhs m c) (t.val % 13 * 1280 + r) k := by
  obtain ⟨-, ⟨e0, e1⟩, -⟩ := places t
  refine (rd_ix2 (iblk m c 1 t : S1280x4096.Idx → EReal) ⟨r, hr⟩ ⟨k, hk⟩).trans ?_
  rw [← array1]
  refine rd_of (V m c main_v2 : S16640x4096.Idx → EReal) _ ?_ ?_
  · show win0_1.index t (0 : Fin 2) * 1280 + 1 * r = _
    rw [e0, one_mul]
  · show win0_1.index t (1 : Fin 2) * 4096 + 1 * k = _
    rw [e1, one_mul, Nat.zero_mul, Nat.zero_add]

/-- The result array: the whole product. -/
def product (c : Dev nD) : S4096x16640.Idx → EReal := fun i => ∑ k : Fin 4096, rd (lhs m c) (i 0) k * rd (rhs m c) (i 1) k

theorem flushed (c : Dev nD) (t : Fin cfg0.N) :
    (dats m 0 c).flushed 2 t = ((cfg0.win 2).blk t).view.read (Elt Ideal) (product m c) := by
  obtain ⟨-, -, ⟨e0, e1⟩, -⟩ := places t
  rw [flushed2]
  funext y
  have h0 : (((cfg0.win 2).blk t).view.emb y (0 : Fin 2)).val = t.val / 13 * 1024 + (y 0).val := by
    show win0_2.index t (0 : Fin 2) * 1024 + 1 * (y 0).val = _
    rw [e0, one_mul]
  have h1 : (((cfg0.win 2).blk t).view.emb y (1 : Fin 2)).val = t.val % 13 * 1280 + (y 1).val := by
    show win0_2.index t (1 : Fin 2) * 1280 + 1 * (y 1).val = _
    rw [e1, one_mul]
  refine Eq.trans (α := EReal) (out_apply (iblk m c 0 t) (iblk m c 1 t) y) ?_
  show _ = product m c (((cfg0.win 2).blk t).view.emb y)
  unfold product
  rw [h0, h1]
  exact Finset.sum_congr rfl fun k _ => by rw [block0 m c t _ _ (y 0).isLt k.isLt, block1 m c t _ _ (y 1).isLt k.isLt]

theorem result (c : Dev nD) : (dats m 0 c).arrAt 2 cfg0.N = product m c :=
  (dats m 0 c).arrAt_eq_of_cover 2 _ (fun t _ => flushed m c t) fun i => by
    have h0 : (i 0).val < 4096 := (i 0).isLt
    have h1 : (i 1).val < 16640 := (i 1).isLt
    have hp : (i 0).val / 1024 * 13 + (i 1).val / 1280 < cfg0.N := lt_of_lt_of_eq (by omega) N_0.symm
    obtain ⟨-, -, ⟨e0, e1⟩, hf⟩ := places ⟨_, hp⟩
    have q0 : ((i 0).val / 1024 * 13 + (i 1).val / 1280) / 13 = (i 0).val / 1024 := by omega
    have q1 : ((i 0).val / 1024 * 13 + (i 1).val / 1280) % 13 = (i 1).val / 1280 := by omega
    refine ⟨⟨_, hp⟩, hf, ?_⟩
    show i ∈ ((View.whole main_v3).slice (win0_2.rect ⟨_, hp⟩)).set
    rw [View.set_slice_whole, Rect.mem_set_unit]
    intro a
    match a with
    | ⟨0, _⟩ =>
      show win0_2.index ⟨_, hp⟩ (0 : Fin 2) * 1024 ≤ (i 0).val ∧ (i 0).val < win0_2.index ⟨_, hp⟩ (0 : Fin 2) * 1024 + 1024
      rw [e0, q0]; omega
    | ⟨1, _⟩ =>
      show win0_2.index ⟨_, hp⟩ (1 : Fin 2) * 1280 ≤ (i 1).val ∧ (i 1).val < win0_2.index ⟨_, hp⟩ (1 : Fin 2) * 1280 + 1280
      rw [e1, q1]; omega

end Cert.EvenInIdeal.Tiles

namespace Cert.EvenIn

open Idealize.ShloMosaic Idealize.ShloMosaic.TcCoe Idealize.SL.Sem Idealize.ShloMosaic.ValueIdx Cert.Products

theorem frame : quiescent_EvenIn := fun m ρ _ => EvenIn.Gen.frame m ρ
theorem frame_ideal : quiescent_EvenInIdeal := fun m ρ _ => EvenInIdeal.Gen.frame m ρ
theorem frame_ref : quiescent_EvenInRefIdeal := fun m ρ _ =>
  (θ_run EvenInRefIdeal.defs _ _).mono (fun r h => ⟨fun c => (h c).2, sem_eq_zero_of_no_sems (by decide) r.2⟩)
    (EvenInRefIdeal.Value.run (F := Ideal) m ρ)

/-- The reference's array, entry by entry, is the call's. -/
theorem algebraic : algebraic_EvenInIdeal_EvenInRefIdeal := by
  intro m g m' g' _ hargs
  refine ⟨fun c => EvenInIdeal.Tiles.product m c,
    (θ_run _ _ _).mono (fun r h c => ⟨(h c).1.trans (EvenInIdeal.Tiles.result m c), (h c).2⟩) (EvenInIdeal.Value.run_blocks m g), ?_⟩
  refine (θ_run _ _ _).mono (fun r h c => ⟨(h c).1.trans ?_, (h c).2⟩) (EvenInRefIdeal.Value.run m' g')
  rw [(hargs c).1, (hargs c).2]
  funext i
  refine Eq.trans (α := EReal) (dot_nn (M := 4096) (K := 4096) (N := 16640) (φ₁ := .f32) (φ₂ := .f32) (EvenInIdeal.Tiles.lhs m c)
    (m ((c.tc : Thread EvenInIdeal.nD EvenInIdeal.τ).loc EvenInIdeal.main_arg1) : (⟨2, ![4096, 16640]⟩ : Shape).Idx → EReal) i) ?_
  exact Finset.sum_congr rfl fun k _ => by rw [rd_swap]

end Cert.EvenIn

end
-- ==== Proof.OddIn.lean ====
/-
  The odd layer's input projection: a panel of rows times a panel of the transposed matrix's rows, the whole contracted axis
  at once, is `h · w`.
-/
module

public import proofs.«01_k».proof.Defs
public import proofs.«01_k».proof.Proof.Products
public import proofs.«01_k».proof.Proof.Gen.OddIn.Frame
public import proofs.«01_k».proof.Proof.Gen.OddInIdeal.Value
public import proofs.«01_k».proof.Proof.Gen.OddInRefIdeal.Run

@[expose] public section

set_option maxRecDepth 16384

noncomputable section

namespace Cert.OddInIdeal.Tiles

open Cert.OddInIdeal Cert.OddInIdeal.Gen Cert.OddInIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

variable (m : (ℓ : Loc nD τ sig) → Buf (Elt Ideal) ℓ)

/-- The two whole arrays, as the call reads them. -/
abbrev lhs (c : Dev nD) : S4096x4096.Idx → EReal := m ((c : Thread nD τ).loc main_arg0)
abbrev rhs (c : Dev nD) : S12288x4096.Idx → EReal := swap (m ((c : Thread nD τ).loc main_arg1) : S4096x12288.Idx → EReal)

theorem out_apply (x : Vec Ideal S1024x4096 .bf16) (y : Vec Ideal S1024x4096 .bf16) (i : S1024x1024.Idx) :
    out0_2 x y i = ∑ k : Fin 4096, rd x (i 0) k * rd y (i 1) k := by
  unfold out0_2
  rw [View.canon_unit_zero hz, View.ld_unit_zero (S := S1024x4096) hz, View.ld_unit_zero (S := S1024x4096) hz]
  unfold k0_pay1
  simp only [shapeCast_self]
  exact matmul_nt x y i

/-- The windows' block numbers, decided over the grid. -/
theorem places : ∀ t : Fin cfg0.N, (win0_0.index t (0 : Fin 2) = t.val / 12 ∧ win0_0.index t (1 : Fin 2) = 0)
    ∧ (win0_1.index t (0 : Fin 2) = t.val % 12 ∧ win0_1.index t (1 : Fin 2) = 0)
    ∧ (win0_2.index t (0 : Fin 2) = t.val / 12 ∧ win0_2.index t (1 : Fin 2) = t.val % 12) ∧ win0_2.flush t = true :=
  (by decide +kernel : ∀ t : Fin grid0.N, _)

theorem array0 (c : Dev nD) : (V m c main_v0 : S4096x4096.Idx → EReal) = lhs m c := by
  show StableHlo.after hostOps0 _ _ = _
  after_results
  rfl
theorem array1 (c : Dev nD) : (V m c main_v2 : S12288x4096.Idx → EReal) = rhs m c := by
  show StableHlo.after hostOps0 _ _ = _
  after_results
  exact transpose_eq_swap _ _

theorem block0 (c : Dev nD) (t : Fin cfg0.N) (r k : ℕ) (hr : r < 1024) (hk : k < 4096) :
    rd (iblk m c 0 t : S1024x4096.Idx → EReal) r k = rd (lhs m c) (t.val / 12 * 1024 + r) k := by
  obtain ⟨⟨e0, e1⟩, -⟩ := places t
  refine (rd_ix2 (iblk m c 0 t : S1024x4096.Idx → EReal) ⟨r, hr⟩ ⟨k, hk⟩).trans ?_
  rw [← array0]
  refine rd_of (V m c main_v0 : S4096x4096.Idx → EReal) _ ?_ ?_
  · show win0_0.index t (0 : Fin 2) * 1024 + 1 * r = _
    rw [e0, one_mul]
  · show win0_0.index t (1 : Fin 2) * 4096 + 1 * k = _
    rw [e1, one_mul, Nat.zero_mul, Nat.zero_add]

theorem block1 (c : Dev nD) (t : Fin cfg0.N) (r k : ℕ) (hr : r < 1024) (hk : k < 4096) :
    rd (iblk m c 1 t : S1024x4096.Idx → EReal) r k = rd (rhs m c) (t.val % 12 * 1024 + r) k := by
  obtain ⟨-, ⟨e0, e1⟩, -⟩ := places t
  refine (rd_ix2 (iblk m c 1 t : S1024x4096.Idx → EReal) ⟨r, hr⟩ ⟨k, hk⟩).trans ?_
  rw [← array1]
  refine rd_of (V m c main_v2 : S12288x4096.Idx → EReal) _ ?_ ?_
  · show win0_1.index t (0 : Fin 2) * 1024 + 1 * r = _
    rw [e0, one_mul]
  · show win0_1.index t (1 : Fin 2) * 4096 + 1 * k = _
    rw [e1, one_mul, Nat.zero_mul, Nat.zero_add]

/-- The result array: the whole product. -/
def product (c : Dev nD) : S4096x12288.Idx → EReal := fun i => ∑ k : Fin 4096, rd (lhs m c) (i 0) k * rd (rhs m c) (i 1) k

theorem flushed (c : Dev nD) (t : Fin cfg0.N) :
    (dats m 0 c).flushed 2 t = ((cfg0.win 2).blk t).view.read (Elt Ideal) (product m c) := by
  obtain ⟨-, -, ⟨e0, e1⟩, -⟩ := places t
  rw [flushed2]
  funext y
  have h0 : (((cfg0.win 2).blk t).view.emb y (0 : Fin 2)).val = t.val / 12 * 1024 + (y 0).val := by
    show win0_2.index t (0 : Fin 2) * 1024 + 1 * (y 0).val = _
    rw [e0, one_mul]
  have h1 : (((cfg0.win 2).blk t).view.emb y (1 : Fin 2)).val = t.val % 12 * 1024 + (y 1).val := by
    show win0_2.index t (1 : Fin 2) * 1024 + 1 * (y 1).val = _
    rw [e1, one_mul]
  refine Eq.trans (α := EReal) (out_apply (iblk m c 0 t) (iblk m c 1 t) y) ?_
  show _ = product m c (((cfg0.win 2).blk t).view.emb y)
  unfold product
  rw [h0, h1]
  exact Finset.sum_congr rfl fun k _ => by rw [block0 m c t _ _ (y 0).isLt k.isLt, block1 m c t _ _ (y 1).isLt k.isLt]

theorem result (c : Dev nD) : (dats m 0 c).arrAt 2 cfg0.N = product m c :=
  (dats m 0 c).arrAt_eq_of_cover 2 _ (fun t _ => flushed m c t) fun i => by
    have h0 : (i 0).val < 4096 := (i 0).isLt
    have h1 : (i 1).val < 12288 := (i 1).isLt
    have hp : (i 0).val / 1024 * 12 + (i 1).val / 1024 < cfg0.N := lt_of_lt_of_eq (by omega) N_0.symm
    obtain ⟨-, -, ⟨e0, e1⟩, hf⟩ := places ⟨_, hp⟩
    have q0 : ((i 0).val / 1024 * 12 + (i 1).val / 1024) / 12 = (i 0).val / 1024 := by omega
    have q1 : ((i 0).val / 1024 * 12 + (i 1).val / 1024) % 12 = (i 1).val / 1024 := by omega
    refine ⟨⟨_, hp⟩, hf, ?_⟩
    show i ∈ ((View.whole main_v3).slice (win0_2.rect ⟨_, hp⟩)).set
    rw [View.set_slice_whole, Rect.mem_set_unit]
    intro a
    match a with
    | ⟨0, _⟩ =>
      show win0_2.index ⟨_, hp⟩ (0 : Fin 2) * 1024 ≤ (i 0).val ∧ (i 0).val < win0_2.index ⟨_, hp⟩ (0 : Fin 2) * 1024 + 1024
      rw [e0, q0]; omega
    | ⟨1, _⟩ =>
      show win0_2.index ⟨_, hp⟩ (1 : Fin 2) * 1024 ≤ (i 1).val ∧ (i 1).val < win0_2.index ⟨_, hp⟩ (1 : Fin 2) * 1024 + 1024
      rw [e1, q1]; omega

end Cert.OddInIdeal.Tiles

namespace Cert.OddIn

open Idealize.ShloMosaic Idealize.ShloMosaic.TcCoe Idealize.SL.Sem Idealize.ShloMosaic.ValueIdx Cert.Products

theorem frame : quiescent_OddIn := fun m ρ _ => OddIn.Gen.frame m ρ
theorem frame_ideal : quiescent_OddInIdeal := fun m ρ _ => OddInIdeal.Gen.frame m ρ
theorem frame_ref : quiescent_OddInRefIdeal := fun m ρ _ =>
  (θ_run OddInRefIdeal.defs _ _).mono (fun r h => ⟨fun c => (h c).2, sem_eq_zero_of_no_sems (by decide) r.2⟩)
    (OddInRefIdeal.Value.run (F := Ideal) m ρ)

/-- The reference's array, entry by entry, is the call's. -/
theorem algebraic : algebraic_OddInIdeal_OddInRefIdeal := by
  intro m g m' g' _ hargs
  refine ⟨fun c => OddInIdeal.Tiles.product m c,
    (θ_run _ _ _).mono (fun r h c => ⟨(h c).1.trans (OddInIdeal.Tiles.result m c), (h c).2⟩) (OddInIdeal.Value.run_blocks m g), ?_⟩
  refine (θ_run _ _ _).mono (fun r h c => ⟨(h c).1.trans ?_, (h c).2⟩) (OddInRefIdeal.Value.run m' g')
  rw [(hargs c).1, (hargs c).2]
  funext i
  refine Eq.trans (α := EReal) (dot_nn (M := 4096) (K := 4096) (N := 12288) (φ₁ := .f32) (φ₂ := .f32) (OddInIdeal.Tiles.lhs m c)
    (m ((c.tc : Thread OddInIdeal.nD OddInIdeal.τ).loc OddInIdeal.main_arg1) : (⟨2, ![4096, 12288]⟩ : Shape).Idx → EReal) i) ?_
  exact Finset.sum_congr rfl fun k _ => by rw [rd_swap]

end Cert.OddIn

end
-- ==== Proof.Out.lean ====
/-
  An output projection with its residual: `x + y · w`, tiled over rows, columns and the contracted axis.
-/
module

public import proofs.«01_k».proof.Defs
public import proofs.«01_k».proof.Proof.Products
public import proofs.«01_k».proof.Proof.Gen.Out.Frame
public import proofs.«01_k».proof.Proof.Gen.OutIdeal.Value
public import proofs.«01_k».proof.Proof.Gen.OutRefIdeal.Run

@[expose] public section

set_option maxRecDepth 16384

noncomputable section

namespace Cert.OutIdeal.Tiles

open Cert.OutIdeal Cert.OutIdeal.Gen Cert.OutIdeal.Value Cert.Products
open Idealize.ShloMosaic Idealize.ShloMosaic.TcCoe Idealize.SL.Sem Idealize.ShloMosaic.ValueIdx

theorem hz : (![0, 0] : Fin 2 → Nat) = fun _ => 0 := funext fun a => by fin_cases a <;> rfl

section Cases

variable {F : FTy → Type} [FloatOps F]
variable (c : Dev nD) (i : grid0.Coords) (a : Memref sig .tc .vmem S1024x1024 .bf16) (ha : a.IsWhole)
  (b : Memref sig .tc .vmem S1024x1024 .bf16) (hb : b.IsWhole) (r : Memref sig .tc .vmem S1024x1024 .f32) (hr : r.IsWhole) (o : Memref sig .tc .vmem S1024x1024 .f32) (ho : o.IsWhole)
  (s : Memref sig .tc .vmem S1024x1024 .f32) (hs : s.IsWhole)
  (x : Vec F S1024x1024 .bf16) (y : Vec F S1024x1024 .bf16) (z : Vec F S1024x1024 .f32) (acc : Vec F S1024x1024 .f32)

/-- At the first block of the contracted axis the accumulator is that block's product. -/
theorem first (h0 : cond0_0 i) (h1 : ¬cond0_1 i) (h2 : ¬cond0_2 i) :
    sout0_A_0 c i a ha b hb r hr o ho s hs h0 h1 h2 x y z = k0_pay1 x y := by
  unfold sout0_A_0
  rw [View.read_writes_eq_canon _ _ _ (scover0_A_0 c i a ha b hb r hr o ho s hs h0 h1 h2 x y z)]
  unfold kernelRun0_A
  dsimp only
  rw [View.canon_unit_zero hz]
  simp only [View.readAt_eq_ld, ha.read_unread, hb.read_unread, View.ld_unit_zero (S := S1024x1024) hz]

/-- At a later block the accumulator gains that block's product. -/
theorem later (h0 : ¬cond0_0 i) (h1 : cond0_1 i) (h2 : ¬cond0_2 i) :
    sout0_B_0 c i a ha b hb r hr o ho s hs h0 h1 h2 x y z acc = k0_pay2 acc x y := by
  unfold sout0_B_0
  rw [View.read_writes_eq_canon _ _ _ (scover0_B_0 c i a ha b hb r hr o ho s hs h0 h1 h2 x y z acc)]
  unfold kernelRun0_B
  dsimp only
  rw [View.canon_unit_zero hz]
  simp only [View.readAt_eq_ld, ha.read_unread, hb.read_unread, hs.read_unread, View.ld_unit_zero (S := S1024x1024) hz]

/-- So it does at the last block. -/
theorem last (h0 : ¬cond0_0 i) (h1 : cond0_1 i) (h2 : cond0_2 i) :
    sout0_C_0 c i a ha b hb r hr o ho s hs h0 h1 h2 x y z acc = k0_pay2 acc x y := by
  unfold sout0_C_0
  rw [View.read_writes_eq_canon _ _ _ (scover0_C_0 c i a ha b hb r hr o ho s hs h0 h1 h2 x y z acc)]
  unfold kernelRun0_C
  dsimp only
  sl_unfold_words
  rw [View.canon_unit_zero hz]
  simp only [View.readAt_eq_ld, ha.read_unread, hb.read_unread, hs.read_unread, View.ld_unit_zero (S := S1024x1024) hz]

/-- At the last block the output block is made from the accumulator. -/
theorem stored (h0 : ¬cond0_0 i) (h1 : cond0_1 i) (h2 : cond0_2 i) :
    out0_C_3 c i a ha b hb r hr o ho s hs h0 h1 h2 x y z acc = k0_pay3 (k0_pay2 acc x y) z := by
  unfold out0_C_3
  rw [View.read_writes_eq_canon _ _ _ (cover0_C_3 c i a ha b hb r hr o ho s hs h0 h1 h2 x y z acc)]
  unfold kernelRun0_C
  dsimp only
  sl_unfold_words
  rw [View.canon_unit_zero hz, View.readCov_unit_zero (S := S1024x1024) _ hz]
  simp only [View.readAt_eq_ld, ha.read_unread, hb.read_unread, hr.read_unread, hs.read_unread, View.ld_unit_zero (S := S1024x1024) hz]

end Cases

variable (m : (ℓ : Loc nD τ sig) → Buf (Elt Ideal) ℓ)

/-- The two whole arrays, as the call reads them. -/
abbrev lhs (c : Dev nD) : S4096x4096.Idx → EReal := m ((c : Thread nD τ).loc main_arg1)
abbrev rhs (c : Dev nD) : S4096x4096.Idx → EReal := m ((c : Thread nD τ).loc main_arg2)

theorem pay1_apply (x : Vec Ideal S1024x1024 .bf16) (y : Vec Ideal S1024x1024 .bf16) (i : S1024x1024.Idx) :
    k0_pay1 x y i = ∑ k : Fin 1024, rd x (i 0) k * rd y k (i 1) := by
  unfold k0_pay1
  simp only [shapeCast_self]
  exact matmul_nn (x) (y) i

theorem pay2_apply (acc : Vec Ideal S1024x1024 .f32) (x : Vec Ideal S1024x1024 .bf16) (y : Vec Ideal S1024x1024 .bf16) (i : S1024x1024.Idx) :
    k0_pay2 acc x y i = acc i + ∑ k : Fin 1024, rd x (i 0) k * rd y k (i 1) := by
  unfold k0_pay2
  simp only [shapeCast_self]
  exact congrArg (acc i + ·) (matmul_nn (x) (y) i)

/-- The windows' block numbers, decided over the grid. -/
theorem places : ∀ t : Fin cfg0.N, (win0_0.index t (0 : Fin 2) = t.val / 4 / 4 ∧ win0_0.index t (1 : Fin 2) = t.val % 4)
    ∧ (win0_1.index t (0 : Fin 2) = t.val % 4 ∧ win0_1.index t (1 : Fin 2) = t.val / 4 % 4)
    ∧ win0_2.index t (0 : Fin 2) = t.val / 4 / 4 ∧ win0_2.index t (1 : Fin 2) = t.val / 4 % 4 :=
  (by decide +kernel : ∀ t : Fin grid0.N, _)

theorem array0 (c : Dev nD) : (V m c main_v0 : S4096x4096.Idx → EReal) = lhs m c := by
  show StableHlo.after hostOps0 _ _ = _
  after_results
  rfl
theorem array1 (c : Dev nD) : (V m c main_v1 : S4096x4096.Idx → EReal) = rhs m c := by
  show StableHlo.after hostOps0 _ _ = _
  after_results
  rfl

/-- The term `k` of entry `i` of output block `q`. -/
def term (c : Dev nD) (q : ℕ) (i : S1024x1024.Idx) (k : ℕ) : EReal :=
  rd (lhs m c) (q / 4 * 1024 + (i 0).val) k * rd (rhs m c) k (q % 4 * 1024 + (i 1).val)

theorem block0 (c : Dev nD) (t : Fin cfg0.N) (r k : ℕ) (hr : r < 1024) (hk : k < 1024) :
    rd (iblk m c 0 t : S1024x1024.Idx → EReal) r k = rd (lhs m c) (t.val / 4 / 4 * 1024 + r) (1024 * (t.val % 4) + k) := by
  obtain ⟨⟨e0, e1⟩, -⟩ := places t
  refine (rd_ix2 (iblk m c 0 t : S1024x1024.Idx → EReal) ⟨r, hr⟩ ⟨k, hk⟩).trans ?_
  rw [← array0]
  refine rd_of (V m c main_v0 : S4096x4096.Idx → EReal) _ ?_ ?_
  · show win0_0.index t (0 : Fin 2) * 1024 + 1 * r = _
    rw [e0, one_mul]
  · show win0_0.index t (1 : Fin 2) * 1024 + 1 * k = _
    rw [e1, one_mul, Nat.mul_comm]

theorem block1 (c : Dev nD) (t : Fin cfg0.N) (r k : ℕ) (hr : r < 1024) (hk : k < 1024) :
    rd (iblk m c 1 t : S1024x1024.Idx → EReal) r k = rd (rhs m c) (1024 * (t.val % 4) + r) (t.val / 4 % 4 * 1024 + k) := by
  obtain ⟨-, ⟨e0, e1⟩, -⟩ := places t
  refine (rd_ix2 (iblk m c 1 t : S1024x1024.Idx → EReal) ⟨r, hr⟩ ⟨k, hk⟩).trans ?_
  rw [← array1]
  refine rd_of (V m c main_v1 : S4096x4096.Idx → EReal) _ ?_ ?_
  · show win0_1.index t (0 : Fin 2) * 1024 + 1 * r = _
    rw [e0, one_mul, Nat.mul_comm]
  · show win0_1.index t (1 : Fin 2) * 1024 + 1 * k = _
    rw [e1, one_mul]

/-- The array that is added, and its block. -/
abbrev add (c : Dev nD) : S4096x4096.Idx → EReal := m ((c : Thread nD τ).loc main_arg0)

theorem array2 (c : Dev nD) : (V m c main_arg0 : S4096x4096.Idx → EReal) = add m c := V_main_arg0 m c

theorem block2 (c : Dev nD) (t : Fin cfg0.N) (i : S1024x1024.Idx) :
    (iblk m c 2 t : S1024x1024.Idx → EReal) i = rd (add m c) (t.val / 4 / 4 * 1024 + (i 0).val) (t.val / 4 % 4 * 1024 + (i 1).val) := by
  obtain ⟨-, -, e0, e1⟩ := places t
  rw [← array2]
  refine rd_of (V m c main_arg0 : S4096x4096.Idx → EReal) _ ?_ ?_
  · show win0_2.index t (0 : Fin 2) * 1024 + 1 * (i 0).val = _
    rw [e0, one_mul]
  · show win0_2.index t (1 : Fin 2) * 1024 + 1 * (i 1).val = _
    rw [e1, one_mul]

/-- The product of the two blocks of a point. -/
theorem blocks (c : Dev nD) (t : Fin cfg0.N) (i : S1024x1024.Idx) :
    ∑ k : Fin 1024, rd (iblk m c 0 t : S1024x1024.Idx → EReal) (i 0) k * rd (iblk m c 1 t : S1024x1024.Idx → EReal) k (i 1)
      = ∑ k : Fin 1024, term m c (t.val / 4) i (1024 * (t.val % 4) + k) :=
  Finset.sum_congr rfl fun k _ => by
    rw [block0 m c t _ _ (i 0).isLt k.isLt, block1 m c t _ _ k.isLt (i 1).isLt]; rfl

/-- What the last point of an output block's run leaves in the output's staging buffer. -/
theorem run_sum (c : Dev nD) (t : Fin cfg0.N) (ht : t.val % 4 = 3) (i : S1024x1024.Idx) :
    (outsAt0 m c t.val t.isLt).1 i = (∑ k : Fin 4096, term m c (t.val / 4) i k) + rd (add m c) (t.val / 4 / 4 * 1024 + (i 0).val) (t.val / 4 % 4 * 1024 + (i 1).val) := by
  have same : (outsAt0 m c t.val t.isLt).1 i = (outsAt0 m c t.val t.isLt).2 i + (iblk m c 2 t : S1024x1024.Idx → EReal) i := by
    rw [outsAt0_C m c t (by omega) (by omega) ht]
    dsimp only
    rw [stored, last]
    rfl
  rw [same, block2]
  refine congrArg (· + _) ?_
  rw [soutsAt0_0_eq]
  have hq : t.val % 4 < 4 := Nat.mod_lt _ (by decide)
  refine (fold_sum (J := 4) (w := 1024) _ _ (term m c) (fun n h i h0 => ?_) (fun n h acc i h0 => ?_) _ _ hq _ i).trans ?_
  · unfold scAt0_0
    rw [dif_pos h0, dif_neg (by omega), dif_neg (by omega), first, pay1_apply]
    exact blocks m c ⟨n, h⟩ i
  · unfold scAt0_0
    rw [dif_neg h0, dif_pos (by omega)]
    by_cases h3 : n % 4 = 3
    · rw [dif_pos h3, last, pay2_apply]
      exact congrArg (acc i + ·) (blocks m c ⟨n, h⟩ i)
    · rw [dif_neg h3, later, pay2_apply]
      exact congrArg (acc i + ·) (blocks m c ⟨n, h⟩ i)
  · rw [ht]

/-- The result array: the whole product and the array added. -/
theorem result (c : Dev nD) (i : S4096x4096.Idx) :
    (G3 m c : S4096x4096.Idx → EReal) i = (∑ k : Fin 4096, rd (lhs m c) (i 0) k * rd (rhs m c) k (i 1)) + add m c i := by
  have h0 : (i 0).val < 4096 := (i 0).isLt
  have h1 : (i 1).val < 4096 := (i 1).isLt
  have hp : pt3Of i < cfg0.N := lt_of_lt_of_eq (by show 4 * (4 * _ + 1 * _) + 3 < 64; omega) N_0.symm
  unfold G3
  rw [dif_pos hp, ← outsAt0_sweep m c (pt3Of i) hp, run_sum m c ⟨pt3Of i, hp⟩ (by show (4 * _ + 3) % 4 = 3; omega)]
  have q0 : pt3Of i / 4 / 4 * 1024 + (i 0).val % 1024 = (i 0).val := by
    show (4 * (4 * ((i 0).val / 1024 - 0) + 1 * ((i 1).val / 1024 - 0)) + 3) / 4 / 4 * 1024 + _ = _; omega
  have q1 : pt3Of i / 4 % 4 * 1024 + (i 1).val % 1024 = (i 1).val := by
    show (4 * (4 * ((i 0).val / 1024 - 0) + 1 * ((i 1).val / 1024 - 0)) + 3) / 4 % 4 * 1024 + _ = _; omega
  show ((∑ k : Fin 4096, rd (lhs m c) (pt3Of i / 4 / 4 * 1024 + (i 0).val % 1024) k * rd (rhs m c) k (pt3Of i / 4 % 4 * 1024 + (i 1).val % 1024))
    + rd (add m c) (pt3Of i / 4 / 4 * 1024 + (i 0).val % 1024) (pt3Of i / 4 % 4 * 1024 + (i 1).val % 1024) : EReal) = _
  rw [q0, q1]
  exact congrArg (_ + ·) (rd_of (add m c) i rfl rfl).symm

end Cert.OutIdeal.Tiles

namespace Cert.Out

open Idealize.ShloMosaic Idealize.ShloMosaic.TcCoe Idealize.SL.Sem Idealize.ShloMosaic.ValueIdx Cert.Products

theorem frame : quiescent_Out := fun m ρ _ => Out.Gen.frame m ρ
theorem frame_ideal : quiescent_OutIdeal := fun m ρ _ => OutIdeal.Gen.frame m ρ
theorem frame_ref : quiescent_OutRefIdeal := fun m ρ _ =>
  (θ_run OutRefIdeal.defs _ _).mono (fun r h => ⟨fun c => (h c).2, sem_eq_zero_of_no_sems (by decide) r.2⟩)
    (OutRefIdeal.Value.run (F := Ideal) m ρ)

/-- The reference's array, entry by entry, is the call's. -/
theorem algebraic : algebraic_OutIdeal_OutRefIdeal := by
  intro m g m' g' _ hargs
  refine ⟨fun c => OutIdeal.Value.G3 m c, OutIdeal.Value.run m g, ?_⟩
  refine (θ_run _ _ _).mono (fun r h c => ⟨(h c).1.trans ?_, (h c).2⟩) (OutRefIdeal.Value.run m' g')
  rw [(hargs c).1, (hargs c).2.1, (hargs c).2.2]
  funext i
  refine Eq.trans (α := EReal) ?_ (OutIdeal.Tiles.result m c i).symm
  refine Eq.trans (α := EReal) (add_comm _ _) (congrArg (· + OutIdeal.Tiles.add m c i) ?_)
  exact dot_nn (M := 4096) (K := 4096) (N := 4096) (φ₁ := .f32) (φ₂ := .f32) (OutIdeal.Tiles.lhs m c) (OutIdeal.Tiles.rhs m c) i

end Cert.Out

end
-- ==== Proof.AdamEvenIn.lean ====
/-
  AdamW's step of the even layer's input projection, one device's shard of it: each entry of a row block is updated by itself.
-/
module

public import proofs.«01_k».proof.Defs
public import proofs.«01_k».proof.Proof.Gen.AdamEvenIn.Frame
public import proofs.«01_k».proof.Proof.Gen.AdamEvenInIdeal.Value
public import proofs.«01_k».proof.Proof.Gen.AdamEvenInRefIdeal.Run

@[expose] public section

noncomputable section

namespace Cert.AdamEvenIn

open Idealize.ShloMosaic Idealize.ShloMosaic.TcCoe Idealize.SL.Sem

theorem frame : quiescent_AdamEvenIn := fun m ρ _ => AdamEvenIn.Gen.frame m ρ
theorem frame_ideal : quiescent_AdamEvenInIdeal := fun m ρ _ => AdamEvenInIdeal.Gen.frame m ρ
theorem frame_ref : quiescent_AdamEvenInRefIdeal := fun m ρ _ =>
  (θ_run AdamEvenInRefIdeal.defs _ _).mono (fun r h => ⟨fun c => (h c).2.2.2, sem_eq_zero_of_no_sems (by decide) r.2⟩)
    (AdamEvenInRefIdeal.Value.run (F := Ideal) m ρ)

/-- The reference's three arrays, entry by entry, are the call's: the change of the weights, and the two moments. -/
theorem algebraic : algebraic_AdamEvenInIdeal_AdamEvenInRefIdeal := by
  intro m g m' g' _ hargs
  refine ⟨_, _, _, AdamEvenInIdeal.Value.run m g, ?_⟩
  refine (θ_run _ _ _).mono (fun r h c => ⟨(h c).1.trans ?_, (h c).2.1.trans ?_, (h c).2.2.1.trans ?_, (h c).2.2.2⟩)
    (AdamEvenInRefIdeal.Value.run m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.AdamEvenIn

end
-- ==== Proof.AdamOddIn.lean ====
/-
  AdamW's step of the odd layer's input projection, one device's shard of it: each entry of a row block is updated by itself.
-/
module

public import proofs.«01_k».proof.Defs
public import proofs.«01_k».proof.Proof.Gen.AdamOddIn.Frame
public import proofs.«01_k».proof.Proof.Gen.AdamOddInIdeal.Value
public import proofs.«01_k».proof.Proof.Gen.AdamOddInRefIdeal.Run

@[expose] public section

noncomputable section

namespace Cert.AdamOddIn

open Idealize.ShloMosaic Idealize.ShloMosaic.TcCoe Idealize.SL.Sem

theorem frame : quiescent_AdamOddIn := fun m ρ _ => AdamOddIn.Gen.frame m ρ
theorem frame_ideal : quiescent_AdamOddInIdeal := fun m ρ _ => AdamOddInIdeal.Gen.frame m ρ
theorem frame_ref : quiescent_AdamOddInRefIdeal := fun m ρ _ =>
  (θ_run AdamOddInRefIdeal.defs _ _).mono (fun r h => ⟨fun c => (h c).2.2.2, sem_eq_zero_of_no_sems (by decide) r.2⟩)
    (AdamOddInRefIdeal.Value.run (F := Ideal) m ρ)

/-- The reference's three arrays, entry by entry, are the call's: the change of the weights, and the two moments. -/
theorem algebraic : algebraic_AdamOddInIdeal_AdamOddInRefIdeal := by
  intro m g m' g' _ hargs
  refine ⟨_, _, _, AdamOddInIdeal.Value.run m g, ?_⟩
  refine (θ_run _ _ _).mono (fun r h c => ⟨(h c).1.trans ?_, (h c).2.1.trans ?_, (h c).2.2.1.trans ?_, (h c).2.2.2⟩)
    (AdamOddInRefIdeal.Value.run m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.AdamOddIn

end
-- ==== Proof.AdamOut.lean ====
/-
  AdamW's step of an output projection, one device's shard of it: each entry of a row block is updated by itself.
-/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run

@[expose] public section

noncomputable section

namespace Cert.AdamOut

open Idealize.ShloMosaic Idealize.ShloMosaic.TcCoe Idealize.SL.Sem

theorem frame : quiescent_AdamOut := fun m ρ _ => AdamOut.Gen.frame m ρ
theorem frame_ideal : quiescent_AdamOutIdeal := fun m ρ _ => AdamOutIdeal.Gen.frame m ρ
theorem frame_ref : quiescent_AdamOutRefIdeal := fun m ρ _ =>
  (θ_run AdamOutRefIdeal.defs _ _).mono (fun r h => ⟨fun c => (h c).2.2.2, sem_eq_zero_of_no_sems (by decide) r.2⟩)
    (AdamOutRefIdeal.Value.run (F := Ideal) m ρ)

/-- The reference's three arrays, entry by entry, are the call's: the change of the weights, and the two moments. -/
theorem algebraic : algebraic_AdamOutIdeal_AdamOutRefIdeal := by
  intro m g m' g' _ hargs
  refine ⟨_, _, _, AdamOutIdeal.Value.run m g, ?_⟩
  refine (θ_run _ _ _).mono (fun r h c => ⟨(h c).1.trans ?_, (h c).2.1.trans ?_, (h c).2.2.1.trans ?_, (h c).2.2.2⟩)
    (AdamOutRefIdeal.Value.run m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.AdamOut

end
-- ==== Proof.AdamSmall.lean ====
/-
  AdamW's step of the sixteen small weights, packed one after the other: each entry of a row block is updated by itself.
-/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run

@[expose] public section

noncomputable section

namespace Cert.AdamSmall

open Idealize.ShloMosaic Idealize.ShloMosaic.TcCoe Idealize.SL.Sem

theorem frame : quiescent_AdamSmall := fun m ρ _ => AdamSmall.Gen.frame m ρ
theorem frame_ideal : quiescent_AdamSmallIdeal := fun m ρ _ => AdamSmallIdeal.Gen.frame m ρ
theorem frame_ref : quiescent_AdamSmallRefIdeal := fun m ρ _ =>
  (θ_run AdamSmallRefIdeal.defs _ _).mono (fun r h => ⟨fun c => (h c).2.2.2, sem_eq_zero_of_no_sems (by decide) r.2⟩)
    (AdamSmallRefIdeal.Value.run (F := Ideal) m ρ)

/-- The reference's three arrays, entry by entry, are the call's: the change of the weights, and the two moments. -/
theorem algebraic : algebraic_AdamSmallIdeal_AdamSmallRefIdeal := by
  intro m g m' g' _ hargs
  refine ⟨_, _, _, AdamSmallIdeal.Value.run m g, ?_⟩
  refine (θ_run _ _ _).mono (fun r h c => ⟨(h c).1.trans ?_, (h c).2.1.trans ?_, (h c).2.2.1.trans ?_, (h c).2.2.2⟩)
    (AdamSmallRefIdeal.Value.run m' g')
  · rw [(hargs c).1, (hargs c).2.1, (hargs c).2.2.1, (hargs c).2.2.2]
    rfl
  · rw [(hargs c).2.1, (hargs c).2.2.1]
    rfl
  · rw [(hargs c).2.1, (hargs c).2.2.2]
    rfl

end Cert.AdamSmall

end
-- ==== Proof.Norms.lean ====
/-
  Root-mean-square normalisation of a row at the ideal values: what the calls that normalise share. `ms` is a row's mean
  square with the small constant added, `rs` its reciprocal root. `ms` is positive or infinite, and the row's gradient as
  a kernel writes it is the one the chain rule gives (`gradient`), on every row of extended reals.
-/
module

public import proofs.«01_k».proof.Proof.Products
public import Idealize.ShloMosaic.Lib.Pipeline.Value
public import Idealize.ShloMosaic.Lib.Pointwise
public import Idealize.ShloMosaic.Lib.Tactic

@[expose] public section

noncomputable section

namespace Cert.Norms

open Idealize.ShloMosaic Cert.Products
open scoped BigOperators

/-- An entry of a matrix is `rd` at its coordinates. -/
theorem at_rd {M N : ℕ} (A : (⟨2, ![M, N]⟩ : Shape).Idx → EReal) (i : Fin M) (j : Fin N) : A (ix2 i j) = rd A i j :=
  rd_of A (ix2 i j) rfl rfl

theorem eq_pair {M N : ℕ} (y : (⟨2, ![M, N]⟩ : Shape).Idx) : y = ix2 (y 0) (y 1) :=
  funext fun a => by match a with
  | ⟨0, _⟩ => rfl
  | ⟨1, _⟩ => rfl

theorem width_eq : Ideal.ofBits .f32 0x45800000#32 = ((4096 : ℝ) : EReal) := by
  simp [Ideal.ofBits, Ideal.ieee, -EReal.coe_mul]; norm_num

theorem half_eq : Ideal.ofBits .f32 0x3F000000#32 = (((1 : ℝ) / 2 : ℝ) : EReal) := by
  simp [Ideal.ofBits, Ideal.ieee, -EReal.coe_mul]; norm_num

theorem neg_half_eq : Ideal.ofBits .f32 0xBF000000#32 = ((-((1 : ℝ) / 2) : ℝ) : EReal) := by
  simp [Ideal.ofBits, Ideal.ieee, -EReal.coe_mul]; norm_num

theorem eps_eq : ∃ e : ℝ, 0 < e ∧ Ideal.ofBits .f32 0x358637BD#32 = (e : EReal) :=
  ⟨8796093 * (2 : ℝ) ^ (-43 : ℤ), by positivity, by simp [Ideal.ofBits, Ideal.ieee, -EReal.coe_mul]⟩

/-- Division by the row's width. -/
theorem div_width (x : EReal) : Ideal.div x (Ideal.ofBits .f32 0x45800000#32) = x * (((4096 : ℝ)⁻¹ : ℝ) : EReal) := by
  rw [width_eq]
  unfold Ideal.div
  rw [if_neg (by norm_num : ((4096 : ℝ) : EReal) ≠ 0), EReal.coe_inv]

/-- The row's mean square, the small constant added, and its reciprocal root. -/
def ms (x : Fin 4096 → EReal) : EReal :=
  Ideal.div (∑ k, x k * x k) (Ideal.ofBits .f32 0x45800000#32) + Ideal.ofBits .f32 0x358637BD#32
def rs (x : Fin 4096 → EReal) : EReal := Ideal.rsqrt (ms x)

theorem mul_self_nonneg (x : EReal) : 0 ≤ x * x := by
  rcases le_total 0 x with h | h
  · exact mul_nonneg h h
  · rw [← neg_mul_neg]
    have : 0 ≤ -x := EReal.neg_nonneg.2 h
    exact mul_nonneg this this

theorem ms_cases (x : Fin 4096 → EReal) : ms x = ⊤ ∨ ∃ z : ℝ, 0 < z ∧ ms x = (z : EReal) := by
  obtain ⟨e, he, hE⟩ := eps_eq
  have h0 : 0 ≤ ∑ k, x k * x k := Finset.sum_nonneg fun k _ => mul_self_nonneg (x k)
  unfold ms
  rw [div_width, hE]
  generalize (∑ k, x k * x k) = s at h0
  induction s with
  | bot => simp at h0
  | top => left; rw [EReal.top_mul_coe_of_pos (by norm_num)]; rfl
  | coe s =>
    right
    have hs : 0 ≤ s := by exact_mod_cast h0
    exact ⟨s * (4096 : ℝ)⁻¹ + e, by positivity, by push_cast; rfl⟩

/-- A nonnegative real factor comes out of a sum. -/
theorem sum_scale {ι : Type*} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, mul_comm _ (r : EReal), mul_comm _ (r : EReal), mul_comm _ (r : EReal),
      EReal.left_distrib_of_nonneg_of_ne_top (by exact_mod_cast hr) (EReal.coe_ne_top r)]

theorem double (y : EReal) : y + y = y * ((2 : ℝ) : EReal) := by
  induction y with
  | bot => rw [EReal.bot_mul_coe_of_pos (by norm_num)]; rfl
  | top => rw [EReal.top_mul_coe_of_pos (by norm_num)]; rfl
  | coe y => rw [← EReal.coe_add, ← EReal.coe_mul, mul_two]

/-- The row's gradient as the kernel writes it. -/
def dxRow (x u : Fin 4096 → EReal) (j : Fin 4096) : EReal :=
  rs x * (u j - x j * rs x * Ideal.div (∑ k, u k * (x k * rs x)) (Ideal.ofBits .f32 0x45800000#32))

/-- The factor of the row itself in its gradient as the chain rule through the mean square gives it. -/
def pull (x u : Fin 4096 → EReal) : EReal :=
  Ideal.div ((∑ k, x k * u k) * (Ideal.ofBits .f32 0xBF000000#32 * Ideal.div (rs x) (ms x))) (Ideal.ofBits .f32 0x45800000#32)

/-- The row's gradient: what the kernel writes for entry `j` is what the chain rule through the mean square gives. `u` is
    the gradient of the scaled row, `x` the row. -/
theorem gradient (x u : Fin 4096 → EReal) (j : Fin 4096) :
    dxRow x u j = u j * rs x + (x j * pull x u + pull x u * x j) := by
  unfold dxRow pull
  unfold rs
  rcases ms_cases x with h | ⟨z, hz, h⟩
  · rw [h, div_width, div_width]
    have : Ideal.div (Ideal.rsqrt ⊤) ⊤ = 0 := by simp [Ideal.div]
    rw [this]
    simp
  · rw [h, div_width, div_width, neg_half_eq, Ideal.rsqrt_coe, if_neg hz.not_gt, if_neg hz.ne']
    set r : ℝ := (Real.sqrt z)⁻¹ with hr
    have hr0 : 0 ≤ r := by positivity
    have hrz : r * z⁻¹ = r * r * r := by
      rw [hr, mul_assoc, ← mul_inv (Real.sqrt z) (Real.sqrt z), Real.mul_self_sqrt hz.le]
    have hd : Ideal.div (r : EReal) (z : EReal) = ((r * r * r : ℝ) : EReal) := by
      unfold Ideal.div
      rw [if_neg (by exact_mod_cast hz.ne'), ← EReal.coe_inv, ← EReal.coe_mul, hrz]
    have hs : ∑ k, u k * (x k * (r : EReal)) = (∑ k, x k * u k) * (r : EReal) := by
      rw [← sum_scale _ _ r hr0]
      exact Finset.sum_congr rfl fun k _ => by ac_rfl
    rw [hd, hs]
    generalize (∑ k, x k * u k) = S
    rw [sub_eq_add_neg, EReal.left_distrib_of_nonneg_of_ne_top (by exact_mod_cast hr0) (EReal.coe_ne_top r), mul_comm (r : EReal) (u j)]
    congr 1
    rw [mul_comm (_ * _) (x j), double]
    rw [show x j * (S * (((-((1 : ℝ) / 2) : ℝ) : EReal) * ((r * r * r : ℝ) : EReal)) * (((4096 : ℝ)⁻¹ : ℝ) : EReal)) * ((2 : ℝ) : EReal)
      = x j * S * ((-(r * r * r * (4096 : ℝ)⁻¹) : ℝ) : EReal) from by
        rw [← EReal.coe_mul, mul_assoc S, ← EReal.coe_mul, ← mul_assoc, mul_assoc _ _ ((2 : ℝ) : EReal), ← EReal.coe_mul]
        congr 2
        ring]
    rw [mul_neg, EReal.coe_neg, mul_neg]
    congr 1
    simp only [EReal.coe_mul]
    ac_rfl

end Cert.Norms

end
-- ==== Proof.RmsFwd.lean ====
/-
  A root-mean-square normalisation, a panel of rows at a time, is the reference's.
-/
module

public import proofs.«01_k».proof.Defs
public import proofs.«01_k».proof.Proof.Norms
public import proofs.«01_k».proof.Proof.Gen.RmsFwd.Frame
public import proofs.«01_k».proof.Proof.Gen.RmsFwdIdeal.Value
public import proofs.«01_k».proof.Proof.Gen.RmsFwdRefIdeal.Run

@[expose] public section

set_option maxRecDepth 16384

noncomputable section

namespace Cert.RmsFwdIdeal.Rows

open Cert.RmsFwdIdeal Cert.RmsFwdIdeal.Gen Cert.RmsFwdIdeal.Value Cert.Norms
open Cert.Products (rd rd_of)
open Idealize.ShloMosaic Idealize.ShloMosaic.TcCoe Idealize.SL.Sem

theorem hz : (![0, 0] : Fin 2 → Nat) = fun _ => 0 := funext fun a => by fin_cases a <;> rfl

variable (m : (ℓ : Loc nD τ sig) → Buf (Elt Ideal) ℓ)

/-- The two whole arrays, as the call reads them. -/
abbrev xs (c : Dev nD) : S4096x4096.Idx → EReal := m ((c : Thread nD τ).loc main_arg0)
abbrev gs (c : Dev nD) : S1x4096.Idx → EReal := m ((c : Thread nD τ).loc main_arg1)

theorem out_apply (x : Vec Ideal S256x4096 .f32) (g : Vec Ideal S1x4096 .f32) (r : Fin 256) (j : Fin 4096) :
    (out0_2 x g : S256x4096.Idx → EReal) (ix2 r j) = rd x r j * (rs fun k => rd x r k) * rd g 0 j := by
  unfold out0_2
  rw [View.canon_unit_zero hz, View.ld_unit_zero (S := S256x4096) hz, View.ld_unit_zero (S := S1x4096) hz]
  unfold k0_pay1
  pointwise
  simp only [at_rd x, at_rd g]
  rfl

/-- The windows' block numbers, decided over the grid. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0 ∧ win0_2.flush t = true) :=
  (by decide +kernel : ∀ t : Fin grid0.N, _)

theorem block0 (c : Dev nD) (t : Fin cfg0.N) (r k : ℕ) (hr : r < 256) (hk : k < 4096) :
    rd (iblk m c 0 t : S256x4096.Idx → EReal) r k = rd (xs m c) (t.val * 256 + r) k := by
  obtain ⟨⟨e0, e1⟩, -⟩ := places t
  refine (at_rd (iblk m c 0 t : S256x4096.Idx → EReal) ⟨r, hr⟩ ⟨k, hk⟩).symm.trans ?_
  rw [show xs m c = V m c main_arg0 from (V_main_arg0 m c).symm]
  refine rd_of (V m c main_arg0 : S4096x4096.Idx → EReal) _ ?_ ?_
  · show win0_0.index t (0 : Fin 2) * 256 + 1 * r = _
    rw [e0, one_mul]
  · show win0_0.index t (1 : Fin 2) * 4096 + 1 * k = _
    rw [e1, one_mul, Nat.zero_mul, Nat.zero_add]

theorem block1 (c : Dev nD) (t : Fin cfg0.N) (k : ℕ) (hk : k < 4096) :
    rd (iblk m c 1 t : S1x4096.Idx → EReal) 0 k = rd (gs m c) 0 k := by
  obtain ⟨-, ⟨e0, e1⟩, -⟩ := places t
  refine (at_rd (iblk m c 1 t : S1x4096.Idx → EReal) ⟨0, Nat.one_pos⟩ ⟨k, hk⟩).symm.trans ?_
  rw [show gs m c = V m c main_arg1 from (V_main_arg1 m c).symm]
  refine rd_of (V m c main_arg1 : S1x4096.Idx → EReal) _ ?_ ?_
  · show win0_1.index t (0 : Fin 2) * 1 + 1 * 0 = _
    rw [e0]
  · show win0_1.index t (1 : Fin 2) * 4096 + 1 * k = _
    rw [e1, one_mul, Nat.zero_mul, Nat.zero_add]

/-- The normalised rows. -/
def normal (c : Dev nD) : S4096x4096.Idx → EReal := fun i =>
  rd (xs m c) (i 0) (i 1) * (rs fun k => rd (xs m c) (i 0) k) * rd (gs m c) 0 (i 1)

theorem flushed (c : Dev nD) (t : Fin cfg0.N) :
    (dats m 0 c).flushed 2 t = ((cfg0.win 2).blk t).view.read (Elt Ideal) (normal m c) := by
  obtain ⟨-, -, ⟨e0, e1, -⟩⟩ := places t
  rw [flushed2]
  funext y
  have h0 : (((cfg0.win 2).blk t).view.emb y (0 : Fin 2)).val = t.val * 256 + (y 0).val := by
    show win0_2.index t (0 : Fin 2) * 256 + 1 * (y 0).val = _
    rw [e0, one_mul]
  have h1 : ((cfg0.win 2).blk t).view.emb y (1 : Fin 2) = y 1 := Fin.ext (by
    show win0_2.index t (1 : Fin 2) * 4096 + 1 * (y 1).val = _
    rw [e1, one_mul, Nat.zero_mul, Nat.zero_add])
  show (out0_2 (F := Ideal) (iblk m c 0 t) (iblk m c 1 t) : S256x4096.Idx → EReal) y = normal m c (((cfg0.win 2).blk t).view.emb y)
  refine Eq.trans (α := EReal) (congrArg _ (show y = ix2 (y 0) (y 1) from Cert.Norms.eq_pair y)) ((out_apply _ _ (y 0) (y 1)).trans ?_)
  unfold normal
  rw [h0, h1, block0 m c t _ _ (y 0).isLt (y 1).isLt, block1 m c t _ (y 1).isLt]
  congr 3
  exact funext fun k => block0 m c t _ k (y 0).isLt k.isLt

theorem result (c : Dev nD) : (dats m 0 c).arrAt 2 cfg0.N = normal m c :=
  (dats m 0 c).arrAt_eq_of_cover 2 _ (fun t _ => flushed m c t) fun i => by
    have h0 : (i 0).val < 4096 := (i 0).isLt
    have h1 : (i 1).val < 4096 := (i 1).isLt
    have hp : (i 0).val / 256 < cfg0.N := lt_of_lt_of_eq (by omega) N_0.symm
    obtain ⟨-, -, ⟨e0, e1, hf⟩⟩ := places ⟨_, hp⟩
    replace e0 : win0_2.index ⟨_, hp⟩ (0 : Fin 2) = (i 0).val / 256 := e0
    refine ⟨⟨_, hp⟩, hf, ?_⟩
    show i ∈ ((View.whole main_v0).slice (win0_2.rect ⟨_, hp⟩)).set
    rw [View.set_slice_whole, Rect.mem_set_unit]
    intro a
    match a with
    | ⟨0, _⟩ =>
      show win0_2.index ⟨_, hp⟩ (0 : Fin 2) * 256 ≤ (i 0).val ∧ (i 0).val < win0_2.index ⟨_, hp⟩ (0 : Fin 2) * 256 + 256
      rw [e0]; omega
    | ⟨1, _⟩ =>
      show win0_2.index ⟨_, hp⟩ (1 : Fin 2) * 4096 ≤ (i 1).val ∧ (i 1).val < win0_2.index ⟨_, hp⟩ (1 : Fin 2) * 4096 + 4096
      rw [e1]; omega

end Cert.RmsFwdIdeal.Rows

namespace Cert.RmsFwd

open Idealize.ShloMosaic Idealize.ShloMosaic.TcCoe Idealize.SL.Sem Cert.Norms
open RmsFwdIdeal.Rows (xs gs)

theorem frame : quiescent_RmsFwd := fun m ρ _ => RmsFwd.Gen.frame m ρ
theorem frame_ideal : quiescent_RmsFwdIdeal := fun m ρ _ => RmsFwdIdeal.Gen.frame m ρ
theorem frame_ref : quiescent_RmsFwdRefIdeal := fun m ρ _ =>
  (θ_run RmsFwdRefIdeal.defs _ _).mono (fun r h => ⟨fun c => (h c).2, sem_eq_zero_of_no_sems (by decide) r.2⟩)
    (RmsFwdRefIdeal.Value.run (F := Ideal) m ρ)

/-- The reference's array, entry by entry, is the call's. -/
theorem algebraic : algebraic_RmsFwdIdeal_RmsFwdRefIdeal := by
  intro m g m' g' _ hargs
  refine ⟨fun c => RmsFwdIdeal.Rows.normal m c,
    (θ_run _ _ _).mono (fun r h c => ⟨(h c).1.trans (RmsFwdIdeal.Rows.result m c), (h c).2⟩) (RmsFwdIdeal.Value.run_blocks m g), ?_⟩
  refine (θ_run _ _ _).mono (fun r h c => ⟨(h c).1.trans ?_, (h c).2⟩) (RmsFwdRefIdeal.Value.run m' g')
  rw [(hargs c).1, (hargs c).2]
  clear h hargs
  funext i
  idx_vars i
  pointwise
  simp only [at_rd (xs m c), at_rd (gs m c)]
  rfl

end Cert.RmsFwd

end
-- ==== Proof.RmsBwd.lean ====
/-
  The gradient of a root-mean-square normalisation: a panel of rows at a time, the gradient of the rows from the panel and
  the gradient of the weights added panel after panel, is the gradient of the reference.
-/
module

public import proofs.«01_k».proof.Defs
public import proofs.«01_k».proof.Proof.Norms
public import proofs.«01_k».proof.Proof.Gen.RmsBwd.Frame
public import proofs.«01_k».proof.Proof.Gen.RmsBwdIdeal.Value
public import proofs.«01_k».proof.Proof.Gen.RmsBwdRefIdeal.Run

@[expose] public section

set_option maxRecDepth 16384

noncomputable section

namespace Cert.RmsBwdIdeal.Rows

open Cert.RmsBwdIdeal Cert.RmsBwdIdeal.Gen Cert.RmsBwdIdeal.Value Cert.Norms
open Cert.Products (rd rd_of)
open Idealize.ShloMosaic Idealize.ShloMosaic.TcCoe Idealize.SL.Sem

theorem hz : (![0, 0] : Fin 2 → Nat) = fun _ => 0 := funext fun a => by fin_cases a <;> rfl

section Cases

variable {F : FTy → Type} [FloatOps F]
variable (c : Dev nD) (i : grid0.Coords) (a : Memref sig .tc .vmem S256x4096 .f32) (ha : a.IsWhole)
  (b : Memref sig .tc .vmem S1x4096 .f32) (hb : b.IsWhole) (e : Memref sig .tc .vmem S256x4096 .f32) (he : e.IsWhole)
  (f : Memref sig .tc .vmem S256x4096 .f32) (hf : f.IsWhole) (o : Memref sig .tc .vmem S256x4096 .f32) (ho : o.IsWhole)
  (s : Memref sig .tc .vmem S1x4096 .f32) (hs : s.IsWhole)
  (x : Vec F S256x4096 .f32) (g : Vec F S1x4096 .f32) (dh dres : Vec F S256x4096 .f32) (acc : Vec F S1x4096 .f32)

theorem first_dx (h0 : cond0_0 i) : out0_A_4 c i a ha b hb e he f hf o ho s hs h0 x g dh dres = k0_pay5 x dh g dres := by
  unfold out0_A_4
  rw [View.read_writes_eq_canon _ _ _ (cover0_A_4 c i a ha b hb e he f hf o ho s hs h0 x g dh dres)]
  unfold kernelRun0_A
  dsimp only
  sl_unfold_words
  rw [View.canon_unit_zero hz]
  simp only [View.readAt_eq_ld, ha.read_unread, hb.read_unread, he.read_unread, hf.read_unread,
    View.ld_unit_zero (S := S256x4096) hz, View.ld_unit_zero (S := S1x4096) hz]

/-- At the first panel the weights' gradient is that panel's, added to zero. -/
theorem first_dg (h0 : cond0_0 i) : out0_A_5 c i a ha b hb e he f hf o ho s hs h0 x g dh dres = k0_pay4 x dh k0_pay1 := by
  unfold out0_A_5
  rw [View.read_writes_eq_canon _ _ _ (cover0_A_5 c i a ha b hb e he f hf o ho s hs h0 x g dh dres)]
  unfold kernelRun0_A
  dsimp only
  sl_unfold_words
  rw [View.canon_cons_unit_zero hz, View.readCov_unit_zero (S := S1x4096) _ hz]
  simp only [View.readAt_eq_ld, ha.read_unread, hb.read_unread, he.read_unread, hf.read_unread,
    View.ld_unit_zero (S := S256x4096) hz, View.ld_unit_zero (S := S1x4096) hz]

theorem later_dx (h0 : ¬cond0_0 i) : out0_B_4 c i a ha b hb e he f hf o ho s hs h0 x g dh dres acc = k0_pay5 x dh g dres := by
  unfold out0_B_4
  rw [View.read_writes_eq_canon _ _ _ (cover0_B_4 c i a ha b hb e he f hf o ho s hs h0 x g dh dres acc)]
  unfold kernelRun0_B
  dsimp only
  sl_unfold_words
  rw [View.canon_unit_zero hz]
  simp only [View.readAt_eq_ld, ha.read_unread, hb.read_unread, he.read_unread, hf.read_unread,
    View.ld_unit_zero (S := S256x4096) hz, View.ld_unit_zero (S := S1x4096) hz]

/-- At a later panel the weights' gradient gains that panel's. -/
theorem later_dg (h0 : ¬cond0_0 i) : out0_B_5 c i a ha b hb e he f hf o ho s hs h0 x g dh dres acc = k0_pay4 x dh acc := by
  unfold out0_B_5
  rw [View.read_writes_eq_canon _ _ _ (cover0_B_5 c i a ha b hb e he f hf o ho s hs h0 x g dh dres acc)]
  unfold kernelRun0_B
  dsimp only
  sl_unfold_words
  rw [View.canon_unit_zero hz]
  simp only [View.readAt_eq_ld, ha.read_unread, hb.read_unread, he.read_unread, hf.read_unread, hs.read_unread,
    View.ld_unit_zero (S := S256x4096) hz, View.ld_unit_zero (S := S1x4096) hz]

end Cases

variable (m : (ℓ : Loc nD τ sig) → Buf (Elt Ideal) ℓ)

/-- The four whole arrays, as the call reads them. -/
abbrev xs (c : Dev nD) : S4096x4096.Idx → EReal := m ((c : Thread nD τ).loc main_arg0)
abbrev gs (c : Dev nD) : S1x4096.Idx → EReal := m ((c : Thread nD τ).loc main_arg1)
abbrev dhs (c : Dev nD) : S4096x4096.Idx → EReal := m ((c : Thread nD τ).loc main_arg2)
abbrev dress (c : Dev nD) : S4096x4096.Idx → EReal := m ((c : Thread nD τ).loc main_arg3)

theorem pay2_apply (x : Vec Ideal S256x4096 .f32) (r : Fin 256) (z : Fin 1) : k0_pay2 x (ix2 r z) = rs fun k => rd x r k := by
  unfold k0_pay2
  pointwise
  simp only [at_rd x]
  rfl

theorem pay5_apply (x dh : Vec Ideal S256x4096 .f32) (g : Vec Ideal S1x4096 .f32) (d : Vec Ideal S256x4096 .f32) (r : Fin 256)
    (j : Fin 4096) : k0_pay5 x dh g d (ix2 r j) = rd d r j + dxRow (fun k => rd x r k) (fun k => rd dh r k * rd g 0 k) j := by
  unfold k0_pay5 k0_pay3
  pointwise
  simp only [pay2_apply, at_rd x, at_rd dh, at_rd g, at_rd d]
  rfl

theorem pay4_apply (x dh : Vec Ideal S256x4096 .f32) (a : Vec Ideal S1x4096 .f32) (z : Fin 1) (j : Fin 4096) :
    k0_pay4 x dh a (ix2 z j) = a (ix2 z j) + ∑ r : Fin 256, rd dh r j * (rd x r j * rs fun k => rd x r k) := by
  unfold k0_pay4 k0_pay3
  pointwise
  simp only [pay2_apply, at_rd x, at_rd dh]

/-- The windows' block numbers, decided over the grid. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0 ∧ win0_4.flush t = true)
    ∧ (win0_5.index t (0 : Fin 2) = 0 ∧ win0_5.index t (1 : Fin 2) = 0 ∧ (win0_5.flush t = true ↔ t.val = 15)) :=
  (by decide +kernel : ∀ t : Fin grid0.N, _)

theorem block0 (c : Dev nD) (t : Fin cfg0.N) (r k : ℕ) (hr : r < 256) (hk : k < 4096) :
    rd (iblk m c 0 t : S256x4096.Idx → EReal) r k = rd (xs m c) (t.val * 256 + r) k := by
  obtain ⟨⟨e0, e1⟩, -⟩ := places t
  refine (at_rd (iblk m c 0 t : S256x4096.Idx → EReal) ⟨r, hr⟩ ⟨k, hk⟩).symm.trans ?_
  rw [show xs m c = V m c main_arg0 from (V_main_arg0 m c).symm]
  refine rd_of (V m c main_arg0 : S4096x4096.Idx → EReal) _ ?_ ?_
  · show win0_0.index t (0 : Fin 2) * 256 + 1 * r = _
    rw [e0, one_mul]
  · show win0_0.index t (1 : Fin 2) * 4096 + 1 * k = _
    rw [e1, one_mul, Nat.zero_mul, Nat.zero_add]

theorem block1 (c : Dev nD) (t : Fin cfg0.N) (k : ℕ) (hk : k < 4096) :
    rd (iblk m c 1 t : S1x4096.Idx → EReal) 0 k = rd (gs m c) 0 k := by
  obtain ⟨-, ⟨e0, e1⟩, -⟩ := places t
  refine (at_rd (iblk m c 1 t : S1x4096.Idx → EReal) ⟨0, Nat.one_pos⟩ ⟨k, hk⟩).symm.trans ?_
  rw [show gs m c = V m c main_arg1 from (V_main_arg1 m c).symm]
  refine rd_of (V m c main_arg1 : S1x4096.Idx → EReal) _ ?_ ?_
  · show win0_1.index t (0 : Fin 2) * 1 + 1 * 0 = _
    rw [e0]
  · show win0_1.index t (1 : Fin 2) * 4096 + 1 * k = _
    rw [e1, one_mul, Nat.zero_mul, Nat.zero_add]

theorem block2 (c : Dev nD) (t : Fin cfg0.N) (r k : ℕ) (hr : r < 256) (hk : k < 4096) :
    rd (iblk m c 2 t : S256x4096.Idx → EReal) r k = rd (dhs m c) (t.val * 256 + r) k := by
  obtain ⟨-, -, ⟨e0, e1⟩, -⟩ := places t
  refine (at_rd (iblk m c 2 t : S256x4096.Idx → EReal) ⟨r, hr⟩ ⟨k, hk⟩).symm.trans ?_
  rw [show dhs m c = V m c main_arg2 from (V_main_arg2 m c).symm]
  refine rd_of (V m c main_arg2 : S4096x4096.Idx → EReal) _ ?_ ?_
  · show win0_2.index t (0 : Fin 2) * 256 + 1 * r = _
    rw [e0, one_mul]
  · show win0_2.index t (1 : Fin 2) * 4096 + 1 * k = _
    rw [e1, one_mul, Nat.zero_mul, Nat.zero_add]

theorem block3 (c : Dev nD) (t : Fin cfg0.N) (r k : ℕ) (hr : r < 256) (hk : k < 4096) :
    rd (iblk m c 3 t : S256x4096.Idx → EReal) r k = rd (dress m c) (t.val * 256 + r) k := by
  obtain ⟨-, -, -, ⟨e0, e1⟩, -⟩ := places t
  refine (at_rd (iblk m c 3 t : S256x4096.Idx → EReal) ⟨r, hr⟩ ⟨k, hk⟩).symm.trans ?_
  rw [show dress m c = V m c main_arg3 from (V_main_arg3 m c).symm]
  refine rd_of (V m c main_arg3 : S4096x4096.Idx → EReal) _ ?_ ?_
  · show win0_3.index t (0 : Fin 2) * 256 + 1 * r = _
    rw [e0, one_mul]
  · show win0_3.index t (1 : Fin 2) * 4096 + 1 * k = _
    rw [e1, one_mul, Nat.zero_mul, Nat.zero_add]

/-- The rows' gradient. -/
def dx (c : Dev nD) : S4096x4096.Idx → EReal := fun i =>
  rd (dress m c) (i 0) (i 1) + dxRow (fun k => rd (xs m c) (i 0) k) (fun k => rd (dhs m c) (i 0) k * rd (gs m c) 0 k) (i 1)

/-- Row `n`'s term of the weights' gradient at column `j`, and the gradient. -/
def term (c : Dev nD) (j n : ℕ) : EReal := rd (dhs m c) n j * (rd (xs m c) n j * rs fun k => rd (xs m c) n k)
def dg (c : Dev nD) : S1x4096.Idx → EReal := fun i => ∑ n ∈ Finset.range 4096, term m c (i 1) n

theorem point_dx (c : Dev nD) (t : Fin cfg0.N) :
    (outsAt0 m c t.val t.isLt).1 = k0_pay5 (F := Ideal) (iblk m c 0 t) (iblk m c 2 t) (iblk m c 1 t) (iblk m c 3 t) := by
  by_cases h0 : t.val % 16 = 0
  · rw [outsAt0_A m c t h0]
    dsimp only
    rw [first_dx]
  · rw [outsAt0_B m c t h0]
    dsimp only
    rw [later_dx]

/-- A panel's terms of the weights' gradient. -/
theorem panel (c : Dev nD) (t : Fin cfg0.N) (j : Fin 4096) :
    ∑ r : Fin 256, rd (iblk m c 2 t : S256x4096.Idx → EReal) r j * (rd (iblk m c 0 t : S256x4096.Idx → EReal) r j
      * rs fun k => rd (iblk m c 0 t : S256x4096.Idx → EReal) r k) = ∑ r ∈ Finset.range 256, term m c j (t.val * 256 + r) := by
  rw [← Fin.sum_univ_eq_sum_range (fun r => term m c j (t.val * 256 + r))]
  refine Finset.sum_congr rfl fun r _ => ?_
  rw [block2 m c t r j r.isLt j.isLt, block0 m c t r j r.isLt j.isLt]
  unfold term
  congr 3
  exact funext fun k => block0 m c t r k r.isLt k.isLt

theorem point_dg (c : Dev nD) : ∀ (n : ℕ) (h : n < cfg0.N) (z : Fin 1) (j : Fin 4096),
    (outsAt0 m c n h).2 (ix2 z j) = ∑ r ∈ Finset.range ((n + 1) * 256), term m c j r
  | 0, h, z, j => by
    rw [show outsAt0 m c 0 h = _ from outsAt0_A m c ⟨0, h⟩ (Nat.zero_mod _)]
    dsimp only
    rw [first_dg, pay4_apply _ _ _ z j, panel m c ⟨0, h⟩ j]
    unfold k0_pay1
    pointwise
  | n + 1, h, z, j => by
    have hN : n + 1 < 16 := lt_of_lt_of_eq h N_0
    rw [show outsAt0 m c (n + 1) h = _ from outsAt0_B m c ⟨n + 1, h⟩ (by show ¬(n + 1) % 16 = 0; omega)]
    dsimp only
    rw [later_dg, pay4_apply _ _ _ z j, panel m c ⟨n + 1, h⟩ j, Nat.succ_mul (n + 1), Finset.sum_range_add]
    exact congrArg (· + _) (point_dg c n (lt_trans (Nat.lt_succ_self n) h) z j)

theorem flushed_dx (c : Dev nD) (t : Fin cfg0.N) :
    (dats m 0 c).flushed 4 t = ((cfg0.win 4).blk t).view.read (Elt Ideal) (dx m c) := by
  obtain ⟨-, -, -, -, ⟨e0, e1, -⟩, -⟩ := places t
  rw [flushed4, point_dx]
  funext y
  have h0 : (((cfg0.win 4).blk t).view.emb y (0 : Fin 2)).val = t.val * 256 + (y 0).val := by
    show win0_4.index t (0 : Fin 2) * 256 + 1 * (y 0).val = _
    rw [e0, one_mul]
  have h1 : ((cfg0.win 4).blk t).view.emb y (1 : Fin 2) = y 1 := Fin.ext (by
    show win0_4.index t (1 : Fin 2) * 4096 + 1 * (y 1).val = _
    rw [e1, one_mul, Nat.zero_mul, Nat.zero_add])
  show k0_pay5 (F := Ideal) (iblk m c 0 t) (iblk m c 2 t) (iblk m c 1 t) (iblk m c 3 t) y = dx m c (((cfg0.win 4).blk t).view.emb y)
  refine Eq.trans (α := EReal) (congrArg _ (show y = ix2 (y 0) (y 1) from Cert.Norms.eq_pair y)) ((pay5_apply _ _ _ _ (y 0) (y 1)).trans ?_)
  unfold dx
  rw [h0, h1, block3 m c t _ _ (y 0).isLt (y 1).isLt]
  congr 2
  · exact funext fun k => block0 m c t _ k (y 0).isLt k.isLt
  · exact funext fun k => by rw [block2 m c t _ k (y 0).isLt k.isLt, block1 m c t k k.isLt]

theorem result_dx (c : Dev nD) : (dats m 0 c).arrAt 4 cfg0.N = dx m c :=
  (dats m 0 c).arrAt_eq_of_cover 4 _ (fun t _ => flushed_dx m c t) fun i => by
    have h0 : (i 0).val < 4096 := (i 0).isLt
    have h1 : (i 1).val < 4096 := (i 1).isLt
    have hp : (i 0).val / 256 < cfg0.N := lt_of_lt_of_eq (by omega) N_0.symm
    obtain ⟨-, -, -, -, ⟨e0, e1, hf⟩, -⟩ := places ⟨_, hp⟩
    replace e0 : win0_4.index ⟨_, hp⟩ (0 : Fin 2) = (i 0).val / 256 := e0
    refine ⟨⟨_, hp⟩, hf, ?_⟩
    show i ∈ ((View.whole main_v0_0).slice (win0_4.rect ⟨_, hp⟩)).set
    rw [View.set_slice_whole, Rect.mem_set_unit]
    intro a
    match a with
    | ⟨0, _⟩ =>
      show win0_4.index ⟨_, hp⟩ (0 : Fin 2) * 256 ≤ (i 0).val ∧ (i 0).val < win0_4.index ⟨_, hp⟩ (0 : Fin 2) * 256 + 256
      rw [e0]; omega
    | ⟨1, _⟩ =>
      show win0_4.index ⟨_, hp⟩ (1 : Fin 2) * 4096 ≤ (i 1).val ∧ (i 1).val < win0_4.index ⟨_, hp⟩ (1 : Fin 2) * 4096 + 4096
      rw [e1]; omega

theorem flushed_dg (c : Dev nD) (t : Fin cfg0.N) (ht : t.val = 15) :
    (dats m 0 c).flushed 5 t = ((cfg0.win 5).blk t).view.read (Elt Ideal) (dg m c) := by
  obtain ⟨-, -, -, -, -, ⟨e0, e1, -⟩⟩ := places t
  rw [flushed5]
  funext y
  have h1 : ((cfg0.win 5).blk t).view.emb y (1 : Fin 2) = y 1 := Fin.ext (by
    show win0_5.index t (1 : Fin 2) * 4096 + 1 * (y 1).val = _
    rw [e1, one_mul, Nat.zero_mul, Nat.zero_add])
  show (outsAt0 m c t.val t.isLt).2 y = dg m c (((cfg0.win 5).blk t).view.emb y)
  refine Eq.trans (α := EReal) (congrArg _ (show y = ix2 (y 0) (y 1) from Cert.Norms.eq_pair y)) ((point_dg m c t.val t.isLt (y 0) (y 1)).trans ?_)
  unfold dg
  rw [h1, ht]

theorem result_dg (c : Dev nD) : (dats m 0 c).arrAt 5 cfg0.N = dg m c :=
  (dats m 0 c).arrAt_eq_of_cover 5 _ (fun t hf => flushed_dg m c t ((places t).2.2.2.2.2.2.2.1 hf)) fun i => by
    have h0 : (i 0).val < 1 := (i 0).isLt
    have h1 : (i 1).val < 4096 := (i 1).isLt
    have hp : 15 < cfg0.N := lt_of_lt_of_eq (by omega) N_0.symm
    obtain ⟨-, -, -, -, -, ⟨e0, e1, hf⟩⟩ := places ⟨15, hp⟩
    refine ⟨⟨15, hp⟩, hf.2 rfl, ?_⟩
    show i ∈ ((View.whole main_v0_1).slice (win0_5.rect ⟨15, hp⟩)).set
    rw [View.set_slice_whole, Rect.mem_set_unit]
    intro a
    match a with
    | ⟨0, _⟩ =>
      show win0_5.index ⟨15, hp⟩ (0 : Fin 2) * 1 ≤ (i 0).val ∧ (i 0).val < win0_5.index ⟨15, hp⟩ (0 : Fin 2) * 1 + 1
      rw [e0]; omega
    | ⟨1, _⟩ =>
      show win0_5.index ⟨15, hp⟩ (1 : Fin 2) * 4096 ≤ (i 1).val ∧ (i 1).val < win0_5.index ⟨15, hp⟩ (1 : Fin 2) * 4096 + 4096
      rw [e1]; omega

end Cert.RmsBwdIdeal.Rows

namespace Cert.RmsBwd

open Idealize.ShloMosaic Idealize.ShloMosaic.TcCoe Idealize.SL.Sem Cert.Norms
open Cert.Products (rd)
open RmsBwdIdeal.Rows (xs gs dhs dress)

theorem frame : quiescent_RmsBwd := fun m ρ _ => RmsBwd.Gen.frame m ρ
theorem frame_ideal : quiescent_RmsBwdIdeal := fun m ρ _ => RmsBwdIdeal.Gen.frame m ρ
theorem frame_ref : quiescent_RmsBwdRefIdeal := fun m ρ _ =>
  (θ_run RmsBwdRefIdeal.defs _ _).mono (fun r h => ⟨fun c => (h c).2.2, sem_eq_zero_of_no_sems (by decide) r.2⟩)
    (RmsBwdRefIdeal.Value.run (F := Ideal) m ρ)

/-- The reference's two arrays, entry by entry, are the call's. -/
theorem algebraic : algebraic_RmsBwdIdeal_RmsBwdRefIdeal := by
  intro m g m' g' _ hargs
  refine ⟨fun c => RmsBwdIdeal.Rows.dx m c, fun c => RmsBwdIdeal.Rows.dg m c,
    (θ_run _ _ _).mono (fun r h c => ⟨(h c).1.trans (RmsBwdIdeal.Rows.result_dx m c),
      (h c).2.1.trans (RmsBwdIdeal.Rows.result_dg m c), (h c).2.2⟩) (RmsBwdIdeal.Value.run_blocks m g), ?_⟩
  refine (θ_run _ _ _).mono (fun r h c => ⟨(h c).1.trans ?_, (h c).2.1.trans ?_, (h c).2.2⟩) (RmsBwdRefIdeal.Value.run m' g')
  · rw [(hargs c).1, (hargs c).2.1, (hargs c).2.2.1, (hargs c).2.2.2]
    funext i
    idx_vars i
    pointwise
    simp only [Fin.sum_univ_one, add_assoc, at_rd (xs m c), at_rd (gs m c), at_rd (dhs m c), at_rd (dress m c)]
    exact congrArg (rd (dress m c) i0 i1 + ·)
      (gradient (fun k => rd (xs m c) i0 k) (fun k => rd (dhs m c) i0 k * rd (gs m c) 0 k) i1).symm
  · rw [(hargs c).1, (hargs c).2.2.1]
    funext i
    idx_vars i
    pointwise
    refine Eq.trans ?_ (Fin.sum_univ_eq_sum_range (fun n => RmsBwdIdeal.Rows.term m c i1 n) 4096)
    refine Finset.sum_congr rfl fun r _ => ?_
    unfold RmsBwdIdeal.Rows.term
    simp only [at_rd (xs m c), at_rd (dhs m c)]
    exact mul_comm _ _

end Cert.RmsBwd

end
-- ==== Proof.Loss.lean ====
/-
  The loss of the normalised rows against their targets, and its gradient: a panel of rows at a time, the gradient of the rows
  from the panel, the loss and the gradient of the weights added panel after panel, is the reference's value and gradient.
-/
module

public import proofs.«01_k».proof.Defs
public import proofs.«01_k».proof.Proof.Norms
public import proofs.«01_k».proof.Proof.Gen.Loss.Frame
public import proofs.«01_k».proof.Proof.Gen.LossIdeal.Value
public import proofs.«01_k».proof.Proof.Gen.LossRefIdeal.Run

@[expose] public section

set_option maxRecDepth 16384

noncomputable section

namespace Cert.LossIdeal.Rows

open Cert.LossIdeal Cert.LossIdeal.Gen Cert.LossIdeal.Value Cert.Norms
open Cert.Products (rd rd_of)
open Idealize.ShloMosaic Idealize.ShloMosaic.TcCoe Idealize.SL.Sem

theorem hz : (![0, 0] : Fin 2 → Nat) = fun _ => 0 := funext fun a => by fin_cases a <;> rfl

section Cases

variable {F : FTy → Type} [FloatOps F]
variable (c : Dev nD) (i : grid0.Coords) (a : Memref sig .tc .vmem S256x4096 .f32) (ha : a.IsWhole)
  (b : Memref sig .tc .vmem S1x4096 .f32) (hb : b.IsWhole) (e : Memref sig .tc .vmem S256x4096 .f32) (he : e.IsWhole)
  (o : Memref sig .tc .vmem S256x4096 .f32) (ho : o.IsWhole) (s : Memref sig .tc .vmem S1x4096 .f32) (hs : s.IsWhole)
  (l : Memref sig .tc .vmem S1x1 .f32) (hl : l.IsWhole)
  (x : Vec F S256x4096 .f32) (g : Vec F S1x4096 .f32) (t : Vec F S256x4096 .f32) (acc : Vec F S1x4096 .f32) (sum : Vec F S1x1 .f32)

theorem first_dx (h0 : cond0_0 i) : out0_A_3 c i a ha b hb e he o ho s hs l hl h0 x g t = k0_pay2 (k0_pay5 x) (k0_pay6 x) g (k0_pay9 x g t) := by
  unfold out0_A_3
  rw [View.read_writes_eq_canon _ _ _ (cover0_A_3 c i a ha b hb e he o ho s hs l hl h0 x g t)]
  unfold kernelRun0_A
  dsimp only
  sl_unfold_words
  rw [View.canon_unit_zero hz]
  simp only [View.readAt_eq_ld, ha.read_unread, hb.read_unread, he.read_unread,
    View.ld_unit_zero (S := S256x4096) hz, View.ld_unit_zero (S := S1x4096) hz]

theorem first_dg (h0 : cond0_0 i) : out0_A_4 c i a ha b hb e he o ho s hs l hl h0 x g t = k0_pay1 (k0_pay6 x) (k0_pay9 x g t) k0_pay3 := by
  unfold out0_A_4
  rw [View.read_writes_eq_canon _ _ _ (cover0_A_4 c i a ha b hb e he o ho s hs l hl h0 x g t)]
  unfold kernelRun0_A
  dsimp only
  sl_unfold_words
  rw [View.canon_cons_unit_zero hz, View.readCov_unit_zero (S := S1x4096) _ hz]
  simp only [View.readAt_eq_ld, ha.read_unread, hb.read_unread, he.read_unread,
    View.ld_unit_zero (S := S256x4096) hz, View.ld_unit_zero (S := S1x4096) hz]

theorem first_loss (h0 : cond0_0 i) : out0_A_5 c i a ha b hb e he o ho s hs l hl h0 x g t = k0_pay8 x g t k0_pay4 := by
  unfold out0_A_5
  rw [View.read_writes_eq_canon _ _ _ (cover0_A_5 c i a ha b hb e he o ho s hs l hl h0 x g t)]
  unfold kernelRun0_A
  dsimp only
  sl_unfold_words
  rw [View.canon_cons_unit_zero hz, View.readCov_unit_zero (S := S1x1) _ hz]
  simp only [View.readAt_eq_ld, ha.read_unread, hb.read_unread, he.read_unread,
    View.ld_unit_zero (S := S256x4096) hz, View.ld_unit_zero (S := S1x4096) hz]

theorem later_dx (h0 : ¬cond0_0 i) : out0_B_3 c i a ha b hb e he o ho s hs l hl h0 x g t acc sum = k0_pay2 (k0_pay5 x) (k0_pay6 x) g (k0_pay9 x g t) := by
  unfold out0_B_3
  rw [View.read_writes_eq_canon _ _ _ (cover0_B_3 c i a ha b hb e he o ho s hs l hl h0 x g t acc sum)]
  unfold kernelRun0_B
  dsimp only
  sl_unfold_words
  rw [View.canon_unit_zero hz]
  simp only [View.readAt_eq_ld, ha.read_unread, hb.read_unread, he.read_unread,
    View.ld_unit_zero (S := S256x4096) hz, View.ld_unit_zero (S := S1x4096) hz]

theorem later_dg (h0 : ¬cond0_0 i) : out0_B_4 c i a ha b hb e he o ho s hs l hl h0 x g t acc sum = k0_pay1 (k0_pay6 x) (k0_pay9 x g t) acc := by
  unfold out0_B_4
  rw [View.read_writes_eq_canon _ _ _ (cover0_B_4 c i a ha b hb e he o ho s hs l hl h0 x g t acc sum)]
  unfold kernelRun0_B
  dsimp only
  sl_unfold_words
  rw [View.canon_unit_zero hz]
  simp only [View.readAt_eq_ld, ha.read_unread, hb.read_unread, he.read_unread, hs.read_unread,
    View.ld_unit_zero (S := S256x4096) hz, View.ld_unit_zero (S := S1x4096) hz]

theorem later_loss (h0 : ¬cond0_0 i) : out0_B_5 c i a ha b hb e he o ho s hs l hl h0 x g t acc sum = k0_pay8 x g t sum := by
  unfold out0_B_5
  rw [View.read_writes_eq_canon _ _ _ (cover0_B_5 c i a ha b hb e he o ho s hs l hl h0 x g t acc sum)]
  unfold kernelRun0_B
  dsimp only
  sl_unfold_words
  rw [View.canon_unit_zero hz]
  simp only [View.readAt_eq_ld, ha.read_unread, hb.read_unread, he.read_unread, hl.read_unread,
    View.ld_unit_zero (S := S256x4096) hz, View.ld_unit_zero (S := S1x4096) hz, View.ld_unit_zero (S := S1x1) hz]

end Cases

variable (m : (ℓ : Loc nD τ sig) → Buf (Elt Ideal) ℓ)

/-- The three whole arrays, as the call reads them. -/
abbrev xs (c : Dev nD) : S4096x4096.Idx → EReal := m ((c : Thread nD τ).loc main_arg0)
abbrev gs (c : Dev nD) : S1x4096.Idx → EReal := m ((c : Thread nD τ).loc main_arg1)
abbrev ts (c : Dev nD) : S4096x4096.Idx → EReal := m ((c : Thread nD τ).loc main_arg2)

/-- A normalised row's difference from its target. -/
def off (x g t : Fin 4096 → EReal) (k : Fin 4096) : EReal := x k * rs x * g k - t k

theorem pay5_apply (x : Vec Ideal S256x4096 .f32) (r : Fin 256) (z : Fin 1) : k0_pay5 x (ix2 r z) = rs fun k => rd x r k := by
  unfold k0_pay5
  pointwise
  simp only [at_rd x]
  rfl

theorem pay6_apply (x : Vec Ideal S256x4096 .f32) (r : Fin 256) (j : Fin 4096) :
    k0_pay6 x (ix2 r j) = rd x r j * rs fun k => rd x r k := by
  unfold k0_pay6
  pointwise
  rw [pay5_apply, at_rd x]

theorem pay7_apply (x t : Vec Ideal S256x4096 .f32) (g : Vec Ideal S1x4096 .f32) (r : Fin 256) (j : Fin 4096) :
    k0_pay7 x g t (ix2 r j) = off (fun k => rd x r k) (fun k => rd g 0 k) (fun k => rd t r k) j := by
  unfold k0_pay7
  pointwise
  rw [pay6_apply, at_rd g, at_rd t]
  rfl

theorem pay9_apply (x t : Vec Ideal S256x4096 .f32) (g : Vec Ideal S1x4096 .f32) (r : Fin 256) (j : Fin 4096) :
    k0_pay9 x g t (ix2 r j) = off (fun k => rd x r k) (fun k => rd g 0 k) (fun k => rd t r k) j * Ideal.ofBits .f32 0x39800000#32 := by
  unfold k0_pay9
  pointwise
  rw [pay7_apply]

theorem dx_apply (x t : Vec Ideal S256x4096 .f32) (g : Vec Ideal S1x4096 .f32) (r : Fin 256) (j : Fin 4096) :
    k0_pay2 (k0_pay5 x) (k0_pay6 x) g (k0_pay9 x g t) (ix2 r j) = dxRow (fun k => rd x r k)
      (fun k => off (fun k => rd x r k) (fun k => rd g 0 k) (fun k => rd t r k) k * Ideal.ofBits .f32 0x39800000#32 * rd g 0 k) j := by
  unfold k0_pay2
  pointwise
  simp only [pay5_apply, pay6_apply, pay9_apply, at_rd g]
  rfl

theorem dg_apply (x t : Vec Ideal S256x4096 .f32) (g a : Vec Ideal S1x4096 .f32) (z : Fin 1) (j : Fin 4096) :
    k0_pay1 (k0_pay6 x) (k0_pay9 x g t) a (ix2 z j) = a (ix2 z j) + ∑ r : Fin 256,
      off (fun k => rd x r k) (fun k => rd g 0 k) (fun k => rd t r k) j * Ideal.ofBits .f32 0x39800000#32
        * (rd x r j * rs fun k => rd x r k) := by
  unfold k0_pay1
  pointwise
  simp only [pay6_apply, pay9_apply]

theorem loss_apply (x t : Vec Ideal S256x4096 .f32) (g : Vec Ideal S1x4096 .f32) (a : Vec Ideal S1x1 .f32) (z w : Fin 1) :
    k0_pay8 x g t a (ix2 z w) = a (ix2 z w) + Ideal.ofBits .f32 0x3F000000#32 * ∑ r : Fin 256,
      Ideal.div (∑ j, off (fun k => rd x r k) (fun k => rd g 0 k) (fun k => rd t r k) j
        * off (fun k => rd x r k) (fun k => rd g 0 k) (fun k => rd t r k) j) (Ideal.ofBits .f32 0x45800000#32) := by
  unfold k0_pay8
  pointwise
  simp only [pay7_apply]

/-- The windows' block numbers, decided over the grid. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0 ∧ win0_3.flush t = true)
    ∧ (win0_4.index t (0 : Fin 2) = 0 ∧ win0_4.index t (1 : Fin 2) = 0 ∧ (win0_4.flush t = true ↔ t.val = 15))
    ∧ (win0_5.index t (0 : Fin 2) = 0 ∧ win0_5.index t (1 : Fin 2) = 0 ∧ (win0_5.flush t = true ↔ t.val = 15)) :=
  (by decide +kernel : ∀ t : Fin grid0.N, _)

theorem block0 (c : Dev nD) (t : Fin cfg0.N) (r k : ℕ) (hr : r < 256) (hk : k < 4096) :
    rd (iblk m c 0 t : S256x4096.Idx → EReal) r k = rd (xs m c) (t.val * 256 + r) k := by
  obtain ⟨⟨e0, e1⟩, -⟩ := places t
  refine (at_rd (iblk m c 0 t : S256x4096.Idx → EReal) ⟨r, hr⟩ ⟨k, hk⟩).symm.trans ?_
  rw [show xs m c = V m c main_arg0 from (V_main_arg0 m c).symm]
  refine rd_of (V m c main_arg0 : S4096x4096.Idx → EReal) _ ?_ ?_
  · show win0_0.index t (0 : Fin 2) * 256 + 1 * r = _
    rw [e0, one_mul]
  · show win0_0.index t (1 : Fin 2) * 4096 + 1 * k = _
    rw [e1, one_mul, Nat.zero_mul, Nat.zero_add]

theorem block1 (c : Dev nD) (t : Fin cfg0.N) (k : ℕ) (hk : k < 4096) :
    rd (iblk m c 1 t : S1x4096.Idx → EReal) 0 k = rd (gs m c) 0 k := by
  obtain ⟨-, ⟨e0, e1⟩, -⟩ := places t
  refine (at_rd (iblk m c 1 t : S1x4096.Idx → EReal) ⟨0, Nat.one_pos⟩ ⟨k, hk⟩).symm.trans ?_
  rw [show gs m c = V m c main_arg1 from (V_main_arg1 m c).symm]
  refine rd_of (V m c main_arg1 : S1x4096.Idx → EReal) _ ?_ ?_
  · show win0_1.index t (0 : Fin 2) * 1 + 1 * 0 = _
    rw [e0]
  · show win0_1.index t (1 : Fin 2) * 4096 + 1 * k = _
    rw [e1, one_mul, Nat.zero_mul, Nat.zero_add]

theorem block2 (c : Dev nD) (t : Fin cfg0.N) (r k : ℕ) (hr : r < 256) (hk : k < 4096) :
    rd (iblk m c 2 t : S256x4096.Idx → EReal) r k = rd (ts m c) (t.val * 256 + r) k := by
  obtain ⟨-, -, ⟨e0, e1⟩, -⟩ := places t
  refine (at_rd (iblk m c 2 t : S256x4096.Idx → EReal) ⟨r, hr⟩ ⟨k, hk⟩).symm.trans ?_
  rw [show ts m c = V m c main_arg2 from (V_main_arg2 m c).symm]
  refine rd_of (V m c main_arg2 : S4096x4096.Idx → EReal) _ ?_ ?_
  · show win0_2.index t (0 : Fin 2) * 256 + 1 * r = _
    rw [e0, one_mul]
  · show win0_2.index t (1 : Fin 2) * 4096 + 1 * k = _
    rw [e1, one_mul, Nat.zero_mul, Nat.zero_add]

/-- Row `n` of the difference. -/
def row (c : Dev nD) (n : ℕ) : Fin 4096 → EReal :=
  off (fun k => rd (xs m c) n k) (fun k => rd (gs m c) 0 k) (fun k => rd (ts m c) n k)

theorem row_block (c : Dev nD) (t : Fin cfg0.N) (r : ℕ) (hr : r < 256) :
    off (fun k => rd (iblk m c 0 t : S256x4096.Idx → EReal) r k) (fun k => rd (iblk m c 1 t : S1x4096.Idx → EReal) 0 k)
      (fun k => rd (iblk m c 2 t : S256x4096.Idx → EReal) r k) = row m c (t.val * 256 + r) := by
  have h0 : (fun k : Fin 4096 => rd (iblk m c 0 t : S256x4096.Idx → EReal) r k) = fun k : Fin 4096 => rd (xs m c) (t.val * 256 + r) k :=
    funext fun k => block0 m c t r k hr k.isLt
  have h1 : (fun k : Fin 4096 => rd (iblk m c 1 t : S1x4096.Idx → EReal) 0 k) = fun k : Fin 4096 => rd (gs m c) 0 k :=
    funext fun k => block1 m c t k k.isLt
  have h2 : (fun k : Fin 4096 => rd (iblk m c 2 t : S256x4096.Idx → EReal) r k) = fun k : Fin 4096 => rd (ts m c) (t.val * 256 + r) k :=
    funext fun k => block2 m c t r k hr k.isLt
  rw [h0, h1, h2]
  rfl

/-- The rows' gradient. -/
def dx (c : Dev nD) : S4096x4096.Idx → EReal := fun i =>
  dxRow (fun k => rd (xs m c) (i 0) k) (fun k => row m c (i 0) k * Ideal.ofBits .f32 0x39800000#32 * rd (gs m c) 0 k) (i 1)

/-- Row `n`'s term of the weights' gradient at column `j`, and the gradient. -/
def term (c : Dev nD) (j : Fin 4096) (n : ℕ) : EReal :=
  row m c n j * Ideal.ofBits .f32 0x39800000#32 * (rd (xs m c) n j * rs fun k => rd (xs m c) n k)
def dg (c : Dev nD) : S1x4096.Idx → EReal := fun i => ∑ n ∈ Finset.range 4096, term m c (i 1) n

/-- Row `n`'s mean square difference, and the loss. -/
def square (c : Dev nD) (n : ℕ) : EReal := Ideal.div (∑ j, row m c n j * row m c n j) (Ideal.ofBits .f32 0x45800000#32)
def loss (c : Dev nD) : S1x1.Idx → EReal := fun _ => Ideal.ofBits .f32 0x3F000000#32 * ∑ n ∈ Finset.range 4096, square m c n

theorem point_dx (c : Dev nD) (t : Fin cfg0.N) : (outsAt0 m c t.val t.isLt).1
    = k0_pay2 (F := Ideal) (k0_pay5 (iblk m c 0 t)) (k0_pay6 (iblk m c 0 t)) (iblk m c 1 t) (k0_pay9 (iblk m c 0 t) (iblk m c 1 t) (iblk m c 2 t)) := by
  by_cases h0 : t.val % 16 = 0
  · rw [outsAt0_A m c t h0]
    dsimp only
    rw [first_dx]
  · rw [outsAt0_B m c t h0]
    dsimp only
    rw [later_dx]

/-- A panel's terms of the weights' gradient. -/
theorem panel_dg (c : Dev nD) (t : Fin cfg0.N) (j : Fin 4096) :
    ∑ r : Fin 256, off (fun k => rd (iblk m c 0 t : S256x4096.Idx → EReal) r k) (fun k => rd (iblk m c 1 t : S1x4096.Idx → EReal) 0 k)
      (fun k => rd (iblk m c 2 t : S256x4096.Idx → EReal) r k) j * Ideal.ofBits .f32 0x39800000#32
        * (rd (iblk m c 0 t : S256x4096.Idx → EReal) r j * rs fun k => rd (iblk m c 0 t : S256x4096.Idx → EReal) r k)
      = ∑ r ∈ Finset.range 256, term m c j (t.val * 256 + r) := by
  rw [← Fin.sum_univ_eq_sum_range (fun r => term m c j (t.val * 256 + r))]
  refine Finset.sum_congr rfl fun r _ => ?_
  rw [row_block m c t r r.isLt, block0 m c t r j r.isLt j.isLt]
  unfold term
  congr 3
  exact funext fun k => block0 m c t r k r.isLt k.isLt

/-- A panel's part of the loss. -/
theorem panel_loss (c : Dev nD) (t : Fin cfg0.N) :
    ∑ r : Fin 256, Ideal.div (∑ j, off (fun k => rd (iblk m c 0 t : S256x4096.Idx → EReal) r k)
      (fun k => rd (iblk m c 1 t : S1x4096.Idx → EReal) 0 k) (fun k => rd (iblk m c 2 t : S256x4096.Idx → EReal) r k) j
        * off (fun k => rd (iblk m c 0 t : S256x4096.Idx → EReal) r k)
      (fun k => rd (iblk m c 1 t : S1x4096.Idx → EReal) 0 k) (fun k => rd (iblk m c 2 t : S256x4096.Idx → EReal) r k) j)
        (Ideal.ofBits .f32 0x45800000#32) = ∑ r ∈ Finset.range 256, square m c (t.val * 256 + r) := by
  rw [← Fin.sum_univ_eq_sum_range (fun r => square m c (t.val * 256 + r))]
  refine Finset.sum_congr rfl fun r _ => ?_
  rw [row_block m c t r r.isLt]
  rfl

theorem half_add (x y : EReal) : Ideal.ofBits .f32 0x3F000000#32 * (x + y)
    = Ideal.ofBits .f32 0x3F000000#32 * x + Ideal.ofBits .f32 0x3F000000#32 * y := by
  rw [half_eq]
  exact EReal.left_distrib_of_nonneg_of_ne_top (by exact_mod_cast (by norm_num : (0 : ℝ) ≤ 1 / 2)) (EReal.coe_ne_top _) _ _

theorem point_dg (c : Dev nD) : ∀ (n : ℕ) (h : n < cfg0.N) (z : Fin 1) (j : Fin 4096),
    (outsAt0 m c n h).2.1 (ix2 z j) = ∑ r ∈ Finset.range ((n + 1) * 256), term m c j r
  | 0, h, z, j => by
    rw [show outsAt0 m c 0 h = _ from outsAt0_A m c ⟨0, h⟩ (Nat.zero_mod _)]
    dsimp only
    rw [first_dg, dg_apply, panel_dg m c ⟨0, h⟩ j]
    unfold k0_pay3
    pointwise
  | n + 1, h, z, j => by
    have hN : n + 1 < 16 := lt_of_lt_of_eq h N_0
    rw [show outsAt0 m c (n + 1) h = _ from outsAt0_B m c ⟨n + 1, h⟩ (by show ¬(n + 1) % 16 = 0; omega)]
    dsimp only
    rw [later_dg, dg_apply, panel_dg m c ⟨n + 1, h⟩ j, Nat.succ_mul (n + 1), Finset.sum_range_add]
    exact congrArg (· + _) (point_dg c n (lt_trans (Nat.lt_succ_self n) h) z j)

theorem point_loss (c : Dev nD) : ∀ (n : ℕ) (h : n < cfg0.N) (z w : Fin 1),
    (outsAt0 m c n h).2.2 (ix2 z w) = Ideal.ofBits .f32 0x3F000000#32 * ∑ r ∈ Finset.range ((n + 1) * 256), square m c r
  | 0, h, z, w => by
    rw [show outsAt0 m c 0 h = _ from outsAt0_A m c ⟨0, h⟩ (Nat.zero_mod _)]
    dsimp only
    rw [first_loss, loss_apply, panel_loss m c ⟨0, h⟩]
    unfold k0_pay4
    pointwise
  | n + 1, h, z, w => by
    have hN : n + 1 < 16 := lt_of_lt_of_eq h N_0
    rw [show outsAt0 m c (n + 1) h = _ from outsAt0_B m c ⟨n + 1, h⟩ (by show ¬(n + 1) % 16 = 0; omega)]
    dsimp only
    rw [later_loss, loss_apply, panel_loss m c ⟨n + 1, h⟩, Nat.succ_mul (n + 1), Finset.sum_range_add, half_add]
    exact congrArg (· + _) (point_loss c n (lt_trans (Nat.lt_succ_self n) h) z w)

theorem flushed_dx (c : Dev nD) (t : Fin cfg0.N) :
    (dats m 0 c).flushed 3 t = ((cfg0.win 3).blk t).view.read (Elt Ideal) (dx m c) := by
  obtain ⟨-, -, -, ⟨e0, e1, -⟩, -⟩ := places t
  rw [flushed3, point_dx]
  funext y
  have h0 : (((cfg0.win 3).blk t).view.emb y (0 : Fin 2)).val = t.val * 256 + (y 0).val := by
    show win0_3.index t (0 : Fin 2) * 256 + 1 * (y 0).val = _
    rw [e0, one_mul]
  have h1 : ((cfg0.win 3).blk t).view.emb y (1 : Fin 2) = y 1 := Fin.ext (by
    show win0_3.index t (1 : Fin 2) * 4096 + 1 * (y 1).val = _
    rw [e1, one_mul, Nat.zero_mul, Nat.zero_add])
  show k0_pay2 (F := Ideal) (k0_pay5 (iblk m c 0 t)) (k0_pay6 (iblk m c 0 t)) (iblk m c 1 t) (k0_pay9 (iblk m c 0 t) (iblk m c 1 t) (iblk m c 2 t)) y
    = dx m c (((cfg0.win 3).blk t).view.emb y)
  refine Eq.trans (α := EReal) (congrArg _ (show y = ix2 (y 0) (y 1) from Cert.Norms.eq_pair y)) ((dx_apply _ _ _ (y 0) (y 1)).trans ?_)
  unfold dx
  rw [h0, h1, row_block m c t _ (y 0).isLt]
  congr 1
  · exact funext fun k => block0 m c t _ k (y 0).isLt k.isLt
  · exact funext fun k => by rw [block1 m c t k k.isLt]

theorem result_dx (c : Dev nD) : (dats m 0 c).arrAt 3 cfg0.N = dx m c :=
  (dats m 0 c).arrAt_eq_of_cover 3 _ (fun t _ => flushed_dx m c t) fun i => by
    have h0 : (i 0).val < 4096 := (i 0).isLt
    have h1 : (i 1).val < 4096 := (i 1).isLt
    have hp : (i 0).val / 256 < cfg0.N := lt_of_lt_of_eq (by omega) N_0.symm
    obtain ⟨-, -, -, ⟨e0, e1, hf⟩, -⟩ := places ⟨_, hp⟩
    replace e0 : win0_3.index ⟨_, hp⟩ (0 : Fin 2) = (i 0).val / 256 := e0
    refine ⟨⟨_, hp⟩, hf, ?_⟩
    show i ∈ ((View.whole main_v0_0).slice (win0_3.rect ⟨_, hp⟩)).set
    rw [View.set_slice_whole, Rect.mem_set_unit]
    intro a
    match a with
    | ⟨0, _⟩ =>
      show win0_3.index ⟨_, hp⟩ (0 : Fin 2) * 256 ≤ (i 0).val ∧ (i 0).val < win0_3.index ⟨_, hp⟩ (0 : Fin 2) * 256 + 256
      rw [e0]; omega
    | ⟨1, _⟩ =>
      show win0_3.index ⟨_, hp⟩ (1 : Fin 2) * 4096 ≤ (i 1).val ∧ (i 1).val < win0_3.index ⟨_, hp⟩ (1 : Fin 2) * 4096 + 4096
      rw [e1]; omega

theorem flushed_dg (c : Dev nD) (t : Fin cfg0.N) (ht : t.val = 15) :
    (dats m 0 c).flushed 4 t = ((cfg0.win 4).blk t).view.read (Elt Ideal) (dg m c) := by
  obtain ⟨-, -, -, -, ⟨e0, e1, -⟩, -⟩ := places t
  rw [flushed4]
  funext y
  have h1 : ((cfg0.win 4).blk t).view.emb y (1 : Fin 2) = y 1 := Fin.ext (by
    show win0_4.index t (1 : Fin 2) * 4096 + 1 * (y 1).val = _
    rw [e1, one_mul, Nat.zero_mul, Nat.zero_add])
  show (outsAt0 m c t.val t.isLt).2.1 y = dg m c (((cfg0.win 4).blk t).view.emb y)
  refine Eq.trans (α := EReal) (congrArg _ (show y = ix2 (y 0) (y 1) from Cert.Norms.eq_pair y))
    ((point_dg m c t.val t.isLt (y 0) (y 1)).trans ?_)
  unfold dg
  rw [h1, ht]

theorem result_dg (c : Dev nD) : (dats m 0 c).arrAt 4 cfg0.N = dg m c :=
  (dats m 0 c).arrAt_eq_of_cover 4 _ (fun t hf => flushed_dg m c t ((places t).2.2.2.2.1.2.2.1 hf)) fun i => by
    have h0 : (i 0).val < 1 := (i 0).isLt
    have h1 : (i 1).val < 4096 := (i 1).isLt
    have hp : 15 < cfg0.N := lt_of_lt_of_eq (by omega) N_0.symm
    obtain ⟨-, -, -, -, ⟨e0, e1, hf⟩, -⟩ := places ⟨15, hp⟩
    refine ⟨⟨15, hp⟩, hf.2 rfl, ?_⟩
    show i ∈ ((View.whole main_v0_1).slice (win0_4.rect ⟨15, hp⟩)).set
    rw [View.set_slice_whole, Rect.mem_set_unit]
    intro a
    match a with
    | ⟨0, _⟩ =>
      show win0_4.index ⟨15, hp⟩ (0 : Fin 2) * 1 ≤ (i 0).val ∧ (i 0).val < win0_4.index ⟨15, hp⟩ (0 : Fin 2) * 1 + 1
      rw [e0]; omega
    | ⟨1, _⟩ =>
      show win0_4.index ⟨15, hp⟩ (1 : Fin 2) * 4096 ≤ (i 1).val ∧ (i 1).val < win0_4.index ⟨15, hp⟩ (1 : Fin 2) * 4096 + 4096
      rw [e1]; omega

theorem flushed_loss (c : Dev nD) (t : Fin cfg0.N) (ht : t.val = 15) :
    (dats m 0 c).flushed 5 t = ((cfg0.win 5).blk t).view.read (Elt Ideal) (loss m c) := by
  obtain ⟨-, -, -, -, -, ⟨e0, e1, -⟩⟩ := places t
  rw [flushed5]
  funext y
  show (outsAt0 m c t.val t.isLt).2.2 y = loss m c (((cfg0.win 5).blk t).view.emb y)
  refine Eq.trans (α := EReal) (congrArg _ (show y = ix2 (y 0) (y 1) from Cert.Norms.eq_pair y))
    ((point_loss m c t.val t.isLt (y 0) (y 1)).trans ?_)
  unfold loss
  rw [ht]

theorem result_loss (c : Dev nD) : (dats m 0 c).arrAt 5 cfg0.N = loss m c :=
  (dats m 0 c).arrAt_eq_of_cover 5 _ (fun t hf => flushed_loss m c t ((places t).2.2.2.2.2.2.2.1 hf)) fun i => by
    have h0 : (i 0).val < 1 := (i 0).isLt
    have h1 : (i 1).val < 1 := (i 1).isLt
    have hp : 15 < cfg0.N := lt_of_lt_of_eq (by omega) N_0.symm
    obtain ⟨-, -, -, -, -, ⟨e0, e1, hf⟩⟩ := places ⟨15, hp⟩
    refine ⟨⟨15, hp⟩, hf.2 rfl, ?_⟩
    show i ∈ ((View.whole main_v0_2).slice (win0_5.rect ⟨15, hp⟩)).set
    rw [View.set_slice_whole, Rect.mem_set_unit]
    intro a
    match a with
    | ⟨0, _⟩ =>
      show win0_5.index ⟨15, hp⟩ (0 : Fin 2) * 1 ≤ (i 0).val ∧ (i 0).val < win0_5.index ⟨15, hp⟩ (0 : Fin 2) * 1 + 1
      rw [e0]; omega
    | ⟨1, _⟩ =>
      show win0_5.index ⟨15, hp⟩ (1 : Fin 2) * 1 ≤ (i 1).val ∧ (i 1).val < win0_5.index ⟨15, hp⟩ (1 : Fin 2) * 1 + 1
      rw [e1]; omega

end Cert.LossIdeal.Rows

namespace Cert.Loss

open Idealize.ShloMosaic Idealize.ShloMosaic.TcCoe Idealize.SL.Sem Cert.Norms
open Cert.Products (rd)
open LossIdeal.Rows (xs gs ts)

theorem frame : quiescent_Loss := fun m ρ _ => Loss.Gen.frame m ρ
theorem frame_ideal : quiescent_LossIdeal := fun m ρ _ => LossIdeal.Gen.frame m ρ
theorem frame_ref : quiescent_LossRefIdeal := fun m ρ _ =>
  (θ_run LossRefIdeal.defs _ _).mono (fun r h => ⟨fun c => (h c).2.2.2, sem_eq_zero_of_no_sems (by decide) r.2⟩)
    (LossRefIdeal.Value.run (F := Ideal) m ρ)

/-- The reference's factor of a difference in the gradient is the kernel's. -/
theorem scale (e : EReal) : Ideal.div (Ideal.ofBits .f32 0x3F000000#32) (Ideal.ofBits .f32 0x45800000#32)
    * (Ideal.ofBits .f32 0x40000000#32 * e) = e * Ideal.ofBits .f32 0x39800000#32 := by
  have h2 : Ideal.ofBits .f32 0x40000000#32 = ((2 : ℝ) : EReal) := by
    simp [Ideal.ofBits, Ideal.ieee, -EReal.coe_mul]; norm_num
  have h3 : Ideal.ofBits .f32 0x39800000#32 = (((4096 : ℝ)⁻¹ : ℝ) : EReal) := by
    simp [Ideal.ofBits, Ideal.ieee, -EReal.coe_mul]; norm_num
  rw [div_width, half_eq, h2, h3, ← mul_assoc, ← EReal.coe_mul, ← EReal.coe_mul, mul_comm e]
  norm_num

/-- The reference's three arrays, entry by entry, are the call's. -/
theorem algebraic : algebraic_LossIdeal_LossRefIdeal := by
  intro m g m' g' _ hargs
  refine ⟨fun c => LossIdeal.Rows.dx m c, fun c => LossIdeal.Rows.dg m c, fun c => LossIdeal.Rows.loss m c,
    (θ_run _ _ _).mono (fun r h c => ⟨(h c).1.trans (LossIdeal.Rows.result_dx m c), (h c).2.1.trans (LossIdeal.Rows.result_dg m c),
      (h c).2.2.1.trans (LossIdeal.Rows.result_loss m c), (h c).2.2.2⟩) (LossIdeal.Value.run_blocks m g), ?_⟩
  refine (θ_run _ _ _).mono (fun r h c => ⟨(h c).1.trans ?_, (h c).2.1.trans ?_, (h c).2.2.1.trans ?_, (h c).2.2.2⟩)
    (LossRefIdeal.Value.run m' g')
  · unfold LossRefIdeal.Value.res_main_v48
    rw [(hargs c).1, (hargs c).2.1, (hargs c).2.2]
    clear h hargs
    funext i
    idx_vars i
    pointwise
    simp only [Fin.sum_univ_one, add_assoc, scale, at_rd (xs m c), at_rd (gs m c), at_rd (ts m c)]
    exact (gradient (fun k => rd (xs m c) i0 k)
      (fun k => LossIdeal.Rows.row m c i0 k * Ideal.ofBits .f32 0x39800000#32 * rd (gs m c) 0 k) i1).symm
  · rw [(hargs c).1, (hargs c).2.1, (hargs c).2.2]
    clear h hargs
    funext i
    idx_vars i
    pointwise
    refine Eq.trans ?_ (Fin.sum_univ_eq_sum_range (fun n => LossIdeal.Rows.term m c i1 n) 4096)
    refine Finset.sum_congr rfl fun r _ => ?_
    unfold LossIdeal.Rows.term
    simp only [scale, at_rd (xs m c), at_rd (gs m c), at_rd (ts m c)]
    exact mul_comm _ _
  · rw [(hargs c).1, (hargs c).2.1, (hargs c).2.2]
    clear h hargs
    funext i
    idx_vars i
    pointwise
    refine congrArg (Ideal.ofBits .f32 0x3F000000#32 * ·) (Eq.trans ?_ (Fin.sum_univ_eq_sum_range (fun n => LossIdeal.Rows.square m c n) 4096))
    refine Finset.sum_congr rfl fun r _ => ?_
    simp only [at_rd (xs m c), at_rd (gs m c), at_rd (ts m c)]
    rfl

end Cert.Loss

end
-- ==== Proof.SumEvenIn.lean ====
/-
  The sum of the four parts of a gradient of the even layer's input projection: a panel of rows at a time, the four parts added in order, is their
  sum along the first axis.
-/
module

public import proofs.«01_k».proof.Defs
public import proofs.«01_k».proof.Proof.Gen.SumEvenIn.Frame
public import proofs.«01_k».proof.Proof.Gen.SumEvenInIdeal.Value
public import proofs.«01_k».proof.Proof.Gen.SumEvenInRefIdeal.Run
public import Idealize.ShloMosaic.Lib.Pointwise.Reduce

@[expose] public section

set_option maxRecDepth 16384

noncomputable section

namespace Cert.SumEvenInIdeal.Parts

open Cert.SumEvenInIdeal Cert.SumEvenInIdeal.Gen Cert.SumEvenInIdeal.Value
open Idealize.ShloMosaic Idealize.ShloMosaic.TcCoe Idealize.SL.Sem

variable (m : (ℓ : Loc nD τ sig) → Buf (Elt Ideal) ℓ)

/-- The four parts, as the call reads them. -/
abbrev parts (c : Dev nD) : S4x2080x4096.Idx → EReal := m ((c : Thread nD τ).loc main_arg0)

/-- One part's block, read at the block's coordinates. -/
theorem part (x : S4x32x4096.Idx → EReal) (k : Fin 4) (z : S4x32x4096.Idx) (y : S32x4096.Idx) (h0 : (z 0).val = k.val)
    (h1 : (z 1).val = (y 0).val) (h2 : (z 2).val = (y 1).val) : x z = x (ix3 k (y 0) (y 1)) := by
  refine congrArg x (funext fun a => Fin.ext ?_)
  match a with
  | ⟨0, _⟩ => exact h0
  | ⟨1, _⟩ => exact h1
  | ⟨2, _⟩ => exact h2

theorem out_apply (x : Vec Ideal S4x32x4096 .bf16) (y : S32x4096.Idx) :
    out0_1 x y = ∑ k : Fin 4, (x : S4x32x4096.Idx → EReal) (ix3 k (y 0) (y 1)) := by
  unfold out0_1
  refine (canon1_eq _ _ _ _ y).trans ?_
  have e0 : (r0_0.idx (ix1_0 y) (1 : Fin 3)).val = (y 0).val := by show 0 + 1 * (y 0).val = _; omega
  have e1 : (r0_0.idx (ix1_0 y) (2 : Fin 3)).val = (y 1).val := by show 0 + 1 * (y 1).val = _; omega
  rw [Fin.sum_univ_four, ← part x 0 (r0_0.idx (ix1_0 y)) y rfl e0 e1, ← part x 1 (r0_1.idx (ix1_1 y)) y rfl e0 e1,
    ← part x 2 (r0_2.idx (ix1_2 y)) y rfl e0 e1, ← part x 3 (r0_3.idx (ix1_3 y)) y rfl e0 e1]
  rfl

/-- The windows' block numbers, decided over the grid. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ win0_1.flush t = true :=
  (by decide +kernel : ∀ t : Fin grid0.N, _)

/-- The result array: the sum of the parts. -/
def total (c : Dev nD) : S2080x4096.Idx → EReal := fun i => ∑ k : Fin 4, parts m c (ix3 k (i 0) (i 1))

theorem flushed (c : Dev nD) (t : Fin cfg0.N) :
    (dats m 0 c).flushed 1 t = ((cfg0.win 1).blk t).view.read (Elt Ideal) (total m c) := by
  obtain ⟨⟨a0, a1, a2⟩, ⟨e0, e1⟩, -⟩ := places t
  rw [flushed1]
  funext y
  refine Eq.trans (α := EReal) (out_apply (iblk m c 0 t) y) ?_
  show _ = total m c (((cfg0.win 1).blk t).view.emb y)
  unfold total
  refine Finset.sum_congr rfl fun k _ => ?_
  have hV : (V m c main_arg0 : S4x2080x4096.Idx → EReal) = parts m c := V_main_arg0 m c
  rw [← hV]
  refine congrArg (V m c main_arg0 : S4x2080x4096.Idx → EReal) (funext fun a => Fin.ext ?_)
  match a with
  | ⟨0, _⟩ =>
    show win0_0.index t (0 : Fin 3) * 4 + 1 * k.val = k.val
    rw [a0]; omega
  | ⟨1, _⟩ =>
    show win0_0.index t (1 : Fin 3) * 32 + 1 * (y 0).val = win0_1.index t (0 : Fin 2) * 32 + 1 * (y 0).val
    rw [a1, e0]
  | ⟨2, _⟩ =>
    show win0_0.index t (2 : Fin 3) * 4096 + 1 * (y 1).val = win0_1.index t (1 : Fin 2) * 4096 + 1 * (y 1).val
    rw [a2, e1]

theorem result (c : Dev nD) : (dats m 0 c).arrAt 1 cfg0.N = total m c :=
  (dats m 0 c).arrAt_eq_of_cover 1 _ (fun t _ => flushed m c t) fun i => by
    have h0 : (i 0).val < 2080 := (i 0).isLt
    have h1 : (i 1).val < 4096 := (i 1).isLt
    have hp : (i 0).val / 32 < cfg0.N := lt_of_lt_of_eq (by omega) N_0.symm
    obtain ⟨-, ⟨e0, e1⟩, hf⟩ := places ⟨_, hp⟩
    replace e0 : win0_1.index ⟨_, hp⟩ (0 : Fin 2) = (i 0).val / 32 := e0
    refine ⟨⟨_, hp⟩, hf, ?_⟩
    show i ∈ ((View.whole main_v0).slice (win0_1.rect ⟨_, hp⟩)).set
    rw [View.set_slice_whole, Rect.mem_set_unit]
    intro a
    match a with
    | ⟨0, _⟩ =>
      show win0_1.index ⟨_, hp⟩ (0 : Fin 2) * 32 ≤ (i 0).val ∧ (i 0).val < win0_1.index ⟨_, hp⟩ (0 : Fin 2) * 32 + 32
      rw [e0]; omega
    | ⟨1, _⟩ =>
      show win0_1.index ⟨_, hp⟩ (1 : Fin 2) * 4096 ≤ (i 1).val ∧ (i 1).val < win0_1.index ⟨_, hp⟩ (1 : Fin 2) * 4096 + 4096
      rw [e1]; omega

end Cert.SumEvenInIdeal.Parts

namespace Cert.SumEvenIn

open Idealize.ShloMosaic Idealize.ShloMosaic.TcCoe Idealize.SL.Sem

theorem frame : quiescent_SumEvenIn := fun m ρ _ => SumEvenIn.Gen.frame m ρ
theorem frame_ideal : quiescent_SumEvenInIdeal := fun m ρ _ => SumEvenInIdeal.Gen.frame m ρ
theorem frame_ref : quiescent_SumEvenInRefIdeal := fun m ρ _ =>
  (θ_run SumEvenInRefIdeal.defs _ _).mono (fun r h => ⟨fun c => (h c).2, sem_eq_zero_of_no_sems (by decide) r.2⟩)
    (SumEvenInRefIdeal.Value.run (F := Ideal) m ρ)

/-- The reference's array, entry by entry, is the call's. -/
theorem algebraic : algebraic_SumEvenInIdeal_SumEvenInRefIdeal := by
  intro m g m' g' _ hargs
  refine ⟨fun c => SumEvenInIdeal.Parts.total m c,
    (θ_run _ _ _).mono (fun r h c => ⟨(h c).1.trans (SumEvenInIdeal.Parts.result m c), (h c).2⟩) (SumEvenInIdeal.Value.run_blocks m g), ?_⟩
  refine (θ_run _ _ _).mono (fun r h c => ⟨(h c).1.trans ?_, (h c).2⟩) (SumEvenInRefIdeal.Value.run m' g')
  rw [hargs c]
  funext i
  refine Eq.trans (α := EReal) (Ideal.hostReduceAdd_r3_a0 (n0 := 4) (n1 := 2080) (n2 := 4096) _ (SumEvenInIdeal.Parts.parts m c) _ i) ?_
  refine (congrArg (· + _) Ideal.ofBits_zero_f32).trans ((zero_add _).trans ?_)
  rfl

end Cert.SumEvenIn

end
-- ==== Proof.SumOddIn.lean ====
/-
  The sum of the four parts of a gradient of the odd layer's input projection: a panel of rows at a time, the four parts added in order, is their
  sum along the first axis.
-/
module

public import proofs.«01_k».proof.Defs
public import proofs.«01_k».proof.Proof.Gen.SumOddIn.Frame
public import proofs.«01_k».proof.Proof.Gen.SumOddInIdeal.Value
public import proofs.«01_k».proof.Proof.Gen.SumOddInRefIdeal.Run
public import Idealize.ShloMosaic.Lib.Pointwise.Reduce

@[expose] public section

set_option maxRecDepth 16384

noncomputable section

namespace Cert.SumOddInIdeal.Parts

open Cert.SumOddInIdeal Cert.SumOddInIdeal.Gen Cert.SumOddInIdeal.Value
open Idealize.ShloMosaic Idealize.ShloMosaic.TcCoe Idealize.SL.Sem

variable (m : (ℓ : Loc nD τ sig) → Buf (Elt Ideal) ℓ)

/-- The four parts, as the call reads them. -/
abbrev parts (c : Dev nD) : S4x1536x4096.Idx → EReal := m ((c : Thread nD τ).loc main_arg0)

/-- One part's block, read at the block's coordinates. -/
theorem part (x : S4x64x4096.Idx → EReal) (k : Fin 4) (z : S4x64x4096.Idx) (y : S64x4096.Idx) (h0 : (z 0).val = k.val)
    (h1 : (z 1).val = (y 0).val) (h2 : (z 2).val = (y 1).val) : x z = x (ix3 k (y 0) (y 1)) := by
  refine congrArg x (funext fun a => Fin.ext ?_)
  match a with
  | ⟨0, _⟩ => exact h0
  | ⟨1, _⟩ => exact h1
  | ⟨2, _⟩ => exact h2

theorem out_apply (x : Vec Ideal S4x64x4096 .bf16) (y : S64x4096.Idx) :
    out0_1 x y = ∑ k : Fin 4, (x : S4x64x4096.Idx → EReal) (ix3 k (y 0) (y 1)) := by
  unfold out0_1
  refine (canon1_eq _ _ _ _ y).trans ?_
  have e0 : (r0_0.idx (ix1_0 y) (1 : Fin 3)).val = (y 0).val := by show 0 + 1 * (y 0).val = _; omega
  have e1 : (r0_0.idx (ix1_0 y) (2 : Fin 3)).val = (y 1).val := by show 0 + 1 * (y 1).val = _; omega
  rw [Fin.sum_univ_four, ← part x 0 (r0_0.idx (ix1_0 y)) y rfl e0 e1, ← part x 1 (r0_1.idx (ix1_1 y)) y rfl e0 e1,
    ← part x 2 (r0_2.idx (ix1_2 y)) y rfl e0 e1, ← part x 3 (r0_3.idx (ix1_3 y)) y rfl e0 e1]
  rfl

/-- The windows' block numbers, decided over the grid. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ win0_1.flush t = true :=
  (by decide +kernel : ∀ t : Fin grid0.N, _)

/-- The result array: the sum of the parts. -/
def total (c : Dev nD) : S1536x4096.Idx → EReal := fun i => ∑ k : Fin 4, parts m c (ix3 k (i 0) (i 1))

theorem flushed (c : Dev nD) (t : Fin cfg0.N) :
    (dats m 0 c).flushed 1 t = ((cfg0.win 1).blk t).view.read (Elt Ideal) (total m c) := by
  obtain ⟨⟨a0, a1, a2⟩, ⟨e0, e1⟩, -⟩ := places t
  rw [flushed1]
  funext y
  refine Eq.trans (α := EReal) (out_apply (iblk m c 0 t) y) ?_
  show _ = total m c (((cfg0.win 1).blk t).view.emb y)
  unfold total
  refine Finset.sum_congr rfl fun k _ => ?_
  have hV : (V m c main_arg0 : S4x1536x4096.Idx → EReal) = parts m c := V_main_arg0 m c
  rw [← hV]
  refine congrArg (V m c main_arg0 : S4x1536x4096.Idx → EReal) (funext fun a => Fin.ext ?_)
  match a with
  | ⟨0, _⟩ =>
    show win0_0.index t (0 : Fin 3) * 4 + 1 * k.val = k.val
    rw [a0]; omega
  | ⟨1, _⟩ =>
    show win0_0.index t (1 : Fin 3) * 64 + 1 * (y 0).val = win0_1.index t (0 : Fin 2) * 64 + 1 * (y 0).val
    rw [a1, e0]
  | ⟨2, _⟩ =>
    show win0_0.index t (2 : Fin 3) * 4096 + 1 * (y 1).val = win0_1.index t (1 : Fin 2) * 4096 + 1 * (y 1).val
    rw [a2, e1]

theorem result (c : Dev nD) : (dats m 0 c).arrAt 1 cfg0.N = total m c :=
  (dats m 0 c).arrAt_eq_of_cover 1 _ (fun t _ => flushed m c t) fun i => by
    have h0 : (i 0).val < 1536 := (i 0).isLt
    have h1 : (i 1).val < 4096 := (i 1).isLt
    have hp : (i 0).val / 64 < cfg0.N := lt_of_lt_of_eq (by omega) N_0.symm
    obtain ⟨-, ⟨e0, e1⟩, hf⟩ := places ⟨_, hp⟩
    replace e0 : win0_1.index ⟨_, hp⟩ (0 : Fin 2) = (i 0).val / 64 := e0
    refine ⟨⟨_, hp⟩, hf, ?_⟩
    show i ∈ ((View.whole main_v0).slice (win0_1.rect ⟨_, hp⟩)).set
    rw [View.set_slice_whole, Rect.mem_set_unit]
    intro a
    match a with
    | ⟨0, _⟩ =>
      show win0_1.index ⟨_, hp⟩ (0 : Fin 2) * 64 ≤ (i 0).val ∧ (i 0).val < win0_1.index ⟨_, hp⟩ (0 : Fin 2) * 64 + 64
      rw [e0]; omega
    | ⟨1, _⟩ =>
      show win0_1.index ⟨_, hp⟩ (1 : Fin 2) * 4096 ≤ (i 1).val ∧ (i 1).val < win0_1.index ⟨_, hp⟩ (1 : Fin 2) * 4096 + 4096
      rw [e1]; omega

end Cert.SumOddInIdeal.Parts

namespace Cert.SumOddIn

open Idealize.ShloMosaic Idealize.ShloMosaic.TcCoe Idealize.SL.Sem

theorem frame : quiescent_SumOddIn := fun m ρ _ => SumOddIn.Gen.frame m ρ
theorem frame_ideal : quiescent_SumOddInIdeal := fun m ρ _ => SumOddInIdeal.Gen.frame m ρ
theorem frame_ref : quiescent_SumOddInRefIdeal := fun m ρ _ =>
  (θ_run SumOddInRefIdeal.defs _ _).mono (fun r h => ⟨fun c => (h c).2, sem_eq_zero_of_no_sems (by decide) r.2⟩)
    (SumOddInRefIdeal.Value.run (F := Ideal) m ρ)

/-- The reference's array, entry by entry, is the call's. -/
theorem algebraic : algebraic_SumOddInIdeal_SumOddInRefIdeal := by
  intro m g m' g' _ hargs
  refine ⟨fun c => SumOddInIdeal.Parts.total m c,
    (θ_run _ _ _).mono (fun r h c => ⟨(h c).1.trans (SumOddInIdeal.Parts.result m c), (h c).2⟩) (SumOddInIdeal.Value.run_blocks m g), ?_⟩
  refine (θ_run _ _ _).mono (fun r h c => ⟨(h c).1.trans ?_, (h c).2⟩) (SumOddInRefIdeal.Value.run m' g')
  rw [hargs c]
  funext i
  refine Eq.trans (α := EReal) (Ideal.hostReduceAdd_r3_a0 (n0 := 4) (n1 := 1536) (n2 := 4096) _ (SumOddInIdeal.Parts.parts m c) _ i) ?_
  refine (congrArg (· + _) Ideal.ofBits_zero_f32).trans ((zero_add _).trans ?_)
  rfl

end Cert.SumOddIn

end
-- ==== Proof.SumOut.lean ====
/-
  The sum of the four parts of a gradient of the output projections: a panel of rows at a time, the four parts added in order, is their
  sum along the first axis.
-/
module

public import proofs.«01_k».proof.Defs
public import proofs.«01_k».proof.Proof.Gen.SumOut.Frame
public import proofs.«01_k».proof.Proof.Gen.SumOutIdeal.Value
public import proofs.«01_k».proof.Proof.Gen.SumOutRefIdeal.Run
public import Idealize.ShloMosaic.Lib.Pointwise.Reduce

@[expose] public section

set_option maxRecDepth 16384

noncomputable section

namespace Cert.SumOutIdeal.Parts

open Cert.SumOutIdeal Cert.SumOutIdeal.Gen Cert.SumOutIdeal.Value
open Idealize.ShloMosaic Idealize.ShloMosaic.TcCoe Idealize.SL.Sem

variable (m : (ℓ : Loc nD τ sig) → Buf (Elt Ideal) ℓ)

/-- The four parts, as the call reads them. -/
abbrev parts (c : Dev nD) : S4x512x4096.Idx → EReal := m ((c : Thread nD τ).loc main_arg0)

/-- One part's block, read at the block's coordinates. -/
theorem part (x : S4x64x4096.Idx → EReal) (k : Fin 4) (z : S4x64x4096.Idx) (y : S64x4096.Idx) (h0 : (z 0).val = k.val)
    (h1 : (z 1).val = (y 0).val) (h2 : (z 2).val = (y 1).val) : x z = x (ix3 k (y 0) (y 1)) := by
  refine congrArg x (funext fun a => Fin.ext ?_)
  match a with
  | ⟨0, _⟩ => exact h0
  | ⟨1, _⟩ => exact h1
  | ⟨2, _⟩ => exact h2

theorem out_apply (x : Vec Ideal S4x64x4096 .bf16) (y : S64x4096.Idx) :
    out0_1 x y = ∑ k : Fin 4, (x : S4x64x4096.Idx → EReal) (ix3 k (y 0) (y 1)) := by
  unfold out0_1
  refine (canon1_eq _ _ _ _ y).trans ?_
  have e0 : (r0_0.idx (ix1_0 y) (1 : Fin 3)).val = (y 0).val := by show 0 + 1 * (y 0).val = _; omega
  have e1 : (r0_0.idx (ix1_0 y) (2 : Fin 3)).val = (y 1).val := by show 0 + 1 * (y 1).val = _; omega
  rw [Fin.sum_univ_four, ← part x 0 (r0_0.idx (ix1_0 y)) y rfl e0 e1, ← part x 1 (r0_1.idx (ix1_1 y)) y rfl e0 e1,
    ← part x 2 (r0_2.idx (ix1_2 y)) y rfl e0 e1, ← part x 3 (r0_3.idx (ix1_3 y)) y rfl e0 e1]
  rfl

/-- The windows' block numbers, decided over the grid. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) ∧ win0_1.flush t = true :=
  (by decide +kernel : ∀ t : Fin grid0.N, _)

/-- The result array: the sum of the parts. -/
def total (c : Dev nD) : S512x4096.Idx → EReal := fun i => ∑ k : Fin 4, parts m c (ix3 k (i 0) (i 1))

theorem flushed (c : Dev nD) (t : Fin cfg0.N) :
    (dats m 0 c).flushed 1 t = ((cfg0.win 1).blk t).view.read (Elt Ideal) (total m c) := by
  obtain ⟨⟨a0, a1, a2⟩, ⟨e0, e1⟩, -⟩ := places t
  rw [flushed1]
  funext y
  refine Eq.trans (α := EReal) (out_apply (iblk m c 0 t) y) ?_
  show _ = total m c (((cfg0.win 1).blk t).view.emb y)
  unfold total
  refine Finset.sum_congr rfl fun k _ => ?_
  have hV : (V m c main_arg0 : S4x512x4096.Idx → EReal) = parts m c := V_main_arg0 m c
  rw [← hV]
  refine congrArg (V m c main_arg0 : S4x512x4096.Idx → EReal) (funext fun a => Fin.ext ?_)
  match a with
  | ⟨0, _⟩ =>
    show win0_0.index t (0 : Fin 3) * 4 + 1 * k.val = k.val
    rw [a0]; omega
  | ⟨1, _⟩ =>
    show win0_0.index t (1 : Fin 3) * 64 + 1 * (y 0).val = win0_1.index t (0 : Fin 2) * 64 + 1 * (y 0).val
    rw [a1, e0]
  | ⟨2, _⟩ =>
    show win0_0.index t (2 : Fin 3) * 4096 + 1 * (y 1).val = win0_1.index t (1 : Fin 2) * 4096 + 1 * (y 1).val
    rw [a2, e1]

theorem result (c : Dev nD) : (dats m 0 c).arrAt 1 cfg0.N = total m c :=
  (dats m 0 c).arrAt_eq_of_cover 1 _ (fun t _ => flushed m c t) fun i => by
    have h0 : (i 0).val < 512 := (i 0).isLt
    have h1 : (i 1).val < 4096 := (i 1).isLt
    have hp : (i 0).val / 64 < cfg0.N := lt_of_lt_of_eq (by omega) N_0.symm
    obtain ⟨-, ⟨e0, e1⟩, hf⟩ := places ⟨_, hp⟩
    replace e0 : win0_1.index ⟨_, hp⟩ (0 : Fin 2) = (i 0).val / 64 := e0
    refine ⟨⟨_, hp⟩, hf, ?_⟩
    show i ∈ ((View.whole main_v0).slice (win0_1.rect ⟨_, hp⟩)).set
    rw [View.set_slice_whole, Rect.mem_set_unit]
    intro a
    match a with
    | ⟨0, _⟩ =>
      show win0_1.index ⟨_, hp⟩ (0 : Fin 2) * 64 ≤ (i 0).val ∧ (i 0).val < win0_1.index ⟨_, hp⟩ (0 : Fin 2) * 64 + 64
      rw [e0]; omega
    | ⟨1, _⟩ =>
      show win0_1.index ⟨_, hp⟩ (1 : Fin 2) * 4096 ≤ (i 1).val ∧ (i 1).val < win0_1.index ⟨_, hp⟩ (1 : Fin 2) * 4096 + 4096
      rw [e1]; omega

end Cert.SumOutIdeal.Parts

namespace Cert.SumOut

open Idealize.ShloMosaic Idealize.ShloMosaic.TcCoe Idealize.SL.Sem

theorem frame : quiescent_SumOut := fun m ρ _ => SumOut.Gen.frame m ρ
theorem frame_ideal : quiescent_SumOutIdeal := fun m ρ _ => SumOutIdeal.Gen.frame m ρ
theorem frame_ref : quiescent_SumOutRefIdeal := fun m ρ _ =>
  (θ_run SumOutRefIdeal.defs _ _).mono (fun r h => ⟨fun c => (h c).2, sem_eq_zero_of_no_sems (by decide) r.2⟩)
    (SumOutRefIdeal.Value.run (F := Ideal) m ρ)

/-- The reference's array, entry by entry, is the call's. -/
theorem algebraic : algebraic_SumOutIdeal_SumOutRefIdeal := by
  intro m g m' g' _ hargs
  refine ⟨fun c => SumOutIdeal.Parts.total m c,
    (θ_run _ _ _).mono (fun r h c => ⟨(h c).1.trans (SumOutIdeal.Parts.result m c), (h c).2⟩) (SumOutIdeal.Value.run_blocks m g), ?_⟩
  refine (θ_run _ _ _).mono (fun r h c => ⟨(h c).1.trans ?_, (h c).2⟩) (SumOutRefIdeal.Value.run m' g')
  rw [hargs c]
  funext i
  refine Eq.trans (α := EReal) (Ideal.hostReduceAdd_r3_a0 (n0 := 4) (n1 := 512) (n2 := 4096) _ (SumOutIdeal.Parts.parts m c) _ i) ?_
  refine (congrArg (· + _) Ideal.ofBits_zero_f32).trans ((zero_add _).trans ?_)
  rfl

end Cert.SumOut

end
-- ==== Proof.SumSmall.lean ====
/-
  The sum of the eight parts of the gradients packed into one array: the eight parts added in order are their sum along
  the first axis.
-/
module

public import proofs.«01_k».proof.Defs
public import proofs.«01_k».proof.Proof.Gen.SumSmall.Frame
public import proofs.«01_k».proof.Proof.Gen.SumSmallIdeal.Value
public import proofs.«01_k».proof.Proof.Gen.SumSmallRefIdeal.Run
public import Idealize.ShloMosaic.Lib.Pointwise.Reduce

@[expose] public section

set_option maxRecDepth 16384

noncomputable section

namespace Cert.SumSmallIdeal.Parts

open Cert.SumSmallIdeal Cert.SumSmallIdeal.Gen Cert.SumSmallIdeal.Value
open Idealize.ShloMosaic Idealize.ShloMosaic.TcCoe Idealize.SL.Sem

variable (m : (ℓ : Loc nD τ sig) → Buf (Elt Ideal) ℓ)

/-- The eight parts, as the call reads them. -/
abbrev parts (c : Dev nD) : S8x360x1024.Idx → EReal := m ((c : Thread nD τ).loc main_arg0)

/-- One part, read at the result's coordinates. -/
theorem part (x : S8x360x1024.Idx → EReal) (k : Fin 8) (z : S8x360x1024.Idx) (y : S360x1024.Idx) (h0 : (z 0).val = k.val)
    (h1 : (z 1).val = (y 0).val) (h2 : (z 2).val = (y 1).val) : x z = x (ix3 k (y 0) (y 1)) := by
  refine congrArg x (funext fun a => Fin.ext ?_)
  match a with
  | ⟨0, _⟩ => exact h0
  | ⟨1, _⟩ => exact h1
  | ⟨2, _⟩ => exact h2

theorem out_apply (x : Vec Ideal S8x360x1024 .f32) (y : S360x1024.Idx) :
    G1 x y = ∑ k : Fin 8, (x : S8x360x1024.Idx → EReal) (ix3 k (y 0) (y 1)) := by
  rw [← out1_eq]
  unfold out0_1
  refine (canon1_eq _ _ _ _ _ _ _ _ y).trans ?_
  have e0 : (r0_0.idx (ix1_0 y) (1 : Fin 3)).val = (y 0).val := by show 0 + 1 * (y 0).val = _; omega
  have e1 : (r0_0.idx (ix1_0 y) (2 : Fin 3)).val = (y 1).val := by show 0 + 1 * (y 1).val = _; omega
  rw [Fin.sum_univ_eight, ← part x 0 (r0_0.idx (ix1_0 y)) y rfl e0 e1, ← part x 1 (r0_1.idx (ix1_1 y)) y rfl e0 e1,
    ← part x 2 (r0_2.idx (ix1_2 y)) y rfl e0 e1, ← part x 3 (r0_3.idx (ix1_3 y)) y rfl e0 e1, ← part x 4 (r0_4.idx (ix1_4 y)) y rfl e0 e1,
    ← part x 5 (r0_5.idx (ix1_5 y)) y rfl e0 e1, ← part x 6 (r0_6.idx (ix1_6 y)) y rfl e0 e1, ← part x 7 (r0_7.idx (ix1_7 y)) y rfl e0 e1]
  rfl

end Cert.SumSmallIdeal.Parts

namespace Cert.SumSmall

open Idealize.ShloMosaic Idealize.ShloMosaic.TcCoe Idealize.SL.Sem

theorem frame : quiescent_SumSmall := fun m ρ _ => SumSmall.Gen.frame m ρ
theorem frame_ideal : quiescent_SumSmallIdeal := fun m ρ _ => SumSmallIdeal.Gen.frame m ρ
theorem frame_ref : quiescent_SumSmallRefIdeal := fun m ρ _ =>
  (θ_run SumSmallRefIdeal.defs _ _).mono (fun r h => ⟨fun c => (h c).2, sem_eq_zero_of_no_sems (by decide) r.2⟩)
    (SumSmallRefIdeal.Value.run (F := Ideal) m ρ)

/-- The reference's array, entry by entry, is the call's. -/
theorem algebraic : algebraic_SumSmallIdeal_SumSmallRefIdeal := by
  intro m g m' g' _ hargs
  refine ⟨fun c => SumSmallIdeal.Value.G1 (m ((c.tc : Thread SumSmallIdeal.nD SumSmallIdeal.τ).loc SumSmallIdeal.main_arg0)),
    SumSmallIdeal.Value.run m g, ?_⟩
  refine (θ_run _ _ _).mono (fun r h c => ⟨(h c).1.trans ?_, (h c).2⟩) (SumSmallRefIdeal.Value.run m' g')
  rw [hargs c]
  funext i
  refine Eq.trans (α := EReal) (Ideal.hostReduceAdd_r3_a0 (n0 := 8) (n1 := 360) (n2 := 1024) _ (SumSmallIdeal.Parts.parts m c) _ i) ?_
  refine (congrArg (· + _) Ideal.ofBits_zero_f32).trans ((zero_add _).trans ?_)
  exact (SumSmallIdeal.Parts.out_apply _ i).symm

end Cert.SumSmall

end
-- ==== Proof.lean ====
/-
  The certificate. The frame of the two scan calls comes from their run (Proof/Run.lean), over any float values: it ends
  with every buffer outside the kernels at the last valuation, where the arguments are as launched. The other
  calls, each in a module of its own, bring their frames and the equality with their references.
-/
module

public import proofs.«01_k».proof.Defs
public import proofs.«01_k».proof.Proof.Gen.KernelIdeal
public import proofs.«01_k».proof.Proof.Run
public import proofs.«01_k».proof.Proof.Gen.OutX.Frame
public import proofs.«01_k».proof.Proof.Gen.OutXIdeal.Value
public import proofs.«01_k».proof.Proof.Gen.OutXRefIdeal.Run
public import proofs.«01_k».proof.Proof.Gen.OutW.Frame
public import proofs.«01_k».proof.Proof.Gen.OutWIdeal.Value
public import proofs.«01_k».proof.Proof.Gen.OutWRefIdeal.Run
public import proofs.«01_k».proof.Proof.Gen.OddX.Frame
public import proofs.«01_k».proof.Proof.Gen.OddXIdeal.Value
public import proofs.«01_k».proof.Proof.Gen.OddXRefIdeal.Run
public import proofs.«01_k».proof.Proof.Gen.OddW.Frame
public import proofs.«01_k».proof.Proof.Gen.OddWIdeal.Value
public import proofs.«01_k».proof.Proof.Gen.OddWRefIdeal.Run
public import proofs.«01_k».proof.Proof.Gen.EvenX.Frame
public import proofs.«01_k».proof.Proof.Gen.EvenXIdeal.Value
public import proofs.«01_k».proof.Proof.Gen.EvenXRefIdeal.Run
public import proofs.«01_k».proof.Proof.Gen.EvenW.Frame
public import proofs.«01_k».proof.Proof.Gen.EvenWIdeal.Value
public import proofs.«01_k».proof.Proof.Gen.EvenWRefIdeal.Run
public import proofs.«01_k».proof.Proof.Gen.EvenIn.Frame
public import proofs.«01_k».proof.Proof.Gen.EvenInIdeal.Value
public import proofs.«01_k».proof.Proof.Gen.EvenInRefIdeal.Run
public import proofs.«01_k».proof.Proof.Gen.OddIn.Frame
public import proofs.«01_k».proof.Proof.Gen.OddInIdeal.Value
public import proofs.«01_k».proof.Proof.Gen.OddInRefIdeal.Run
public import proofs.«01_k».proof.Proof.Gen.Out.Frame
public import proofs.«01_k».proof.Proof.Gen.OutIdeal.Value
public import proofs.«01_k».proof.Proof.Gen.OutRefIdeal.Run
public import proofs.«01_k».proof.Proof.Gen.AdamEvenIn.Frame
public import proofs.«01_k».proof.Proof.Gen.AdamEvenInIdeal.Value
public import proofs.«01_k».proof.Proof.Gen.AdamEvenInRefIdeal.Run
public import proofs.«01_k».proof.Proof.Gen.AdamOddIn.Frame
public import proofs.«01_k».proof.Proof.Gen.AdamOddInIdeal.Value
public import proofs.«01_k».proof.Proof.Gen.AdamOddInRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsBwd.Frame
public import proofs.«01_k».proof.Proof.Gen.RmsBwdIdeal.Value
public import proofs.«01_k».proof.Proof.Gen.RmsBwdRefIdeal.Run
public import proofs.«01_k».proof.Proof.Gen.Loss.Frame
public import proofs.«01_k».proof.Proof.Gen.LossIdeal.Value
public import proofs.«01_k».proof.Proof.Gen.LossRefIdeal.Run
public import proofs.«01_k».proof.Proof.Gen.SumEvenIn.Frame
public import proofs.«01_k».proof.Proof.Gen.SumEvenInIdeal.Value
public import proofs.«01_k».proof.Proof.Gen.SumEvenInRefIdeal.Run
public import proofs.«01_k».proof.Proof.Gen.SumOddIn.Frame
public import proofs.«01_k».proof.Proof.Gen.SumOddInIdeal.Value
public import proofs.«01_k».proof.Proof.Gen.SumOddInRefIdeal.Run
public import proofs.«01_k».proof.Proof.Gen.SumOut.Frame
public import proofs.«01_k».proof.Proof.Gen.SumOutIdeal.Value
public import proofs.«01_k».proof.Proof.Gen.SumOutRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.OutX
public import proofs.«01_k».proof.Proof.OutW
public import proofs.«01_k».proof.Proof.OddX
public import proofs.«01_k».proof.Proof.OddW
public import proofs.«01_k».proof.Proof.EvenX
public import proofs.«01_k».proof.Proof.EvenW
public import proofs.«01_k».proof.Proof.EvenIn
public import proofs.«01_k».proof.Proof.OddIn
public import proofs.«01_k».proof.Proof.Out
public import proofs.«01_k».proof.Proof.AdamEvenIn
public import proofs.«01_k».proof.Proof.AdamOddIn
public import proofs.«01_k».proof.Proof.AdamOut
public import proofs.«01_k».proof.Proof.AdamSmall
public import proofs.«01_k».proof.Proof.RmsFwd
public import proofs.«01_k».proof.Proof.RmsBwd
public import proofs.«01_k».proof.Proof.Loss
public import proofs.«01_k».proof.Proof.SumEvenIn
public import proofs.«01_k».proof.Proof.SumOddIn
public import proofs.«01_k».proof.Proof.SumOut
public import proofs.«01_k».proof.Proof.SumSmall
public import Idealize.ShloMosaic.Adequacy
public import Idealize.ShloMosaic.Init

@[expose] public section

noncomputable section

namespace Cert.Proof

open Idealize.ShloMosaic Idealize.ShloMosaic.TcCoe Idealize.SL.Sem
open Cert.KernelIdeal Cert.KernelIdeal.Gen Cert.KernelIdeal.Steps

/-- The arguments are as launched wherever every buffer outside the kernels is at the last valuation. -/
theorem args_kept {F : FTy → Type} [FloatOps F] (m m' : (ℓ : Loc nD τ sig) → Buf (Elt F) ℓ) (c : Dev nD)
    (h : ∀ b ∈ Pipeline.ucRefs τ sig, m' ((c : Thread nD τ).1, b) = V5 m (outs m) c b) :
    m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6) :=
  ⟨(h _ (mem_ucRefs main_arg0 rfl)).trans (V5_main_arg0 m (outs m) c), (h _ (mem_ucRefs main_arg1 rfl)).trans (V5_main_arg1 m (outs m) c),
    (h _ (mem_ucRefs main_arg2 rfl)).trans (V5_main_arg2 m (outs m) c), (h _ (mem_ucRefs main_arg3 rfl)).trans (V5_main_arg3 m (outs m) c),
    (h _ (mem_ucRefs main_arg4 rfl)).trans (V5_main_arg4 m (outs m) c), (h _ (mem_ucRefs main_arg5 rfl)).trans (V5_main_arg5 m (outs m) c),
    (h _ (mem_ucRefs main_arg6 rfl)).trans (V5_main_arg6 m (outs m) c)⟩

/-- The frame over any float values. -/
theorem frame_any {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run Cert.KernelIdeal.defs _ _).mono (fun r h => ⟨fun c => args_kept m r.2.mem c (h.1 c), h.2⟩) (run_main (F := F) m ρ)

theorem frame_kernelIdeal : Cert.quiescent_KernelIdeal := fun m ρ _ => frame_any (F := Ideal) m ρ

theorem claim : Cert.Claim := ⟨
  Cert.KernelIdeal.Gen.facts, Cert.OutX.Gen.facts, Cert.OutXIdeal.Gen.facts, Cert.OutXRefIdeal.Gen.facts,
  Cert.OutW.Gen.facts, Cert.OutWIdeal.Gen.facts, Cert.OutWRefIdeal.Gen.facts, Cert.OddX.Gen.facts,
  Cert.OddXIdeal.Gen.facts, Cert.OddXRefIdeal.Gen.facts, Cert.OddW.Gen.facts, Cert.OddWIdeal.Gen.facts,
  Cert.OddWRefIdeal.Gen.facts, Cert.EvenX.Gen.facts, Cert.EvenXIdeal.Gen.facts, Cert.EvenXRefIdeal.Gen.facts,
  Cert.EvenW.Gen.facts, Cert.EvenWIdeal.Gen.facts, Cert.EvenWRefIdeal.Gen.facts, Cert.EvenIn.Gen.facts,
  Cert.EvenInIdeal.Gen.facts, Cert.EvenInRefIdeal.Gen.facts, Cert.OddIn.Gen.facts, Cert.OddInIdeal.Gen.facts,
  Cert.OddInRefIdeal.Gen.facts, Cert.Out.Gen.facts, Cert.OutIdeal.Gen.facts, Cert.OutRefIdeal.Gen.facts,
  Cert.AdamEvenIn.Gen.facts, Cert.AdamEvenInIdeal.Gen.facts, Cert.AdamEvenInRefIdeal.Gen.facts,
  Cert.AdamOddIn.Gen.facts, Cert.AdamOddInIdeal.Gen.facts, Cert.AdamOddInRefIdeal.Gen.facts, Cert.AdamOut.Gen.facts,
  Cert.AdamOutIdeal.Gen.facts, Cert.AdamOutRefIdeal.Gen.facts, Cert.AdamSmall.Gen.facts,
  Cert.AdamSmallIdeal.Gen.facts, Cert.AdamSmallRefIdeal.Gen.facts, Cert.RmsFwd.Gen.facts, Cert.RmsFwdIdeal.Gen.facts,
  Cert.RmsFwdRefIdeal.Gen.facts, Cert.RmsBwd.Gen.facts, Cert.RmsBwdIdeal.Gen.facts, Cert.RmsBwdRefIdeal.Gen.facts,
  Cert.Loss.Gen.facts, Cert.LossIdeal.Gen.facts, Cert.LossRefIdeal.Gen.facts, Cert.SumEvenIn.Gen.facts,
  Cert.SumEvenInIdeal.Gen.facts, Cert.SumEvenInRefIdeal.Gen.facts, Cert.SumOddIn.Gen.facts,
  Cert.SumOddInIdeal.Gen.facts, Cert.SumOddInRefIdeal.Gen.facts, Cert.SumOut.Gen.facts, Cert.SumOutIdeal.Gen.facts,
  Cert.SumOutRefIdeal.Gen.facts, Cert.SumSmall.Gen.facts, Cert.SumSmallIdeal.Gen.facts,
  Cert.SumSmallRefIdeal.Gen.facts,
  frame_kernelIdeal, OutX.frame, OutX.frame_ideal, OutX.frame_ref, OutW.frame, OutW.frame_ideal, OutW.frame_ref,
  OddX.frame, OddX.frame_ideal, OddX.frame_ref, OddW.frame, OddW.frame_ideal, OddW.frame_ref, EvenX.frame,
  EvenX.frame_ideal, EvenX.frame_ref, EvenW.frame, EvenW.frame_ideal, EvenW.frame_ref, EvenIn.frame,
  EvenIn.frame_ideal, EvenIn.frame_ref, OddIn.frame, OddIn.frame_ideal, OddIn.frame_ref, Out.frame, Out.frame_ideal,
  Out.frame_ref, AdamEvenIn.frame, AdamEvenIn.frame_ideal, AdamEvenIn.frame_ref, AdamOddIn.frame,
  AdamOddIn.frame_ideal, AdamOddIn.frame_ref, AdamOut.frame, AdamOut.frame_ideal, AdamOut.frame_ref, AdamSmall.frame,
  AdamSmall.frame_ideal, AdamSmall.frame_ref, RmsFwd.frame, RmsFwd.frame_ideal, RmsFwd.frame_ref, RmsBwd.frame,
  RmsBwd.frame_ideal, RmsBwd.frame_ref, Loss.frame, Loss.frame_ideal, Loss.frame_ref, SumEvenIn.frame,
  SumEvenIn.frame_ideal, SumEvenIn.frame_ref, SumOddIn.frame, SumOddIn.frame_ideal, SumOddIn.frame_ref, SumOut.frame,
  SumOut.frame_ideal, SumOut.frame_ref, SumSmall.frame, SumSmall.frame_ideal, SumSmall.frame_ref,
  trivial, OutX.algebraic, trivial, OutW.algebraic, trivial, OddX.algebraic, trivial, OddW.algebraic, trivial,
  EvenX.algebraic, trivial, EvenW.algebraic, trivial, EvenIn.algebraic, trivial, OddIn.algebraic, trivial,
  Out.algebraic, trivial, AdamEvenIn.algebraic, trivial, AdamOddIn.algebraic, trivial, AdamOut.algebraic, trivial,
  AdamSmall.algebraic, trivial, RmsFwd.algebraic, trivial, RmsBwd.algebraic, trivial, Loss.algebraic, trivial,
  SumEvenIn.algebraic, trivial, SumOddIn.algebraic, trivial, SumOut.algebraic, trivial, SumSmall.algebraic⟩

end Cert.Proof

end
